-- ==== Defs.lean ====
def Pre_Kernel [hPre_slots_in_rows : Cert.Pre_slots_in_rows.Facts] (m : (ℓ : Loc Cert.Kernel.nD Cert.Kernel.τ Cert.Kernel.sig) → Buf (Elt Bits) ℓ) : Prop :=
  ∀ c : Dev Cert.Kernel.nD,
    (Cert.Pre_slots_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_slots_in_rows : Cert.Pre_slots_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_slots_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_slots_in_rows : Cert.Pre_slots_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_slots_in_rows : Cert.Pre_slots_in_rows.Facts] (m : (ℓ : Loc Cert.Reference.nD Cert.Reference.τ Cert.Reference.sig) → Buf (Elt Bits) ℓ) : Prop :=
  ∀ c : Dev Cert.Reference.nD,
    (Cert.Pre_slots_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_blocks_have_experts : Cert.Pre_blocks_have_experts.Facts] (m : (ℓ : Loc Cert.Kernel3.nD Cert.Kernel3.τ Cert.Kernel3.sig) → Buf (Elt Bits) ℓ) : Prop :=
  ∀ c : Dev Cert.Kernel3.nD,
    (Cert.Pre_blocks_have_experts.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))) = (fun _ => 1#1)

def Pre_Kernel3Ideal [hPre_blocks_have_experts : Cert.Pre_blocks_have_experts.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_blocks_have_experts.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal [hPre_blocks_have_experts : Cert.Pre_blocks_have_experts.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_blocks_have_experts.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_qk [hPre_finite_qk : Cert.Pre_finite_qk.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_qk.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_qk [hPre_finite_qk : Cert.Pre_finite_qk.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_qk.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_slots_in_rows : Cert.Pre_slots_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_slots_in_rows : Cert.Pre_slots_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_slots_in_rows : Cert.Pre_slots_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_slots_in_rows : Cert.Pre_slots_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_blocks_have_experts : Cert.Pre_blocks_have_experts.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] [hPre_blocks_have_experts : Cert.Pre_blocks_have_experts.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] [hPre_blocks_have_experts : Cert.Pre_blocks_have_experts.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_qk [hKernel4Ideal : Cert.Kernel4Ideal.Facts] [hPre_finite_qk : Cert.Pre_finite_qk.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_qk m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_qk [hReference4Ideal : Cert.Reference4Ideal.Facts] [hPre_finite_qk : Cert.Pre_finite_qk.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_qk m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_slots_in_rows : Cert.Pre_slots_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_slots_in_rows : Cert.Pre_slots_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_blocks_have_experts : Cert.Pre_blocks_have_experts.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v81) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite_qk [hKernel4Ideal : Cert.Kernel4Ideal.Facts] [hReference4Ideal : Cert.Reference4Ideal.Facts] [hPre_finite_qk : Cert.Pre_finite_qk.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_qk m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v84_3)) (v1 : (c : Dev Cert.Kernel6Ideal.nD) → Buf (Elt Ideal) ((c.tc : Thread Cert.Kernel6Ideal.nD Cert.Kernel6Ideal.τ).loc Cert.Kernel6Ideal.main_v84_4)) (v2 : (c : Dev Cert.Kernel6Ideal.nD) → Buf (Elt Ideal) ((c.tc : Thread Cert.Kernel6Ideal.nD Cert.Kernel6Ideal.τ).loc Cert.Kernel6Ideal.main_v84_5)) (v3 : (c : Dev Cert.Kernel6Ideal.nD) → Buf (Elt Ideal) ((c.tc : Thread Cert.Kernel6Ideal.nD Cert.Kernel6Ideal.τ).loc Cert.Kernel6Ideal.main_v84_8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v84_3) = v0 c
          ∧ r.2.mem ((c.tc : Thread Cert.Kernel6Ideal.nD Cert.Kernel6Ideal.τ).loc Cert.Kernel6Ideal.main_v84_4) = v1 c
          ∧ r.2.mem ((c.tc : Thread Cert.Kernel6Ideal.nD Cert.Kernel6Ideal.τ).loc Cert.Kernel6Ideal.main_v84_5) = v2 c
          ∧ r.2.mem ((c.tc : Thread Cert.Kernel6Ideal.nD Cert.Kernel6Ideal.τ).loc Cert.Kernel6Ideal.main_v84_8) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_v20) = v2 c
          ∧ r.2.mem ((c.tc : Thread Cert.Reference6Ideal.nD Cert.Reference6Ideal.τ).loc Cert.Reference6Ideal.main_v22) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_slots_in_rows : Cert.Pre_slots_in_rows.Facts) (hPre_blocks_have_experts : Cert.Pre_blocks_have_experts.Facts) (hPre_finite_qk : Cert.Pre_finite_qk.Facts),
    quiescent_Kernel (hKernel := hKernel) (hPre_slots_in_rows := hPre_slots_in_rows)
    ∧ quiescent_KernelIdeal (hKernelIdeal := hKernelIdeal) (hPre_slots_in_rows := hPre_slots_in_rows)
    ∧ quiescent_ReferenceIdeal (hReferenceIdeal := hReferenceIdeal) (hPre_slots_in_rows := hPre_slots_in_rows)
    ∧ quiescent_Reference (hReference := hReference) (hPre_slots_in_rows := hPre_slots_in_rows)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_blocks_have_experts := hPre_blocks_have_experts)
    ∧ quiescent_Kernel3Ideal (hKernel3Ideal := hKernel3Ideal) (hPre_blocks_have_experts := hPre_blocks_have_experts)
    ∧ quiescent_Reference3Ideal (hReference3Ideal := hReference3Ideal) (hPre_blocks_have_experts := hPre_blocks_have_experts)
    ∧ quiescent_Kernel4 (hKernel4 := hKernel4)
    ∧ quiescent_Kernel4Ideal (hKernel4Ideal := hKernel4Ideal)
    ∧ quiescent_Kernel4Ideal_pre_finite_qk (hKernel4Ideal := hKernel4Ideal) (hPre_finite_qk := hPre_finite_qk)
    ∧ quiescent_Reference4Ideal (hReference4Ideal := hReference4Ideal)
    ∧ quiescent_Reference4Ideal_pre_finite_qk (hReference4Ideal := hReference4Ideal) (hPre_finite_qk := hPre_finite_qk)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal) (hPre_slots_in_rows := hPre_slots_in_rows)
    ∧ bitexact_Kernel_Reference (hKernel := hKernel) (hReference := hReference) (hPre_slots_in_rows := hPre_slots_in_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_blocks_have_experts := hPre_blocks_have_experts)
    ∧ preserves_Kernel4_Kernel4Ideal
    ∧ algebraic_Kernel4Ideal_Reference4Ideal_pre_finite_qk (hKernel4Ideal := hKernel4Ideal) (hReference4Ideal := hReference4Ideal) (hPre_finite_qk := hPre_finite_qk)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_blocks_have_experts.lean ====
abbrev S160 : Shape := ⟨1, ![160]⟩
abbrev S1 : Shape := ⟨1, ![1]⟩
abbrev S81920x1024 : Shape := ⟨2, ![81920, 1024]⟩
abbrev S32x1024x1024 : Shape := ⟨3, ![32, 1024, 1024]⟩
abbrev S32x2048 : Shape := ⟨2, ![32, 2048]⟩
abbrev S32x1024 : Shape := ⟨2, ![32, 1024]⟩
abbrev S_ : Shape := ⟨0, ![]⟩

class Facts : Prop where
  bcast_S_S160 : S_.BroadcastsInDim S160 (![] : Fin 0 → Fin S160.rank)
  bcast_S_S1 : S_.BroadcastsInDim S1 (![] : Fin 0 → Fin S1.rank)
  bcast_S1_S160_0 : S1.BroadcastsInDim S160 (![0] : Fin 1 → Fin S160.rank)

variable [Facts]

def fn {F : FTy → Type} [FloatOps F] (main_arg0 : IVec S160 32) (main_arg1 : IVec S1 32) (main_arg2 : FVec F S81920x1024 .f32) (main_arg3 : FVec F S32x1024x1024 .bf16) (main_arg4 : FVec F S32x1024x1024 .bf16) (main_arg5 : FVec F S32x2048 .f32) (main_arg6 : FVec F S32x1024x1024 .bf16) (main_arg7 : FVec F S32x1024 .f32) : IVec S160 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S160 1 := broadcastInDim S160 ![0] bcast_S1_S160_0 main_v6
  let main_v8 : IVec S160 1 := andi main_v4 main_v7
  main_v8
-- ==== Pre_finite_qk.lean ====
abbrev S3x8x128x16384 : Shape := ⟨4, ![3, 8, 128, 16384]⟩
abbrev S3x8x16384x128 : Shape := ⟨4, ![3, 8, 16384, 128]⟩
abbrev S3x8x32x64x512 : Shape := ⟨5, ![3, 8, 32, 64, 512]⟩
abbrev S_ : Shape := ⟨0, ![]⟩

class Facts : Prop where
  bitsLt_bf16_f32 : FTy.bits .bf16 < FTy.bits .f32
  bcast_S_S3x8x128x16384 : S_.BroadcastsInDim S3x8x128x16384 (![] : Fin 0 → Fin S3x8x128x16384.rank)
  reducesTo_S3x8x128x16384_S_d0_1_2_3 : S3x8x128x16384.ReducesTo [0, 1, 2, 3] S_
  h_S_ : 0 < S_.numel
  bcast_S_S3x8x16384x128 : S_.BroadcastsInDim S3x8x16384x128 (![] : Fin 0 → Fin S3x8x16384x128.rank)
  reducesTo_S3x8x16384x128_S_d0_1_2_3 : S3x8x16384x128.ReducesTo [0, 1, 2, 3] S_

variable [Facts]

def fn {F : FTy → Type} [FloatOps F] (main_arg0 : FVec F S3x8x128x16384 .bf16) (main_arg1 : FVec F S3x8x16384x128 .bf16) (main_arg2 : FVec F S3x8x32x64x512 .bf16) : IVec S_ 1 :=
  let main_v0 : FVec F S3x8x128x16384 .f32 := (extf .f32 · bitsLt_bf16_f32) main_arg0
  let main_v1 : FVec F S3x8x128x16384 .f32 := Host.absf main_v0
  let main_cst : FVec F S_ .f32 := constant S_ .f32 0x7F800000#32
  let main_v2 : FVec F S3x8x128x16384 .f32 := broadcastInDim S3x8x128x16384 ![] bcast_S_S3x8x128x16384 main_cst
  let main_v3 : IVec S3x8x128x16384 1 := cmpf .olt main_v1 main_v2
  let main_c : IVec S_ 1 := constantI S_ 1 1#1
  let main_v4 : IVec S_ 1 := (fun x v => Host.reduce IntOp.andi x v reducesTo_S3x8x128x16384_S_d0_1_2_3 h_S_) main_v3 main_c
  let main_v5 : FVec F S3x8x16384x128 .f32 := (extf .f32 · bitsLt_bf16_f32) main_arg1
  let main_v6 : FVec F S3x8x16384x128 .f32 := Host.absf main_v5
  let main_cst_0 : FVec F S_ .f32 := constant S_ .f32 0x7F800000#32
  let main_v7 : FVec F S3x8x16384x128 .f32 := broadcastInDim S3x8x16384x128 ![] bcast_S_S3x8x16384x128 main_cst_0
  let main_v8 : IVec S3x8x16384x128 1 := cmpf .olt main_v6 main_v7
  let main_c_1 : IVec S_ 1 := constantI S_ 1 1#1
  let main_v9 : IVec S_ 1 := (fun x v => Host.reduce IntOp.andi x v reducesTo_S3x8x16384x128_S_d0_1_2_3 h_S_) main_v8 main_c_1
  let main_v10 : IVec S_ 1 := andi main_v4 main_v9
  main_v10
-- ==== Pre_slots_in_rows.lean ====
abbrev S81920x1024 : Shape := ⟨2, ![81920, 1024]⟩
abbrev S4x16384 : Shape := ⟨2, ![4, 16384]⟩
abbrev S_ : Shape := ⟨0, ![]⟩

class Facts : Prop where
  bcast_S_S4x16384 : S_.BroadcastsInDim S4x16384 (![] : Fin 0 → Fin S4x16384.rank)

variable [Facts]

def fn {F : FTy → Type} [FloatOps F] (main_arg0 : FVec F S81920x1024 .f32) (main_arg1 : IVec S4x16384 32) : IVec S4x16384 1 :=
  let main_c : IVec S_ 32 := constantI S_ 32 0#32
  let main_v0 : IVec S4x16384 32 := broadcastInDim S4x16384 ![] bcast_S_S4x16384 main_c
  let main_v1 : IVec S4x16384 1 := cmpi .sge main_arg1 main_v0
  let main_c_0 : IVec S_ 32 := constantI S_ 32 81920#32
  let main_v2 : IVec S4x16384 32 := broadcastInDim S4x16384 ![] bcast_S_S4x16384 main_c_0
  let main_v3 : IVec S4x16384 1 := cmpi .slt main_arg1 main_v2
  let main_v4 : IVec S4x16384 1 := andi main_v1 main_v3
  main_v4
-- ==== Kernel.lean ====
abbrev S81920x1024 : Shape := ⟨2, ![81920, 1024]⟩
abbrev S4x16384 : Shape := ⟨2, ![4, 16384]⟩
abbrev S4x512x32 : Shape := ⟨3, ![4, 512, 32]⟩
abbrev S_ : Shape := ⟨0, ![]⟩
abbrev S4x512x128 : Shape := ⟨3, ![4, 512, 128]⟩
abbrev S4x16384x1024 : Shape := ⟨3, ![4, 16384, 1024]⟩
abbrev S2x1x1x128 : Shape := ⟨4, ![2, 1, 1, 128]⟩
abbrev S2 : Shape := ⟨1, ![2]⟩
abbrev S2x1x32x1024 : Shape := ⟨4, ![2, 1, 32, 1024]⟩
abbrev S1x1x1x128 : Shape := ⟨4, ![1, 1, 1, 128]⟩
abbrev S1x1x128 : Shape := ⟨3, ![1, 1, 128]⟩
abbrev S1 : Shape := ⟨1, ![1]⟩
abbrev S1x1x32x1024 : Shape := ⟨4, ![1, 1, 32, 1024]⟩
abbrev S1x32x1024 : Shape := ⟨3, ![1, 32, 1024]⟩
abbrev S1x32x128 : Shape := ⟨3, ![1, 32, 128]⟩
abbrev S32x128 : Shape := ⟨2, ![32, 128]⟩
abbrev S1x1x32 : Shape := ⟨3, ![1, 1, 32]⟩
abbrev S32 : Shape := ⟨1, ![32]⟩
abbrev S81920x128 : Shape := ⟨2, ![81920, 128]⟩

abbrev nBuf : Table → Nat
  | .hbm => 7
  | .local .scVector .vmem => 2
  | _ => 0

abbrev bufTy : (tb : Table) → Fin (nBuf tb) → BufTy
  | .hbm, ⟨0, _⟩ => ⟨S81920x1024, .f32⟩
  | .hbm, ⟨1, _⟩ => ⟨S4x16384, .i32⟩
  | .hbm, ⟨2, _⟩ => ⟨S4x512x32, .i32⟩
  | .hbm, ⟨3, _⟩ => ⟨S_, .i32⟩
  | .hbm, ⟨4, _⟩ => ⟨S_, .i32⟩
  | .hbm, ⟨5, _⟩ => ⟨S4x512x128, .i32⟩
  | .hbm, ⟨6, _⟩ => ⟨S4x16384x1024, .f32⟩
  | .local .scVector .vmem, ⟨0, _⟩ => ⟨S2x1x1x128, .i32⟩
  | .local .scVector .vmem, ⟨1, _⟩ => ⟨S2x1x32x1024, .f32⟩
  | _, _ => ⟨S81920x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_v1_scv : Ref sig .scVector := ⟨.hbm, 5, rfl⟩
abbrev main_v2_scv : Ref sig .scVector := ⟨.hbm, 6, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 4 → Nat :=
  let c0_i32_26_r0 : BitVec 32 := 0#32
  let c2_i32_r0 : BitVec 32 := 2#32
  let v34_r0 : BitVec 32 := Scalar.remui c0_i32_26_r0 c2_i32_r0
  let c0_i32_28_r0 : BitVec 32 := 0#32
  let c0_i32_29_r0 : BitVec 32 := 0#32
  let c0_i32_30_r0 : BitVec 32 := 0#32
  ![v34_r0.toNat, 0, 0, 0]
def k0_off2 (i : grid0.Coords) : Fin 3 → Nat :=
  let c0_i32_31_r0 : BitVec 32 := 0#32
  let c1_i32_27_r0 : BitVec 32 := 1#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v35_r0 : BitVec 32 := Scalar.muli c1_i32_27_r0 v7_r0
  let c0_i32_32_r0 : BitVec 32 := 0#32
  ![0, v35_r0.toNat, 0]
def k0_off3 : Fin 1 → Nat :=
  let c0_i32_26_r0 : BitVec 32 := 0#32
  let c2_i32_r0 : BitVec 32 := 2#32
  let v34_r0 : BitVec 32 := Scalar.remui c0_i32_26_r0 c2_i32_r0
  ![v34_r0.toNat]
@[reducible] def k0_t1_loop : Scf.Loop 32 :=
  let c0_i32_45_r0 : BitVec 32 := 0#32
  let c64_i32_r0 : BitVec 32 := 64#32
  let v45_r0 : BitVec 32 := Scalar.addi c0_i32_45_r0 c64_i32_r0
  let c1_i32_46_r0 : BitVec 32 := 1#32
  ⟨c0_i32_45_r0, v45_r0, c1_i32_46_r0⟩
def k0_off4 (arg6_r0 : BitVec 32) : Fin 4 → Nat :=
  let c2_i32_173_r0 : BitVec 32 := 2#32
  let v216_r0 : BitVec 32 := Scalar.remui arg6_r0 c2_i32_173_r0
  let c0_i32_176_r0 : BitVec 32 := 0#32
  let c0_i32_177_r0 : BitVec 32 := 0#32
  let c0_i32_178_r0 : BitVec 32 := 0#32
  ![v216_r0.toNat, 0, 0, 0]
def k0_cond1 (i : grid0.Coords) (k0_t1 : Fin k0_t1_loop.trips) (arg10_r0 : BitVec 32) (arg11_r0 : BitVec 32) : BitVec 1 :=
  let c0_i32_91_r0 : BitVec 32 := 0#32
  let v100_r0 : BitVec 32 := Scalar.addi arg10_r0 c0_i32_91_r0
  let true_101_r0 : BitVec 1 := 1#1
  let c1_i32_100_r0 : BitVec 32 := 1#32
  let v112_r0 : BitVec 32 := Scalar.addi arg11_r0 c1_i32_100_r0
  let v113_r0 : BitVec 32 := Scalar.select true_101_r0 v112_r0 arg11_r0
  let c16_i32_102_r0 : BitVec 32 := 16#32
  let v114_r0 : BitVec 1 := Scalar.cmpi .eq v113_r0 c16_i32_102_r0
  let c1_i32_104_r0 : BitVec 32 := 1#32
  let v116_r0 : BitVec 32 := Scalar.addi arg10_r0 c1_i32_104_r0
  let v117_r0 : BitVec 32 := Scalar.select v114_r0 v116_r0 arg10_r0
  let c4_i32_105_r0 : BitVec 32 := 4#32
  let v118_r0 : BitVec 1 := Scalar.cmpi .eq v117_r0 c4_i32_105_r0
  let c0_i32_106_r0 : BitVec 32 := 0#32
  let v119_r0 : BitVec 32 := Scalar.select v118_r0 c0_i32_106_r0 v117_r0
  let c0_i32_107_r0 : BitVec 32 := 0#32
  let v120_r0 : BitVec 32 := Scalar.addi v119_r0 c0_i32_107_r0
  let v132_r0 : BitVec 1 := Scalar.cmpi .ne v100_r0 v120_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v101_r0 : BitVec 32 := Scalar.addi arg11_r0 v4
  let c0_i32_103_r0 : BitVec 32 := 0#32
  let v115_r0 : BitVec 32 := Scalar.select v114_r0 c0_i32_103_r0 v113_r0
  let v121_r0 : BitVec 32 := Scalar.addi v115_r0 v4
  let v133_r0 : BitVec 1 := Scalar.cmpi .ne v101_r0 v121_r0
  let v134_r0 : BitVec 1 := Scalar.ori v132_r0 v133_r0
  let c0_i32_45_r0 : BitVec 32 := 0#32
  let c1_i32_46_r0 : BitVec 32 := 1#32
  let arg5_r0 : BitVec 32 := Scf.iv c0_i32_45_r0 c1_i32_46_r0 k0_t1
  let c63_i32_116_r0 : BitVec 32 := 63#32
  let v135_r0 : BitVec 1 := Scalar.cmpi .sge arg5_r0 c63_i32_116_r0
  let true_117_r0 : BitVec 1 := 1#1
  let v136_r0 : BitVec 1 := Scalar.xori v135_r0 true_117_r0
  let v137_r0 : BitVec 1 := Scalar.andi v134_r0 v136_r0
  let true_118_r0 : BitVec 1 := 1#1
  let v138_r0 : BitVec 1 := Scalar.andi v137_r0 true_118_r0
  let v139_r0 : BitVec 32 := Scalar.extui v138_r0
  let c0_i32_119_r0 : BitVec 32 := 0#32
  let v140_r0 : BitVec 1 := Scalar.cmpi .ne v139_r0 c0_i32_119_r0
  v140_r0

def k0_off5 (i : grid0.Coords) (arg10_r0 : BitVec 32) (arg11_r0 : BitVec 32) : Fin 3 → Nat :=
  let c1_i32_174_r0 : BitVec 32 := 1#32
  let true_101_r0 : BitVec 1 := 1#1
  let c1_i32_100_r0 : BitVec 32 := 1#32
  let v112_r0 : BitVec 32 := Scalar.addi arg11_r0 c1_i32_100_r0
  let v113_r0 : BitVec 32 := Scalar.select true_101_r0 v112_r0 arg11_r0
  let c16_i32_102_r0 : BitVec 32 := 16#32
  let v114_r0 : BitVec 1 := Scalar.cmpi .eq v113_r0 c16_i32_102_r0
  let c1_i32_104_r0 : BitVec 32 := 1#32
  let v116_r0 : BitVec 32 := Scalar.addi arg10_r0 c1_i32_104_r0
  let v117_r0 : BitVec 32 := Scalar.select v114_r0 v116_r0 arg10_r0
  let c4_i32_105_r0 : BitVec 32 := 4#32
  let v118_r0 : BitVec 1 := Scalar.cmpi .eq v117_r0 c4_i32_105_r0
  let c0_i32_106_r0 : BitVec 32 := 0#32
  let v119_r0 : BitVec 32 := Scalar.select v118_r0 c0_i32_106_r0 v117_r0
  let c0_i32_107_r0 : BitVec 32 := 0#32
  let v120_r0 : BitVec 32 := Scalar.addi v119_r0 c0_i32_107_r0
  let v217_r0 : BitVec 32 := Scalar.muli c1_i32_174_r0 v120_r0
  let c1_i32_175_r0 : BitVec 32 := 1#32
  let c0_i32_103_r0 : BitVec 32 := 0#32
  let v115_r0 : BitVec 32 := Scalar.select v114_r0 c0_i32_103_r0 v113_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v121_r0 : BitVec 32 := Scalar.addi v115_r0 v4
  let v218_r0 : BitVec 32 := Scalar.muli c1_i32_175_r0 v121_r0
  let c0_i32_179_r0 : BitVec 32 := 0#32
  ![v217_r0.toNat, v218_r0.toNat, 0]
def k0_off6 (arg6_r0 : BitVec 32) : Fin 1 → Nat :=
  let c2_i32_173_r0 : BitVec 32 := 2#32
  let v216_r0 : BitVec 32 := Scalar.remui arg6_r0 c2_i32_173_r0
  ![v216_r0.toNat]
def k0_off7 (arg7_r0 : BitVec 32) : Fin 4 → Nat :=
  let c2_i32_175_r0 : BitVec 32 := 2#32
  let v218_r0 : BitVec 32 := Scalar.remui arg7_r0 c2_i32_175_r0
  let c0_i32_176_r0 : BitVec 32 := 0#32
  let c0_i32_177_r0 : BitVec 32 := 0#32
  let c0_i32_178_r0 : BitVec 32 := 0#32
  ![v218_r0.toNat, 0, 0, 0]
def k0_cond2 (i : grid0.Coords) (k0_t1 : Fin k0_t1_loop.trips) (arg10_r0 : BitVec 32) (arg11_r0 : BitVec 32) : BitVec 1 :=
  let c0_i32_91_r0 : BitVec 32 := 0#32
  let v100_r0 : BitVec 32 := Scalar.addi arg10_r0 c0_i32_91_r0
  let true_93_r0 : BitVec 1 := 1#1
  let c1_i32_92_r0 : BitVec 32 := 1#32
  let v102_r0 : BitVec 32 := Scalar.subi arg11_r0 c1_i32_92_r0
  let v103_r0 : BitVec 32 := Scalar.select true_93_r0 v102_r0 arg11_r0
  let c_m1_i32_94_r0 : BitVec 32 := 4294967295#32
  let v104_r0 : BitVec 1 := Scalar.cmpi .eq v103_r0 c_m1_i32_94_r0
  let c1_i32_96_r0 : BitVec 32 := 1#32
  let v106_r0 : BitVec 32 := Scalar.subi arg10_r0 c1_i32_96_r0
  let v107_r0 : BitVec 32 := Scalar.select v104_r0 v106_r0 arg10_r0
  let c_m1_i32_97_r0 : BitVec 32 := 4294967295#32
  let v108_r0 : BitVec 1 := Scalar.cmpi .eq v107_r0 c_m1_i32_97_r0
  let c3_i32_98_r0 : BitVec 32 := 3#32
  let v109_r0 : BitVec 32 := Scalar.select v108_r0 c3_i32_98_r0 v107_r0
  let c0_i32_99_r0 : BitVec 32 := 0#32
  let v110_r0 : BitVec 32 := Scalar.addi v109_r0 c0_i32_99_r0
  let v150_r0 : BitVec 1 := Scalar.cmpi .ne v100_r0 v110_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v101_r0 : BitVec 32 := Scalar.addi arg11_r0 v4
  let c15_i32_95_r0 : BitVec 32 := 15#32
  let v105_r0 : BitVec 32 := Scalar.select v104_r0 c15_i32_95_r0 v103_r0
  let v111_r0 : BitVec 32 := Scalar.addi v105_r0 v4
  let v151_r0 : BitVec 1 := Scalar.cmpi .ne v101_r0 v111_r0
  let v152_r0 : BitVec 1 := Scalar.ori v150_r0 v151_r0
  let c0_i32_45_r0 : BitVec 32 := 0#32
  let c1_i32_46_r0 : BitVec 32 := 1#32
  let arg5_r0 : BitVec 32 := Scf.iv c0_i32_45_r0 c1_i32_46_r0 k0_t1
  let c0_i32_90_r0 : BitVec 32 := 0#32
  let v98_r0 : BitVec 1 := Scalar.cmpi .eq arg5_r0 c0_i32_90_r0
  let v153_r0 : BitVec 1 := Scalar.ori v152_r0 v98_r0
  let c0_i32_124_r0 : BitVec 32 := 0#32
  let v154_r0 : BitVec 1 := Scalar.cmpi .sge arg5_r0 c0_i32_124_r0
  let v155_r0 : BitVec 1 := Scalar.andi v153_r0 v154_r0
  let v156_r0 : BitVec 32 := Scalar.extui v155_r0
  let c0_i32_125_r0 : BitVec 32 := 0#32
  let v157_r0 : BitVec 1 := Scalar.cmpi .ne v156_r0 c0_i32_125_r0
  v157_r0

def k0_off8 (i : grid0.Coords) (arg10_r0 : BitVec 32) (arg11_r0 : BitVec 32) : Fin 3 → Nat :=
  let c1_i32_173_r0 : BitVec 32 := 1#32
  let c0_i32_91_r0 : BitVec 32 := 0#32
  let v100_r0 : BitVec 32 := Scalar.addi arg10_r0 c0_i32_91_r0
  let v216_r0 : BitVec 32 := Scalar.muli c1_i32_173_r0 v100_r0
  let c1_i32_174_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v101_r0 : BitVec 32 := Scalar.addi arg11_r0 v4
  let v217_r0 : BitVec 32 := Scalar.muli c1_i32_174_r0 v101_r0
  let c0_i32_179_r0 : BitVec 32 := 0#32
  ![v216_r0.toNat, v217_r0.toNat, 0]
def k0_off9 (arg7_r0 : BitVec 32) : Fin 1 → Nat :=
  let c2_i32_175_r0 : BitVec 32 := 2#32
  let v218_r0 : BitVec 32 := Scalar.remui arg7_r0 c2_i32_175_r0
  ![v218_r0.toNat]
def k0_off10 (arg8_r0 : BitVec 32) : Fin 4 → Nat :=
  let c2_i32_129_r0 : BitVec 32 := 2#32
  let v167_r0 : BitVec 32 := Scalar.remui arg8_r0 c2_i32_129_r0
  let c0_i32_173_r1 : BitVec 32 := 0#32
  let c0_i32_174_r1 : BitVec 32 := 0#32
  let c0_i32_175_r1 : BitVec 32 := 0#32
  ![v167_r0.toNat, 0, 0, 0]

def k0_chk2 (arg8_r0 : BitVec 32) : Prop :=
  (∀ a, (k0_off10 arg8_r0) a + S1x1x32x1024.size a ≤ S2x1x32x1024.size a)
theorem k0_off10_inb : ∀ (arg8_r0 : BitVec 32) (k0_hw2 : k0_chk2 arg8_r0), ∀ a, (k0_off10 arg8_r0) a + S1x1x32x1024.size a ≤ S2x1x32x1024.size a := fun arg8_r0 k0_hw2 => k0_hw2

def k0_off11 (arg7_r0 : BitVec 32) : Fin 4 → Nat :=
  let c2_i32_128_r0 : BitVec 32 := 2#32
  let v166_r0 : BitVec 32 := Scalar.remui arg7_r0 c2_i32_128_r0
  let c0_i32_178_r1 : BitVec 32 := 0#32
  let c0_i32_179_r1 : BitVec 32 := 0#32
  let c0_i32_180_r1 : BitVec 32 := 0#32
  ![v166_r0.toNat, 0, 0, 0]

def k0_chk3 (arg7_r0 : BitVec 32) : Prop :=
  (∀ a, (k0_off11 arg7_r0) a + S1x1x1x128.size a ≤ S2x1x1x128.size a)
theorem k0_off11_inb : ∀ (arg7_r0 : BitVec 32) (k0_hw3 : k0_chk3 arg7_r0), ∀ a, (k0_off11 arg7_r0) a + S1x1x1x128.size a ≤ S2x1x1x128.size a := fun arg7_r0 k0_hw3 => k0_hw3

def k0_off12 (arg8_r0 : BitVec 32) : Fin 4 → Nat :=
  let c2_i32_173_r0 : BitVec 32 := 2#32
  let v216_r0 : BitVec 32 := Scalar.remui arg8_r0 c2_i32_173_r0
  let c0_i32_176_r0 : BitVec 32 := 0#32
  let c0_i32_177_r0 : BitVec 32 := 0#32
  let c0_i32_178_r0 : BitVec 32 := 0#32
  ![v216_r0.toNat, 0, 0, 0]
def k0_cond5 (i : grid0.Coords) (k0_t1 : Fin k0_t1_loop.trips) (arg10_r0 : BitVec 32) (arg11_r0 : BitVec 32) : BitVec 1 :=
  let c0_i32_91_r0 : BitVec 32 := 0#32
  let v100_r0 : BitVec 32 := Scalar.addi arg10_r0 c0_i32_91_r0
  let true_101_r0 : BitVec 1 := 1#1
  let c1_i32_100_r0 : BitVec 32 := 1#32
  let v112_r0 : BitVec 32 := Scalar.addi arg11_r0 c1_i32_100_r0
  let v113_r0 : BitVec 32 := Scalar.select true_101_r0 v112_r0 arg11_r0
  let c16_i32_102_r0 : BitVec 32 := 16#32
  let v114_r0 : BitVec 1 := Scalar.cmpi .eq v113_r0 c16_i32_102_r0
  let c1_i32_104_r0 : BitVec 32 := 1#32
  let v116_r0 : BitVec 32 := Scalar.addi arg10_r0 c1_i32_104_r0
  let v117_r0 : BitVec 32 := Scalar.select v114_r0 v116_r0 arg10_r0
  let c4_i32_105_r0 : BitVec 32 := 4#32
  let v118_r0 : BitVec 1 := Scalar.cmpi .eq v117_r0 c4_i32_105_r0
  let c0_i32_106_r0 : BitVec 32 := 0#32
  let v119_r0 : BitVec 32 := Scalar.select v118_r0 c0_i32_106_r0 v117_r0
  let c0_i32_107_r0 : BitVec 32 := 0#32
  let v120_r0 : BitVec 32 := Scalar.addi v119_r0 c0_i32_107_r0
  let v175_r0 : BitVec 1 := Scalar.cmpi .ne v100_r0 v120_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v101_r0 : BitVec 32 := Scalar.addi arg11_r0 v4
  let c0_i32_103_r0 : BitVec 32 := 0#32
  let v115_r0 : BitVec 32 := Scalar.select v114_r0 c0_i32_103_r0 v113_r0
  let v121_r0 : BitVec 32 := Scalar.addi v115_r0 v4
  let v176_r0 : BitVec 1 := Scalar.cmpi .ne v101_r0 v121_r0
  let v177_r0 : BitVec 1 := Scalar.ori v175_r0 v176_r0
  let c0_i32_45_r0 : BitVec 32 := 0#32
  let c1_i32_46_r0 : BitVec 32 := 1#32
  let arg5_r0 : BitVec 32 := Scf.iv c0_i32_45_r0 c1_i32_46_r0 k0_t1
  let c63_i32_r0 : BitVec 32 := 63#32
  let v99_r0 : BitVec 1 := Scalar.cmpi .eq arg5_r0 c63_i32_r0
  let v178_r0 : BitVec 1 := Scalar.ori v177_r0 v99_r0
  let v179_r0 : BitVec 32 := Scalar.extui v178_r0
  let c0_i32_155_r0 : BitVec 32 := 0#32
  let v180_r0 : BitVec 1 := Scalar.cmpi .ne v179_r0 c0_i32_155_r0
  v180_r0

def k0_off13 (i : grid0.Coords) (arg10_r0 : BitVec 32) (arg11_r0 : BitVec 32) : Fin 3 → Nat :=
  let c1_i32_174_r0 : BitVec 32 := 1#32
  let c0_i32_91_r0 : BitVec 32 := 0#32
  let v100_r0 : BitVec 32 := Scalar.addi arg10_r0 c0_i32_91_r0
  let v217_r0 : BitVec 32 := Scalar.muli c1_i32_174_r0 v100_r0
  let c32_i32_175_r0 : BitVec 32 := 32#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v101_r0 : BitVec 32 := Scalar.addi arg11_r0 v4
  let v218_r0 : BitVec 32 := Scalar.muli c32_i32_175_r0 v101_r0
  let c0_i32_179_r0 : BitVec 32 := 0#32
  ![v217_r0.toNat, v218_r0.toNat, 0]
def k0_off14 (arg8_r0 : BitVec 32) : Fin 1 → Nat :=
  let c2_i32_173_r0 : BitVec 32 := 2#32
  let v216_r0 : BitVec 32 := Scalar.remui arg8_r0 c2_i32_173_r0
  ![v216_r0.toNat]
def k0_off15 (arg9_r0 : BitVec 32) : Fin 4 → Nat :=
  let c2_i32_173_r0 : BitVec 32 := 2#32
  let v216_r0 : BitVec 32 := Scalar.remui arg9_r0 c2_i32_173_r0
  let c0_i32_176_r0 : BitVec 32 := 0#32
  let c0_i32_177_r0 : BitVec 32 := 0#32
  let c0_i32_178_r0 : BitVec 32 := 0#32
  ![v216_r0.toNat, 0, 0, 0]
def k0_cond7 (i : grid0.Coords) (k0_t1 : Fin k0_t1_loop.trips) (arg10_r0 : BitVec 32) (arg11_r0 : BitVec 32) : BitVec 1 :=
  let c0_i32_91_r0 : BitVec 32 := 0#32
  let v100_r0 : BitVec 32 := Scalar.addi arg10_r0 c0_i32_91_r0
  let true_93_r0 : BitVec 1 := 1#1
  let c1_i32_92_r0 : BitVec 32 := 1#32
  let v102_r0 : BitVec 32 := Scalar.subi arg11_r0 c1_i32_92_r0
  let v103_r0 : BitVec 32 := Scalar.select true_93_r0 v102_r0 arg11_r0
  let c_m1_i32_94_r0 : BitVec 32 := 4294967295#32
  let v104_r0 : BitVec 1 := Scalar.cmpi .eq v103_r0 c_m1_i32_94_r0
  let c1_i32_96_r0 : BitVec 32 := 1#32
  let v106_r0 : BitVec 32 := Scalar.subi arg10_r0 c1_i32_96_r0
  let v107_r0 : BitVec 32 := Scalar.select v104_r0 v106_r0 arg10_r0
  let c_m1_i32_97_r0 : BitVec 32 := 4294967295#32
  let v108_r0 : BitVec 1 := Scalar.cmpi .eq v107_r0 c_m1_i32_97_r0
  let c3_i32_98_r0 : BitVec 32 := 3#32
  let v109_r0 : BitVec 32 := Scalar.select v108_r0 c3_i32_98_r0 v107_r0
  let c0_i32_99_r0 : BitVec 32 := 0#32
  let v110_r0 : BitVec 32 := Scalar.addi v109_r0 c0_i32_99_r0
  let v192_r0 : BitVec 1 := Scalar.cmpi .ne v100_r0 v110_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v101_r0 : BitVec 32 := Scalar.addi arg11_r0 v4
  let c15_i32_95_r0 : BitVec 32 := 15#32
  let v105_r0 : BitVec 32 := Scalar.select v104_r0 c15_i32_95_r0 v103_r0
  let v111_r0 : BitVec 32 := Scalar.addi v105_r0 v4
  let v193_r0 : BitVec 1 := Scalar.cmpi .ne v101_r0 v111_r0
  let v194_r0 : BitVec 1 := Scalar.ori v192_r0 v193_r0
  let c0_i32_45_r0 : BitVec 32 := 0#32
  let c1_i32_46_r0 : BitVec 32 := 1#32
  let arg5_r0 : BitVec 32 := Scf.iv c0_i32_45_r0 c1_i32_46_r0 k0_t1
  let c0_i32_90_r0 : BitVec 32 := 0#32
  let v98_r0 : BitVec 1 := Scalar.cmpi .eq arg5_r0 c0_i32_90_r0
  let true_161_r0 : BitVec 1 := 1#1
  let v195_r0 : BitVec 1 := Scalar.xori v98_r0 true_161_r0
  let v196_r0 : BitVec 1 := Scalar.andi v194_r0 v195_r0
  let v197_r0 : BitVec 32 := Scalar.extui v196_r0
  let c0_i32_162_r0 : BitVec 32 := 0#32
  let v198_r0 : BitVec 1 := Scalar.cmpi .ne v197_r0 c0_i32_162_r0
  v198_r0

def k0_off16 (i : grid0.Coords) (arg10_r0 : BitVec 32) (arg11_r0 : BitVec 32) : Fin 3 → Nat :=
  let c1_i32_174_r0 : BitVec 32 := 1#32
  let true_93_r0 : BitVec 1 := 1#1
  let c1_i32_92_r0 : BitVec 32 := 1#32
  let v102_r0 : BitVec 32 := Scalar.subi arg11_r0 c1_i32_92_r0
  let v103_r0 : BitVec 32 := Scalar.select true_93_r0 v102_r0 arg11_r0
  let c_m1_i32_94_r0 : BitVec 32 := 4294967295#32
  let v104_r0 : BitVec 1 := Scalar.cmpi .eq v103_r0 c_m1_i32_94_r0
  let c1_i32_96_r0 : BitVec 32 := 1#32
  let v106_r0 : BitVec 32 := Scalar.subi arg10_r0 c1_i32_96_r0
  let v107_r0 : BitVec 32 := Scalar.select v104_r0 v106_r0 arg10_r0
  let c_m1_i32_97_r0 : BitVec 32 := 4294967295#32
  let v108_r0 : BitVec 1 := Scalar.cmpi .eq v107_r0 c_m1_i32_97_r0
  let c3_i32_98_r0 : BitVec 32 := 3#32
  let v109_r0 : BitVec 32 := Scalar.select v108_r0 c3_i32_98_r0 v107_r0
  let c0_i32_99_r0 : BitVec 32 := 0#32
  let v110_r0 : BitVec 32 := Scalar.addi v109_r0 c0_i32_99_r0
  let v217_r0 : BitVec 32 := Scalar.muli c1_i32_174_r0 v110_r0
  let c32_i32_175_r0 : BitVec 32 := 32#32
  let c15_i32_95_r0 : BitVec 32 := 15#32
  let v105_r0 : BitVec 32 := Scalar.select v104_r0 c15_i32_95_r0 v103_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v111_r0 : BitVec 32 := Scalar.addi v105_r0 v4
  let v218_r0 : BitVec 32 := Scalar.muli c32_i32_175_r0 v111_r0
  let c0_i32_179_r0 : BitVec 32 := 0#32
  ![v217_r0.toNat, v218_r0.toNat, 0]
def k0_off17 (arg9_r0 : BitVec 32) : Fin 1 → Nat :=
  let c2_i32_173_r0 : BitVec 32 := 2#32
  let v216_r0 : BitVec 32 := Scalar.remui arg9_r0 c2_i32_173_r0
  ![v216_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) : Prop :=
  (∀ (k0_h1 : k0_cond1 i k0_t1 arg10_r0 arg11_r0 = 1#1), ∀ a, (k0_off4 arg6_r0) a + S1x1x1x128.size a ≤ S2x1x1x128.size a) ∧
  (∀ (k0_h1 : k0_cond1 i k0_t1 arg10_r0 arg11_r0 = 1#1), ∀ a, (k0_off5 i arg10_r0 arg11_r0) a + S1x1x128.size a ≤ S4x512x128.size a) ∧
  (∀ (k0_h1 : k0_cond1 i k0_t1 arg10_r0 arg11_r0 = 1#1), ∀ a, (k0_off6 arg6_r0) a + S1.size a ≤ S2.size a) ∧
  (∀ (k0_h2 : k0_cond2 i k0_t1 arg10_r0 arg11_r0 = 1#1), ∀ a, (k0_off7 arg7_r0) a + S1x1x1x128.size a ≤ S2x1x1x128.size a) ∧
  (∀ (k0_h2 : k0_cond2 i k0_t1 arg10_r0 arg11_r0 = 1#1), ∀ a, (k0_off8 i arg10_r0 arg11_r0) a + S1x1x128.size a ≤ S4x512x128.size a) ∧
  (∀ (k0_h2 : k0_cond2 i k0_t1 arg10_r0 arg11_r0 = 1#1), ∀ a, (k0_off9 arg7_r0) a + S1.size a ≤ S2.size a) ∧
  (∀ (k0_h5 : k0_cond5 i k0_t1 arg10_r0 arg11_r0 = 1#1), ∀ a, (k0_off12 arg8_r0) a + S1x1x32x1024.size a ≤ S2x1x32x1024.size a) ∧
  (∀ (k0_h5 : k0_cond5 i k0_t1 arg10_r0 arg11_r0 = 1#1), ∀ a, (k0_off13 i arg10_r0 arg11_r0) a + S1x32x1024.size a ≤ S4x16384x1024.size a) ∧
  (∀ (k0_h5 : k0_cond5 i k0_t1 arg10_r0 arg11_r0 = 1#1), ∀ a, (k0_off14 arg8_r0) a + S1.size a ≤ S2.size a) ∧
  (∀ (k0_h7 : k0_cond7 i k0_t1 arg10_r0 arg11_r0 = 1#1), ∀ a, (k0_off15 arg9_r0) a + S1x1x32x1024.size a ≤ S2x1x32x1024.size a) ∧
  (∀ (k0_h7 : k0_cond7 i k0_t1 arg10_r0 arg11_r0 = 1#1), ∀ a, (k0_off16 i arg10_r0 arg11_r0) a + S1x32x1024.size a ≤ S4x16384x1024.size a) ∧
  (∀ (k0_h7 : k0_cond7 i k0_t1 arg10_r0 arg11_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h1 : k0_cond1 i k0_t1 arg10_r0 arg11_r0 = 1#1), ∀ a, (k0_off4 arg6_r0) a + S1x1x1x128.size a ≤ S2x1x1x128.size a := fun i k0_t1 arg6_r0 arg7_r0 arg8_r0 arg9_r0 arg10_r0 arg11_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h1 : k0_cond1 i k0_t1 arg10_r0 arg11_r0 = 1#1), ∀ a, (k0_off5 i arg10_r0 arg11_r0) a + S1x1x128.size a ≤ S4x512x128.size a := fun i k0_t1 arg6_r0 arg7_r0 arg8_r0 arg9_r0 arg10_r0 arg11_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h1 : k0_cond1 i k0_t1 arg10_r0 arg11_r0 = 1#1), ∀ a, (k0_off6 arg6_r0) a + S1.size a ≤ S2.size a := fun i k0_t1 arg6_r0 arg7_r0 arg8_r0 arg9_r0 arg10_r0 arg11_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h2 : k0_cond2 i k0_t1 arg10_r0 arg11_r0 = 1#1), ∀ a, (k0_off7 arg7_r0) a + S1x1x1x128.size a ≤ S2x1x1x128.size a := fun i k0_t1 arg6_r0 arg7_r0 arg8_r0 arg9_r0 arg10_r0 arg11_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h2 : k0_cond2 i k0_t1 arg10_r0 arg11_r0 = 1#1), ∀ a, (k0_off8 i arg10_r0 arg11_r0) a + S1x1x128.size a ≤ S4x512x128.size a := fun i k0_t1 arg6_r0 arg7_r0 arg8_r0 arg9_r0 arg10_r0 arg11_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h2 : k0_cond2 i k0_t1 arg10_r0 arg11_r0 = 1#1), ∀ a, (k0_off9 arg7_r0) a + S1.size a ≤ S2.size a := fun i k0_t1 arg6_r0 arg7_r0 arg8_r0 arg9_r0 arg10_r0 arg11_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h5 : k0_cond5 i k0_t1 arg10_r0 arg11_r0 = 1#1), ∀ a, (k0_off12 arg8_r0) a + S1x1x32x1024.size a ≤ S2x1x32x1024.size a := fun i k0_t1 arg6_r0 arg7_r0 arg8_r0 arg9_r0 arg10_r0 arg11_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h5 : k0_cond5 i k0_t1 arg10_r0 arg11_r0 = 1#1), ∀ a, (k0_off13 i arg10_r0 arg11_r0) a + S1x32x1024.size a ≤ S4x16384x1024.size a := fun i k0_t1 arg6_r0 arg7_r0 arg8_r0 arg9_r0 arg10_r0 arg11_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h5 : k0_cond5 i k0_t1 arg10_r0 arg11_r0 = 1#1), ∀ a, (k0_off14 arg8_r0) a + S1.size a ≤ S2.size a := fun i k0_t1 arg6_r0 arg7_r0 arg8_r0 arg9_r0 arg10_r0 arg11_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h7 : k0_cond7 i k0_t1 arg10_r0 arg11_r0 = 1#1), ∀ a, (k0_off15 arg9_r0) a + S1x1x32x1024.size a ≤ S2x1x32x1024.size a := fun i k0_t1 arg6_r0 arg7_r0 arg8_r0 arg9_r0 arg10_r0 arg11_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h7 : k0_cond7 i k0_t1 arg10_r0 arg11_r0 = 1#1), ∀ a, (k0_off16 i arg10_r0 arg11_r0) a + S1x32x1024.size a ≤ S4x16384x1024.size a := fun i k0_t1 arg6_r0 arg7_r0 arg8_r0 arg9_r0 arg10_r0 arg11_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h7 : k0_cond7 i k0_t1 arg10_r0 arg11_r0 = 1#1), ∀ a, (k0_off17 arg9_r0) a + S1.size a ≤ S2.size a := fun i k0_t1 arg6_r0 arg7_r0 arg8_r0 arg9_r0 arg10_r0 arg11_r0 k0_hw1 k0_h7 => k0_hw1.2.2.2.2.2.2.2.2.2.2.2 k0_h7

def k0_off18 (v46_3_r0 : BitVec 32) : Fin 4 → Nat :=
  let c2_i32_80_r0 : BitVec 32 := 2#32
  let v87_r0 : BitVec 32 := Scalar.remui v46_3_r0 c2_i32_80_r0
  let c0_i32_82_r0 : BitVec 32 := 0#32
  let c0_i32_83_r0 : BitVec 32 := 0#32
  let c0_i32_84_r0 : BitVec 32 := 0#32
  ![v87_r0.toNat, 0, 0, 0]

def k0_off19 (i : grid0.Coords) (v46_5_r0 : BitVec 32) (v46_4_r0 : BitVec 32) : Fin 3 → Nat :=
  let c1_i32_81_r0 : BitVec 32 := 1#32
  let true_49_r0 : BitVec 1 := 1#1
  let c1_i32_48_r0 : BitVec 32 := 1#32
  let v47_r0 : BitVec 32 := Scalar.subi v46_5_r0 c1_i32_48_r0
  let v48_r0 : BitVec 32 := Scalar.select true_49_r0 v47_r0 v46_5_r0
  let c_m1_i32_50_r0 : BitVec 32 := 4294967295#32
  let v49_r0 : BitVec 1 := Scalar.cmpi .eq v48_r0 c_m1_i32_50_r0
  let c1_i32_52_r0 : BitVec 32 := 1#32
  let v51_r0 : BitVec 32 := Scalar.subi v46_4_r0 c1_i32_52_r0
  let v52_r0 : BitVec 32 := Scalar.select v49_r0 v51_r0 v46_4_r0
  let c_m1_i32_53_r0 : BitVec 32 := 4294967295#32
  let v53_r0 : BitVec 1 := Scalar.cmpi .eq v52_r0 c_m1_i32_53_r0
  let c3_i32_54_r0 : BitVec 32 := 3#32
  let v54_r0 : BitVec 32 := Scalar.select v53_r0 c3_i32_54_r0 v52_r0
  let c0_i32_55_r0 : BitVec 32 := 0#32
  let v55_r0 : BitVec 32 := Scalar.addi v54_r0 c0_i32_55_r0
  let v88_r0 : BitVec 32 := Scalar.muli c1_i32_81_r0 v55_r0
  let c32_i32_r0 : BitVec 32 := 32#32
  let c15_i32_51_r0 : BitVec 32 := 15#32
  let v50_r0 : BitVec 32 := Scalar.select v49_r0 c15_i32_51_r0 v48_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v56_r0 : BitVec 32 := Scalar.addi v50_r0 v4
  let v89_r0 : BitVec 32 := Scalar.muli c32_i32_r0 v56_r0
  let c0_i32_85_r0 : BitVec 32 := 0#32
  ![v88_r0.toNat, v89_r0.toNat, 0]

def k0_chk5 (i : grid0.Coords) (v46_5_r0 : BitVec 32) (v46_4_r0 : BitVec 32) : Prop :=
  (∀ a, (k0_off19 i v46_5_r0 v46_4_r0) a + S1x32x1024.size a ≤ S4x16384x1024.size a)
theorem k0_off19_inb : ∀ (i : grid0.Coords) (v46_5_r0 : BitVec 32) (v46_4_r0 : BitVec 32) (k0_hw5 : k0_chk5 i v46_5_r0 v46_4_r0), ∀ a, (k0_off19 i v46_5_r0 v46_4_r0) a + S1x32x1024.size a ≤ S4x16384x1024.size a := fun i v46_5_r0 v46_4_r0 k0_hw5 => k0_hw5

def k0_off20 (v46_3_r0 : BitVec 32) : Fin 1 → Nat :=
  let c2_i32_80_r0 : BitVec 32 := 2#32
  let v87_r0 : BitVec 32 := Scalar.remui v46_3_r0 c2_i32_80_r0
  ![v87_r0.toNat]
def k0_off21 (v46_3_r0 : BitVec 32) : Fin 4 → Nat :=
  let c2_i32_80_r0 : BitVec 32 := 2#32
  let v87_r0 : BitVec 32 := Scalar.remui v46_3_r0 c2_i32_80_r0
  let c0_i32_87_r0 : BitVec 32 := 0#32
  let c0_i32_88_r0 : BitVec 32 := 0#32
  let c0_i32_89_r0 : BitVec 32 := 0#32
  ![v87_r0.toNat, 0, 0, 0]

def k0_chk4 (v46_3_r0 : BitVec 32) : Prop :=
  (∀ a, (k0_off18 v46_3_r0) a + S1x1x32x1024.size a ≤ S2x1x32x1024.size a) ∧
  (∀ a, (k0_off20 v46_3_r0) a + S1.size a ≤ S2.size a) ∧
  (∀ a, (k0_off21 v46_3_r0) a + S1x1x32x1024.size a ≤ S2x1x32x1024.size a)
theorem k0_off18_inb : ∀ (v46_3_r0 : BitVec 32) (k0_hw4 : k0_chk4 v46_3_r0), ∀ a, (k0_off18 v46_3_r0) a + S1x1x32x1024.size a ≤ S2x1x32x1024.size a := fun v46_3_r0 k0_hw4 => k0_hw4.1
theorem k0_off20_inb : ∀ (v46_3_r0 : BitVec 32) (k0_hw4 : k0_chk4 v46_3_r0), ∀ a, (k0_off20 v46_3_r0) a + S1.size a ≤ S2.size a := fun v46_3_r0 k0_hw4 => k0_hw4.2.1
theorem k0_off21_inb : ∀ (v46_3_r0 : BitVec 32) (k0_hw4 : k0_chk4 v46_3_r0), ∀ a, (k0_off21 v46_3_r0) a + S1x1x32x1024.size a ≤ S2x1x32x1024.size a := fun v46_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S81920x1024 : Shape := ⟨2, ![81920, 1024]⟩
abbrev S4x16384 : Shape := ⟨2, ![4, 16384]⟩
abbrev S_ : Shape := ⟨0, ![]⟩
abbrev S4x16384x1 : Shape := ⟨3, ![4, 16384, 1]⟩
abbrev S4x16384x1024 : Shape := ⟨3, ![4, 16384, 1024]⟩

abbrev nBuf : Space → Nat
  | .hbm => 11
  | .vmem => 0
  | .smem => 0
  | _ => 0

abbrev bufTy : (tb : Table) → Fin (tcTables nBuf tb) → BufTy
  | .hbm, ⟨0, _⟩ => ⟨S81920x1024, .f32⟩
  | .hbm, ⟨1, _⟩ => ⟨S4x16384, .i32⟩
  | .hbm, ⟨2, _⟩ => ⟨S_, .i32⟩
  | .hbm, ⟨3, _⟩ => ⟨S4x16384, .i32⟩
  | .hbm, ⟨4, _⟩ => ⟨S4x16384, .i1⟩
  | .hbm, ⟨5, _⟩ => ⟨S_, .i32⟩
  | .hbm, ⟨6, _⟩ => ⟨S4x16384, .i32⟩
  | .hbm, ⟨7, _⟩ => ⟨S4x16384, .i32⟩
  | .hbm, ⟨8, _⟩ => ⟨S4x16384, .i32⟩
  | .hbm, ⟨9, _⟩ => ⟨S4x16384x1, .i32⟩
  | .hbm, ⟨10, _⟩ => ⟨S4x16384x1024, .f32⟩
  | _, _ => ⟨S81920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel2.lean ====
abbrev S16384x1024 : Shape := ⟨2, ![16384, 1024]⟩
abbrev S16384x4 : Shape := ⟨2, ![16384, 4]⟩
abbrev S1024 : Shape := ⟨1, ![1024]⟩
abbrev S4x16384x1024 : Shape := ⟨3, ![4, 16384, 1024]⟩
abbrev S4x16384 : Shape := ⟨2, ![4, 16384]⟩
abbrev S_ : Shape := ⟨0, ![]⟩
abbrev S8x16384 : Shape := ⟨2, ![8, 16384]⟩
abbrev S1x1024 : Shape := ⟨2, ![1, 1024]⟩
abbrev S512x1024 : Shape := ⟨2, ![512, 1024]⟩
abbrev S8x512 : Shape := ⟨2, ![8, 512]⟩
abbrev S4x512x1024 : Shape := ⟨3, ![4, 512, 1024]⟩
abbrev S512x8 : Shape := ⟨2, ![512, 8]⟩
abbrev S1x512x1024 : Shape := ⟨3, ![1, 512, 1024]⟩
abbrev S512x1 : Shape := ⟨2, ![512, 1]⟩
abbrev S512 : Shape := ⟨1, ![512]⟩

abbrev nBuf : Space → Nat
  | .hbm => 10
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x4, .f32⟩
  | .hbm, ⟨2, _⟩ => ⟨S1024, .f32⟩
  | .hbm, ⟨3, _⟩ => ⟨S4x16384x1024, .f32⟩
  | .hbm, ⟨4, _⟩ => ⟨S4x16384, .f32⟩
  | .hbm, ⟨5, _⟩ => ⟨S_, .f32⟩
  | .hbm, ⟨6, _⟩ => ⟨S4x16384, .f32⟩
  | .hbm, ⟨7, _⟩ => ⟨S8x16384, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x512, .f32⟩
  | .local _ .vmem, ⟨3, _⟩ => ⟨S8x512, .f32⟩
  | .local _ .vmem, ⟨4, _⟩ => ⟨S1x1024, .f32⟩
  | .local _ .vmem, ⟨5, _⟩ => ⟨S4x512x1024, .f32⟩
  | .local _ .vmem, ⟨6, _⟩ => ⟨S4x512x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel2Ideal.lean ====
abbrev S16384x1024 : Shape := ⟨2, ![16384, 1024]⟩
abbrev S16384x4 : Shape := ⟨2, ![16384, 4]⟩
abbrev S1024 : Shape := ⟨1, ![1024]⟩
abbrev S4x16384x1024 : Shape := ⟨3, ![4, 16384, 1024]⟩
abbrev S4x16384 : Shape := ⟨2, ![4, 16384]⟩
abbrev S_ : Shape := ⟨0, ![]⟩
abbrev S8x16384 : Shape := ⟨2, ![8, 16384]⟩
abbrev S1x1024 : Shape := ⟨2, ![1, 1024]⟩
abbrev S512x1024 : Shape := ⟨2, ![512, 1024]⟩
abbrev S8x512 : Shape := ⟨2, ![8, 512]⟩
abbrev S4x512x1024 : Shape := ⟨3, ![4, 512, 1024]⟩
abbrev S512x8 : Shape := ⟨2, ![512, 8]⟩
abbrev S1x512x1024 : Shape := ⟨3, ![1, 512, 1024]⟩
abbrev S512x1 : Shape := ⟨2, ![512, 1]⟩
abbrev S512 : Shape := ⟨1, ![512]⟩

abbrev nBuf : Space → Nat
  | .hbm => 10
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x4, .f32⟩
  | .hbm, ⟨2, _⟩ => ⟨S1024, .f32⟩
  | .hbm, ⟨3, _⟩ => ⟨S4x16384x1024, .f32⟩
  | .hbm, ⟨4, _⟩ => ⟨S4x16384, .f32⟩
  | .hbm, ⟨5, _⟩ => ⟨S_, .f32⟩
  | .hbm, ⟨6, _⟩ => ⟨S4x16384, .f32⟩
  | .hbm, ⟨7, _⟩ => ⟨S8x16384, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x512, .f32⟩
  | .local _ .vmem, ⟨3, _⟩ => ⟨S8x512, .f32⟩
  | .local _ .vmem, ⟨4, _⟩ => ⟨S1x1024, .f32⟩
  | .local _ .vmem, ⟨5, _⟩ => ⟨S4x512x1024, .f32⟩
  | .local _ .vmem, ⟨6, _⟩ => ⟨S4x512x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S16384x1024 : Shape := ⟨2, ![16384, 1024]⟩
abbrev S16384x4 : Shape := ⟨2, ![16384, 4]⟩
abbrev S1024 : Shape := ⟨1, ![1024]⟩
abbrev S4x16384x1024 : Shape := ⟨3, ![4, 16384, 1024]⟩
abbrev S4x16384 : Shape := ⟨2, ![4, 16384]⟩
abbrev S4x16384x1 : Shape := ⟨3, ![4, 16384, 1]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4, .f32⟩
  | .hbm, ⟨2, _⟩ => ⟨S1024, .f32⟩
  | .hbm, ⟨3, _⟩ => ⟨S4x16384x1024, .f32⟩
  | .hbm, ⟨4, _⟩ => ⟨S4x16384, .f32⟩
  | .hbm, ⟨5, _⟩ => ⟨S4x16384x1, .f32⟩
  | .hbm, ⟨6, _⟩ => ⟨S4x16384x1024, .f32⟩
  | .hbm, ⟨7, _⟩ => ⟨S4x16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel3.lean ====
abbrev S160 : Shape := ⟨1, ![160]⟩
abbrev S1 : Shape := ⟨1, ![1]⟩
abbrev S81920x1024 : Shape := ⟨2, ![81920, 1024]⟩
abbrev S32x1024x1024 : Shape := ⟨3, ![32, 1024, 1024]⟩
abbrev S32x2048 : Shape := ⟨2, ![32, 2048]⟩
abbrev S32x1024 : Shape := ⟨2, ![32, 1024]⟩
abbrev S32x1x1024 : Shape := ⟨3, ![32, 1, 1024]⟩
abbrev S512x1024 : Shape := ⟨2, ![512, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 12
  | .vmem => 16
  | .smem => 2
  | _ => 0

abbrev bufTy : (tb : Table) → Fin (tcTables nBuf tb) → BufTy
  | .hbm, ⟨0, _⟩ => ⟨S81920x1024, .f32⟩
  | .hbm, ⟨1, _⟩ => ⟨S32x1024x1024, .bf16⟩
  | .hbm, ⟨2, _⟩ => ⟨S32x1024x1024, .bf16⟩
  | .hbm, ⟨3, _⟩ => ⟨S32x2048, .f32⟩
  | .hbm, ⟨4, _⟩ => ⟨S32x1024x1024, .bf16⟩
  | .hbm, ⟨5, _⟩ => ⟨S32x1024, .f32⟩
  | .hbm, ⟨6, _⟩ => ⟨S32x1024, .f32⟩
  | .hbm, ⟨7, _⟩ => ⟨S32x1x1024, .f32⟩
  | .hbm, ⟨8, _⟩ => ⟨S32x1024, .f32⟩
  | .hbm, ⟨9, _⟩ => ⟨S32x1x1024, .f32⟩
  | .hbm, ⟨10, _⟩ => ⟨S32x1x1024, .f32⟩
  | .hbm, ⟨11, _⟩ => ⟨S81920x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S512x1024, .f32⟩
  | .local _ .vmem, ⟨15, _⟩ => ⟨S512x1024, .f32⟩
  | .local _ .smem, ⟨0, _⟩ => ⟨S160, .i32⟩
  | .local _ .smem, ⟨1, _⟩ => ⟨S1, .i32⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S160 : Shape := ⟨1, ![160]⟩
abbrev S1 : Shape := ⟨1, ![1]⟩
abbrev S81920x1024 : Shape := ⟨2, ![81920, 1024]⟩
abbrev S32x1024x1024 : Shape := ⟨3, ![32, 1024, 1024]⟩
abbrev S32x2048 : Shape := ⟨2, ![32, 2048]⟩
abbrev S32x1024 : Shape := ⟨2, ![32, 1024]⟩
abbrev S160x512x1024 : Shape := ⟨3, ![160, 512, 1024]⟩
abbrev S_ : Shape := ⟨0, ![]⟩
abbrev S160x1 : Shape := ⟨2, ![160, 1]⟩
abbrev S160x1024x1024 : Shape := ⟨3, ![160, 1024, 1024]⟩
abbrev S160x1024 : Shape := ⟨2, ![160, 1024]⟩
abbrev S160x1x1024 : Shape := ⟨3, ![160, 1, 1024]⟩
abbrev S160x1x1 : Shape := ⟨3, ![160, 1, 1]⟩
abbrev S1x1x1 : Shape := ⟨3, ![1, 1, 1]⟩

abbrev nBuf : Space → Nat
  | .hbm => 118
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S81920x1024, .f32⟩
  | .hbm, ⟨3, _⟩ => ⟨S32x1024x1024, .bf16⟩
  | .hbm, ⟨4, _⟩ => ⟨S32x1024x1024, .bf16⟩
  | .hbm, ⟨5, _⟩ => ⟨S32x2048, .f32⟩
  | .hbm, ⟨6, _⟩ => ⟨S32x1024x1024, .bf16⟩
  | .hbm, ⟨7, _⟩ => ⟨S32x1024, .f32⟩
  | .hbm, ⟨8, _⟩ => ⟨S160x512x1024, .f32⟩
  | .hbm, ⟨9, _⟩ => ⟨S32x1024x1024, .f32⟩
  | .hbm, ⟨10, _⟩ => ⟨S_, .i32⟩
  | .hbm, ⟨11, _⟩ => ⟨S160, .i32⟩
  | .hbm, ⟨12, _⟩ => ⟨S160, .i1⟩
  | .hbm, ⟨13, _⟩ => ⟨S_, .i32⟩
  | .hbm, ⟨14, _⟩ => ⟨S160, .i32⟩
  | .hbm, ⟨15, _⟩ => ⟨S160, .i32⟩
  | .hbm, ⟨16, _⟩ => ⟨S160, .i32⟩
  | .hbm, ⟨17, _⟩ => ⟨S160x1, .i32⟩
  | .hbm, ⟨18, _⟩ => ⟨S160x1024x1024, .f32⟩
  | .hbm, ⟨19, _⟩ => ⟨S160x512x1024, .f32⟩
  | .hbm, ⟨20, _⟩ => ⟨S32x1024, .f32⟩
  | .hbm, ⟨21, _⟩ => ⟨S_, .i32⟩
  | .hbm, ⟨22, _⟩ => ⟨S160, .i32⟩
  | .hbm, ⟨23, _⟩ => ⟨S160, .i1⟩
  | .hbm, ⟨24, _⟩ => ⟨S_, .i32⟩
  | .hbm, ⟨25, _⟩ => ⟨S160, .i32⟩
  | .hbm, ⟨26, _⟩ => ⟨S160, .i32⟩
  | .hbm, ⟨27, _⟩ => ⟨S160, .i32⟩
  | .hbm, ⟨28, _⟩ => ⟨S160x1, .i32⟩
  | .hbm, ⟨29, _⟩ => ⟨S160x1024, .f32⟩
  | .hbm, ⟨30, _⟩ => ⟨S160x1x1024, .f32⟩
  | .hbm, ⟨31, _⟩ => ⟨S160x512x1024, .f32⟩
  | .hbm, ⟨32, _⟩ => ⟨S160x512x1024, .f32⟩
  | .hbm, ⟨33, _⟩ => ⟨S32x1024x1024, .f32⟩
  | .hbm, ⟨34, _⟩ => ⟨S_, .i32⟩
  | .hbm, ⟨35, _⟩ => ⟨S160, .i32⟩
  | .hbm, ⟨36, _⟩ => ⟨S160, .i1⟩
  | .hbm, ⟨37, _⟩ => ⟨S_, .i32⟩
  | .hbm, ⟨38, _⟩ => ⟨S160, .i32⟩
  | .hbm, ⟨39, _⟩ => ⟨S160, .i32⟩
  | .hbm, ⟨40, _⟩ => ⟨S160, .i32⟩
  | .hbm, ⟨41, _⟩ => ⟨S160x1, .i32⟩
  | .hbm, ⟨42, _⟩ => ⟨S160x1024x1024, .f32⟩
  | .hbm, ⟨43, _⟩ => ⟨S160x512x1024, .f32⟩
  | .hbm, ⟨44, _⟩ => ⟨S32x1024, .f32⟩
  | .hbm, ⟨45, _⟩ => ⟨S_, .i32⟩
  | .hbm, ⟨46, _⟩ => ⟨S160, .i32⟩
  | .hbm, ⟨47, _⟩ => ⟨S160, .i1⟩
  | .hbm, ⟨48, _⟩ => ⟨S_, .i32⟩
  | .hbm, ⟨49, _⟩ => ⟨S160, .i32⟩
  | .hbm, ⟨50, _⟩ => ⟨S160, .i32⟩
  | .hbm, ⟨51, _⟩ => ⟨S160, .i32⟩
  | .hbm, ⟨52, _⟩ => ⟨S160x1, .i32⟩
  | .hbm, ⟨53, _⟩ => ⟨S160x1024, .f32⟩
  | .hbm, ⟨54, _⟩ => ⟨S160x1x1024, .f32⟩
  | .hbm, ⟨55, _⟩ => ⟨S160x512x1024, .f32⟩
  | .hbm, ⟨56, _⟩ => ⟨S160x512x1024, .f32⟩
  | .hbm, ⟨57, _⟩ => ⟨S_, .f32⟩
  | .hbm, ⟨58, _⟩ => ⟨S160x512x1024, .f32⟩
  | .hbm, ⟨59, _⟩ => ⟨S160x512x1024, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S160x512x1024, .f32⟩
  | .hbm, ⟨64, _⟩ => ⟨S160x512x1024, .f32⟩
  | .hbm, ⟨65, _⟩ => ⟨S_, .f32⟩
  | .hbm, ⟨66, _⟩ => ⟨S160x512x1024, .f32⟩
  | .hbm, ⟨67, _⟩ => ⟨S160x512x1024, .f32⟩
  | .hbm, ⟨68, _⟩ => ⟨S_, .f32⟩
  | .hbm, ⟨69, _⟩ => ⟨S160x512x1024, .f32⟩
  | .hbm, ⟨70, _⟩ => ⟨S160x512x1024, .f32⟩
  | .hbm, ⟨71, _⟩ => ⟨S160x512x1024, .f32⟩
  | .hbm, ⟨72, _⟩ => ⟨S160x512x1024, .f32⟩
  | .hbm, ⟨73, _⟩ => ⟨S_, .f32⟩
  | .hbm, ⟨74, _⟩ => ⟨S160x512x1024, .f32⟩
  | .hbm, ⟨75, _⟩ => ⟨S160x512x1024, .f32⟩
  | .hbm, ⟨76, _⟩ => ⟨S_, .f32⟩
  | .hbm, ⟨77, _⟩ => ⟨S160x512x1024, .f32⟩
  | .hbm, ⟨78, _⟩ => ⟨S160x512x1024, .f32⟩
  | .hbm, ⟨79, _⟩ => ⟨S160x512x1024, .f32⟩
  | .hbm, ⟨80, _⟩ => ⟨S_, .f32⟩
  | .hbm, ⟨81, _⟩ => ⟨S160x512x1024, .f32⟩
  | .hbm, ⟨82, _⟩ => ⟨S160x512x1024, .f32⟩
  | .hbm, ⟨83, _⟩ => ⟨S160x512x1024, .f32⟩
  | .hbm, ⟨84, _⟩ => ⟨S32x1024x1024, .f32⟩
  | .hbm, ⟨85, _⟩ => ⟨S_, .i32⟩
  | .hbm, ⟨86, _⟩ => ⟨S160, .i32⟩
  | .hbm, ⟨87, _⟩ => ⟨S160, .i1⟩
  | .hbm, ⟨88, _⟩ => ⟨S_, .i32⟩
  | .hbm, ⟨89, _⟩ => ⟨S160, .i32⟩
  | .hbm, ⟨90, _⟩ => ⟨S160, .i32⟩
  | .hbm, ⟨91, _⟩ => ⟨S160, .i32⟩
  | .hbm, ⟨92, _⟩ => ⟨S160x1, .i32⟩
  | .hbm, ⟨93, _⟩ => ⟨S160x1024x1024, .f32⟩
  | .hbm, ⟨94, _⟩ => ⟨S160x512x1024, .f32⟩
  | .hbm, ⟨95, _⟩ => ⟨S_, .i32⟩
  | .hbm, ⟨96, _⟩ => ⟨S160, .i32⟩
  | .hbm, ⟨97, _⟩ => ⟨S160, .i1⟩
  | .hbm, ⟨98, _⟩ => ⟨S_, .i32⟩
  | .hbm, ⟨99, _⟩ => ⟨S160, .i32⟩
  | .hbm, ⟨100, _⟩ => ⟨S160, .i32⟩
  | .hbm, ⟨101, _⟩ => ⟨S160, .i32⟩
  | .hbm, ⟨102, _⟩ => ⟨S160x1, .i32⟩
  | .hbm, ⟨103, _⟩ => ⟨S160x1024, .f32⟩
  | .hbm, ⟨104, _⟩ => ⟨S160x1x1024, .f32⟩
  | .hbm, ⟨105, _⟩ => ⟨S160x512x1024, .f32⟩
  | .hbm, ⟨106, _⟩ => ⟨S160x512x1024, .f32⟩
  | .hbm, ⟨107, _⟩ => ⟨S160, .i32⟩
  | .hbm, ⟨108, _⟩ => ⟨S160x1x1, .i32⟩
  | .hbm, ⟨109, _⟩ => ⟨S1x1x1, .i32⟩
  | .hbm, ⟨110, _⟩ => ⟨S160x1x1, .i32⟩
  | .hbm, ⟨111, _⟩ => ⟨S160x1x1, .i1⟩
  | .hbm, ⟨112, _⟩ => ⟨S_, .f32⟩
  | .hbm, ⟨113, _⟩ => ⟨S_, .f32⟩
  | .hbm, ⟨114, _⟩ => ⟨S160x512x1024, .i1⟩
  | .hbm, ⟨115, _⟩ => ⟨S160x512x1024, .f32⟩
  | .hbm, ⟨116, _⟩ => ⟨S160x512x1024, .f32⟩
  | .hbm, ⟨117, _⟩ => ⟨S81920x1024, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_cst_8 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_cst_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_13 : Ref sig .tc := ⟨.hbm, 85, rfl⟩
abbrev main_v57 : Ref sig .tc := ⟨.hbm, 86, rfl⟩
abbrev main_v58 : Ref sig .tc := ⟨.hbm, 87, rfl⟩
abbrev main_c_14 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_15 : Ref sig .tc := ⟨.hbm, 95, rfl⟩
abbrev main_v65 : Ref sig .tc := ⟨.hbm, 96, rfl⟩
abbrev main_v66 : Ref sig .tc := ⟨.hbm, 97, rfl⟩
abbrev main_c_16 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_17 : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_v80 : Ref sig .tc := ⟨.hbm, 116, rfl⟩
abbrev main_v81 : Ref sig .tc := ⟨.hbm, 117, rfl⟩

abbrev nD : Nat := 1
abbrev τ : Topo := Topo.v7x

variable {F : FTy → Type} [FloatOps F]
-- ==== Kernel4.lean ====
abbrev S3x8x128x16384 : Shape := ⟨4, ![3, 8, 128, 16384]⟩
abbrev S3x8x16384x128 : Shape := ⟨4, ![3, 8, 16384, 128]⟩
abbrev S3x8x32x64x512 : Shape := ⟨5, ![3, 8, 32, 64, 512]⟩
abbrev S3x8x64x16384 : Shape := ⟨4, ![3, 8, 64, 16384]⟩
abbrev S1x1x128x1024 : Shape := ⟨4, ![1, 1, 128, 1024]⟩
abbrev S1x1x16384x128 : Shape := ⟨4, ![1, 1, 16384, 128]⟩
abbrev S1x1x32x64x512 : Shape := ⟨5, ![1, 1, 32, 64, 512]⟩
abbrev S1x1x64x1024 : Shape := ⟨4, ![1, 1, 64, 1024]⟩
abbrev S4x256x512 : Shape := ⟨3, ![4, 256, 512]⟩
abbrev S16x256 : Shape := ⟨2, ![16, 256]⟩
abbrev S1x1x128x512 : Shape := ⟨4, ![1, 1, 128, 512]⟩
abbrev S128x512 : Shape := ⟨2, ![128, 512]⟩
abbrev S1x512 : Shape := ⟨2, ![1, 512]⟩
abbrev S80x512 : Shape := ⟨2, ![80, 512]⟩
abbrev S1x1x256x128 : Shape := ⟨4, ![1, 1, 256, 128]⟩
abbrev S256x128 : Shape := ⟨2, ![256, 128]⟩
abbrev S256x512 : Shape := ⟨2, ![256, 512]⟩
abbrev S1x256x512 : Shape := ⟨3, ![1, 256, 512]⟩
abbrev S512 : Shape := ⟨1, ![512]⟩
abbrev S1x1x1x64x256 : Shape := ⟨5, ![1, 1, 1, 64, 256]⟩
abbrev S64x256 : Shape := ⟨2, ![64, 256]⟩
abbrev S80x256 : Shape := ⟨2, ![80, 256]⟩
abbrev S64x512 : Shape := ⟨2, ![64, 512]⟩
abbrev S1x1x64x512 : Shape := ⟨4, ![1, 1, 64, 512]⟩

abbrev nBuf : Space → Nat
  | .hbm => 4
  | .vmem => 9
  | .smem => 0
  | _ => 0

abbrev bufTy : (tb : Table) → Fin (tcTables nBuf tb) → BufTy
  | .hbm, ⟨0, _⟩ => ⟨S3x8x128x16384, .bf16⟩
  | .hbm, ⟨1, _⟩ => ⟨S3x8x16384x128, .bf16⟩
  | .hbm, ⟨2, _⟩ => ⟨S3x8x32x64x512, .bf16⟩
  | .hbm, ⟨3, _⟩ => ⟨S3x8x64x16384, .bf16⟩
  | .local _ .vmem, ⟨0, _⟩ => ⟨S1x1x128x1024, .bf16⟩
  | .local _ .vmem, ⟨1, _⟩ => ⟨S1x1x128x1024, .bf16⟩
  | .local _ .vmem, ⟨2, _⟩ => ⟨S1x1x16384x128, .bf16⟩
  | .local _ .vmem, ⟨3, _⟩ => ⟨S1x1x16384x128, .bf16⟩
  | .local _ .vmem, ⟨4, _⟩ => ⟨S1x1x32x64x512, .bf16⟩
  | .local _ .vmem, ⟨5, _⟩ => ⟨S1x1x32x64x512, .bf16⟩
  | .local _ .vmem, ⟨6, _⟩ => ⟨S1x1x64x1024, .bf16⟩
  | .local _ .vmem, ⟨7, _⟩ => ⟨S1x1x64x1024, .bf16⟩
  | .local _ .vmem, ⟨8, _⟩ => ⟨S4x256x512, .f32⟩
  | _, _ => ⟨S3x8x128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 8, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x32x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference4Ideal.lean ====
abbrev S3x8x128x16384 : Shape := ⟨4, ![3, 8, 128, 16384]⟩
abbrev S3x8x16384x128 : Shape := ⟨4, ![3, 8, 16384, 128]⟩
abbrev S3x8x32x64x512 : Shape := ⟨5, ![3, 8, 32, 64, 512]⟩
abbrev S3x8x32x512x64 : Shape := ⟨5, ![3, 8, 32, 512, 64]⟩
abbrev S3x8x16384x64 : Shape := ⟨4, ![3, 8, 16384, 64]⟩
abbrev S3x8x16384x16384 : Shape := ⟨4, ![3, 8, 16384, 16384]⟩
abbrev S_ : Shape := ⟨0, ![]⟩
abbrev S3x8x16384 : Shape := ⟨3, ![3, 8, 16384]⟩
abbrev S3x8x16384x1 : Shape := ⟨4, ![3, 8, 16384, 1]⟩
abbrev S3x8x64x16384 : Shape := ⟨4, ![3, 8, 64, 16384]⟩

abbrev nBuf : Space → Nat
  | .hbm => 26
  | .vmem => 0
  | .smem => 0
  | _ => 0

abbrev bufTy : (tb : Table) → Fin (tcTables nBuf tb) → BufTy
  | .hbm, ⟨0, _⟩ => ⟨S3x8x128x16384, .bf16⟩
  | .hbm, ⟨1, _⟩ => ⟨S3x8x16384x128, .bf16⟩
  | .hbm, ⟨2, _⟩ => ⟨S3x8x32x64x512, .bf16⟩
  | .hbm, ⟨3, _⟩ => ⟨S3x8x16384x128, .bf16⟩
  | .hbm, ⟨4, _⟩ => ⟨S3x8x16384x128, .f32⟩
  | .hbm, ⟨5, _⟩ => ⟨S3x8x32x512x64, .bf16⟩
  | .hbm, ⟨6, _⟩ => ⟨S3x8x16384x64, .bf16⟩
  | .hbm, ⟨7, _⟩ => ⟨S3x8x16384x64, .f32⟩
  | .hbm, ⟨8, _⟩ => ⟨S3x8x16384x128, .f32⟩
  | .hbm, ⟨9, _⟩ => ⟨S3x8x16384x16384, .f32⟩
  | .hbm, ⟨10, _⟩ => ⟨S_, .f32⟩
  | .hbm, ⟨11, _⟩ => ⟨S3x8x16384x16384, .f32⟩
  | .hbm, ⟨12, _⟩ => ⟨S_, .f32⟩
  | .hbm, ⟨13, _⟩ => ⟨S3x8x16384, .f32⟩
  | .hbm, ⟨14, _⟩ => ⟨S3x8x16384x1, .f32⟩
  | .hbm, ⟨15, _⟩ => ⟨S3x8x16384x16384, .f32⟩
  | .hbm, ⟨16, _⟩ => ⟨S3x8x16384x16384, .f32⟩
  | .hbm, ⟨17, _⟩ => ⟨S3x8x16384x16384, .f32⟩
  | .hbm, ⟨18, _⟩ => ⟨S_, .f32⟩
  | .hbm, ⟨19, _⟩ => ⟨S3x8x16384, .f32⟩
  | .hbm, ⟨20, _⟩ => ⟨S3x8x16384x1, .f32⟩
  | .hbm, ⟨21, _⟩ => ⟨S3x8x16384x16384, .f32⟩
  | .hbm, ⟨22, _⟩ => ⟨S3x8x16384x16384, .f32⟩
  | .hbm, ⟨23, _⟩ => ⟨S3x8x16384x64, .f32⟩
  | .hbm, ⟨24, _⟩ => ⟨S3x8x64x16384, .f32⟩
  | .hbm, ⟨25, _⟩ => ⟨S3x8x64x16384, .bf16⟩
  | _, _ => ⟨S3x8x128x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel5.lean ====
abbrev S32768x1024 : Shape := ⟨2, ![32768, 1024]⟩
abbrev S32768x4 : Shape := ⟨2, ![32768, 4]⟩
abbrev S1024 : Shape := ⟨1, ![1024]⟩
abbrev S4x32768x1024 : Shape := ⟨3, ![4, 32768, 1024]⟩
abbrev S4x32768 : Shape := ⟨2, ![4, 32768]⟩
abbrev S_ : Shape := ⟨0, ![]⟩
abbrev S8x32768 : Shape := ⟨2, ![8, 32768]⟩
abbrev S1x1024 : Shape := ⟨2, ![1, 1024]⟩
abbrev S512x1024 : Shape := ⟨2, ![512, 1024]⟩
abbrev S8x512 : Shape := ⟨2, ![8, 512]⟩
abbrev S4x512x1024 : Shape := ⟨3, ![4, 512, 1024]⟩
abbrev S512x8 : Shape := ⟨2, ![512, 8]⟩
abbrev S1x512x1024 : Shape := ⟨3, ![1, 512, 1024]⟩
abbrev S512x1 : Shape := ⟨2, ![512, 1]⟩
abbrev S512 : Shape := ⟨1, ![512]⟩

abbrev nBuf : Space → Nat
  | .hbm => 10
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32768x4, .f32⟩
  | .hbm, ⟨2, _⟩ => ⟨S1024, .f32⟩
  | .hbm, ⟨3, _⟩ => ⟨S4x32768x1024, .f32⟩
  | .hbm, ⟨4, _⟩ => ⟨S4x32768, .f32⟩
  | .hbm, ⟨5, _⟩ => ⟨S_, .f32⟩
  | .hbm, ⟨6, _⟩ => ⟨S4x32768, .f32⟩
  | .hbm, ⟨7, _⟩ => ⟨S8x32768, .f32⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S8x512, .f32⟩
  | .local _ .vmem, ⟨3, _⟩ => ⟨S8x512, .f32⟩
  | .local _ .vmem, ⟨4, _⟩ => ⟨S1x1024, .f32⟩
  | .local _ .vmem, ⟨5, _⟩ => ⟨S4x512x1024, .f32⟩
  | .local _ .vmem, ⟨6, _⟩ => ⟨S4x512x1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S32768x1024 : Shape := ⟨2, ![32768, 1024]⟩
abbrev S32768x4 : Shape := ⟨2, ![32768, 4]⟩
abbrev S1024 : Shape := ⟨1, ![1024]⟩
abbrev S4x32768x1024 : Shape := ⟨3, ![4, 32768, 1024]⟩
abbrev S4x32768 : Shape := ⟨2, ![4, 32768]⟩
abbrev S4x32768x1 : Shape := ⟨3, ![4, 32768, 1]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x4, .f32⟩
  | .hbm, ⟨2, _⟩ => ⟨S1024, .f32⟩
  | .hbm, ⟨3, _⟩ => ⟨S4x32768x1024, .f32⟩
  | .hbm, ⟨4, _⟩ => ⟨S4x32768, .f32⟩
  | .hbm, ⟨5, _⟩ => ⟨S4x32768x1, .f32⟩
  | .hbm, ⟨6, _⟩ => ⟨S4x32768x1024, .f32⟩
  | .hbm, ⟨7, _⟩ => ⟨S4x32768x1024, .f32⟩
  | .hbm, ⟨8, _⟩ => ⟨S_, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel6.lean ====
abbrev S1x16384x1024 : Shape := ⟨3, ![1, 16384, 1024]⟩
abbrev S2x16384x1024 : Shape := ⟨3, ![2, 16384, 1024]⟩
abbrev S1024 : Shape := ⟨1, ![1024]⟩
abbrev S1024x2240 : Shape := ⟨2, ![1024, 2240]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S16x256 : Shape := ⟨2, ![16, 256]⟩
abbrev S1024x384 : Shape := ⟨2, ![1024, 384]⟩
abbrev S1024x256 : Shape := ⟨2, ![1024, 256]⟩
abbrev S1024x32 : Shape := ⟨2, ![1024, 32]⟩
abbrev S1024x512 : Shape := ⟨2, ![1024, 512]⟩
abbrev S_ : Shape := ⟨0, ![]⟩
abbrev S1024x64 : Shape := ⟨2, ![1024, 64]⟩
abbrev S1024x96 : Shape := ⟨2, ![1024, 96]⟩
abbrev S1024x2432 : Shape := ⟨2, ![1024, 2432]⟩
abbrev S384x8x96 : Shape := ⟨3, ![384, 8, 96]⟩
abbrev S384x8x64 : Shape := ⟨3, ![384, 8, 64]⟩
abbrev S384x512 : Shape := ⟨2, ![384, 512]⟩
abbrev S384x8x16 : Shape := ⟨3, ![384, 8, 16]⟩
abbrev S384x128 : Shape := ⟨2, ![384, 128]⟩
abbrev S256x8x128 : Shape := ⟨3, ![256, 8, 128]⟩
abbrev S256x8x64 : Shape := ⟨3, ![256, 8, 64]⟩
abbrev S256x512 : Shape := ⟨2, ![256, 512]⟩
abbrev S1x1024 : Shape := ⟨2, ![1, 1024]⟩
abbrev S1x384 : Shape := ⟨2, ![1, 384]⟩
abbrev S768x384 : Shape := ⟨2, ![768, 384]⟩
abbrev S1x256 : Shape := ⟨2, ![1, 256]⟩
abbrev S512x256 : Shape := ⟨2, ![512, 256]⟩
abbrev S128x256 : Shape := ⟨2, ![128, 256]⟩
abbrev S1 : Shape := ⟨1, ![1]⟩
abbrev S16 : Shape := ⟨1, ![16]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S16384x32 : Shape := ⟨2, ![16384, 32]⟩
abbrev S16384x128 : Shape := ⟨2, ![16384, 128]⟩
abbrev S16x16384 : Shape := ⟨2, ![16, 16384]⟩
abbrev S1x16x1x16384 : Shape := ⟨4, ![1, 16, 1, 16384]⟩
abbrev S8x16x1x16384 : Shape := ⟨4, ![8, 16, 1, 16384]⟩
abbrev S128x16384 : Shape := ⟨2, ![128, 16384]⟩
abbrev S3x8x128x16384 : Shape := ⟨4, ![3, 8, 128, 16384]⟩
abbrev S3x8x16384x128 : Shape := ⟨4, ![3, 8, 16384, 128]⟩
abbrev S3x8x32x64x512 : Shape := ⟨5, ![3, 8, 32, 64, 512]⟩
abbrev S3x16384x256 : Shape := ⟨3, ![3, 16384, 256]⟩
abbrev S3x16384x512 : Shape := ⟨3, ![3, 16384, 512]⟩
abbrev S1x512x1024 : Shape := ⟨3, ![1, 512, 1024]⟩
abbrev S512x128 : Shape := ⟨2, ![512, 128]⟩
abbrev S128x512 : Shape := ⟨2, ![128, 512]⟩
abbrev S1x8x128x512 : Shape := ⟨4, ![1, 8, 128, 512]⟩
abbrev S1x8x512x128 : Shape := ⟨4, ![1, 8, 512, 128]⟩
abbrev S1x8x1x64x512 : Shape := ⟨5, ![1, 8, 1, 64, 512]⟩
abbrev S1x512x256 : Shape := ⟨3, ![1, 512, 256]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x2432 : Shape := ⟨2, ![512, 2432]⟩
abbrev S512x384 : Shape := ⟨2, ![512, 384]⟩
abbrev S768x512 : Shape := ⟨2, ![768, 512]⟩
abbrev S32x512 : Shape := ⟨2, ![32, 512]⟩
abbrev S64x512 : Shape := ⟨2, ![64, 512]⟩
abbrev S1x1x64x512 : Shape := ⟨4, ![1, 1, 64, 512]⟩
abbrev S16x512 : Shape := ⟨2, ![16, 512]⟩
abbrev S1x1x16x512 : Shape := ⟨4, ![1, 1, 16, 512]⟩
abbrev S1x1x32x512 : Shape := ⟨4, ![1, 1, 32, 512]⟩
abbrev S1x1x512x128 : Shape := ⟨4, ![1, 1, 512, 128]⟩
abbrev S512x512 : Shape := ⟨2, ![512, 512]⟩
abbrev S1x1x1x64x512 : Shape := ⟨5, ![1, 1, 1, 64, 512]⟩

abbrev nBuf : Space → Nat
  | .hbm => 125
  | .vmem => 43
  | .smem => 0
  | _ => 0

abbrev bufTy : (tb : Table) → Fin (tcTables nBuf tb) → BufTy
  | .hbm, ⟨0, _⟩ => ⟨S1x16384x1024, .f32⟩
  | .hbm, ⟨1, _⟩ => ⟨S2x16384x1024, .f32⟩
  | .hbm, ⟨2, _⟩ => ⟨S1024, .f32⟩
  | .hbm, ⟨3, _⟩ => ⟨S1024x2240, .f32⟩
  | .hbm, ⟨4, _⟩ => ⟨S384, .f32⟩
  | .hbm, ⟨5, _⟩ => ⟨S384x768, .f32⟩
  | .hbm, ⟨6, _⟩ => ⟨S256, .f32⟩
  | .hbm, ⟨7, _⟩ => ⟨S256x1024, .f32⟩
  | .hbm, ⟨8, _⟩ => ⟨S16x256, .f32⟩
  | .hbm, ⟨9, _⟩ => ⟨S256, .f32⟩
  | .hbm, ⟨10, _⟩ => ⟨S16x256, .f32⟩
  | .hbm, ⟨11, _⟩ => ⟨S256, .f32⟩
  | .hbm, ⟨12, _⟩ => ⟨S1024x384, .f32⟩
  | .hbm, ⟨13, _⟩ => ⟨S1024x256, .f32⟩
  | .hbm, ⟨14, _⟩ => ⟨S1024x32, .f32⟩
  | .hbm, ⟨15, _⟩ => ⟨S1024x256, .f32⟩
  | .hbm, ⟨16, _⟩ => ⟨S1024x256, .f32⟩
  | .hbm, ⟨17, _⟩ => ⟨S1024x512, .f32⟩
  | .hbm, ⟨18, _⟩ => ⟨S1024x32, .f32⟩
  | .hbm, ⟨19, _⟩ => ⟨S1024x512, .f32⟩
  | .hbm, ⟨20, _⟩ => ⟨S_, .f32⟩
  | .hbm, ⟨21, _⟩ => ⟨S1024x64, .f32⟩
  | .hbm, ⟨22, _⟩ => ⟨S_, .f32⟩
  | .hbm, ⟨23, _⟩ => ⟨S1024x32, .f32⟩
  | .hbm, ⟨24, _⟩ => ⟨S_, .f32⟩
  | .hbm, ⟨25, _⟩ => ⟨S1024x96, .f32⟩
  | .hbm, ⟨26, _⟩ => ⟨S1024x2432, .f32⟩
  | .hbm, ⟨27, _⟩ => ⟨S1024x2432, .bf16⟩
  | .hbm, ⟨28, _⟩ => ⟨S384x8x96, .f32⟩
  | .hbm, ⟨29, _⟩ => ⟨S384x8x64, .f32⟩
  | .hbm, ⟨30, _⟩ => ⟨S384x512, .f32⟩
  | .hbm, ⟨31, _⟩ => ⟨S384x8x16, .f32⟩
  | .hbm, ⟨32, _⟩ => ⟨S384x128, .f32⟩
  | .hbm, ⟨33, _⟩ => ⟨S384x8x16, .f32⟩
  | .hbm, ⟨34, _⟩ => ⟨S384x128, .f32⟩
  | .hbm, ⟨35, _⟩ => ⟨S384x768, .f32⟩
  | .hbm, ⟨36, _⟩ => ⟨S256x8x128, .f32⟩
  | .hbm, ⟨37, _⟩ => ⟨S256x8x64, .f32⟩
  | .hbm, ⟨38, _⟩ => ⟨S_, .f32⟩
  | .hbm, ⟨39, _⟩ => ⟨S256x8x64, .f32⟩
  | .hbm, ⟨40, _⟩ => ⟨S256x8x128, .f32⟩
  | .hbm, ⟨41, _⟩ => ⟨S256x8x64, .f32⟩
  | .hbm, ⟨42, _⟩ => ⟨S256x512, .f32⟩
  | .hbm, ⟨43, _⟩ => ⟨S1x1024, .f32⟩
  | .hbm, ⟨44, _⟩ => ⟨S1x384, .f32⟩
  | .hbm, ⟨45, _⟩ => ⟨S768x384, .f32⟩
  | .hbm, ⟨46, _⟩ => ⟨S768x384, .bf16⟩
  | .hbm, ⟨47, _⟩ => ⟨S1x256, .f32⟩
  | .hbm, ⟨48, _⟩ => ⟨S256x1024, .f32⟩
  | .hbm, ⟨49, _⟩ => ⟨S256x1024, .bf16⟩
  | .hbm, ⟨50, _⟩ => ⟨S512x256, .f32⟩
  | .hbm, ⟨51, _⟩ => ⟨S512x256, .bf16⟩
  | .hbm, ⟨52, _⟩ => ⟨S_, .f32⟩
  | .hbm, ⟨53, _⟩ => ⟨S128x256, .f32⟩
  | .hbm, ⟨54, _⟩ => ⟨S_, .i32⟩
  | .hbm, ⟨55, _⟩ => ⟨S1, .i32⟩
  | .hbm, ⟨56, _⟩ => ⟨S128x256, .f32⟩
  | .hbm, ⟨57, _⟩ => ⟨S128x256, .bf16⟩
  | .hbm, ⟨58, _⟩ => ⟨S1x256, .f32⟩
  | .hbm, ⟨59, _⟩ => ⟨S_, .f32⟩
  | .hbm, ⟨60, _⟩ => ⟨S128x256, .f32⟩
  | .hbm, ⟨61, _⟩ => ⟨S_, .i32⟩
  | .hbm, ⟨62, _⟩ => ⟨S1, .i32⟩
  | .hbm, ⟨63, _⟩ => ⟨S128x256, .f32⟩
  | .hbm, ⟨64, _⟩ => ⟨S128x256, .bf16⟩
  | .hbm, ⟨65, _⟩ => ⟨S1x256, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S_, .f32⟩
  | .hbm, ⟨71, _⟩ => ⟨S16, .f32⟩
  | .hbm, ⟨72, _⟩ => ⟨S16, .f32⟩
  | .hbm, ⟨73, _⟩ => ⟨S16, .f32⟩
  | .hbm, ⟨74, _⟩ => ⟨S_, .f32⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S16, .f32⟩
  | .hbm, ⟨79, _⟩ => ⟨S16, .f32⟩
  | .hbm, ⟨80, _⟩ => ⟨S16384, .f32⟩
  | .hbm, ⟨81, _⟩ => ⟨S16384x1, .f32⟩
  | .hbm, ⟨82, _⟩ => ⟨S1x16, .f32⟩
  | .hbm, ⟨83, _⟩ => ⟨S16384x16, .f32⟩
  | .hbm, ⟨84, _⟩ => ⟨S16384x16, .f32⟩
  | .hbm, ⟨85, _⟩ => ⟨S16384x16, .f32⟩
  | .hbm, ⟨86, _⟩ => ⟨S16384x16, .f32⟩
  | .hbm, ⟨87, _⟩ => ⟨S16384x16, .f32⟩
  | .hbm, ⟨88, _⟩ => ⟨S_, .f32⟩
  | .hbm, ⟨89, _⟩ => ⟨S16384x64, .f32⟩
  | .hbm, ⟨90, _⟩ => ⟨S_, .f32⟩
  | .hbm, ⟨91, _⟩ => ⟨S16384x32, .f32⟩
  | .hbm, ⟨92, _⟩ => ⟨S16384x128, .f32⟩
  | .hbm, ⟨93, _⟩ => ⟨S_, .f32⟩
  | .hbm, ⟨94, _⟩ => ⟨S16384x64, .f32⟩
  | .hbm, ⟨95, _⟩ => ⟨S16384x16, .f32⟩
  | .hbm, ⟨96, _⟩ => ⟨S_, .f32⟩
  | .hbm, ⟨97, _⟩ => ⟨S16384x16, .f32⟩
  | .hbm, ⟨98, _⟩ => ⟨S_, .f32⟩
  | .hbm, ⟨99, _⟩ => ⟨S16384x32, .f32⟩
  | .hbm, ⟨100, _⟩ => ⟨S16384x128, .f32⟩
  | .hbm, ⟨101, _⟩ => ⟨S_, .f32⟩
  | .hbm, ⟨102, _⟩ => ⟨S16384x64, .f32⟩
  | .hbm, ⟨103, _⟩ => ⟨S_, .f32⟩
  | .hbm, ⟨104, _⟩ => ⟨S16384x16, .f32⟩
  | .hbm, ⟨105, _⟩ => ⟨S_, .f32⟩
  | .hbm, ⟨106, _⟩ => ⟨S16384x32, .f32⟩
  | .hbm, ⟨107, _⟩ => ⟨S16384x128, .f32⟩
  | .hbm, ⟨108, _⟩ => ⟨S16x16384, .f32⟩
  | .hbm, ⟨109, _⟩ => ⟨S1x16x1x16384, .f32⟩
  | .hbm, ⟨110, _⟩ => ⟨S8x16x1x16384, .f32⟩
  | .hbm, ⟨111, _⟩ => ⟨S128x16384, .f32⟩
  | .hbm, ⟨112, _⟩ => ⟨S16x16384, .f32⟩
  | .hbm, ⟨113, _⟩ => ⟨S1x16x1x16384, .f32⟩
  | .hbm, ⟨114, _⟩ => ⟨S8x16x1x16384, .f32⟩
  | .hbm, ⟨115, _⟩ => ⟨S128x16384, .f32⟩
  | .hbm, ⟨116, _⟩ => ⟨S3x8x128x16384, .bf16⟩
  | .hbm, ⟨117, _⟩ => ⟨S3x8x16384x128, .bf16⟩
  | .hbm, ⟨118, _⟩ => ⟨S3x8x32x64x512, .bf16⟩
  | .hbm, ⟨119, _⟩ => ⟨S3x16384x256, .f32⟩
  | .hbm, ⟨120, _⟩ => ⟨S3x16384x256, .f32⟩
  | .hbm, ⟨121, _⟩ => ⟨S3x16384x512, .f32⟩
  | .hbm, ⟨122, _⟩ => ⟨S3x16384x256, .f32⟩
  | .hbm, ⟨123, _⟩ => ⟨S3x16384x256, .f32⟩
  | .hbm, ⟨124, _⟩ => ⟨S3x16384x512, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1024x2432, .bf16⟩
  | .local _ .vmem, ⟨6, _⟩ => ⟨S1x384, .f32⟩
  | .local _ .vmem, ⟨7, _⟩ => ⟨S768x384, .bf16⟩
  | .local _ .vmem, ⟨8, _⟩ => ⟨S1x256, .f32⟩
  | .local _ .vmem, ⟨9, _⟩ => ⟨S256x1024, .bf16⟩
  | .local _ .vmem, ⟨10, _⟩ => ⟨S512x256, .bf16⟩
  | .local _ .vmem, ⟨11, _⟩ => ⟨S128x256, .bf16⟩
  | .local _ .vmem, ⟨12, _⟩ => ⟨S1x256, .f32⟩
  | .local _ .vmem, ⟨13, _⟩ => ⟨S128x256, .bf16⟩
  | .local _ .vmem, ⟨14, _⟩ => ⟨S1x256, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | .local _ .vmem, ⟨24, _⟩ => ⟨S128x512, .f32⟩
  | .local _ .vmem, ⟨25, _⟩ => ⟨S1x8x128x512, .bf16⟩
  | .local _ .vmem, ⟨26, _⟩ => ⟨S1x8x128x512, .bf16⟩
  | .local _ .vmem, ⟨27, _⟩ => ⟨S1x8x512x128, .bf16⟩
  | .local _ .vmem, ⟨28, _⟩ => ⟨S1x8x512x128, .bf16⟩
  | .local _ .vmem, ⟨29, _⟩ => ⟨S1x8x1x64x512, .bf16⟩
  | .local _ .vmem, ⟨30, _⟩ => ⟨S1x8x1x64x512, .bf16⟩
  | .local _ .vmem, ⟨31, _⟩ => ⟨S1x512x256, .f32⟩
  | .local _ .vmem, ⟨32, _⟩ => ⟨S1x512x256, .f32⟩
  | .local _ .vmem, ⟨33, _⟩ => ⟨S1x512x256, .f32⟩
  | .local _ .vmem, ⟨34, _⟩ => ⟨S1x512x256, .f32⟩
  | .local _ .vmem, ⟨35, _⟩ => ⟨S1x512x512, .f32⟩
  | .local _ .vmem, ⟨36, _⟩ => ⟨S1x512x512, .f32⟩
  | .local _ .vmem, ⟨37, _⟩ => ⟨S1x512x256, .f32⟩
  | .local _ .vmem, ⟨38, _⟩ => ⟨S1x512x256, .f32⟩
  | .local _ .vmem, ⟨39, _⟩ => ⟨S1x512x256, .f32⟩
  | .local _ .vmem, ⟨40, _⟩ => ⟨S1x512x256, .f32⟩
  | .local _ .vmem, ⟨41, _⟩ => ⟨S1x512x512, .f32⟩
  | .local _ .vmem, ⟨42, _⟩ => ⟨S1x512x512, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_c : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_c_5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_10 : Ref sig .tc := ⟨.hbm, 88, rfl⟩
abbrev main_v64 : Ref sig .tc := ⟨.hbm, 89, rfl⟩
abbrev main_cst_11 : Ref sig .tc := ⟨.hbm, 90, rfl⟩
abbrev main_v65 : Ref sig .tc := ⟨.hbm, 91, rfl⟩
abbrev main_v66 : Ref sig .tc := ⟨.hbm, 92, rfl⟩
abbrev main_cst_12 : Ref sig .tc := ⟨.hbm, 93, rfl⟩
abbrev main_v67 : Ref sig .tc := ⟨.hbm, 94, rfl⟩
abbrev main_v68 : Ref sig .tc := ⟨.hbm, 95, rfl⟩
abbrev main_cst_13 : Ref sig .tc := ⟨.hbm, 96, rfl⟩
abbrev main_v69 : Ref sig .tc := ⟨.hbm, 97, rfl⟩
abbrev main_cst_14 : Ref sig .tc := ⟨.hbm, 98, rfl⟩
abbrev main_v70 : Ref sig .tc := ⟨.hbm, 99, rfl⟩
abbrev main_v71 : Ref sig .tc := ⟨.hbm, 100, rfl⟩
abbrev main_cst_15 : Ref sig .tc := ⟨.hbm, 101, rfl⟩
abbrev main_v72 : Ref sig .tc := ⟨.hbm, 102, rfl⟩
abbrev main_cst_16 : Ref sig .tc := ⟨.hbm, 103, rfl⟩
abbrev main_v73 : Ref sig .tc := ⟨.hbm, 104, rfl⟩
abbrev main_cst_17 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84_0 : Ref sig .tc := ⟨.hbm, 116, rfl⟩
abbrev main_v84_1 : Ref sig .tc := ⟨.hbm, 117, rfl⟩
abbrev main_v84_2 : Ref sig .tc := ⟨.hbm, 118, rfl⟩
abbrev main_v84_3 : Ref sig .tc := ⟨.hbm, 119, rfl⟩
abbrev main_v84_4 : Ref sig .tc := ⟨.hbm, 120, rfl⟩
abbrev main_v84_5 : Ref sig .tc := ⟨.hbm, 121, rfl⟩
abbrev main_v84_6 : Ref sig .tc := ⟨.hbm, 122, rfl⟩
abbrev main_v84_7 : Ref sig .tc := ⟨.hbm, 123, rfl⟩
abbrev main_v84_8 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_stg25_0 : Ref sig .tc := ⟨.vmem, 39, rfl⟩
abbrev cc0_stg25_1 : Ref sig .tc := ⟨.vmem, 40, rfl⟩
abbrev cc0_stg26_0 : Ref sig .tc := ⟨.vmem, 41, rfl⟩
abbrev cc0_stg26_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38
abbrev cc0_sem25_0 : DmaSem sig := 39
abbrev cc0_sem25_1 : DmaSem sig := 40
abbrev cc0_sem26_0 : DmaSem sig := 41
abbrev cc0_sem26_1 : DmaSem sig := 42

abbrev nD : Nat := 1
abbrev τ : Topo := Topo.v7x

variable {F : FTy → Type} [FloatOps F]

abbrev grid0 : Pipeline.Grid := ⟨2, ![3, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_20 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S128x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1x8x128x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x1x64x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x512x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]
-- ==== Reference6Ideal.lean ====
abbrev S1x16384x1024 : Shape := ⟨3, ![1, 16384, 1024]⟩
abbrev S2x16384x1024 : Shape := ⟨3, ![2, 16384, 1024]⟩
abbrev S1024 : Shape := ⟨1, ![1024]⟩
abbrev S1024x2240 : Shape := ⟨2, ![1024, 2240]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S16x256 : Shape := ⟨2, ![16, 256]⟩
abbrev S3x16384x1024 : Shape := ⟨3, ![3, 16384, 1024]⟩
abbrev S_ : Shape := ⟨0, ![]⟩
abbrev S3x16384 : Shape := ⟨2, ![3, 16384]⟩
abbrev S3x16384x1 : Shape := ⟨3, ![3, 16384, 1]⟩
abbrev S1x1x1024 : Shape := ⟨3, ![1, 1, 1024]⟩
abbrev S3x16384x2240 : Shape := ⟨3, ![3, 16384, 2240]⟩
abbrev S3x16384x384 : Shape := ⟨3, ![3, 16384, 384]⟩
abbrev S3x16384x256 : Shape := ⟨3, ![3, 16384, 256]⟩
abbrev S3x16384x32 : Shape := ⟨3, ![3, 16384, 32]⟩
abbrev S3x16384x512 : Shape := ⟨3, ![3, 16384, 512]⟩

abbrev nBuf : Space → Nat
  | .hbm => 41
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S2x16384x1024, .f32⟩
  | .hbm, ⟨2, _⟩ => ⟨S1024, .f32⟩
  | .hbm, ⟨3, _⟩ => ⟨S1024x2240, .f32⟩
  | .hbm, ⟨4, _⟩ => ⟨S384, .f32⟩
  | .hbm, ⟨5, _⟩ => ⟨S384x768, .f32⟩
  | .hbm, ⟨6, _⟩ => ⟨S256, .f32⟩
  | .hbm, ⟨7, _⟩ => ⟨S256x1024, .f32⟩
  | .hbm, ⟨8, _⟩ => ⟨S16x256, .f32⟩
  | .hbm, ⟨9, _⟩ => ⟨S256, .f32⟩
  | .hbm, ⟨10, _⟩ => ⟨S16x256, .f32⟩
  | .hbm, ⟨11, _⟩ => ⟨S256, .f32⟩
  | .hbm, ⟨12, _⟩ => ⟨S3x16384x1024, .f32⟩
  | .hbm, ⟨13, _⟩ => ⟨S3x16384x1024, .f32⟩
  | .hbm, ⟨14, _⟩ => ⟨S_, .f32⟩
  | .hbm, ⟨15, _⟩ => ⟨S3x16384, .f32⟩
  | .hbm, ⟨16, _⟩ => ⟨S3x16384x1, .f32⟩
  | .hbm, ⟨17, _⟩ => ⟨S_, .f32⟩
  | .hbm, ⟨18, _⟩ => ⟨S3x16384x1, .f32⟩
  | .hbm, ⟨19, _⟩ => ⟨S3x16384x1, .f32⟩
  | .hbm, ⟨20, _⟩ => ⟨S_, .f32⟩
  | .hbm, ⟨21, _⟩ => ⟨S3x16384x1, .f32⟩
  | .hbm, ⟨22, _⟩ => ⟨S3x16384x1, .f32⟩
  | .hbm, ⟨23, _⟩ => ⟨S3x16384x1, .f32⟩
  | .hbm, ⟨24, _⟩ => ⟨S3x16384x1024, .f32⟩
  | .hbm, ⟨25, _⟩ => ⟨S3x16384x1024, .f32⟩
  | .hbm, ⟨26, _⟩ => ⟨S1x1x1024, .f32⟩
  | .hbm, ⟨27, _⟩ => ⟨S3x16384x1024, .f32⟩
  | .hbm, ⟨28, _⟩ => ⟨S3x16384x1024, .f32⟩
  | .hbm, ⟨29, _⟩ => ⟨S3x16384x2240, .f32⟩
  | .hbm, ⟨30, _⟩ => ⟨S3x16384x384, .f32⟩
  | .hbm, ⟨31, _⟩ => ⟨S3x16384x256, .f32⟩
  | .hbm, ⟨32, _⟩ => ⟨S3x16384x32, .f32⟩
  | .hbm, ⟨33, _⟩ => ⟨S3x16384x256, .f32⟩
  | .hbm, ⟨34, _⟩ => ⟨S3x16384x256, .f32⟩
  | .hbm, ⟨35, _⟩ => ⟨S3x16384x512, .f32⟩
  | .hbm, ⟨36, _⟩ => ⟨S3x16384x32, .f32⟩
  | .hbm, ⟨37, _⟩ => ⟨S3x16384x512, .f32⟩
  | .hbm, ⟨38, _⟩ => ⟨S_, .f32⟩
  | .hbm, ⟨39, _⟩ => ⟨S3x16384x256, .f32⟩
  | .hbm, ⟨40, _⟩ => ⟨S3x16384x256, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Proof.Words.lean ====
/-
The pipeline's loop carries six machine words: the number of the index block asked for last, of the index block in use,
of the output block being filled, of the output block waited for last, and the two coordinates of the step in the
4 x 16 grid of a tile. This module says what they are before step `k` — small numbers determined by `k` — and what the
printed conditions and offsets are at them.
-/
module

public import proofs.«01_k».proof.Proof.Gen.KernelIdeal
public import proofs.«01_k».proof.Proof.Gen.KernelIdeal.Skeleton

@[expose] public section

noncomputable section

namespace Cert.KernelIdeal.Hand

open Idealize.ShloMosaic Idealize.SL.Sem
open Cert.KernelIdeal.Gen

/-- The number of the index block asked for next, before step `k`: one more than `k`, but no block is asked for past
the last. -/
@[reducible] def wIn (k : ℕ) : BitVec 32 := BitVec.ofNat 32 (min (k + 1) 64)
/-- The number of the step. -/
@[reducible] def wAt (k : ℕ) : BitVec 32 := BitVec.ofNat 32 k
/-- The number of the output block waited for next, before step `k`: one less than `k`, and zero at the first step. -/
@[reducible] def wOut (k : ℕ) : BitVec 32 := BitVec.ofNat 32 (k - 1)
/-- The step's row among the four. -/
@[reducible] def wHi (k : ℕ) : BitVec 32 := BitVec.ofNat 32 (k / 16 % 4)
/-- The step's place among the sixteen of its row. -/
@[reducible] def wLo (k : ℕ) : BitVec 32 := BitVec.ofNat 32 (k % 16)

theorem cond1_lt : ∀ (i : grid0.Coords) (k : Fin k0_t1_loop.trips), k.val < 63 → k0_cond1 i k (wHi k) (wLo k) = 1#1 := by decide +kernel
theorem cond1_last : ∀ (i : grid0.Coords) (k : Fin k0_t1_loop.trips), ¬ k.val < 63 → ¬ k0_cond1 i k (wHi k) (wLo k) = 1#1 := by decide +kernel
theorem cond2_all : ∀ (i : grid0.Coords) (k : Fin k0_t1_loop.trips), k0_cond2 i k (wHi k) (wLo k) = 1#1 := by decide +kernel
theorem cond5_all : ∀ (i : grid0.Coords) (k : Fin k0_t1_loop.trips), k0_cond5 i k (wHi k) (wLo k) = 1#1 := by decide +kernel
theorem cond7_pos : ∀ (i : grid0.Coords) (k : Fin k0_t1_loop.trips), 0 < k.val → k0_cond7 i k (wHi k) (wLo k) = 1#1 := by decide +kernel
theorem cond7_zero : ∀ (i : grid0.Coords) (k : Fin k0_t1_loop.trips), ¬ 0 < k.val → ¬ k0_cond7 i k (wHi k) (wLo k) = 1#1 := by decide +kernel

theorem off4_at : ∀ k : Fin k0_t1_loop.trips, k.val < 63 → k0_off4 (wIn k) = ![(k.val + 1) % 2, 0, 0, 0] := by decide +kernel
theorem off6_at : ∀ k : Fin k0_t1_loop.trips, k.val < 63 → k0_off6 (wIn k) = ![(k.val + 1) % 2] := by decide +kernel
theorem off7_at : ∀ k : Fin k0_t1_loop.trips, k0_off7 (wAt k) = ![k.val % 2, 0, 0, 0] := by decide +kernel
theorem off9_at : ∀ k : Fin k0_t1_loop.trips, k0_off9 (wAt k) = ![k.val % 2] := by decide +kernel
theorem off10_at : ∀ k : Fin k0_t1_loop.trips, k0_off10 (wAt k) = ![k.val % 2, 0, 0, 0] := by decide +kernel
theorem off11_at : ∀ k : Fin k0_t1_loop.trips, k0_off11 (wAt k) = ![k.val % 2, 0, 0, 0] := by decide +kernel
theorem off12_at : ∀ k : Fin k0_t1_loop.trips, k0_off12 (wAt k) = ![k.val % 2, 0, 0, 0] := by decide +kernel
theorem off14_at : ∀ k : Fin k0_t1_loop.trips, k0_off14 (wAt k) = ![k.val % 2] := by decide +kernel
theorem off15_at : ∀ k : Fin k0_t1_loop.trips, 0 < k.val → k0_off15 (wOut k) = ![(k.val - 1) % 2, 0, 0, 0] := by decide +kernel
theorem off17_at : ∀ k : Fin k0_t1_loop.trips, 0 < k.val → k0_off17 (wOut k) = ![(k.val - 1) % 2] := by decide +kernel

theorem off5_at : ∀ (i : grid0.Coords) (k : Fin k0_t1_loop.trips), k.val < 63 →
    k0_off5 i (wHi k) (wLo k) = ![(k.val + 1) / 16 % 4, 16 * (i 1).val + 256 * (i 0).val + (k.val + 1) % 16, 0] := by decide +kernel
theorem off8_at : ∀ (i : grid0.Coords) (k : Fin k0_t1_loop.trips),
    k0_off8 i (wHi k) (wLo k) = ![k.val / 16 % 4, 16 * (i 1).val + 256 * (i 0).val + k.val % 16, 0] := by decide +kernel
theorem off13_at : ∀ (i : grid0.Coords) (k : Fin k0_t1_loop.trips),
    k0_off13 i (wHi k) (wLo k) = ![k.val / 16 % 4, 32 * (16 * (i 1).val + 256 * (i 0).val + k.val % 16), 0] := by decide +kernel
theorem off16_at : ∀ (i : grid0.Coords) (k : Fin k0_t1_loop.trips), 0 < k.val →
    k0_off16 i (wHi k) (wLo k) = ![(k.val - 1) / 16 % 4, 32 * (16 * (i 1).val + 256 * (i 0).val + (k.val - 1) % 16), 0] := by decide +kernel
theorem off19_at : ∀ i : grid0.Coords,
    k0_off19 i (wLo 64) (wHi 64) = ![63 / 16 % 4, 32 * (16 * (i 1).val + 256 * (i 0).val + 63 % 16), 0] := by decide +kernel
theorem off20_at : k0_off20 (wOut 64) = ![63 % 2] := by decide +kernel
theorem off21_at : k0_off21 (wOut 64) = ![63 % 2, 0, 0, 0] := by decide +kernel

theorem chk1_at : ∀ (i : grid0.Coords) (k : Fin k0_t1_loop.trips),
    k0_chk1 i k (wIn k) (wAt k) (wAt k) (wOut k) (wHi k) (wLo k) := by decide +kernel
theorem chk2_at : ∀ k : Fin k0_t1_loop.trips, k0_chk2 (wAt k) := by decide +kernel
theorem chk3_at : ∀ k : Fin k0_t1_loop.trips, k0_chk3 (wAt k) := by decide +kernel
theorem chk4_at : k0_chk4 (wOut 64) := by decide +kernel
theorem chk5_at : ∀ i : grid0.Coords, k0_chk5 i (wLo 64) (wHi 64) := by decide +kernel

end Cert.KernelIdeal.Hand
-- ==== Proof.Views.lean ====
/-
The windows a task of the gather reads and writes, named by the step that uses them: the two halves of the index scratch
and of the row scratch, taken in turn, the row of the padded slots a step fetches, the block of the result it writes, and
the columns of the table and of a row-scratch half that one indirect gather joins. Of each: which elements it covers, and
where it places an index.
-/
module

public import proofs.«01_k».proof.Proof.Words
public import Idealize.ShloMosaic.Lib.SparseCore.Stream
public import Idealize.ShloMosaic.Lib.Pipeline.ValueKit.Geometry

@[expose] public section

noncomputable section

namespace Cert.KernelIdeal.Hand

open Idealize.ShloMosaic Idealize.SL.Sem
open Cert.KernelIdeal.Gen

/-! ## The buffers -/

abbrev yV : Memref sig .scVector .hbm S81920x1024 .f32 := Memref.whole main_arg0_scv
abbrev sV : Memref sig .scVector .hbm S4x512x128 .i32 := Memref.whole main_v1_scv
abbrev oV : Memref sig .scVector .hbm S4x16384x1024 .f32 := Memref.whole main_v2_scv
abbrev aV : Memref sig .scVector .vmem S2x1x1x128 .i32 := Memref.whole cc0_scoped0
abbrev bV : Memref sig .scVector .vmem S2x1x32x1024 .f32 := Memref.whole cc0_scoped2

/-! ## The windows -/

/-- The tile's number times sixteen: the first of its 512-row stretch's index rows. -/
abbrev base (i : grid0.Coords) : ℕ := 16 * (i 1).val + 256 * (i 0).val

theorem base_lt (i : grid0.Coords) : base i + 16 ≤ 512 := by
  have h0 : (i 0).val < 2 := (i 0).isLt
  have h1 : (i 1).val < 16 := (i 1).isLt
  unfold base; omega

theorem inSlot_inb (k : ℕ) : ∀ a, (![k % 2, 0, 0, 0] : Fin 4 → ℕ) a + S1x1x1x128.size a ≤ S2x1x1x128.size a := by
  have := Nat.mod_lt k (show 0 < 2 by omega)
  intro a; match a with
  | 0 => show k % 2 + 1 ≤ 2; omega
  | 1 => show 0 + 1 ≤ 1; omega
  | 2 => show 0 + 1 ≤ 1; omega
  | 3 => show 0 + 128 ≤ 128; omega

theorem outSlot_inb (k : ℕ) : ∀ a, (![k % 2, 0, 0, 0] : Fin 4 → ℕ) a + S1x1x32x1024.size a ≤ S2x1x32x1024.size a := by
  have := Nat.mod_lt k (show 0 < 2 by omega)
  intro a; match a with
  | 0 => show k % 2 + 1 ≤ 2; omega
  | 1 => show 0 + 1 ≤ 1; omega
  | 2 => show 0 + 32 ≤ 32; omega
  | 3 => show 0 + 1024 ≤ 1024; omega

theorem inRow_inb (i : grid0.Coords) (k : ℕ) :
    ∀ a, (![k / 16 % 4, base i + k % 16, 0] : Fin 3 → ℕ) a + S1x1x128.size a ≤ S4x512x128.size a := by
  have := base_lt i
  have := Nat.mod_lt k (show 0 < 16 by omega)
  have := Nat.mod_lt (k / 16) (show 0 < 4 by omega)
  intro a; match a with
  | 0 => show k / 16 % 4 + 1 ≤ 4; omega
  | 1 => show base i + k % 16 + 1 ≤ 512; omega
  | 2 => show 0 + 128 ≤ 128; omega

theorem outBlk_inb (i : grid0.Coords) (k : ℕ) :
    ∀ a, (![k / 16 % 4, 32 * (base i + k % 16), 0] : Fin 3 → ℕ) a + S1x32x1024.size a ≤ S4x16384x1024.size a := by
  have := base_lt i
  have := Nat.mod_lt k (show 0 < 16 by omega)
  have := Nat.mod_lt (k / 16) (show 0 < 4 by omega)
  intro a; match a with
  | 0 => show k / 16 % 4 + 1 ≤ 4; omega
  | 1 => show 32 * (base i + k % 16) + 32 ≤ 16384; omega
  | 2 => show 0 + 1024 ≤ 1024; omega

theorem sem_inb (k : ℕ) : ∀ a, (![k % 2] : Fin 1 → ℕ) a + S1.size a ≤ S2.size a := by
  have := Nat.mod_lt k (show 0 < 2 by omega)
  intro a; match a with
  | 0 => show k % 2 + 1 ≤ 2; omega

/-- The half of the index scratch that step `k` uses. -/
abbrev inSlot (k : ℕ) : Memref sig .scVector .vmem S1x1x128 .i32 :=
  (aV.slice (Rect.unit (s := S2x1x1x128) ![k % 2, 0, 0, 0] S1x1x1x128.size (inSlot_inb k)) (fun _ => rfl)).squeeze S1x1x128 squeezes_S1x1x1x128_S1x1x128
/-- The 32 row numbers at the front of it. -/
abbrev inNums (k : ℕ) : Memref sig .scVector .vmem S32 .i32 :=
  ((inSlot k).slice (Rect.unit (s := S1x1x128) ![0, 0, 0] S1x1x32.size inb_S1x1x128_S1x1x32_0_0_0) (fun _ => rfl)).squeeze S32 squeezes_S1x1x32_S32
/-- The half of the row scratch that step `k` uses. -/
abbrev outSlot (k : ℕ) : Memref sig .scVector .vmem S1x32x1024 .f32 :=
  (bV.slice (Rect.unit (s := S2x1x32x1024) ![k % 2, 0, 0, 0] S1x1x32x1024.size (outSlot_inb k)) (fun _ => rfl)).squeeze S1x32x1024 squeezes_S1x1x32x1024_S1x32x1024
/-- The 128 columns from `c` on of that half. -/
abbrev outCol (k c : ℕ) (h : ∀ a, (![0, 0, c] : Fin 3 → ℕ) a + S1x32x128.size a ≤ S1x32x1024.size a) : Memref sig .scVector .vmem S32x128 .f32 :=
  ((outSlot k).slice (Rect.unit (s := S1x32x1024) ![0, 0, c] S1x32x128.size h) (fun _ => rfl)).squeeze S32x128 squeezes_S1x32x128_S32x128
/-- The same columns of the table. -/
abbrev yCol (c : ℕ) (h : ∀ a, (![0, c] : Fin 2 → ℕ) a + S81920x128.size a ≤ S81920x1024.size a) : Memref sig .scVector .hbm S81920x128 .f32 :=
  yV.slice (Rect.unit (s := S81920x1024) ![0, c] S81920x128.size h) (fun _ => rfl)
/-- The row of the padded slots that step `k` of tile `i` fetches. -/
abbrev inRow (i : grid0.Coords) (k : ℕ) : Memref sig .scVector .hbm S1x1x128 .i32 :=
  sV.slice (Rect.unit (s := S4x512x128) ![k / 16 % 4, base i + k % 16, 0] S1x1x128.size (inRow_inb i k)) (fun _ => rfl)
/-- The block of the result that step `k` of tile `i` writes. -/
abbrev outBlk (i : grid0.Coords) (k : ℕ) : Memref sig .scVector .hbm S1x32x1024 .f32 :=
  oV.slice (Rect.unit (s := S4x16384x1024) ![k / 16 % 4, 32 * (base i + k % 16), 0] S1x32x1024.size (outBlk_inb i k)) (fun _ => rfl)
/-- The semaphore of the fetch into `inSlot k`, and of the write out of `outSlot k`. -/
abbrev inSem (k : ℕ) : DmaSem sig := ((cc0_scoped1.slice (Rect.unit (s := S2) ![k % 2] S1.size (sem_inb k))).squeeze S_ squeezes_S1_S_).sem
abbrev outSem (k : ℕ) : DmaSem sig := ((cc0_scoped3.slice (Rect.unit (s := S2) ![k % 2] S1.size (sem_inb k))).squeeze S_ squeezes_S1_S_).sem

/-! ## A half is used again two steps later -/

theorem inSlot_congr {k k' : ℕ} (h : k % 2 = k' % 2) : inSlot k = inSlot k' := by
  have g : ∀ r r' (hr : ∀ a, (![r, 0, 0, 0] : Fin 4 → ℕ) a + S1x1x1x128.size a ≤ S2x1x1x128.size a)
      (hr' : ∀ a, (![r', 0, 0, 0] : Fin 4 → ℕ) a + S1x1x1x128.size a ≤ S2x1x1x128.size a), r = r' →
      (aV.slice (Rect.unit (s := S2x1x1x128) ![r, 0, 0, 0] S1x1x1x128.size hr) (fun _ => rfl)).squeeze S1x1x128 squeezes_S1x1x1x128_S1x1x128
        = (aV.slice (Rect.unit (s := S2x1x1x128) ![r', 0, 0, 0] S1x1x1x128.size hr') (fun _ => rfl)).squeeze S1x1x128 squeezes_S1x1x1x128_S1x1x128 := by
    rintro r _ _ _ rfl; rfl
  exact g _ _ _ _ h
theorem outSlot_congr {k k' : ℕ} (h : k % 2 = k' % 2) : outSlot k = outSlot k' := by
  have g : ∀ r r' (hr : ∀ a, (![r, 0, 0, 0] : Fin 4 → ℕ) a + S1x1x32x1024.size a ≤ S2x1x32x1024.size a)
      (hr' : ∀ a, (![r', 0, 0, 0] : Fin 4 → ℕ) a + S1x1x32x1024.size a ≤ S2x1x32x1024.size a), r = r' →
      (bV.slice (Rect.unit (s := S2x1x32x1024) ![r, 0, 0, 0] S1x1x32x1024.size hr) (fun _ => rfl)).squeeze S1x32x1024 squeezes_S1x1x32x1024_S1x32x1024
        = (bV.slice (Rect.unit (s := S2x1x32x1024) ![r', 0, 0, 0] S1x1x32x1024.size hr') (fun _ => rfl)).squeeze S1x32x1024 squeezes_S1x1x32x1024_S1x32x1024 := by
    rintro r _ _ _ rfl; rfl
  exact g _ _ _ _ h
theorem sem_congr (A : DmaSems sig S2) {k k' : ℕ} (h : k % 2 = k' % 2) :
    ((A.slice (Rect.unit (s := S2) ![k % 2] S1.size (sem_inb k))).squeeze S_ squeezes_S1_S_).sem
      = ((A.slice (Rect.unit (s := S2) ![k' % 2] S1.size (sem_inb k'))).squeeze S_ squeezes_S1_S_).sem := by
  have g : ∀ r r' (hr : ∀ a, (![r] : Fin 1 → ℕ) a + S1.size a ≤ S2.size a) (hr' : ∀ a, (![r'] : Fin 1 → ℕ) a + S1.size a ≤ S2.size a), r = r' →
      ((A.slice (Rect.unit (s := S2) ![r] S1.size hr)).squeeze S_ squeezes_S1_S_).sem
        = ((A.slice (Rect.unit (s := S2) ![r'] S1.size hr')).squeeze S_ squeezes_S1_S_).sem := by
    rintro r _ _ _ rfl; rfl
  exact g _ _ _ _ h
theorem inSem_congr {k k' : ℕ} (h : k % 2 = k' % 2) : inSem k = inSem k' := sem_congr cc0_scoped1 h
theorem outSem_congr {k k' : ℕ} (h : k % 2 = k' % 2) : outSem k = outSem k' := sem_congr cc0_scoped3 h

/-! ## Which elements each window covers -/

theorem mem_inSlot (k : ℕ) (x : S2x1x1x128.Idx) : x ∈ (inSlot k).view.set ↔ (x 0).val = k % 2 := by
  have e : (inSlot k).view.set = (aV.slice (Rect.unit (s := S2x1x1x128) ![k % 2, 0, 0, 0] S1x1x1x128.size (inSlot_inb k)) (fun _ => rfl)).view.set := View.set_reshape _ _
  rw [e]
  refine ValueKit.mem_set_slice_whole_iff cc0_scoped0 _ x (Rect.mem_set_unit.trans ?_)
  have h1 : (x 1).val < 1 := (x 1).isLt
  have h2 : (x 2).val < 1 := (x 2).isLt
  have h3 : (x 3).val < 128 := (x 3).isLt
  constructor
  · intro h
    have h0 : k % 2 ≤ (x 0).val ∧ (x 0).val < k % 2 + 1 := h 0
    omega
  · intro h a
    match a with
    | 0 => show k % 2 ≤ (x 0).val ∧ (x 0).val < k % 2 + 1; omega
    | 1 => show 0 ≤ (x 1).val ∧ (x 1).val < 0 + 1; omega
    | 2 => show 0 ≤ (x 2).val ∧ (x 2).val < 0 + 1; omega
    | 3 => show 0 ≤ (x 3).val ∧ (x 3).val < 0 + 128; omega

theorem mem_outSlot (k : ℕ) (x : S2x1x32x1024.Idx) : x ∈ (outSlot k).view.set ↔ (x 0).val = k % 2 := by
  have e : (outSlot k).view.set = (bV.slice (Rect.unit (s := S2x1x32x1024) ![k % 2, 0, 0, 0] S1x1x32x1024.size (outSlot_inb k)) (fun _ => rfl)).view.set := View.set_reshape _ _
  rw [e]
  refine ValueKit.mem_set_slice_whole_iff cc0_scoped2 _ x (Rect.mem_set_unit.trans ?_)
  have h1 : (x 1).val < 1 := (x 1).isLt
  have h2 : (x 2).val < 32 := (x 2).isLt
  have h3 : (x 3).val < 1024 := (x 3).isLt
  constructor
  · intro h
    have h0 : k % 2 ≤ (x 0).val ∧ (x 0).val < k % 2 + 1 := h 0
    omega
  · intro h a
    match a with
    | 0 => show k % 2 ≤ (x 0).val ∧ (x 0).val < k % 2 + 1; omega
    | 1 => show 0 ≤ (x 1).val ∧ (x 1).val < 0 + 1; omega
    | 2 => show 0 ≤ (x 2).val ∧ (x 2).val < 0 + 32; omega
    | 3 => show 0 ≤ (x 3).val ∧ (x 3).val < 0 + 1024; omega

theorem mem_inRow (i : grid0.Coords) (k : ℕ) (x : S4x512x128.Idx) :
    x ∈ (inRow i k).view.set ↔ (x 0).val = k / 16 % 4 ∧ (x 1).val = base i + k % 16 := by
  refine ValueKit.mem_set_slice_whole_iff main_v1_scv _ x (Rect.mem_set_unit.trans ?_)
  have h2 : (x 2).val < 128 := (x 2).isLt
  constructor
  · intro h
    have h0 : k / 16 % 4 ≤ (x 0).val ∧ (x 0).val < k / 16 % 4 + 1 := h 0
    have h1 : base i + k % 16 ≤ (x 1).val ∧ (x 1).val < base i + k % 16 + 1 := h 1
    omega
  · intro h a
    match a with
    | 0 => show k / 16 % 4 ≤ (x 0).val ∧ (x 0).val < k / 16 % 4 + 1; omega
    | 1 => show base i + k % 16 ≤ (x 1).val ∧ (x 1).val < base i + k % 16 + 1; omega
    | 2 => show 0 ≤ (x 2).val ∧ (x 2).val < 0 + 128; omega

theorem mem_outBlk (i : grid0.Coords) (k : ℕ) (x : S4x16384x1024.Idx) :
    x ∈ (outBlk i k).view.set ↔ (x 0).val = k / 16 % 4 ∧ (x 1).val / 32 = base i + k % 16 := by
  refine ValueKit.mem_set_slice_whole_iff main_v2_scv _ x (Rect.mem_set_unit.trans ?_)
  have h2 : (x 2).val < 1024 := (x 2).isLt
  constructor
  · intro h
    have h0 : k / 16 % 4 ≤ (x 0).val ∧ (x 0).val < k / 16 % 4 + 1 := h 0
    have h1 : 32 * (base i + k % 16) ≤ (x 1).val ∧ (x 1).val < 32 * (base i + k % 16) + 32 := h 1
    omega
  · intro h a
    match a with
    | 0 => show k / 16 % 4 ≤ (x 0).val ∧ (x 0).val < k / 16 % 4 + 1; omega
    | 1 => show 32 * (base i + k % 16) ≤ (x 1).val ∧ (x 1).val < 32 * (base i + k % 16) + 32; omega
    | 2 => show 0 ≤ (x 2).val ∧ (x 2).val < 0 + 1024; omega

/-! ## Where each window places an index -/

theorem emb_inSlot (k : ℕ) (j : S1x1x128.Idx) :
    ((inSlot k).view.emb j 0).val = k % 2 ∧ ((inSlot k).view.emb j 3).val = (j 2).val := by
  set y : S1x1x1x128.Idx := Shape.reshapeEquiv squeezes_S1x1x1x128_S1x1x128.numel_eq j with hy_def
  have e : y = Fin.cons ⟨0, Nat.one_pos⟩ j := Shape.reshapeEquiv_cons_one squeezes_S1x1x1x128_S1x1x128.numel_eq j
  have e0 : (y 0).val = 0 := by rw [e]; rfl
  have e1 : (y 1).val = (j 0).val := by rw [e]; rfl
  have e2 : (y 2).val = (j 1).val := by rw [e]; rfl
  have e3 : (y 3).val = (j 2).val := by rw [e]; rfl
  have w0 : ((inSlot k).view.emb j 0).val = k % 2 + (y 0).val :=
    ValueKit.rect_emb_unit_val (s := S2x1x1x128) ![k % 2, 0, 0, 0] S1x1x1x128.size (inSlot_inb k) y 0
  have w3 : ((inSlot k).view.emb j 3).val = 0 + (y 3).val :=
    ValueKit.rect_emb_unit_val (s := S2x1x1x128) ![k % 2, 0, 0, 0] S1x1x1x128.size (inSlot_inb k) y 3
  omega

theorem emb_inNums (k : ℕ) (j : S32.Idx) :
    ((inNums k).view.emb j 0).val = k % 2 ∧ ((inNums k).view.emb j 3).val = (j 0).val := by
  have e := Shape.rowMajor_reshapeEquiv squeezes_S1x1x32_S32.numel_eq j
  have e' := (Shape.rowMajor_val_three (d := ![1, 1, 32]) (Shape.reshapeEquiv squeezes_S1x1x32_S32.numel_eq j)).symm.trans
    (e.trans (Shape.rowMajor_val_one (d := ![32]) j))
  set y : S1x1x32.Idx := Shape.reshapeEquiv squeezes_S1x1x32_S32.numel_eq j with hy_def
  have y0 : (y 0).val < 1 := (y 0).isLt
  have y1 : (y 1).val < 1 := (y 1).isLt
  change ((y 0).val * 1 + (y 1).val) * 32 + (y 2).val = (j 0).val at e'
  have w2 := ValueKit.rect_emb_unit_val (s := S1x1x128) ![0, 0, 0] S1x1x32.size inb_S1x1x128_S1x1x32_0_0_0 y 2
  change _ = 0 + (y 2).val at w2
  have w := emb_inSlot k ((Rect.unit (s := S1x1x128) ![0, 0, 0] S1x1x32.size inb_S1x1x128_S1x1x32_0_0_0).emb y)
  have w3 : ((inNums k).view.emb j 3).val = _ := w.2
  have w0 : ((inNums k).view.emb j 0).val = _ := w.1
  omega

theorem emb_outSlot (k : ℕ) (j : S1x32x1024.Idx) :
    ((outSlot k).view.emb j 0).val = k % 2 ∧ ((outSlot k).view.emb j 2).val = (j 1).val ∧ ((outSlot k).view.emb j 3).val = (j 2).val := by
  set y : S1x1x32x1024.Idx := Shape.reshapeEquiv squeezes_S1x1x32x1024_S1x32x1024.numel_eq j with hy_def
  have e : y = Fin.cons ⟨0, Nat.one_pos⟩ j := Shape.reshapeEquiv_cons_one squeezes_S1x1x32x1024_S1x32x1024.numel_eq j
  have e0 : (y 0).val = 0 := by rw [e]; rfl
  have e1 : (y 1).val = (j 0).val := by rw [e]; rfl
  have e2 : (y 2).val = (j 1).val := by rw [e]; rfl
  have e3 : (y 3).val = (j 2).val := by rw [e]; rfl
  have w0 : ((outSlot k).view.emb j 0).val = k % 2 + (y 0).val :=
    ValueKit.rect_emb_unit_val (s := S2x1x32x1024) ![k % 2, 0, 0, 0] S1x1x32x1024.size (outSlot_inb k) y 0
  have w2 : ((outSlot k).view.emb j 2).val = 0 + (y 2).val :=
    ValueKit.rect_emb_unit_val (s := S2x1x32x1024) ![k % 2, 0, 0, 0] S1x1x32x1024.size (outSlot_inb k) y 2
  have w3 : ((outSlot k).view.emb j 3).val = 0 + (y 3).val :=
    ValueKit.rect_emb_unit_val (s := S2x1x32x1024) ![k % 2, 0, 0, 0] S1x1x32x1024.size (outSlot_inb k) y 3
  omega

theorem emb_cols (M : Memref sig .scVector .vmem S1x32x1024 .f32) (R : Rect S1x32x1024) (hR : ∀ a, R.stride a = 1)
    (hq : R.shape.Squeezes S32x128) (j : S32x128.Idx) :
    (((M.slice R hR).squeeze S32x128 hq).view.emb j) = M.view.emb (R.emb (Shape.reshapeEquiv hq.numel_eq j)) := rfl

theorem emb_outCol_eq (k c : ℕ) (h) (j : S32x128.Idx) :
    (outCol k c h).view.emb j = (outSlot k).view.emb ((Rect.unit (s := S1x32x1024) ![0, 0, c] S1x32x128.size h).emb
      (Shape.reshapeEquiv squeezes_S1x32x128_S32x128.numel_eq j)) :=
  emb_cols (outSlot k) (Rect.unit (s := S1x32x1024) ![0, 0, c] S1x32x128.size h) (fun _ => rfl) squeezes_S1x32x128_S32x128 j

theorem emb_outCol (k c : ℕ) (h) (j : S32x128.Idx) :
    ((outCol k c h).view.emb j 0).val = k % 2 ∧ ((outCol k c h).view.emb j 2).val = (j 0).val ∧ ((outCol k c h).view.emb j 3).val = c + (j 1).val := by
  rw [emb_outCol_eq]
  have e : Shape.reshapeEquiv squeezes_S1x32x128_S32x128.numel_eq j = Fin.cons ⟨0, Nat.one_pos⟩ j :=
    Shape.reshapeEquiv_cons_one squeezes_S1x32x128_S32x128.numel_eq j
  generalize Shape.reshapeEquiv squeezes_S1x32x128_S32x128.numel_eq j = y at e
  have e1 : (y 1).val = (j 0).val := by rw [e]; rfl
  have e2 : (y 2).val = (j 1).val := by rw [e]; rfl
  have v1 := ValueKit.rect_emb_unit_val (s := S1x32x1024) ![0, 0, c] S1x32x128.size h y 1
  have v2 := ValueKit.rect_emb_unit_val (s := S1x32x1024) ![0, 0, c] S1x32x128.size h y 2
  obtain ⟨w0, w2, w3⟩ := emb_outSlot k ((Rect.unit (s := S1x32x1024) ![0, 0, c] S1x32x128.size h).emb y)
  refine ⟨w0, w2.trans (v1.trans ?_), w3.trans (v2.trans ?_)⟩
  · show 0 + (y 1).val = _
    rw [e1, Nat.zero_add]
  · show c + (y 2).val = _
    rw [e2]

theorem emb_yCol (c : ℕ) (h) (j : S81920x128.Idx) :
    ((yCol c h).view.emb j 0).val = (j 0).val ∧ ((yCol c h).view.emb j 1).val = c + (j 1).val := by
  have v0 : ((yCol c h).view.emb j 0).val = 0 + (j 0).val :=
    ValueKit.rect_emb_unit_val (s := S81920x1024) ![0, c] S81920x128.size h j 0
  have v1 : ((yCol c h).view.emb j 1).val = c + (j 1).val :=
    ValueKit.rect_emb_unit_val (s := S81920x1024) ![0, c] S81920x128.size h j 1
  omega

theorem emb_inRow (i : grid0.Coords) (k : ℕ) (j : S1x1x128.Idx) :
    ((inRow i k).view.emb j 0).val = k / 16 % 4 ∧ ((inRow i k).view.emb j 1).val = base i + k % 16 ∧ ((inRow i k).view.emb j 2).val = (j 2).val := by
  have v0 : ((inRow i k).view.emb j 0).val = k / 16 % 4 + (j 0).val :=
    ValueKit.rect_emb_unit_val (s := S4x512x128) ![k / 16 % 4, base i + k % 16, 0] S1x1x128.size (inRow_inb i k) j 0
  have v1 : ((inRow i k).view.emb j 1).val = base i + k % 16 + (j 1).val :=
    ValueKit.rect_emb_unit_val (s := S4x512x128) ![k / 16 % 4, base i + k % 16, 0] S1x1x128.size (inRow_inb i k) j 1
  have v2 : ((inRow i k).view.emb j 2).val = 0 + (j 2).val :=
    ValueKit.rect_emb_unit_val (s := S4x512x128) ![k / 16 % 4, base i + k % 16, 0] S1x1x128.size (inRow_inb i k) j 2
  have j0 : (j 0).val < 1 := (j 0).isLt
  have j1 : (j 1).val < 1 := (j 1).isLt
  omega

theorem emb_outBlk (i : grid0.Coords) (k : ℕ) (j : S1x32x1024.Idx) :
    ((outBlk i k).view.emb j 0).val = k / 16 % 4 ∧ ((outBlk i k).view.emb j 1).val = 32 * (base i + k % 16) + (j 1).val
      ∧ ((outBlk i k).view.emb j 2).val = (j 2).val := by
  have v0 : ((outBlk i k).view.emb j 0).val = k / 16 % 4 + (j 0).val :=
    ValueKit.rect_emb_unit_val (s := S4x16384x1024) ![k / 16 % 4, 32 * (base i + k % 16), 0] S1x32x1024.size (outBlk_inb i k) j 0
  have v1 : ((outBlk i k).view.emb j 1).val = 32 * (base i + k % 16) + (j 1).val :=
    ValueKit.rect_emb_unit_val (s := S4x16384x1024) ![k / 16 % 4, 32 * (base i + k % 16), 0] S1x32x1024.size (outBlk_inb i k) j 1
  have v2 : ((outBlk i k).view.emb j 2).val = 0 + (j 2).val :=
    ValueKit.rect_emb_unit_val (s := S4x16384x1024) ![k / 16 % 4, 32 * (base i + k % 16), 0] S1x32x1024.size (outBlk_inb i k) j 2
  have j0 : (j 0).val < 1 := (j 0).isLt
  omega

/-- An element of the columns from `c` on lies there. -/
theorem mem_outCol (k c : ℕ) (h) (x : S2x1x32x1024.Idx) :
    x ∈ (outCol k c h).view.set ↔ (x 0).val = k % 2 ∧ c ≤ (x 3).val ∧ (x 3).val < c + 128 := by
  constructor
  · intro hx
    obtain ⟨j, -, rfl⟩ := Finset.mem_map.mp hx
    have w := emb_outCol k c h j
    have j1 : (j 1).val < 128 := (j 1).isLt
    omega
  · intro ⟨h0, h1, h2⟩
    have x1 : (x 1).val < 1 := (x 1).isLt
    have x2 : (x 2).val < 32 := (x 2).isLt
    obtain ⟨j, hj0, hj1⟩ : ∃ j : S32x128.Idx, (j 0).val = (x 2).val ∧ (j 1).val = (x 3).val - c :=
      ⟨Shape.pair (d := ![32, 128]) ⟨(x 2).val, x2⟩ ⟨(x 3).val - c, by show (x 3).val - c < 128; omega⟩, rfl, rfl⟩
    have w := emb_outCol k c h j
    refine Finset.mem_map.mpr ⟨j, Finset.mem_univ _, ?_⟩
    funext a
    apply Fin.ext
    match a with
    | 0 => exact w.1.trans h0.symm
    | 1 =>
      have : ((outCol k c h).view.emb j 1).val < 1 := ((outCol k c h).view.emb j 1).isLt
      exact (Nat.lt_one_iff.mp this).trans (Nat.lt_one_iff.mp x1).symm
    | 2 => exact w.2.1.trans hj0
    | 3 => exact w.2.2.trans (by omega)

end Cert.KernelIdeal.Hand
-- ==== Proof.Setup.lean ====
/-
The gather as the launch theorem reads it: its label signature, its resource algebra, the thread a grid point runs on, and the
contents its buffers pass through: `G` is the result (row `slots[k, t]` of the table at `[k, t, :]`, read off the padded
slots), `landedIn` and `landedOut` what a step leaves in its two halves, `mix` a row half part of whose columns are filled.
-/
module

public import proofs.«01_k».proof.Defs
public import proofs.«01_k».proof.Proof.Views
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal.Skeleton

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program, its ghost state, its threads -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
/-- The counters the transfers' deliveries are kept in. -/
abbrev EC : UEmb Counters (MT nD τ sig (HIx 1) (Elt F) ℕ UU ℕ) := countersEmb

abbrev cV (i : grid0.Coords) : Fin τ.nSC := (i 0).castLE hcore0
abbrev jV (i : grid0.Coords) : Fin τ.nSub := (i 1).castLE hsub0
/-- The thread of grid point `i`. -/
abbrev Th (d : Dev nD) (i : grid0.Coords) : Thread nD τ := V d (cV i) (jV i)

abbrev yLoc (d : Dev nD) : Loc nD τ sig := (SparseCore.T d).loc main_arg0
abbrev sLoc (d : Dev nD) : Loc nD τ sig := (SparseCore.T d).loc main_v1
abbrev oLoc (d : Dev nD) : Loc nD τ sig := (SparseCore.T d).loc main_v2
abbrev aLoc (d : Dev nD) (i : grid0.Coords) : Loc nD τ sig := (Th d i).loc cc0_scoped0
abbrev bLoc (d : Dev nD) (i : grid0.Coords) : Loc nD τ sig := (Th d i).loc cc0_scoped2

/-! ## Indices from coordinates -/

def ixY (a b : ℕ) : S81920x1024.Idx := fun
  | 0 => ⟨a % 81920, Nat.mod_lt _ (by decide)⟩
  | 1 => ⟨b % 1024, Nat.mod_lt _ (by decide)⟩
def ixS (a b c : ℕ) : S4x512x128.Idx := fun
  | 0 => ⟨a % 4, Nat.mod_lt _ (by decide)⟩
  | 1 => ⟨b % 512, Nat.mod_lt _ (by decide)⟩
  | 2 => ⟨c % 128, Nat.mod_lt _ (by decide)⟩

theorem ixY_eq {a b : ℕ} {x : S81920x1024.Idx} (h0 : (x 0).val = a) (h1 : (x 1).val = b) : ixY a b = x := by
  have b0 : (x 0).val < 81920 := (x 0).isLt
  have b1 : (x 1).val < 1024 := (x 1).isLt
  funext j; apply Fin.ext
  match j with
  | 0 => show a % 81920 = _; omega
  | 1 => show b % 1024 = _; omega

theorem ixS_eq {a b c : ℕ} {x : S4x512x128.Idx} (h0 : (x 0).val = a % 4) (h1 : (x 1).val = b) (h2 : (x 2).val = c) : ixS a b c = x := by
  have b1 : (x 1).val < 512 := (x 1).isLt
  have b2 : (x 2).val < 128 := (x 2).isLt
  funext j; apply Fin.ext
  match j with
  | 0 => exact h0.symm
  | 1 => show b % 512 = _; omega
  | 2 => show c % 128 = _; omega

/-! ## The contents -/

section Contents

variable (fi : S4x512x128.Idx → Elt F .i32) (Y : S81920x1024.Idx → Elt F .f32)

/-- The row number the padded slots hold for position `r` of the group of 32 that step `k` of tile `i` handles. -/
def num (i : grid0.Coords) (k r : ℕ) : ℕ := BitVec.toNat (w := 32) (fi (ixS (k / 16) (base i + k % 16) r))

/-- The gathered result. -/
def G : S4x16384x1024.Idx → Elt F .f32 := fun x =>
  Y (ixY (BitVec.toNat (w := 32) (fi (ixS (x 0).val ((x 1).val / 32) ((x 1).val % 32)))) (x 2).val)

/-- The index half after step `k`'s fetch. -/
def landedIn (i : grid0.Coords) (k : ℕ) : S2x1x1x128.Idx → Elt F .i32 := fun x => fi (ixS (k / 16) (base i + k % 16) (x 3).val)

/-- The row half after step `k`'s gathers. -/
def landedOut (i : grid0.Coords) (k : ℕ) : S2x1x32x1024.Idx → Elt F .f32 := fun x => Y (ixY (num fi i k (x 2).val) (x 3).val)

/-- The row half with its first `c` columns gathered. -/
def mix (i : grid0.Coords) (k : ℕ) (f : S2x1x32x1024.Idx → Elt F .f32) (c : ℕ) : S2x1x32x1024.Idx → Elt F .f32 := fun x =>
  if (x 3).val < c then landedOut fi Y i k x else f x

theorem mix_zero (i : grid0.Coords) (k : ℕ) (f) : mix fi Y i k f 0 = f := by
  funext x; simp [mix]

theorem mix_full (i : grid0.Coords) (k : ℕ) (f) : mix fi Y i k f 1024 = landedOut fi Y i k := by
  funext x
  have : (x 3).val < 1024 := (x 3).isLt
  simp [mix, this]

/-- What a step's fetch leaves in its index half. -/
theorem write_in (i : grid0.Coords) (k : ℕ) (f : S2x1x1x128.Idx → Elt F .i32) (w : S1x1x128.Idx → Elt F .i32)
    (hw : ∀ j, w j = fi ((inRow i k).view.emb j)) :
    ∀ x ∈ (inSlot k).view.set, (inSlot k).view.write (Elt F) f w Finset.univ x = landedIn fi i k x := by
  intro x hx
  obtain ⟨j, -, rfl⟩ := Finset.mem_map.mp hx
  rw [View.write_emb_of_mem _ _ (Finset.mem_univ j)]
  refine (cast_eq _ _).trans ((hw j).trans ?_)
  have e := emb_inRow i k j
  exact congrArg fi (ixS_eq e.1 e.2.1 (e.2.2.trans (emb_inSlot k j).2.symm)).symm

/-- What a step's write-out leaves in its block of the result. -/
theorem write_out (i : grid0.Coords) (k : ℕ) (f : S4x16384x1024.Idx → Elt F .f32) (w : S1x32x1024.Idx → Elt F .f32)
    (hw : ∀ j, w j = landedOut fi Y i k ((outSlot k).view.emb j)) :
    ∀ x ∈ (outBlk i k).view.set, (outBlk i k).view.write (Elt F) f w Finset.univ x = G fi Y x := by
  intro x hx
  obtain ⟨j, -, rfl⟩ := Finset.mem_map.mp hx
  rw [View.write_emb_of_mem _ _ (Finset.mem_univ j)]
  refine (cast_eq _ _).trans ((hw j).trans ?_)
  obtain ⟨e0, e1, e2⟩ := emb_outBlk i k j
  obtain ⟨s0, s2, s3⟩ := emb_outSlot k j
  have hj : (j 1).val < 32 := (j 1).isLt
  unfold landedOut G num
  rw [s2, s3, e0, e1, e2]
  have d1 : (32 * (base i + k % 16) + (j 1).val) / 32 = base i + k % 16 := by omega
  have d2 : (32 * (base i + k % 16) + (j 1).val) % 32 = (j 1).val := by omega
  rw [d1, d2]
  have d3 : ixS (k / 16 % 4) (base i + k % 16) (j 1).val = ixS (k / 16) (base i + k % 16) (j 1).val := by
    have b1 := base_lt i
    refine ixS_eq ?_ ?_ ?_
    · show k / 16 % 4 = k / 16 % 4 % 4; omega
    · show (base i + k % 16) % 512 = _; have := Nat.mod_lt k (show 0 < 16 by omega); omega
    · show (j 1).val % 128 = _; omega
  rw [d3]

/-- What one indirect gather leaves in the row half: 128 more columns. -/
theorem write_col (i : grid0.Coords) (k c : ℕ) (hb hy) (f : S2x1x32x1024.Idx → Elt F .f32)
    (r : S32.Idx → Elt F .i32) (hr : ∀ j, r j = landedIn fi i k ((inNums k).view.emb j))
    (g : S81920x128.Idx → Elt F .f32) (hg : ∀ j, g j = Y ((yCol c hy).view.emb j))
    (hn : S32.numel = S32x128.size gathers_S81920x128_S32x128.axis')
    (hin : ∀ x, BitVec.toNat (w := 32) (r x) < S81920x128.size gathers_S81920x128_S32x128.axis) :
    ∀ x ∈ (outCol k c hb).view.set,
      (outCol k c hb).view.write (Elt F) (mix fi Y i k f c)
        (SparseCore.gatherPayload gathers_S81920x128_S32x128 g (SparseCore.rows r hn hin)) Finset.univ x = landedOut fi Y i k x := by
  intro x hx
  obtain ⟨j, -, rfl⟩ := Finset.mem_map.mp hx
  rw [View.write_emb_of_mem _ _ (Finset.mem_univ j)]
  refine (cast_eq _ _).trans ?_
  obtain ⟨s0, s2, s3⟩ := emb_outCol k c hb j
  unfold SparseCore.gatherPayload landedOut num
  rw [hg, s2, s3]
  have hj : (j 0).val < 32 := (j 0).isLt
  refine congrArg Y (ixY_eq ?_ ?_).symm
  · have a0 := congrArg Fin.val (Shape.Gathers.idx_axis gathers_S81920x128_S32x128 (SparseCore.rows r hn hin) j)
    have e0 := (emb_yCol c hy (gathers_S81920x128_S32x128.idx (SparseCore.rows r hn hin) j)).1
    refine e0.trans (a0.trans ?_)
    show BitVec.toNat (w := 32) (r _) = _
    rw [hr]
    unfold landedIn
    rw [(emb_inNums k _).2]
    congr 4
    have hs := Shape.rowMajor_val_one (d := ![32]) (S32.rowMajor.symm (Fin.cast hn.symm (j gathers_S81920x128_S32x128.axis')))
    rw [show ((⟨1, ![32]⟩ : Shape).rowMajor (S32.rowMajor.symm (Fin.cast hn.symm (j gathers_S81920x128_S32x128.axis')))).val
      = (Fin.cast hn.symm (j gathers_S81920x128_S32x128.axis')).val from congrArg Fin.val (Equiv.apply_symm_apply _ _)] at hs
    exact Fin.ext (hs.symm.trans rfl)
  · have a1 := Shape.Gathers.idx_of_ne gathers_S81920x128_S32x128 (SparseCore.rows r hn hin) j (1 : Fin 2) (by decide)
    have e1 := (emb_yCol c hy (gathers_S81920x128_S32x128.idx (SparseCore.rows r hn hin) j)).2
    exact e1.trans (congrArg (c + ·) a1)

/-- The rest of the row half is as it was: together, 128 more columns are filled. -/
theorem mix_step_rest (i : grid0.Coords) (k c : ℕ) (hb) (f : S2x1x32x1024.Idx → Elt F .f32) :
    ∀ x ∈ (outSlot k).view.set \ (outCol k c hb).view.set, mix fi Y i k f c x = mix fi Y i k f (c + 128) x := by
  intro x hx
  obtain ⟨h1, h2⟩ := Finset.mem_sdiff.mp hx
  rw [mem_outSlot] at h1
  rw [mem_outCol] at h2
  unfold mix
  by_cases h : (x 3).val < c
  · rw [if_pos h, if_pos (by omega)]
  · rw [if_neg h, if_neg (by omega)]

theorem mix_step_col (i : grid0.Coords) (k c : ℕ) (hb) (f : S2x1x32x1024.Idx → Elt F .f32) :
    ∀ x ∈ (outCol k c hb).view.set, landedOut fi Y i k x = mix fi Y i k f (c + 128) x := by
  intro x hx
  rw [mem_outCol] at hx
  unfold mix
  rw [if_pos (by omega)]

end Contents

end Cert.KernelIdeal.Hand
-- ==== Proof.Steps.lean ====
/-
The six memory steps of the gather's loop, each as a rule over the windows of Views.lean: a fetch of a row of slots and its
wait, an indirect gather of 128 columns and its wait, a write-out of a block and its wait. A step's memrefs come with
equations, so the printed windows may be spelt by their own offset words.
-/
module

public import proofs.«01_k».proof.Proof.Setup

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section

variable (d : Dev nD) (i : grid0.Coords) (fi : S4x512x128.Idx → Elt F .i32) (Y : S81920x1024.Idx → Elt F .f32)

/-- The thread's program at a point, run to a postcondition. -/
abbrev WP {α : Type} (p : Prog (TpuEff nD τ sig (Elt F) Λ₀ (.scVector (cV i) (jV i))) α) (Q : α → sProp 𝕄) : sProp 𝕄 :=
  wp frame (wpE (defs₀ (F := F)) 𝒱₀ (Th d i) none) Set.univ p Q

/-! ## Deliveries -/

abbrev NIn : ℕ := (inSlot 0).view.dmaCredit
abbrev NOut (i : grid0.Coords) : ℕ := (outBlk i 0).view.dmaCredit
abbrev NCol : ℕ := (outCol 0 0 inb_S1x32x1024_S1x32x128_0_0_0).view.dmaCredit

/-- A fetch under way: it brings the index half of step `k`, and the row of slots it reads. -/
abbrev InFly (k : ℕ) (q : PosShare TreeShare) : sProp 𝕄 :=
  Transfers.Flight EC (Th d i) (.dma (inSem k)) (default : HIx 1) NIn
    iprop((aLoc d i ↦[(inSlot k).view.set]{fullShare} landedIn fi i k) ∗ (sLoc d ↦[(inRow i k).view.set]{q} fi))

/-- A write-out under way: it brings the block of the result, and the row half it reads. -/
abbrev OutFly (k : ℕ) : sProp 𝕄 :=
  Transfers.Flight EC (Th d i) (.dma (outSem k)) (default : HIx 1) (NOut i)
    iprop((oLoc d ↦[(outBlk i k).view.set]{fullShare} G fi Y) ∗ (bLoc d i ↦[(outSlot k).view.set]{fullShare} landedOut fi Y i k))

/-- The 128 columns from `c` on lie in the table, and in a row half. -/
abbrev YIn (c : ℕ) : Prop := ∀ a, (![0, c] : Fin 2 → ℕ) a + S81920x128.size a ≤ S81920x1024.size a
abbrev CIn (c : ℕ) : Prop := ∀ a, (![0, 0, c] : Fin 3 → ℕ) a + S1x32x128.size a ≤ S1x32x1024.size a

/-- A gather of the columns from `c` on under way, with what of the three buffers it left behind. -/
def ColFly (k c : ℕ) (hy : YIn c) (hb : CIn c) (q : PosShare TreeShare) (f : S2x1x32x1024.Idx → Elt F .f32) (sem : DmaSem sig) : sProp 𝕄 :=
  iprop(Transfers.Flight EC (Th d i) (.dma sem) (default : HIx 1) NCol
      iprop((bLoc d i ↦[(outCol k c hb).view.set]{fullShare} landedOut fi Y i k) ∗ (yLoc d ↦[(yCol c hy).view.set]{q} Y)
        ∗ (aLoc d i ↦[(inNums k).view.set]{fullShare} landedIn fi i k))
    ∗ (bLoc d i ↦[(outSlot k).view.set \ (outCol k c hb).view.set]{fullShare} mix fi Y i k f c)
    ∗ (yLoc d ↦[Finset.univ \ (yCol c hy).view.set]{q} Y)
    ∗ (aLoc d i ↦[(inSlot k).view.set \ (inNums k).view.set]{fullShare} landedIn fi i k))

/-- What a run of gathers in step `k` works on, `c` columns done. -/
def ColSt (k c : ℕ) (q : PosShare TreeShare) (f : S2x1x32x1024.Idx → Elt F .f32) : sProp 𝕄 :=
  iprop((bLoc d i ↦[(outSlot k).view.set]{fullShare} mix fi Y i k f c) ∗ (yLoc d ↦{q} Y)
    ∗ (aLoc d i ↦[(inSlot k).view.set]{fullShare} landedIn fi i k))

/-- What the thread owes, every wait it has recorded beyond `W` being on no call's cell. -/
def Ow (O : CellTallies nD τ sig (HIx 1)) (W : Waits sig (HIx 1)) : sProp 𝕄 :=
  iprop(∃ W', ⌜∀ p ∈ W', p ∈ W ∨ p.2 = none⌝ ∗ owes (Th d i) O W')

omit [FloatOps F] in
theorem Ow_insert {O : CellTallies nD τ sig (HIx 1)} {W W' : Waits sig (HIx 1)} (h : ∀ p ∈ W', p ∈ W ∨ p.2 = none) (s : SemLoc sig) :
    (owes (Th d i) O (insert (s, (default : HIx 1)) W') : sProp 𝕄) ⊢ Ow d i O W := by
  unfold Ow
  iintro HO
  iexists _; isplitr
  swap; · iexact HO
  ipureintro; intro p hp
  rcases Finset.mem_insert.mp hp with hp | hp
  · exact .inr (hp ▸ rfl)
  · exact h p hp

/-! ## Fetch -/

theorem fetch_step (k : ℕ) (q : PosShare TreeShare)
    {src : Memref sig .scVector .hbm S1x1x128 .i32} {dst : Memref sig .scVector .vmem S1x1x128 .i32} {sem : DmaSem sig}
    (hs : src = inRow i k) (hd : dst = inSlot k) (hm : sem = inSem k) {hsrc hdst hsem} {Q : PUnit → sProp 𝕄} :
    iprop((sLoc d ↦[(inRow i k).view.set]{q} fi) ∗ (∃ f, aLoc d i ↦[(inSlot k).view.set]{fullShare} f)
        ∗ semVal (Th d i, SemLoc.dma (inSem k)) 0)
      ⊢ iprop((InFly d i fi k q -∗ Q ⟨⟩)
        -∗ WP d i (Prog.lift (.enqueueDma src (.here dst) (.dma sem) hsrc hdst hsem)) Q) := by
  subst hs hd hm
  iintro ⟨Hs, ⟨%f, Hd⟩, Hv⟩ Hk
  iapply (Transfers.wp_dmaLocal EC 𝒱₀ (Th d i) none (default : HIx 1) NIn (rfl : (inSlot k).view.amount (.dma (inSem k)) = NIn)
    (View.dmaCredit_pos _ (by decide)) (Finset.Subset.refl _)) $$ [Hs Hd Hv]
  · isplitl [Hs]; · iexact Hs
    isplitl [Hd]; · iexact Hd
    iexact Hv
  iintro Hfl
  iapply le_wp_ret
  iapply Hk
  iapply (Transfers.Flight_mono EC (Th d i) ?_) $$ Hfl
  refine sep_mono_left (Entails.of_eq (pointsTo_congr ?_))
  exact write_in fi i k f _ fun j => rfl

theorem fetch_wait (k : ℕ) (q : PosShare TreeShare) {O : CellTallies nD τ sig (HIx 1)} {W : Waits sig (HIx 1)}
    {src : Memref sig .scVector .hbm S1x1x128 .i32} {dst : Memref sig .scVector .vmem S1x1x128 .i32} {sem : DmaSem sig}
    (hd : dst = inSlot k) (hm : sem = inSem k) {hsrc hdst} {Q : PUnit → sProp 𝕄} :
    iprop(InFly d i fi k q ∗ Ow d i O W ∗ Transfers.MayWaits (Th d i) (default : HIx 1) O)
      ⊢ iprop((iprop(((aLoc d i ↦[(inSlot k).view.set]{fullShare} landedIn fi i k) ∗ (sLoc d ↦[(inRow i k).view.set]{q} fi))
            ∗ semVal (Th d i, SemLoc.dma (inSem k)) 0 ∗ Ow d i O W) -∗ Q ⟨⟩)
        -∗ WP d i (Prog.lift (.waitDma2 sem src dst hsrc hdst)) Q) := by
  subst hd hm
  iintro ⟨Hf, HO, Hmw⟩ Hk
  unfold Ow
  icases HO with ⟨%W', %hW, HO⟩
  iapply (Transfers.wp_waitLocalO EC 𝒱₀ (Th d i) none (default : HIx 1) (rfl : (inSlot k).view.dmaCredit = NIn)) $$ [Hf HO Hmw]
  · isplitl [Hf]; · iexact Hf
    isplitl [HO]; · iexact HO
    iapply (Transfers.MayWaits.elim (SemLoc.dma (inSem k))) $$ Hmw
  iintro ⟨HD, Hv, HO⟩
  iapply le_wp_ret
  iapply Hk
  isplitl [HD]; · iexact HD
  isplitl [Hv]; · iexact Hv
  ihave HO := (Ow_insert d i hW _) $$ HO
  unfold Ow; iexact HO

/-! ## Write-out -/

theorem put_step (k : ℕ)
    {src : Memref sig .scVector .vmem S1x32x1024 .f32} {dst : Memref sig .scVector .hbm S1x32x1024 .f32} {sem : DmaSem sig}
    (hs : src = outSlot k) (hd : dst = outBlk i k) (hm : sem = outSem k) {hsrc hdst hsem} {Q : PUnit → sProp 𝕄} :
    iprop((bLoc d i ↦[(outSlot k).view.set]{fullShare} landedOut fi Y i k) ∗ (∃ f, oLoc d ↦[(outBlk i k).view.set]{fullShare} f)
        ∗ semVal (Th d i, SemLoc.dma (outSem k)) 0)
      ⊢ iprop((OutFly d i fi Y k -∗ Q ⟨⟩)
        -∗ WP d i (Prog.lift (.enqueueDma src (.here dst) (.dma sem) hsrc hdst hsem)) Q) := by
  subst hs hd hm
  iintro ⟨Hs, ⟨%f, Hd⟩, Hv⟩ Hk
  iapply (Transfers.wp_dmaLocal EC 𝒱₀ (Th d i) none (default : HIx 1) (NOut i) (rfl : (outBlk i k).view.amount (.dma (outSem k)) = NOut i)
    (View.dmaCredit_pos _ (by decide)) (Finset.Subset.refl _)) $$ [Hs Hd Hv]
  · isplitl [Hs]; · iexact Hs
    isplitl [Hd]; · iexact Hd
    iexact Hv
  iintro Hfl
  iapply le_wp_ret
  iapply Hk
  iapply (Transfers.Flight_mono EC (Th d i) ?_) $$ Hfl
  refine sep_mono_left (Entails.of_eq (pointsTo_congr ?_))
  exact write_out fi Y i k f _ fun j => rfl

theorem put_wait (k : ℕ) {O : CellTallies nD τ sig (HIx 1)} {W : Waits sig (HIx 1)}
    {src : Memref sig .scVector .vmem S1x32x1024 .f32} {dst : Memref sig .scVector .hbm S1x32x1024 .f32} {sem : DmaSem sig}
    (hd : dst = outBlk i k) (hm : sem = outSem k) {hsrc hdst} {Q : PUnit → sProp 𝕄} :
    iprop(OutFly d i fi Y k ∗ Ow d i O W ∗ Transfers.MayWaits (Th d i) (default : HIx 1) O)
      ⊢ iprop((iprop(((oLoc d ↦[(outBlk i k).view.set]{fullShare} G fi Y) ∗ (bLoc d i ↦[(outSlot k).view.set]{fullShare} landedOut fi Y i k))
            ∗ semVal (Th d i, SemLoc.dma (outSem k)) 0 ∗ Ow d i O W) -∗ Q ⟨⟩)
        -∗ WP d i (Prog.lift (.waitDma2 sem src dst hsrc hdst)) Q) := by
  subst hd hm
  iintro ⟨Hf, HO, Hmw⟩ Hk
  unfold Ow
  icases HO with ⟨%W', %hW, HO⟩
  iapply (Transfers.wp_waitLocalO EC 𝒱₀ (Th d i) none (default : HIx 1) (rfl : (outBlk i k).view.dmaCredit = NOut i)) $$ [Hf HO Hmw]
  · isplitl [Hf]; · iexact Hf
    isplitl [HO]; · iexact HO
    iapply (Transfers.MayWaits.elim (SemLoc.dma (outSem k))) $$ Hmw
  iintro ⟨HD, Hv, HO⟩
  iapply le_wp_ret
  iapply Hk
  isplitl [HD]; · iexact HD
  isplitl [Hv]; · iexact Hv
  ihave HO := (Ow_insert d i hW _) $$ HO
  unfold Ow; iexact HO

/-! ## Gather -/

omit [FloatOps F] in
/-- The rows of 128 columns are credited, together, as the 128 columns are. -/
theorem credit_rows (k c : ℕ) (hb : CIn c) (hg : S81920x128.Gathers 0 S32x128) :
    ∑ j, ((outCol k c hb).slice (S32x128.rowRect hg.axis' j) (S32x128.stride_rowRect hg.axis' j)).view.dmaCredit = NCol := by
  have e : ∀ j, ((outCol k c hb).slice (S32x128.rowRect hg.axis' j) (S32x128.stride_rowRect hg.axis' j)).view.dmaCredit
      = ((outCol 0 0 inb_S1x32x1024_S1x32x128_0_0_0).slice (S32x128.rowRect hg.axis' j) (S32x128.stride_rowRect hg.axis' j)).view.dmaCredit :=
    fun _ => rfl
  refine (Finset.sum_congr rfl fun j _ => e j).trans ?_
  clear e
  revert hg
  decide +kernel

theorem col_step (hfi : ∀ x, BitVec.toNat (w := 32) (fi x) < 81920) (k c : ℕ) (hy : YIn c) (hb : CIn c) (q : PosShare TreeShare) (f : S2x1x32x1024.Idx → Elt F .f32)
    {src : Memref sig .scVector .hbm S81920x128 .f32} {dst : Memref sig .scVector .vmem S32x128 .f32} {offs : Memref sig .scVector .vmem S32 .i32}
    {sem : DmaSem sig} (hs : src = yCol c hy) (hd : dst = outCol k c hb) (ho : offs = inNums k) {hp hn hsrc he hsp hr} {Q : PUnit → sProp 𝕄} :
    iprop(ColSt d i fi Y k c q f ∗ semVal (Th d i, SemLoc.dma sem) 0)
      ⊢ iprop((ColFly d i fi Y k c hy hb q f sem -∗ Q ⟨⟩)
        -∗ WP d i (SparseCore.enqueueIndirectGather hp src dst gathers_S81920x128_S32x128 offs hn sem hsrc he hsp hr) Q) := by
  subst hs hd ho
  unfold ColSt ColFly
  rw [← Prog.bind_pure (SparseCore.enqueueIndirectGather hp _ _ gathers_S81920x128_S32x128 _ hn sem hsrc he hsp hr)]
  iintro ⟨⟨Hb, Hy, Ha⟩, Hv⟩ Hk
  have sb : (outCol k c hb).view.set ⊆ (outSlot k).view.set := fun x hx => (mem_outSlot k x).mpr ((mem_outCol k c hb x).mp hx).1
  have sa : (inNums k).view.set ⊆ (inSlot k).view.set := fun x hx => by
    obtain ⟨j, -, rfl⟩ := Finset.mem_map.mp hx
    exact (mem_inSlot k _).mpr (emb_inNums k j).1
  ihave Hb := (pointsTo_split_subset (q := fullShare) sb).1 $$ Hb
  icases Hb with ⟨Hb, Hbr⟩
  ihave Ha := (pointsTo_split_subset (q := fullShare) sa).1 $$ Ha
  icases Ha with ⟨Ha, Har⟩
  ihave Hy := (pointsTo_split_subset (q := q) (Finset.subset_univ (yCol c hy).view.set)).1 $$ Hy
  icases Hy with ⟨Hy, Hyr⟩
  have hin : ∀ x, BitVec.toNat (w := 32) ((inNums k).view.read (Elt F) (landedIn fi i k) x) < S81920x128.size gathers_S81920x128_S32x128.axis :=
    fun x => hfi _
  iapply (SparseCore.wp_indirectGatherLocal EC 𝒱₀ (Th d i) none (hg := gathers_S81920x128_S32x128) (default : HIx 1) NCol
    (credit_rows k c hb _) (by decide) hin) $$ [Hy Hb Ha Hv]
  · isplitl [Hy]; · iexact Hy
    isplitl [Hb]; · iexact Hb
    isplitl [Ha]; · iexact Ha
    iexact Hv
  iintro Hfl
  iapply le_wp_ret
  iapply Hk
  isplitl [Hfl]
  · iapply (Transfers.Flight_mono EC (Th d i) ?_) $$ Hfl
    refine sep_mono_left (Entails.of_eq (pointsTo_congr ?_))
    exact write_col fi Y i k c hb hy f _ (fun j => rfl) _ (fun j => rfl) hn hin
  isplitl [Hbr]; · iexact Hbr
  isplitl [Hyr]; · iexact Hyr
  iexact Har

theorem col_wait (k c : ℕ) (hy : YIn c) (hb : CIn c) (q : PosShare TreeShare) (f : S2x1x32x1024.Idx → Elt F .f32)
    {O : CellTallies nD τ sig (HIx 1)} {W : Waits sig (HIx 1)}
    {src : Memref sig .scVector .hbm S81920x128 .f32} {dst : Memref sig .scVector .vmem S32x128 .f32}
    {sem : DmaSem sig} (hd : dst = outCol k c hb) {hsrc hdst} {Q : PUnit → sProp 𝕄} :
    iprop(ColFly d i fi Y k c hy hb q f sem ∗ Ow d i O W ∗ Transfers.MayWaits (Th d i) (default : HIx 1) O)
      ⊢ iprop((iprop((ColSt d i fi Y k (c + 128) q f ∗ semVal (Th d i, SemLoc.dma sem) 0)
            ∗ Ow d i O W) -∗ Q ⟨⟩)
        -∗ WP d i (SparseCore.waitIndirectGather sem src dst hsrc hdst) Q) := by
  subst hd
  unfold ColSt ColFly
  unfold SparseCore.waitIndirectGather
  have sb : (outCol k c hb).view.set ⊆ (outSlot k).view.set := fun x hx => (mem_outSlot k x).mpr ((mem_outCol k c hb x).mp hx).1
  have sa : (inNums k).view.set ⊆ (inSlot k).view.set := fun x hx => by
    obtain ⟨j, -, rfl⟩ := Finset.mem_map.mp hx
    exact (mem_inSlot k _).mpr (emb_inNums k j).1
  iintro ⟨⟨Hf, Hbr, Hyr, Har⟩, HO, Hmw⟩ Hk
  unfold Ow
  icases HO with ⟨%W', %hW, HO⟩
  iapply (Transfers.wp_waitLocalO EC 𝒱₀ (Th d i) none (default : HIx 1) (rfl : (outCol k c hb).view.dmaCredit = NCol)) $$ [Hf HO Hmw]
  · isplitl [Hf]; · iexact Hf
    isplitl [HO]; · iexact HO
    iapply (Transfers.MayWaits.elim (SemLoc.dma sem)) $$ Hmw
  iintro ⟨⟨Hb, Hy, Ha⟩, Hv, HO⟩
  iapply le_wp_ret
  iapply Hk
  isplitr [HO]
  · isplitr [Hv]
    · isplitl [Hb Hbr]
      · iapply (pointsTo_split_subset (q := fullShare) sb).2
        isplitl [Hb]
        · iapply (Entails.of_eq (pointsTo_congr (mix_step_col fi Y i k c hb f))); iexact Hb
        · iapply (Entails.of_eq (pointsTo_congr (mix_step_rest fi Y i k c hb f))); iexact Hbr
      isplitl [Hy Hyr]
      · iapply (pointsTo_split_subset (q := q) (Finset.subset_univ (yCol c hy).view.set)).2
        isplitl [Hy]; · iexact Hy
        iexact Hyr
      iapply (pointsTo_split_subset (q := fullShare) sa).2
      isplitl [Ha]; · iexact Ha
      iexact Har
    · iexact Hv
  · ihave HO := (Ow_insert d i hW _) $$ HO
    unfold Ow; iexact HO

end

end Cert.KernelIdeal.Hand
-- ==== Proof.Gathers.lean ====
/-
The eight indirect gathers of a step, 128 columns each, as the six printed pieces of the loop's body that issue and await
them: a row half with `c` columns filled goes in, one with 128 or 256 more comes out.
-/
module

public import proofs.«01_k».proof.Proof.Steps

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The printed windows, by their offsets -/

theorem inSlot_of {k : ℕ} {off : Fin 4 → ℕ} (h : off = ![k % 2, 0, 0, 0]) (inb : ∀ a, off a + S1x1x1x128.size a ≤ S2x1x1x128.size a) :
    (aV.slice (Rect.unit (s := S2x1x1x128) off S1x1x1x128.size inb) (fun _ => rfl)).squeeze S1x1x128 squeezes_S1x1x1x128_S1x1x128 = inSlot k := by
  subst h; rfl
theorem inNums_of {k : ℕ} {off : Fin 4 → ℕ} (h : off = ![k % 2, 0, 0, 0]) (inb : ∀ a, off a + S1x1x1x128.size a ≤ S2x1x1x128.size a) :
    (((aV.slice (Rect.unit (s := S2x1x1x128) off S1x1x1x128.size inb) (fun _ => rfl)).squeeze S1x1x128 squeezes_S1x1x1x128_S1x1x128).slice
      (Rect.unit (s := S1x1x128) ![0, 0, 0] S1x1x32.size inb_S1x1x128_S1x1x32_0_0_0) (fun _ => rfl)).squeeze S32 squeezes_S1x1x32_S32 = inNums k := by
  subst h; rfl
theorem outSlot_of {k : ℕ} {off : Fin 4 → ℕ} (h : off = ![k % 2, 0, 0, 0]) (inb : ∀ a, off a + S1x1x32x1024.size a ≤ S2x1x32x1024.size a) :
    (bV.slice (Rect.unit (s := S2x1x32x1024) off S1x1x32x1024.size inb) (fun _ => rfl)).squeeze S1x32x1024 squeezes_S1x1x32x1024_S1x32x1024 = outSlot k := by
  subst h; rfl
theorem outCol_of {k c : ℕ} {off : Fin 4 → ℕ} (h : off = ![k % 2, 0, 0, 0]) (inb : ∀ a, off a + S1x1x32x1024.size a ≤ S2x1x32x1024.size a) (hb : CIn c) :
    (((bV.slice (Rect.unit (s := S2x1x32x1024) off S1x1x32x1024.size inb) (fun _ => rfl)).squeeze S1x32x1024 squeezes_S1x1x32x1024_S1x32x1024).slice
      (Rect.unit (s := S1x32x1024) ![0, 0, c] S1x32x128.size hb) (fun _ => rfl)).squeeze S32x128 squeezes_S1x32x128_S32x128 = outCol k c hb := by
  subst h; rfl
theorem inRow_of {i : grid0.Coords} {k : ℕ} {off : Fin 3 → ℕ} (h : off = ![k / 16 % 4, 16 * (i 1).val + 256 * (i 0).val + k % 16, 0])
    (inb : ∀ a, off a + S1x1x128.size a ≤ S4x512x128.size a) :
    sV.slice (Rect.unit (s := S4x512x128) off S1x1x128.size inb) (fun _ => rfl) = inRow i k := by
  subst h; rfl
theorem outBlk_of {i : grid0.Coords} {k : ℕ} {off : Fin 3 → ℕ} (h : off = ![k / 16 % 4, 32 * (16 * (i 1).val + 256 * (i 0).val + k % 16), 0])
    (inb : ∀ a, off a + S1x32x1024.size a ≤ S4x16384x1024.size a) :
    oV.slice (Rect.unit (s := S4x16384x1024) off S1x32x1024.size inb) (fun _ => rfl) = outBlk i k := by
  subst h; rfl
theorem inSem_of {k : ℕ} {off : Fin 1 → ℕ} (h : off = ![k % 2]) (inb : ∀ a, off a + S1.size a ≤ S2.size a) :
    ((cc0_scoped1.slice (Rect.unit (s := S2) off S1.size inb)).squeeze S_ squeezes_S1_S_).sem = inSem k := by
  subst h; rfl
theorem outSem_of {k : ℕ} {off : Fin 1 → ℕ} (h : off = ![k % 2]) (inb : ∀ a, off a + S1.size a ≤ S2.size a) :
    ((cc0_scoped3.slice (Rect.unit (s := S2) off S1.size inb)).squeeze S_ squeezes_S1_S_).sem = outSem k := by
  subst h; rfl

section

variable (d : Dev nD) (i : grid0.Coords) (fi : S4x512x128.Idx → Elt F .i32) (Y : S81920x1024.Idx → Elt F .f32)
variable (s5 s6 : DmaSems sig S2) (g1 g2 g3 g4 g5 g6 g7 g8 : DmaSems sig S_)
variable (hfi : ∀ x, BitVec.toNat (w := 32) (fi x) < 81920) (k : Fin k0_t1_loop.trips) (h3 : k0_chk3 (wAt k)) (h2 : k0_chk2 (wAt k))
variable (q : PosShare TreeShare) (f : S2x1x32x1024.Idx → Elt F .f32) (O : CellTallies nD τ sig (HIx 1)) (W : Waits sig (HIx 1))

include hfi in
theorem part3_run {Q : PUnit → sProp 𝕄} :
    iprop(ColSt d i fi Y k 0 q f ∗ semVal (Th d i, SemLoc.dma g1.sem) 0 ∗ Ow d i O W ∗ Transfers.MayWaits (Th d i) (default : HIx 1) O)
      ⊢ iprop((iprop(ColSt d i fi Y k 128 q f ∗ semVal (Th d i, SemLoc.dma g1.sem) 0 ∗ Ow d i O W) -∗ Q ⟨⟩)
        -∗ WP d i (k0_part3 i yV (Memref.isWhole_whole _) sV (Memref.isWhole_whole _) oV (Memref.isWhole_whole _) aV (Memref.isWhole_whole _) s5 bV (Memref.isWhole_whole _) s6 g1 g2 g3 g4 g5 g6 g7 g8 (wAt k) (wAt k) h3 h2) Q) := by
  rw [k0_part3_eq_skeleton]; unfold k0_part3_skel
  simp only [wp_bind, wp_pure]
  iintro ⟨H, Hv1, HO, #Hmw⟩ Hk
  iapply (col_step d i fi Y hfi k 0 inb_S81920x1024_S81920x128_0_0 inb_S1x32x1024_S1x32x128_0_0_0 q f (sem := g1.sem) rfl
    (outCol_of (off10_at k) (k0_off10_inb (wAt k) h2) inb_S1x32x1024_S1x32x128_0_0_0) (inNums_of (off11_at k) (k0_off11_inb (wAt k) h3))) $$ [H Hv1]
  · isplitl [H]; · iexact H
    iexact Hv1
  iintro H
  iapply (col_wait d i fi Y k 0 inb_S81920x1024_S81920x128_0_0 inb_S1x32x1024_S1x32x128_0_0_0 q f (O := O) (W := W) (sem := g1.sem)
    (outCol_of (off10_at k) (k0_off10_inb (wAt k) h2) inb_S1x32x1024_S1x32x128_0_0_0)) $$ [H HO]
  · isplitl [H]; · iexact H
    isplitl [HO]; · iexact HO
    iexact Hmw
  iintro ⟨⟨H, Hv1⟩, HO⟩
  imodintro
  iapply Hk
  isplitl [H]; · iexact H
  isplitl [Hv1]; · iexact Hv1
  iexact HO

include hfi in
theorem part4_run {Q : PUnit → sProp 𝕄} :
    iprop(ColSt d i fi Y k 128 q f ∗ semVal (Th d i, SemLoc.dma g2.sem) 0 ∗ semVal (Th d i, SemLoc.dma g3.sem) 0 ∗ Ow d i O W ∗ Transfers.MayWaits (Th d i) (default : HIx 1) O)
      ⊢ iprop((iprop(ColFly d i fi Y k 256 inb_S81920x1024_S81920x128_0_256 inb_S1x32x1024_S1x32x128_0_0_256 q f g3.sem ∗ semVal (Th d i, SemLoc.dma g2.sem) 0 ∗ Ow d i O W) -∗ Q ⟨⟩)
        -∗ WP d i (k0_part4 i yV (Memref.isWhole_whole _) sV (Memref.isWhole_whole _) oV (Memref.isWhole_whole _) aV (Memref.isWhole_whole _) s5 bV (Memref.isWhole_whole _) s6 g1 g2 g3 g4 g5 g6 g7 g8 (wAt k) (wAt k) h3 h2) Q) := by
  rw [k0_part4_eq_skeleton]; unfold k0_part4_skel
  simp only [wp_bind, wp_pure]
  iintro ⟨H, Hv2, Hv3, HO, #Hmw⟩ Hk
  iapply (col_step d i fi Y hfi k 128 inb_S81920x1024_S81920x128_0_128 inb_S1x32x1024_S1x32x128_0_0_128 q f (sem := g2.sem) rfl
    (outCol_of (off10_at k) (k0_off10_inb (wAt k) h2) inb_S1x32x1024_S1x32x128_0_0_128) (inNums_of (off11_at k) (k0_off11_inb (wAt k) h3))) $$ [H Hv2]
  · isplitl [H]; · iexact H
    iexact Hv2
  iintro H
  iapply (col_wait d i fi Y k 128 inb_S81920x1024_S81920x128_0_128 inb_S1x32x1024_S1x32x128_0_0_128 q f (O := O) (W := W) (sem := g2.sem)
    (outCol_of (off10_at k) (k0_off10_inb (wAt k) h2) inb_S1x32x1024_S1x32x128_0_0_128)) $$ [H HO]
  · isplitl [H]; · iexact H
    isplitl [HO]; · iexact HO
    iexact Hmw
  iintro ⟨⟨H, Hv2⟩, HO⟩
  iapply (col_step d i fi Y hfi k 256 inb_S81920x1024_S81920x128_0_256 inb_S1x32x1024_S1x32x128_0_0_256 q f (sem := g3.sem) rfl
    (outCol_of (off10_at k) (k0_off10_inb (wAt k) h2) inb_S1x32x1024_S1x32x128_0_0_256) (inNums_of (off11_at k) (k0_off11_inb (wAt k) h3))) $$ [H Hv3]
  · isplitl [H]; · iexact H
    iexact Hv3
  iintro H
  imodintro
  iapply Hk
  isplitl [H]; · iexact H
  isplitl [Hv2]; · iexact Hv2
  iexact HO

include hfi in
theorem part5_run {Q : PUnit → sProp 𝕄} :
    iprop(ColFly d i fi Y k 256 inb_S81920x1024_S81920x128_0_256 inb_S1x32x1024_S1x32x128_0_0_256 q f g3.sem ∗ semVal (Th d i, SemLoc.dma g4.sem) 0 ∗ Ow d i O W ∗ Transfers.MayWaits (Th d i) (default : HIx 1) O)
      ⊢ iprop((iprop(ColSt d i fi Y k 512 q f ∗ semVal (Th d i, SemLoc.dma g3.sem) 0 ∗ semVal (Th d i, SemLoc.dma g4.sem) 0 ∗ Ow d i O W) -∗ Q ⟨⟩)
        -∗ WP d i (k0_part5 i yV (Memref.isWhole_whole _) sV (Memref.isWhole_whole _) oV (Memref.isWhole_whole _) aV (Memref.isWhole_whole _) s5 bV (Memref.isWhole_whole _) s6 g1 g2 g3 g4 g5 g6 g7 g8 (wAt k) (wAt k) h3 h2) Q) := by
  rw [k0_part5_eq_skeleton]; unfold k0_part5_skel
  simp only [wp_bind, wp_pure]
  iintro ⟨H, Hv4, HO, #Hmw⟩ Hk
  iapply (col_wait d i fi Y k 256 inb_S81920x1024_S81920x128_0_256 inb_S1x32x1024_S1x32x128_0_0_256 q f (O := O) (W := W) (sem := g3.sem)
    (outCol_of (off10_at k) (k0_off10_inb (wAt k) h2) inb_S1x32x1024_S1x32x128_0_0_256)) $$ [H HO]
  · isplitl [H]; · iexact H
    isplitl [HO]; · iexact HO
    iexact Hmw
  iintro ⟨⟨H, Hv3⟩, HO⟩
  iapply (col_step d i fi Y hfi k 384 inb_S81920x1024_S81920x128_0_384 inb_S1x32x1024_S1x32x128_0_0_384 q f (sem := g4.sem) rfl
    (outCol_of (off10_at k) (k0_off10_inb (wAt k) h2) inb_S1x32x1024_S1x32x128_0_0_384) (inNums_of (off11_at k) (k0_off11_inb (wAt k) h3))) $$ [H Hv4]
  · isplitl [H]; · iexact H
    iexact Hv4
  iintro H
  iapply (col_wait d i fi Y k 384 inb_S81920x1024_S81920x128_0_384 inb_S1x32x1024_S1x32x128_0_0_384 q f (O := O) (W := W) (sem := g4.sem)
    (outCol_of (off10_at k) (k0_off10_inb (wAt k) h2) inb_S1x32x1024_S1x32x128_0_0_384)) $$ [H HO]
  · isplitl [H]; · iexact H
    isplitl [HO]; · iexact HO
    iexact Hmw
  iintro ⟨⟨H, Hv4⟩, HO⟩
  imodintro
  iapply Hk
  isplitl [H]; · iexact H
  isplitl [Hv3]; · iexact Hv3
  isplitl [Hv4]; · iexact Hv4
  iexact HO

include hfi in
theorem part6_run {Q : PUnit → sProp 𝕄} :
    iprop(ColSt d i fi Y k 512 q f ∗ semVal (Th d i, SemLoc.dma g5.sem) 0 ∗ Ow d i O W ∗ Transfers.MayWaits (Th d i) (default : HIx 1) O)
      ⊢ iprop((iprop(ColSt d i fi Y k 640 q f ∗ semVal (Th d i, SemLoc.dma g5.sem) 0 ∗ Ow d i O W) -∗ Q ⟨⟩)
        -∗ WP d i (k0_part6 i yV (Memref.isWhole_whole _) sV (Memref.isWhole_whole _) oV (Memref.isWhole_whole _) aV (Memref.isWhole_whole _) s5 bV (Memref.isWhole_whole _) s6 g1 g2 g3 g4 g5 g6 g7 g8 (wAt k) (wAt k) h3 h2) Q) := by
  rw [k0_part6_eq_skeleton]; unfold k0_part6_skel
  simp only [wp_bind, wp_pure]
  iintro ⟨H, Hv5, HO, #Hmw⟩ Hk
  iapply (col_step d i fi Y hfi k 512 inb_S81920x1024_S81920x128_0_512 inb_S1x32x1024_S1x32x128_0_0_512 q f (sem := g5.sem) rfl
    (outCol_of (off10_at k) (k0_off10_inb (wAt k) h2) inb_S1x32x1024_S1x32x128_0_0_512) (inNums_of (off11_at k) (k0_off11_inb (wAt k) h3))) $$ [H Hv5]
  · isplitl [H]; · iexact H
    iexact Hv5
  iintro H
  iapply (col_wait d i fi Y k 512 inb_S81920x1024_S81920x128_0_512 inb_S1x32x1024_S1x32x128_0_0_512 q f (O := O) (W := W) (sem := g5.sem)
    (outCol_of (off10_at k) (k0_off10_inb (wAt k) h2) inb_S1x32x1024_S1x32x128_0_0_512)) $$ [H HO]
  · isplitl [H]; · iexact H
    isplitl [HO]; · iexact HO
    iexact Hmw
  iintro ⟨⟨H, Hv5⟩, HO⟩
  imodintro
  iapply Hk
  isplitl [H]; · iexact H
  isplitl [Hv5]; · iexact Hv5
  iexact HO

include hfi in
theorem part7_run {Q : PUnit → sProp 𝕄} :
    iprop(ColSt d i fi Y k 640 q f ∗ semVal (Th d i, SemLoc.dma g6.sem) 0 ∗ semVal (Th d i, SemLoc.dma g7.sem) 0 ∗ Ow d i O W ∗ Transfers.MayWaits (Th d i) (default : HIx 1) O)
      ⊢ iprop((iprop(ColFly d i fi Y k 768 inb_S81920x1024_S81920x128_0_768 inb_S1x32x1024_S1x32x128_0_0_768 q f g7.sem ∗ semVal (Th d i, SemLoc.dma g6.sem) 0 ∗ Ow d i O W) -∗ Q ⟨⟩)
        -∗ WP d i (k0_part7 i yV (Memref.isWhole_whole _) sV (Memref.isWhole_whole _) oV (Memref.isWhole_whole _) aV (Memref.isWhole_whole _) s5 bV (Memref.isWhole_whole _) s6 g1 g2 g3 g4 g5 g6 g7 g8 (wAt k) (wAt k) h3 h2) Q) := by
  rw [k0_part7_eq_skeleton]; unfold k0_part7_skel
  simp only [wp_bind, wp_pure]
  iintro ⟨H, Hv6, Hv7, HO, #Hmw⟩ Hk
  iapply (col_step d i fi Y hfi k 640 inb_S81920x1024_S81920x128_0_640 inb_S1x32x1024_S1x32x128_0_0_640 q f (sem := g6.sem) rfl
    (outCol_of (off10_at k) (k0_off10_inb (wAt k) h2) inb_S1x32x1024_S1x32x128_0_0_640) (inNums_of (off11_at k) (k0_off11_inb (wAt k) h3))) $$ [H Hv6]
  · isplitl [H]; · iexact H
    iexact Hv6
  iintro H
  iapply (col_wait d i fi Y k 640 inb_S81920x1024_S81920x128_0_640 inb_S1x32x1024_S1x32x128_0_0_640 q f (O := O) (W := W) (sem := g6.sem)
    (outCol_of (off10_at k) (k0_off10_inb (wAt k) h2) inb_S1x32x1024_S1x32x128_0_0_640)) $$ [H HO]
  · isplitl [H]; · iexact H
    isplitl [HO]; · iexact HO
    iexact Hmw
  iintro ⟨⟨H, Hv6⟩, HO⟩
  iapply (col_step d i fi Y hfi k 768 inb_S81920x1024_S81920x128_0_768 inb_S1x32x1024_S1x32x128_0_0_768 q f (sem := g7.sem) rfl
    (outCol_of (off10_at k) (k0_off10_inb (wAt k) h2) inb_S1x32x1024_S1x32x128_0_0_768) (inNums_of (off11_at k) (k0_off11_inb (wAt k) h3))) $$ [H Hv7]
  · isplitl [H]; · iexact H
    iexact Hv7
  iintro H
  imodintro
  iapply Hk
  isplitl [H]; · iexact H
  isplitl [Hv6]; · iexact Hv6
  iexact HO

include hfi in
theorem part8_run {v100 v101 v120 v121 : BitVec 32} {Q : (Σ' (_ : BitVec 1), BitVec 1) → sProp 𝕄} :
    iprop(ColFly d i fi Y k 768 inb_S81920x1024_S81920x128_0_768 inb_S1x32x1024_S1x32x128_0_0_768 q f g7.sem ∗ semVal (Th d i, SemLoc.dma g8.sem) 0 ∗ Ow d i O W ∗ Transfers.MayWaits (Th d i) (default : HIx 1) O)
      ⊢ iprop((iprop(ColSt d i fi Y k 1024 q f ∗ semVal (Th d i, SemLoc.dma g7.sem) 0 ∗ semVal (Th d i, SemLoc.dma g8.sem) 0 ∗ Ow d i O W) -∗ Q ⟨Scalar.cmpi .ne v100 v120, Scalar.cmpi .ne v101 v121⟩)
        -∗ WP d i (k0_part8 i yV (Memref.isWhole_whole _) sV (Memref.isWhole_whole _) oV (Memref.isWhole_whole _) aV (Memref.isWhole_whole _) s5 bV (Memref.isWhole_whole _) s6 g1 g2 g3 g4 g5 g6 g7 g8 (wAt k) (wAt k) h3 h2 v100 v101 v120 v121) Q) := by
  rw [k0_part8_eq_skeleton]; unfold k0_part8_skel
  simp only [wp_bind, wp_pure]
  iintro ⟨H, Hv8, HO, #Hmw⟩ Hk
  iapply (col_wait d i fi Y k 768 inb_S81920x1024_S81920x128_0_768 inb_S1x32x1024_S1x32x128_0_0_768 q f (O := O) (W := W) (sem := g7.sem)
    (outCol_of (off10_at k) (k0_off10_inb (wAt k) h2) inb_S1x32x1024_S1x32x128_0_0_768)) $$ [H HO]
  · isplitl [H]; · iexact H
    isplitl [HO]; · iexact HO
    iexact Hmw
  iintro ⟨⟨H, Hv7⟩, HO⟩
  iapply (col_step d i fi Y hfi k 896 inb_S81920x1024_S81920x128_0_896 inb_S1x32x1024_S1x32x128_0_0_896 q f (sem := g8.sem) rfl
    (outCol_of (off10_at k) (k0_off10_inb (wAt k) h2) inb_S1x32x1024_S1x32x128_0_0_896) (inNums_of (off11_at k) (k0_off11_inb (wAt k) h3))) $$ [H Hv8]
  · isplitl [H]; · iexact H
    iexact Hv8
  iintro H
  iapply (col_wait d i fi Y k 896 inb_S81920x1024_S81920x128_0_896 inb_S1x32x1024_S1x32x128_0_0_896 q f (O := O) (W := W) (sem := g8.sem)
    (outCol_of (off10_at k) (k0_off10_inb (wAt k) h2) inb_S1x32x1024_S1x32x128_0_0_896)) $$ [H HO]
  · isplitl [H]; · iexact H
    isplitl [HO]; · iexact HO
    iexact Hmw
  iintro ⟨⟨H, Hv8⟩, HO⟩
  imodintro
  iapply Hk
  isplitl [H]; · iexact H
  isplitl [Hv7]; · iexact Hv7
  isplitl [Hv8]; · iexact Hv8
  iexact HO

end

end Cert.KernelIdeal.Hand
-- ==== Proof.Trip.lean ====
/-
A step's fetch of the next index row and wait for its own, and its write-out of the gathered block and wait for the last one:
the two printed pieces of the loop's body around the gathers. In step `k` the row `k + 1` is asked for (but in the last step),
the block `k - 1` waited for (but in the first).
-/
module

public import proofs.«01_k».proof.Proof.Gathers

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section

variable (d : Dev nD) (i : grid0.Coords) (fi : S4x512x128.Idx → Elt F .i32) (Y : S81920x1024.Idx → Elt F .f32)
variable (g1 g2 g3 g4 g5 g6 g7 g8 : DmaSems sig S_)
variable (k : Fin k0_t1_loop.trips)
variable (q : PosShare TreeShare) (O : CellTallies nD τ sig (HIx 1)) (W : Waits sig (HIx 1))

theorem assume_step {P : Prop} {dP : Decidable P} (h : P) {Q : PLift P → sProp 𝕄} :
    Q ⟨h⟩ ⊢ WP (F := F) d i (Prog.lift (.assume P dP)) Q :=
  (le_wp_ret _ _ _ _ _).trans (wp_assume _ _ _ _ h)

/-! ## The cells of the windows -/

/-- The cells of the half of the index buffer that step `k` uses. -/
abbrev inSlotS (k : ℕ) : Finset S2x1x1x128.Idx := (inSlot k).view.set

/-- The cells of the half of the block buffer that step `k` uses. -/
abbrev outSlotS (k : ℕ) : Finset S2x1x32x1024.Idx := (outSlot k).view.set

theorem inSlotS_congr {k k' : ℕ} (h : k % 2 = k' % 2) : inSlotS k = inSlotS k' := by
  ext x; show x ∈ (inSlot k).view.set ↔ x ∈ (inSlot k').view.set
  rw [mem_inSlot, mem_inSlot, h]

theorem outSlotS_congr {k k' : ℕ} (h : k % 2 = k' % 2) : outSlotS k = outSlotS k' := by
  ext x; show x ∈ (outSlot k).view.set ↔ x ∈ (outSlot k').view.set
  rw [mem_outSlot, mem_outSlot, h]

/-- The cells of step `k`'s row of slots. -/
abbrev inRowS (k : ℕ) : Finset S4x512x128.Idx := (inRow i k).view.set

/-- The cells of step `k`'s block of the result. -/
abbrev outBlkS (k : ℕ) : Finset S4x16384x1024.Idx := (outBlk i k).view.set

/-! ## The index rows -/

/-- The row of slots in flight before step `k`. -/
def inFl (k : ℕ) : Finset S4x512x128.Idx := if k < 64 then (inRowS i k) else ∅

/-- Before step `k` its fetch is under way; after the last step that half lies free. -/
def InPart (k : ℕ) (q : PosShare TreeShare) : sProp 𝕄 :=
  if k < 64 then InFly d i fi k q
  else iprop((∃ f, aLoc d i ↦[(inSlotS k)]{fullShare} f) ∗ semVal (Th d i, SemLoc.dma (inSem k)) 0)

omit [FloatOps F] in
theorem inRow_disjoint {k : ℕ} (h : k + 1 < 64) : Disjoint (inRowS i (k + 1)) (inRowS i k) := by
  rw [Finset.disjoint_left]
  intro x hx hx'
  rw [mem_inRow] at hx hx'
  omega

theorem part2_run (h1 : k0_chk1 i k (wIn k) (wAt k) (wAt k) (wOut k) (wHi k) (wLo k))
    {v4 arg5 v100 v101 v110 v111 v120 v121 v125 v127 : BitVec 32} {v98 v128 : BitVec 1} {Q : BitVec 32 → sProp 𝕄} :
    iprop(InFly d i fi k q ∗ (sLoc d ↦[Finset.univ \ (inRowS i k)]{q} fi) ∗ (∃ f, aLoc d i ↦[(inSlotS (k.val + 1))]{fullShare} f)
        ∗ semVal (Th d i, SemLoc.dma (inSem (k.val + 1))) 0 ∗ Ow d i O W ∗ Transfers.MayWaits (Th d i) (default : HIx 1) O)
      ⊢ iprop((iprop(InPart d i fi (k.val + 1) q ∗ (sLoc d ↦[Finset.univ \ inFl i (k.val + 1)]{q} fi)
            ∗ (aLoc d i ↦[(inSlotS k.val)]{fullShare} landedIn fi i k) ∗ semVal (Th d i, SemLoc.dma (inSem k)) 0 ∗ Ow d i O W)
          -∗ Q (Scalar.select (Scalar.andi (Scalar.andi (Scalar.ori (Scalar.cmpi .ne v100 v120) (Scalar.cmpi .ne v101 v121))
              (Scalar.xori (Scalar.cmpi .sge arg5 63#32) 1#1)) 1#1) (Scalar.addi (wIn k) 1#32) (wIn k)))
        -∗ WP d i (k0_part2 i yV (Memref.isWhole_whole _) sV (Memref.isWhole_whole _) oV (Memref.isWhole_whole _) aV (Memref.isWhole_whole _) cc0_scoped1 bV (Memref.isWhole_whole _) cc0_scoped3 g1 g2 g3 g4 g5 g6 g7 g8 v4 k (wIn k) (wAt k) (wAt k) (wOut k) (wHi k) (wLo k) h1 arg5 v98
            v100 v101 v110 v111 v120 v121 v125 v127 v128) Q) := by
  have hk : k.val < 64 := k.isLt
  rw [k0_part2_eq_skeleton]; unfold k0_part2_skel
  simp only [wp_bind, wp_pure, ite_self]
  iintro ⟨Hf, Hs, Ha, Hv, HO, #Hmw⟩ Hk
  by_cases h : k.val < 63
  · rw [dif_pos (cond1_lt i k h), dif_pos (cond2_all i k)]
    simp only [wp_bind, wp_pure]
    have hsub : (inRowS i (k.val + 1)) ⊆ Finset.univ \ (inRowS i k) := fun x hx =>
      Finset.mem_sdiff.mpr ⟨Finset.mem_univ _, Finset.disjoint_left.mp (inRow_disjoint i (by omega)) hx⟩
    ihave Hs := (pointsTo_split_subset (q := q) hsub).1 $$ Hs
    icases Hs with ⟨Hs, Hsr⟩
    iapply (fetch_step d i fi (k.val + 1) q (inRow_of (off5_at i k h) (k0_off5_inb i k (wIn k) (wAt k) (wAt k) (wOut k) (wHi k) (wLo k) h1 (cond1_lt i k h)))
      (inSlot_of (off4_at k h) (k0_off4_inb i k (wIn k) (wAt k) (wAt k) (wOut k) (wHi k) (wLo k) h1 (cond1_lt i k h)))
      (inSem_of (off6_at k h) (k0_off6_inb i k (wIn k) (wAt k) (wAt k) (wOut k) (wHi k) (wLo k) h1 (cond1_lt i k h)))) $$ [Hs Ha Hv]
    · isplitl [Hs]; · iexact Hs
      isplitl [Ha]; · iexact Ha
      iexact Hv
    iintro Hg
    iapply (fetch_wait d i fi k q (O := O) (W := W)
      (inSlot_of (off7_at k) (k0_off7_inb i k (wIn k) (wAt k) (wAt k) (wOut k) (wHi k) (wLo k) h1 (cond2_all i k)))
      (inSem_of (off9_at k) (k0_off9_inb i k (wIn k) (wAt k) (wAt k) (wOut k) (wHi k) (wLo k) h1 (cond2_all i k)))) $$ [Hf HO]
    · isplitl [Hf]; · iexact Hf
      isplitl [HO]; · iexact HO
      iexact Hmw
    iintro ⟨⟨Ha, Hs⟩, Hv, HO⟩
    imodintro
    iapply Hk
    isplitl [Hg]
    · unfold InPart; rw [if_pos (by omega)]; iexact Hg
    isplitl [Hs Hsr]
    · unfold inFl; rw [if_pos (by omega)]
      have hsub' : (inRowS i k) ⊆ Finset.univ \ (inRowS i (k.val + 1)) := fun x hx =>
        Finset.mem_sdiff.mpr ⟨Finset.mem_univ _, Finset.disjoint_right.mp (inRow_disjoint i (by omega)) hx⟩
      iapply (pointsTo_split_subset (q := q) hsub').2
      isplitl [Hs]; · iexact Hs
      rw [sdiff_right_comm]; iexact Hsr
    isplitl [Ha]; · iexact Ha
    isplitl [Hv]; · iexact Hv
    iexact HO
  · rw [dif_neg (cond1_last i k h), dif_pos (cond2_all i k)]
    simp only [wp_bind, wp_pure]
    iapply (fetch_wait d i fi k q (O := O) (W := W)
      (inSlot_of (off7_at k) (k0_off7_inb i k (wIn k) (wAt k) (wAt k) (wOut k) (wHi k) (wLo k) h1 (cond2_all i k)))
      (inSem_of (off9_at k) (k0_off9_inb i k (wIn k) (wAt k) (wAt k) (wOut k) (wHi k) (wLo k) h1 (cond2_all i k)))) $$ [Hf HO]
    · isplitl [Hf]; · iexact Hf
      isplitl [HO]; · iexact HO
      iexact Hmw
    iintro ⟨⟨Hb, Hrow⟩, Hw, HO⟩
    imodintro
    iapply Hk
    isplitl [Ha Hv]
    · unfold InPart; rw [if_neg (by omega)]
      isplitl [Ha]; · iexact Ha
      iexact Hv
    isplitl [Hs Hrow]
    · unfold inFl; rw [if_neg (by omega), Finset.sdiff_empty]
      iapply (pointsTo_split_subset (q := q) (Finset.subset_univ (inRowS i k))).2
      isplitl [Hrow]; · iexact Hrow
      iexact Hs
    isplitl [Hb]; · iexact Hb
    isplitl [Hw]; · iexact Hw
    iexact HO

/-! ## The blocks of the result -/

/-- The tile's part of the result: rows `512 w` to `512 w + 511` of each of its four planes. -/
def tileSet : Finset S4x16384x1024.Idx := Finset.univ.filter fun x => base i ≤ (x 1).val / 32 ∧ (x 1).val / 32 < base i + 16

theorem mem_tileSet (x : S4x16384x1024.Idx) : x ∈ tileSet i ↔ base i ≤ (x 1).val / 32 ∧ (x 1).val / 32 < base i + 16 := by
  simp [tileSet]

/-- The block in flight before step `k`. -/
def outFl : ℕ → Finset S4x16384x1024.Idx
  | 0 => ∅
  | k + 1 => (outBlkS i k)

/-- The result with the blocks of the first `n` steps written. -/
def mixO (m0 : S4x16384x1024.Idx → Elt F .f32) (n : ℕ) : S4x16384x1024.Idx → Elt F .f32 := fun x =>
  if 16 * (x 0).val + ((x 1).val / 32 - base i) < n then G fi Y x else m0 x

/-- Before step `k` the write-out of the step before is under way; before the first, its half lies free. -/
def OutPart : ℕ → sProp 𝕄
  | 0 => iprop((∃ f, bLoc d i ↦[(outSlotS 1)]{fullShare} f) ∗ semVal (Th d i, SemLoc.dma (outSem 1)) 0)
  | k + 1 => OutFly d i fi Y k

omit [FloatOps F] in
theorem OutPart_zero : OutPart d i fi Y 0
    = iprop((∃ f, bLoc d i ↦[(outSlotS 1)]{fullShare} f) ∗ semVal (Th d i, SemLoc.dma (outSem 1)) 0) := by unfold OutPart; rfl

omit [FloatOps F] in
theorem OutPart_succ (k : ℕ) : OutFly d i fi Y k = OutPart d i fi Y (k + 1) := by
  conv => rhs; unfold OutPart

omit [FloatOps F] in
theorem outBlk_sub {k : ℕ} (h : k < 64) : (outBlkS i k) ⊆ tileSet i \ outFl i k := by
  intro x hx
  rw [mem_outBlk] at hx
  refine Finset.mem_sdiff.mpr ⟨(mem_tileSet i x).mpr (by omega), ?_⟩
  match k, h with
  | 0, _ => exact Finset.notMem_empty _
  | k + 1, h =>
    show ¬ x ∈ (outBlkS i k)
    rw [mem_outBlk]
    omega

omit [FloatOps F] in
theorem mixO_rest (m0) {k : ℕ} (h : k < 64) :
    ∀ x ∈ (tileSet i \ outFl i k) \ (outBlkS i k), mixO i fi Y m0 k x = mixO i fi Y m0 (k + 1) x := by
  intro x hx
  obtain ⟨hx, hx'⟩ := Finset.mem_sdiff.mp hx
  have ht := (mem_tileSet i x).mp (Finset.mem_sdiff.mp hx).1
  rw [mem_outBlk] at hx'
  have h0 : (x 0).val < 4 := (x 0).isLt
  unfold mixO
  by_cases hb : 16 * (x 0).val + ((x 1).val / 32 - base i) < k
  · rw [if_pos hb, if_pos (by omega)]
  · rw [if_neg hb, if_neg (by omega)]

omit [FloatOps F] in
theorem mixO_block (m0) {k n : ℕ} (h : k < 64) (hn : k < n) : ∀ x ∈ (outBlkS i k), G fi Y x = mixO i fi Y m0 n x := by
  intro x hx
  rw [mem_outBlk] at hx
  unfold mixO
  rw [if_pos (by omega)]

theorem part9_run (m0 : S4x16384x1024.Idx → Elt F .f32) (h1 : k0_chk1 i k (wIn k) (wAt k) (wAt k) (wOut k) (wHi k) (wLo k))
    {v100 v101 v110 v111 v120 v121 : BitVec 32} {v98 v99 v168 v169 : BitVec 1}
    {Q : (Σ' (_ : BitVec 32) (_ : BitVec 32) (_ : BitVec 32) (_ : BitVec 32), BitVec 32) → sProp 𝕄} :
    iprop((bLoc d i ↦[(outSlotS k)]{fullShare} landedOut fi Y i k) ∗ semVal (Th d i, SemLoc.dma (outSem k)) 0
        ∗ (oLoc d ↦[tileSet i \ outFl i k]{fullShare} mixO i fi Y m0 k) ∗ OutPart d i fi Y k
        ∗ Ow d i O W ∗ Transfers.MayWaits (Th d i) (default : HIx 1) O)
      ⊢ iprop((iprop(OutPart d i fi Y (k.val + 1) ∗ (oLoc d ↦[tileSet i \ outFl i (k.val + 1)]{fullShare} mixO i fi Y m0 (k.val + 1))
            ∗ (∃ f, bLoc d i ↦[(outSlotS (k.val + 1))]{fullShare} f) ∗ semVal (Th d i, SemLoc.dma (outSem (k.val + 1))) 0 ∗ Ow d i O W)
          -∗ Q ⟨Scalar.select (Scalar.andi (Scalar.ori (Scalar.ori (Scalar.cmpi .ne v100 v120) (Scalar.cmpi .ne v101 v121)) v99) 1#1)
                (Scalar.addi (wAt k) 1#32) (wAt k),
              Scalar.select (Scalar.andi (Scalar.andi (Scalar.ori (Scalar.cmpi .ne v100 v110) (Scalar.cmpi .ne v101 v111)) (Scalar.xori v98 1#1)) 1#1)
                (Scalar.addi (wOut k) 1#32) (wOut k),
              Scalar.select (Scalar.ori (Scalar.ori (Scalar.cmpi .ne v100 v120) (Scalar.cmpi .ne v101 v121)) v99)
                (Scalar.addi (wAt k) 1#32) (wAt k),
              Scalar.select 1#1 (Scalar.addi (wLo k) 1#32) (wLo k), 16#32⟩)
        -∗ WP d i (k0_part9 i yV (Memref.isWhole_whole _) sV (Memref.isWhole_whole _) oV (Memref.isWhole_whole _) aV (Memref.isWhole_whole _) cc0_scoped1 bV (Memref.isWhole_whole _) cc0_scoped3 g1 g2 g3 g4 g5 g6 g7 g8 k (wIn k) (wAt k) (wAt k) (wOut k) (wHi k) (wLo k) h1 v98 v99
            v100 v101 v110 v111 v120 v121 v168 v169) Q) := by
  have hk : k.val < 64 := k.isLt
  rw [k0_part9_eq_skeleton]; unfold k0_part9_skel
  simp only [wp_bind, wp_pure, ite_self]
  rw [dif_pos (cond5_all i k)]
  simp only [wp_bind, wp_pure]
  iintro ⟨Hb, Hv, Ho, Hp, HO, #Hmw⟩ Hk
  ihave Ho := (pointsTo_split_subset (q := fullShare) (outBlk_sub i hk)).1 $$ Ho
  icases Ho with ⟨Ho, Hor⟩
  iapply (put_step d i fi Y k
    (outSlot_of (off12_at k) (k0_off12_inb i k (wIn k) (wAt k) (wAt k) (wOut k) (wHi k) (wLo k) h1 (cond5_all i k)))
    (outBlk_of (off13_at i k) (k0_off13_inb i k (wIn k) (wAt k) (wAt k) (wOut k) (wHi k) (wLo k) h1 (cond5_all i k)))
    (outSem_of (off14_at k) (k0_off14_inb i k (wIn k) (wAt k) (wAt k) (wOut k) (wHi k) (wLo k) h1 (cond5_all i k)))) $$ [Hb Ho Hv]
  · isplitl [Hb]; · iexact Hb
    isplitl [Ho]; · iexists _; iexact Ho
    iexact Hv
  iintro Hg
  by_cases h : 0 < k.val
  · rw [dif_pos (cond7_pos i k h)]
    simp only [wp_bind, wp_pure]
    obtain ⟨k', hk'⟩ : ∃ k', k.val = k' + 1 := ⟨k.val - 1, by omega⟩
    have hk1 : k.val - 1 = k' := by omega
    have e15 := off15_at k h
    have e16 := off16_at i k h
    have e17 := off17_at k h
    rw [hk1] at e15 e16 e17
    ihave Hp := (Entails.of_eq (show OutPart d i fi Y k.val = OutFly d i fi Y k' by rw [hk', OutPart_succ])) $$ Hp
    iapply (put_wait d i fi Y k' (O := O) (W := W)
      (outBlk_of e16 (k0_off16_inb i k (wIn k) (wAt k) (wAt k) (wOut k) (wHi k) (wLo k) h1 (cond7_pos i k h)))
      (outSem_of e17 (k0_off17_inb i k (wIn k) (wAt k) (wAt k) (wOut k) (wHi k) (wLo k) h1 (cond7_pos i k h)))) $$ [Hp HO]
    · isplitl [Hp]; · iexact Hp
      isplitl [HO]; · iexact HO
      iexact Hmw
    iintro ⟨⟨Ho, Hb⟩, Hv, HO⟩
    imodintro
    iapply Hk
    isplitl [Hg]; · iapply (Entails.of_eq (OutPart_succ d i fi Y k.val)); iexact Hg
    isplitl [Ho Hor]
    · have hd : Disjoint (outBlkS i k') (outBlkS i k) := by
        rw [Finset.disjoint_left]; intro x hx hx'
        rw [mem_outBlk] at hx hx'; omega
      have hfl : outFl i k.val = (outBlkS i k') := by rw [hk']; rfl
      have hsub : (outBlkS i k') ⊆ tileSet i \ (outBlkS i k) := fun x hx =>
        Finset.mem_sdiff.mpr ⟨(Finset.mem_sdiff.mp (outBlk_sub i (by omega : k' < 64) hx)).1, Finset.disjoint_left.mp hd hx⟩
      iapply (pointsTo_split_subset (q := fullShare) (show (outBlkS i k') ⊆ tileSet i \ outFl i (k.val + 1) from hsub)).2
      isplitl [Ho]
      · iapply (Entails.of_eq (pointsTo_congr (mixO_block i fi Y m0 (by omega : k' < 64) (by omega : k' < k.val + 1)))); iexact Ho
      · ihave Hor := (Entails.of_eq (pointsTo_congr (mixO_rest i fi Y m0 hk))) $$ Hor
        iapply (Entails.of_eq (show (oLoc d ↦[(tileSet i \ outFl i k.val) \ (outBlkS i k)]{fullShare} mixO i fi Y m0 (k.val + 1) : sProp 𝕄)
          = oLoc d ↦[(tileSet i \ outFl i (k.val + 1)) \ (outBlkS i k')]{fullShare} mixO i fi Y m0 (k.val + 1) by
            rw [hfl, sdiff_right_comm]; rfl))
        iexact Hor
    isplitl [Hb]
    · rw [outSlotS_congr (show (k.val + 1) % 2 = k' % 2 by omega)]
      iexists _; iexact Hb
    isplitl [Hv]
    · rw [outSem_congr (show (k.val + 1) % 2 = k' % 2 by omega)]
      iexact Hv
    iexact HO
  · rw [dif_neg (cond7_zero i k h)]
    simp only [wp_pure]
    have hk0 : k.val = 0 := by omega
    ihave Hp := (Entails.of_eq ((congrArg (OutPart d i fi Y) hk0).trans (OutPart_zero d i fi Y))) $$ Hp
    icases Hp with ⟨Hb, Hv⟩
    imodintro
    iapply Hk
    isplitl [Hg]; · iapply (Entails.of_eq (OutPart_succ d i fi Y k.val)); iexact Hg
    isplitl [Hor]
    · ihave Hor := (Entails.of_eq (pointsTo_congr (mixO_rest i fi Y m0 hk))) $$ Hor
      iapply (Entails.of_eq (show (oLoc d ↦[(tileSet i \ outFl i k.val) \ (outBlkS i k)]{fullShare} mixO i fi Y m0 (k.val + 1) : sProp 𝕄)
          = oLoc d ↦[tileSet i \ outFl i (k.val + 1)]{fullShare} mixO i fi Y m0 (k.val + 1) by
            rw [show outFl i k.val = ∅ by rw [hk0]; rfl, Finset.sdiff_empty]; rfl))
      iexact Hor
    isplitl [Hb]
    · rw [outSlotS_congr (show (k.val + 1) % 2 = 1 % 2 by omega)]
      iexact Hb
    isplitl [Hv]
    · rw [outSem_congr (show (k.val + 1) % 2 = 1 % 2 by omega)]
      iexact Hv
    iexact HO

end

end Cert.KernelIdeal.Hand
-- ==== Proof.Loop.lean ====
/-
One step of the pipeline, whole: what holds before step `k` (its fetch and the last write-out under way, the blocks of the
steps before in the result), and that the loop's body takes it to what holds before step `k + 1`.
-/
module

public import proofs.«01_k».proof.Proof.Trip

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section

variable (d : Dev nD) (i : grid0.Coords) (fi : S4x512x128.Idx → Elt F .i32) (Y : S81920x1024.Idx → Elt F .f32)
variable (m0 : S4x16384x1024.Idx → Elt F .f32) (hfi : ∀ x, BitVec.toNat (w := 32) (fi x) < 81920)
variable (qy qs : PosShare TreeShare) (O : CellTallies nD τ sig (HIx 1)) (W : Waits sig (HIx 1))

/-- The loop's first row of the index array, as the program computes it from the grid point. -/
abbrev wBase : BitVec 32 :=
  Scalar.muli (Scalar.addi (Scalar.addi 0#32 (Scalar.muli (BitVec.ofNat 32 (i 1).val) 1#32)) (Scalar.muli (BitVec.ofNat 32 (i 0).val) 16#32)) 16#32

abbrev Acc : Type := BitVec 32 × BitVec 32 × BitVec 32 × BitVec 32 × BitVec 32 × BitVec 32

/-- The gathers' own cells, all at zero. -/
def Cells : sProp 𝕄 :=
  iprop(semVal (Th d i, SemLoc.dma cc0_scoped4.sem) 0 ∗ semVal (Th d i, SemLoc.dma cc0_scoped5.sem) 0
    ∗ semVal (Th d i, SemLoc.dma cc0_scoped6.sem) 0 ∗ semVal (Th d i, SemLoc.dma cc0_scoped7.sem) 0
    ∗ semVal (Th d i, SemLoc.dma cc0_scoped8.sem) 0 ∗ semVal (Th d i, SemLoc.dma cc0_scoped9.sem) 0
    ∗ semVal (Th d i, SemLoc.dma cc0_scoped10.sem) 0 ∗ semVal (Th d i, SemLoc.dma cc0_scoped11.sem) 0)

/-- What holds before step `k`. -/
def Inv (k : ℕ) (acc : Acc) : sProp 𝕄 :=
  iprop(⌜acc = (wIn k, wAt k, wAt k, wOut k, wHi k, wLo k)⌝ ∗ (yLoc d ↦{qy} Y) ∗ InPart d i fi k qs
    ∗ (sLoc d ↦[Finset.univ \ inFl i k]{qs} fi) ∗ (∃ f, aLoc d i ↦[inSlotS (k + 1)]{fullShare} f) ∗ semVal (Th d i, SemLoc.dma (inSem (k + 1))) 0
    ∗ OutPart d i fi Y k ∗ (oLoc d ↦[tileSet i \ outFl i k]{fullShare} mixO i fi Y m0 k)
    ∗ (∃ f, bLoc d i ↦[outSlotS k]{fullShare} f) ∗ semVal (Th d i, SemLoc.dma (outSem k)) 0
    ∗ Cells d i ∗ Ow d i O W ∗ Transfers.MayWaits (Th d i) (default : HIx 1) O)

include hfi in
theorem trip (v7 v27 v29 : BitVec 32) (k : Fin k0_t1_loop.trips) (acc : Acc) :
    Inv d i fi Y m0 qy qs O W k.val acc
      ⊢ WP d i (k0_t1_body i yV (Memref.isWhole_whole _) sV (Memref.isWhole_whole _) oV (Memref.isWhole_whole _) aV (Memref.isWhole_whole _) cc0_scoped1 bV (Memref.isWhole_whole _) cc0_scoped3 cc0_scoped4 cc0_scoped5 cc0_scoped6 cc0_scoped7 cc0_scoped8 cc0_scoped9 cc0_scoped10 cc0_scoped11 (wBase i) v7 v27 v29 k acc) (Inv d i fi Y m0 qy qs O W (k.val + 1)) := by
  have hk : k.val < 64 := k.isLt
  unfold Inv Cells
  iintro ⟨%hacc, Hy, Hin, Hs, Ha, Hav, Hout, Ho, ⟨%f, Hb⟩, Hbv, ⟨G1, G2, G3, G4, G5, G6, G7, G8⟩, HO, #Hmw⟩
  subst hacc
  unfold k0_t1_body
  simp only [wp_bind, wp_pure]
  rw [k0_part1_eq_skeleton]; unfold k0_part1_skel
  simp only [wp_bind, wp_pure]
  iapply (assume_step d i (chk3_at k))
  iapply (assume_step d i (chk2_at k))
  iapply (assume_step d i (chk1_at i k))
  imodintro
  ihave Hin := (Entails.of_eq (show InPart d i fi k.val qs = InFly d i fi k.val qs by unfold InPart; rw [if_pos hk])) $$ Hin
  ihave Hs := (Entails.of_eq (show (sLoc d ↦[Finset.univ \ inFl i k.val]{qs} fi : sProp 𝕄) = sLoc d ↦[Finset.univ \ inRowS i k.val]{qs} fi by
    unfold inFl; rw [if_pos hk])) $$ Hs
  iapply (part2_run d i fi cc0_scoped4 cc0_scoped5 cc0_scoped6 cc0_scoped7 cc0_scoped8 cc0_scoped9 cc0_scoped10 cc0_scoped11 k qs O W (chk1_at i k)) $$ [Hin Hs Ha Hav HO]
  · isplitl [Hin]; · iexact Hin
    isplitl [Hs]; · iexact Hs
    isplitl [Ha]; · iexact Ha
    isplitl [Hav]; · iexact Hav
    isplitl [HO]; · iexact HO
    iexact Hmw
  iintro ⟨Hin, Hs, Ha, Hav, HO⟩
  ihave H := (show iprop((bLoc d i ↦[outSlotS k.val]{fullShare} f) ∗ (yLoc d ↦{qy} Y) ∗ (aLoc d i ↦[inSlotS k.val]{fullShare} landedIn fi i k))
      ⊢ ColSt d i fi Y k 0 qy f from by
    unfold ColSt; rw [mix_zero]) $$ [Hb Hy Ha]
  · isplitl [Hb]; · iexact Hb
    isplitl [Hy]; · iexact Hy
    iexact Ha
  iapply (part3_run d i fi Y cc0_scoped1 cc0_scoped3 cc0_scoped4 cc0_scoped5 cc0_scoped6 cc0_scoped7 cc0_scoped8 cc0_scoped9 cc0_scoped10 cc0_scoped11 hfi k (chk3_at k) (chk2_at k) qy f O W) $$ [H G1 HO]
  · isplitl [H]; · iexact H
    isplitl [G1]; · iexact G1
    isplitl [HO]; · iexact HO
    iexact Hmw
  iintro ⟨H, G1, HO⟩
  iapply (part4_run d i fi Y cc0_scoped1 cc0_scoped3 cc0_scoped4 cc0_scoped5 cc0_scoped6 cc0_scoped7 cc0_scoped8 cc0_scoped9 cc0_scoped10 cc0_scoped11 hfi k (chk3_at k) (chk2_at k) qy f O W) $$ [H G2 G3 HO]
  · isplitl [H]; · iexact H
    isplitl [G2]; · iexact G2
    isplitl [G3]; · iexact G3
    isplitl [HO]; · iexact HO
    iexact Hmw
  iintro ⟨H, G2, HO⟩
  iapply (part5_run d i fi Y cc0_scoped1 cc0_scoped3 cc0_scoped4 cc0_scoped5 cc0_scoped6 cc0_scoped7 cc0_scoped8 cc0_scoped9 cc0_scoped10 cc0_scoped11 hfi k (chk3_at k) (chk2_at k) qy f O W) $$ [H G4 HO]
  · isplitl [H]; · iexact H
    isplitl [G4]; · iexact G4
    isplitl [HO]; · iexact HO
    iexact Hmw
  iintro ⟨H, G3, G4, HO⟩
  iapply (part6_run d i fi Y cc0_scoped1 cc0_scoped3 cc0_scoped4 cc0_scoped5 cc0_scoped6 cc0_scoped7 cc0_scoped8 cc0_scoped9 cc0_scoped10 cc0_scoped11 hfi k (chk3_at k) (chk2_at k) qy f O W) $$ [H G5 HO]
  · isplitl [H]; · iexact H
    isplitl [G5]; · iexact G5
    isplitl [HO]; · iexact HO
    iexact Hmw
  iintro ⟨H, G5, HO⟩
  iapply (part7_run d i fi Y cc0_scoped1 cc0_scoped3 cc0_scoped4 cc0_scoped5 cc0_scoped6 cc0_scoped7 cc0_scoped8 cc0_scoped9 cc0_scoped10 cc0_scoped11 hfi k (chk3_at k) (chk2_at k) qy f O W) $$ [H G6 G7 HO]
  · isplitl [H]; · iexact H
    isplitl [G6]; · iexact G6
    isplitl [G7]; · iexact G7
    isplitl [HO]; · iexact HO
    iexact Hmw
  iintro ⟨H, G6, HO⟩
  iapply (part8_run d i fi Y cc0_scoped1 cc0_scoped3 cc0_scoped4 cc0_scoped5 cc0_scoped6 cc0_scoped7 cc0_scoped8 cc0_scoped9 cc0_scoped10 cc0_scoped11 hfi k (chk3_at k) (chk2_at k) qy f O W) $$ [H G8 HO]
  · isplitl [H]; · iexact H
    isplitl [G8]; · iexact G8
    isplitl [HO]; · iexact HO
    iexact Hmw
  iintro ⟨H, G7, G8, HO⟩
  ihave H := (show ColSt d i fi Y k 1024 qy f
      ⊢ iprop((bLoc d i ↦[outSlotS k.val]{fullShare} landedOut fi Y i k) ∗ (yLoc d ↦{qy} Y) ∗ (aLoc d i ↦[inSlotS k.val]{fullShare} landedIn fi i k)) from by
    unfold ColSt; rw [mix_full]) $$ H
  icases H with ⟨Hb, Hy, Ha⟩
  iapply (part9_run d i fi Y cc0_scoped4 cc0_scoped5 cc0_scoped6 cc0_scoped7 cc0_scoped8 cc0_scoped9 cc0_scoped10 cc0_scoped11 k O W m0 (chk1_at i k)) $$ [Hb Hbv Ho Hout HO]
  · isplitl [Hb]; · iexact Hb
    isplitl [Hbv]; · iexact Hbv
    isplitl [Ho]; · iexact Ho
    isplitl [Hout]; · iexact Hout
    isplitl [HO]; · iexact HO
    iexact Hmw
  iintro ⟨Hout, Ho, Hb, Hbv, HO⟩
  imodintro
  isplitr
  · ipureintro
    clear * -
    revert i k
    decide +kernel
  isplitl [Hy]; · iexact Hy
  isplitl [Hin]; · iexact Hin
  isplitl [Hs]; · iexact Hs
  isplitl [Ha]
  · rw [inSlotS_congr (show (k.val + 1 + 1) % 2 = k.val % 2 by omega)]
    iexists _; iexact Ha
  isplitl [Hav]
  · rw [inSem_congr (show (k.val + 1 + 1) % 2 = k.val % 2 by omega)]
    iexact Hav
  isplitl [Hout]; · iexact Hout
  isplitl [Ho]; · iexact Ho
  isplitl [Hb]; · iexact Hb
  isplitl [Hbv]; · iexact Hbv
  isplitl [G1 G2 G3 G4 G5 G6 G7 G8]
  · isplitl [G1]; · iexact G1
    isplitl [G2]; · iexact G2
    isplitl [G3]; · iexact G3
    isplitl [G4]; · iexact G4
    isplitl [G5]; · iexact G5
    isplitl [G6]; · iexact G6
    isplitl [G7]; · iexact G7
    iexact G8
  isplitl [HO]; · iexact HO
  iexact Hmw

end

end Cert.KernelIdeal.Hand
-- ==== Proof.Tile.lean ====
/-
A tile's whole task: its scratch and its twelve cells taken from what the subcore owns, the first fetch, the sixty-four
steps, the wait for the last write-out, and all of it given back with the tile's part of the result written.
-/
module

public import proofs.«01_k».proof.Proof.Loop

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section

variable (d : Dev nD) (i : grid0.Coords) (fi : S4x512x128.Idx → Elt F .i32) (Y : S81920x1024.Idx → Elt F .f32)
variable (m0 : S4x16384x1024.Idx → Elt F .f32) (hfi : ∀ x, BitVec.toNat (w := 32) (fi x) < 81920)
variable (qy qs : PosShare TreeShare) (O : CellTallies nD τ sig (HIx 1)) (W : Waits sig (HIx 1))

/-! ## What the subcore owns -/

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The `n`-th of the tile's cells. -/
def cell (n : Fin 12) : GSem nD τ sig := (Th d i, SemLoc.dma (show DmaSem sig from n))

theorem cell_injective : Function.Injective (cell d i) := fun a b h => by
  have := (Prod.mk.inj h).2
  injection this

def cells : Finset (GSem nD τ sig) := Finset.univ.map ⟨cell d i, cell_injective d i⟩

theorem scoped_dma : ∀ n : Fin 12, (SemLoc.dma (show DmaSem sig from n) : SemLoc sig).isScoped .scVector = true := by decide

theorem cells_sub : cells d i ⊆ ownCells (Th d i) := fun g hg => by
  obtain ⟨n, -, rfl⟩ := Finset.mem_map.mp hg
  exact mem_ownCells.mpr ⟨rfl, scoped_dma n⟩

/-- The rest of the subcore's cells. -/
def restCells : sProp 𝕄 := bigSep (ownCells (Th d i) \ cells d i) fun g => semVal g 0

omit [FloatOps F] in
theorem ownSems0_tile : (ownSems0 (Th d i) : sProp 𝕄)
    = iprop((semVal (Th d i, SemLoc.dma (inSem 0)) 0 ∗ semVal (Th d i, SemLoc.dma (inSem 1)) 0
        ∗ semVal (Th d i, SemLoc.dma (outSem 0)) 0 ∗ semVal (Th d i, SemLoc.dma (outSem 1)) 0 ∗ Cells d i) ∗ restCells d i) := by
  unfold SparseCore.Cfg.ownSems0
  rw [SparseCore.bigSep_sdiff_split' (cells_sub d i)]
  unfold cells restCells
  rw [bigSep_map, show (Finset.univ : Finset (Fin 12)) = {0, 1, 2, 3, 4, 5, 6, 7, 8, 9, 10, 11} from by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The rest of the subcore's buffers. -/
def restBufs : sProp 𝕄 :=
  bigSep (((ownRefs (τ := τ) (.scVector (cV i) (jV i))).erase ((Proc.scVector (cV i) (jV i)).devRef cc0_scoped0)).erase
    ((Proc.scVector (cV i) (jV i)).devRef cc0_scoped2)) fun b => iprop(∃ f, ((d, b) : Loc nD τ sig) ↦{fullShare} f)

omit [FloatOps F] in
theorem ownBufs_tile : (ownBufs (Th d i) : sProp 𝕄)
    = iprop((∃ f, aLoc d i ↦{fullShare} f) ∗ (∃ f, bLoc d i ↦{fullShare} f) ∗ restBufs d i) := by
  unfold SparseCore.Cfg.ownBufs restBufs
  refine (SparseCore.bigSep_erase' (SparseCore.Cfg.mem_ownRefs_of_owner (p := Proc.scVector (cV i) (jV i))
    (b := (Proc.scVector (cV i) (jV i)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV i) (jV i)) (b := (Proc.scVector (cV i) (jV i)).devRef cc0_scoped2) rfl⟩)]

/-! ## The two halves of a scratch buffer -/

theorem inSlots : Finset.univ \ inSlotS 0 = inSlotS 1 := by
  ext x
  have h : (x 0).val < 2 := (x 0).isLt
  rw [Finset.mem_sdiff]; show (x ∈ Finset.univ ∧ ¬ x ∈ (inSlot 0).view.set) ↔ x ∈ (inSlot 1).view.set
  rw [mem_inSlot, mem_inSlot]
  constructor
  · rintro ⟨-, h'⟩; omega
  · intro h'; exact ⟨Finset.mem_univ _, by omega⟩

theorem outSlots : Finset.univ \ outSlotS 0 = outSlotS 1 := by
  ext x
  have h : (x 0).val < 2 := (x 0).isLt
  rw [Finset.mem_sdiff]; show (x ∈ Finset.univ ∧ ¬ x ∈ (outSlot 0).view.set) ↔ x ∈ (outSlot 1).view.set
  rw [mem_outSlot, mem_outSlot]
  constructor
  · rintro ⟨-, h'⟩; omega
  · intro h'; exact ⟨Finset.mem_univ _, by omega⟩

omit [FloatOps F] in
theorem inHalves : (iprop(∃ f, aLoc d i ↦{fullShare} f) : sProp 𝕄)
    ⊢ iprop((∃ f, aLoc d i ↦[inSlotS 0]{fullShare} f) ∗ (∃ f, aLoc d i ↦[inSlotS 1]{fullShare} f)) := by
  iintro ⟨%f, H⟩
  ihave H := (pointsTo_split_subset (q := fullShare) (f := f) (ℓ := aLoc d i) (S := Finset.univ) (Finset.subset_univ (inSlotS 0))).1 $$ H
  icases H with ⟨H0, H1⟩
  ihave H1 := (Entails.of_eq (congrArg (fun s => (aLoc d i ↦[s]{fullShare} f : sProp 𝕄)) inSlots)) $$ H1
  isplitl [H0]
  · iexists f; iexact H0
  · iexists f; iexact H1

omit [FloatOps F] in
theorem inWhole : (iprop((∃ f, aLoc d i ↦[inSlotS 0]{fullShare} f) ∗ (∃ f, aLoc d i ↦[inSlotS 1]{fullShare} f)) : sProp 𝕄)
    ⊢ iprop(∃ f, aLoc d i ↦{fullShare} f) := by
  iintro ⟨⟨%g, H0⟩, ⟨%f, H1⟩⟩
  iexists _
  iapply (pointsTo_join_subset (ℓ := aLoc d i) (q := fullShare) (S := Finset.univ) (g := g) (f := f) (Finset.subset_univ (inSlotS 0)))
  isplitl [H0]; · iexact H0
  iapply (Entails.of_eq (congrArg (fun s => (aLoc d i ↦[s]{fullShare} f : sProp 𝕄)) inSlots.symm)); iexact H1

omit [FloatOps F] in
theorem outHalves : (iprop(∃ f, bLoc d i ↦{fullShare} f) : sProp 𝕄)
    ⊢ iprop((∃ f, bLoc d i ↦[outSlotS 0]{fullShare} f) ∗ (∃ f, bLoc d i ↦[outSlotS 1]{fullShare} f)) := by
  iintro ⟨%f, H⟩
  ihave H := (pointsTo_split_subset (q := fullShare) (f := f) (ℓ := bLoc d i) (S := Finset.univ) (Finset.subset_univ (outSlotS 0))).1 $$ H
  icases H with ⟨H0, H1⟩
  ihave H1 := (Entails.of_eq (congrArg (fun s => (bLoc d i ↦[s]{fullShare} f : sProp 𝕄)) outSlots)) $$ H1
  isplitl [H0]
  · iexists f; iexact H0
  · iexists f; iexact H1

omit [FloatOps F] in
theorem outWhole : (iprop((∃ f, bLoc d i ↦[outSlotS 0]{fullShare} f) ∗ (∃ f, bLoc d i ↦[outSlotS 1]{fullShare} f)) : sProp 𝕄)
    ⊢ iprop(∃ f, bLoc d i ↦{fullShare} f) := by
  iintro ⟨⟨%g, H0⟩, ⟨%f, H1⟩⟩
  iexists _
  iapply (pointsTo_join_subset (ℓ := bLoc d i) (q := fullShare) (S := Finset.univ) (g := g) (f := f) (Finset.subset_univ (outSlotS 0)))
  isplitl [H0]; · iexact H0
  iapply (Entails.of_eq (congrArg (fun s => (bLoc d i ↦[s]{fullShare} f : sProp 𝕄)) outSlots.symm)); iexact H1

/-! ## The first fetch's windows, and the ends of the loop -/

theorem off1_zero : k0_off1 = ![0 % 2, 0, 0, 0] := by decide
theorem off2_zero : ∀ i : grid0.Coords, k0_off2 i = ![0 / 16 % 4, 16 * (i 1).val + 256 * (i 0).val + 0 % 16, 0] := by decide +kernel
theorem off3_zero : k0_off3 = ![0 % 2] := by decide

omit [FloatOps F] in
theorem mixO_zero : mixO i fi Y m0 0 = m0 := by
  funext x; unfold mixO; rw [if_neg (by omega)]

omit [FloatOps F] in
theorem mixO_all : ∀ x ∈ tileSet i, mixO i fi Y m0 64 x = G fi Y x := by
  intro x hx
  have ht := (mem_tileSet i x).mp hx
  have h0 : (x 0).val < 4 := (x 0).isLt
  unfold mixO; rw [if_pos (by omega)]

/-! ## The task -/

set_option maxHeartbeats 4000000 in
include hfi in
theorem tile_body (hO : ∀ g, O g none = 0) :
    (iprop(levAts (K (F := F)).L (K (F := F)).lev ∗ emp
        ∗ ((yLoc d ↦{qy} Y) ∗ (sLoc d ↦{qs} fi) ∗ oLoc d ↦[tileSet i]{fullShare} m0)
        ∗ scopedBufs (Th d i) ∗ scopedSems0 (Th d i) ∗ owes (Th d i) O W) : sProp 𝕄)
      ⊢ wp (M := 𝕄) frame (wpE (defs₀ (F := F)) 𝒱₀ (Th d i) none) Set.univ (cc0_gather i yV (Memref.isWhole_whole _) sV (Memref.isWhole_whole _) oV (Memref.isWhole_whole _) aV (Memref.isWhole_whole _) cc0_scoped1 bV (Memref.isWhole_whole _) cc0_scoped3 cc0_scoped4 cc0_scoped5 cc0_scoped6 cc0_scoped7 cc0_scoped8 cc0_scoped9 cc0_scoped10 cc0_scoped11)
          fun _ => iprop(((yLoc d ↦{qy} Y) ∗ (sLoc d ↦{qs} fi) ∗ oLoc d ↦[tileSet i]{fullShare} G fi Y)
            ∗ scopedBufs (Th d i) ∗ scopedSems0 (Th d i)
            ∗ ∃ W', ⌜∀ p ∈ W', p ∈ W ∨ p.2 = none⌝ ∗ owes (Th d i) O W') := by
  rw [(K (F := F)).scopedBufs_V facts d (cV i) (jV i), SparseCore.Cfg.scopedSems0_V (Val := Elt F) d (cV i) (jV i), ownSems0_tile, ownBufs_tile]
  iintro ⟨#Hlv, -, ⟨Hy, Hs, Ho⟩, ⟨Ha, Hb, Hbufs⟩, ⟨⟨C0, C1, C2, C3, Hcells⟩, Hsems⟩, HO⟩
  ihave #Hmw := (show levAts (K (F := F)).L (K (F := F)).lev ⊢ Transfers.MayWaits (Th d i) (default : HIx 1) O from
    (K (F := F)).mayWaits_none (thr := Th d i) hO) $$ Hlv
  ihave Ha := (inHalves d i) $$ Ha
  ihave Hb := (outHalves d i) $$ Hb
  icases Ha with ⟨Ha, Ha1⟩
  icases Hb with ⟨Hb, Hb1⟩
  rw [cc0_gather_eq_skeleton]; unfold cc0_gather_skel
  simp only [wp_bind, wp_pure]
  rw [k0_part10_eq_skeleton]; unfold k0_part10_skel
  simp only [wp_bind, wp_pure]
  imodintro
  rw [k0_part11_eq_skeleton]; unfold k0_part11_skel
  simp only [wp_bind, wp_pure]
  ihave Hs := (pointsTo_split_subset (q := qs) (f := fi) (ℓ := sLoc d) (S := Finset.univ) (Finset.subset_univ (inRowS i 0))).1 $$ Hs
  icases Hs with ⟨Hs, Hsr⟩
  iapply (fetch_step d i fi 0 qs (inRow_of (off2_zero i) (k0_off2_inb i)) (inSlot_of off1_zero k0_off1_inb) (inSem_of off3_zero k0_off3_inb)) $$ [Hs Ha C0]
  · isplitl [Hs]; · iexact Hs
    isplitl [Ha]; · iexact Ha
    iexact C0
  iintro Hf
  iapply (Scf.wp_for (M := 𝕄) frame (wpE (defs₀ (F := F)) 𝒱₀ (Th d i) none) Set.univ k0_t1_loop.lb k0_t1_loop.ub k0_t1_loop.st k0_t1_ok _ _ (Inv d i fi Y m0 qy qs O W)
    (fun k acc => trip d i fi Y m0 hfi qy qs O W _ _ _ k acc))
  isplitl [Hy Hf Hsr Ha1 C1 Hb1 C3 Ho Hb C2 Hcells HO]
  · unfold Inv
    isplitr; · ipureintro; decide
    isplitl [Hy]; · iexact Hy
    isplitl [Hf]; · unfold InPart; rw [if_pos (by omega)]; iexact Hf
    isplitl [Hsr]; · unfold inFl; rw [if_pos (by omega)]; iexact Hsr
    isplitl [Ha1]; · iexact Ha1
    isplitl [C1]; · iexact C1
    isplitl [Hb1 C3]
    · rw [OutPart_zero]
      isplitl [Hb1]; · iexact Hb1
      iexact C3
    isplitl [Ho]
    · rw [mixO_zero, show outFl i 0 = ∅ by unfold outFl; rfl, Finset.sdiff_empty]; iexact Ho
    isplitl [Hb]; · iexact Hb
    isplitl [C2]; · iexact C2
    isplitl [Hcells]; · iexact Hcells
    isplitl [HO]
    · unfold Ow; iexists W; isplitr
      · ipureintro; exact fun p hp => .inl hp
      · iexact HO
    iexact Hmw
  iintro %acc Hi
  ihave Hi := (Entails.of_eq (show Inv d i fi Y m0 qy qs O W k0_t1_loop.trips acc = Inv d i fi Y m0 qy qs O W 64 acc from rfl)) $$ Hi
  unfold Inv
  icases Hi with ⟨%hacc, Hy, Hin, Hs, Ha, C1, Hout, Ho, Hb, C2, Hcells, HO, -⟩
  subst hacc
  iapply (assume_step d i (chk5_at i))
  iapply (assume_step d i chk4_at)
  imodintro
  rw [k0_part12_eq_skeleton]; unfold k0_part12_skel
  simp only [wp_bind, wp_pure]
  imodintro
  ihave Hout := (Entails.of_eq (OutPart_succ d i fi Y 63).symm) $$ Hout
  iapply (put_wait d i fi Y 63 (O := O) (W := W) (outBlk_of (off19_at i) (k0_off19_inb i (wLo 64) (wHi 64) (chk5_at i)))
    (outSem_of off20_at (k0_off20_inb (wOut 64) chk4_at))) $$ [Hout HO]
  · isplitl [Hout]; · iexact Hout
    isplitl [HO]; · iexact HO
    iexact Hmw
  iintro ⟨⟨Hol, Hb1⟩, C3, HO⟩
  imodintro
  ihave Hin := (Entails.of_eq (show InPart d i fi 64 qs = _ by unfold InPart; rw [if_neg (by omega)])) $$ Hin
  icases Hin with ⟨Ha0, C0⟩
  isplitl [Hy Hs Ho Hol]
  · isplitl [Hy]; · iexact Hy
    isplitl [Hs]
    · iapply (Entails.of_eq (show (sLoc d ↦[Finset.univ \ inFl i 64]{qs} fi : sProp 𝕄) = sLoc d ↦{qs} fi by
        unfold inFl; rw [if_neg (by omega), Finset.sdiff_empty]))
      iexact Hs
    have hsub : outBlkS i 63 ⊆ tileSet i := fun x hx => (Finset.mem_sdiff.mp (outBlk_sub i (by omega : 63 < 64) hx)).1
    iapply (pointsTo_split_subset (q := fullShare) (ℓ := oLoc d) (f := G fi Y) hsub).2
    isplitl [Hol]; · iexact Hol
    iapply (Entails.of_eq (pointsTo_congr (ℓ := oLoc d) (q := fullShare) (I := tileSet i \ outFl i 64) (f := mixO i fi Y m0 64) (g := G fi Y)
      (fun x hx => mixO_all i fi Y m0 x (Finset.mem_sdiff.mp hx).1)))
    iexact Ho
  isplitl [Ha Ha0 Hb Hb1 Hbufs]
  · isplitl [Ha Ha0]
    · iapply (inWhole d i)
      isplitl [Ha0]
      · rw [inSlotS_congr (show 0 % 2 = 64 % 2 by omega)]; iexact Ha0
      · rw [inSlotS_congr (show 1 % 2 = (64 + 1) % 2 by omega)]; iexact Ha
    isplitl [Hb Hb1]
    · iapply (outWhole d i)
      isplitl [Hb]
      · rw [outSlotS_congr (show 0 % 2 = 64 % 2 by omega)]; iexact Hb
      · rw [outSlotS_congr (show 1 % 2 = 63 % 2 by omega)]; iexists _; iexact Hb1
    iexact Hbufs
  isplitl [C0 C1 C2 C3 Hcells Hsems]
  · isplitl [C0 C1 C2 C3 Hcells]
    · isplitl [C0]; · rw [inSem_congr (show 0 % 2 = 64 % 2 by omega)]; iexact C0
      isplitl [C1]; · rw [inSem_congr (show 1 % 2 = (64 + 1) % 2 by omega)]; iexact C1
      isplitl [C2]; · rw [outSem_congr (show 0 % 2 = 64 % 2 by omega)]; iexact C2
      isplitl [C3]; · rw [outSem_congr (show 1 % 2 = 63 % 2 by omega)]; iexact C3
      iexact Hcells
    iexact Hsems
  unfold Ow; iexact HO

end

end Cert.KernelIdeal.Hand
-- ==== Proof.Launch.lean ====
/-
The call as @main makes it: the padded slots computed on the TensorCore, the table and the padded slots dealt to the two cores
and their sixteen subcores each by shares, the result by its rows, and every part brought back. `run_main` is the run of the
whole program over any float values: `y` and `slots` kept, the result at `G`, every semaphore at zero.
-/
module

public import proofs.«01_k».proof.Proof.Tile

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays before the call -/

abbrev y' : DevRef τ sig := Proc.devRef .tc (main_arg0 : Ref sig .tc)
abbrev s' : DevRef τ sig := Proc.devRef .tc (main_arg1 : Ref sig .tc)
abbrev r' : DevRef τ sig := Proc.devRef .tc (main_v0 : Ref sig .tc)
abbrev c' : DevRef τ sig := Proc.devRef .tc (main_c : Ref sig .tc)
abbrev z' : DevRef τ sig := Proc.devRef .tc (main_call0_v0 : Ref sig .tc)
abbrev p' : DevRef τ sig := Proc.devRef .tc (main_v1 : Ref sig .tc)
abbrev o' : DevRef τ sig := Proc.devRef .tc (main_v2 : Ref sig .tc)

abbrev opR : HloOp τ sig (Elt F) := StableHlo.reshape main_arg1 main_v0 (rfl : (.i32 : EltTy) = .i32) shapeCasts_S4x16384_S4x512x32
abbrev opC : HloOp τ sig (Elt F) := StableHlo.nullary main_c (constantI S_ 32 0#32)
abbrev opZ : HloOp τ sig (Elt F) := StableHlo.TRef.unary (.of main_c : StableHlo.TRef sig ⟨S_, .i32⟩) main_call0.v0 id
abbrev opP : HloOp τ sig (Elt F) := StableHlo.TRef.binary (.of main_v0 : StableHlo.TRef sig ⟨S4x512x32, .i32⟩) main_call0.v0 main_call0.v1
  (fun x v => pad S4x512x128 ![0, 0, 0] ![0, 0, 96] ![0, 0, 0] x v pads_S4x512x32_S4x512x128_000_000_0960 h_S_)

/-- The TensorCore's arrays: the two arguments, the reshaped slots, the constant and its copy, the padded slots, the result. -/
abbrev S7 : Finset (DevRef τ sig) := {y', s', r', c', z', p', o'}

abbrev aLocT (d : Dev nD) : Loc nD τ sig := (SparseCore.T d).loc main_arg1

/-- The padded slots: 32 slots of each group, then 96 zeros. -/
def padded (sl : S4x16384.Idx → Elt F .i32) : S4x512x128.Idx → Elt F .i32 :=
  pad S4x512x128 ![0, 0, 0] ![0, 0, 96] ![0, 0, 0] (shapeCast S4x512x32 sl shapeCasts_S4x16384_S4x512x32) (constantI S_ 32 0#32)
    pads_S4x512x32_S4x512x128_000_000_0960 h_S_

abbrev Ym (d : Dev nD) : S81920x1024.Idx → Elt F .f32 := m (yLoc d)
abbrev Pm (d : Dev nD) : S4x512x128.Idx → Elt F .i32 := padded (m (aLocT d))
abbrev Om (d : Dev nD) : S4x16384x1024.Idx → Elt F .f32 := m (oLoc d)

/-- What the run asks of the launch memory: every padded slot is the number of a row of the table. -/
def PreOK : Prop := ∀ (d : Dev nD) (x : S4x512x128.Idx), BitVec.toNat (w := 32) (Pm m d x) < 81920

def V0 (d : Dev nD) : Valuation τ sig (Elt F) := fun b => m (d, b)
def V4 (d : Dev nD) : Valuation τ sig (Elt F) :=
  (opP (F := F)).result ((opZ (F := F)).result ((opC (F := F)).result ((opR (F := F)).result (V0 m d))))

theorem V4_of (d : Dev nD) (b : DevRef τ sig) (hr : b ∉ ({r'} : Finset (DevRef τ sig))) (hc : b ∉ ({c'} : Finset (DevRef τ sig)))
    (hz : b ∉ ({z'} : Finset (DevRef τ sig))) (hp : b ∉ ({p'} : Finset (DevRef τ sig))) : V4 m d b = m (d, b) := by
  unfold V4
  rw [(opP (F := F)).result_of_not_mem _ hp, (opZ (F := F)).result_of_not_mem _ hz, (opC (F := F)).result_of_not_mem _ hc,
    (opR (F := F)).result_of_not_mem _ hr]
  rfl

theorem V4_p (d : Dev nD) : V4 m d p' = Pm m d := by
  have e3r : (opZ (F := F)).result ((opC (F := F)).result ((opR (F := F)).result (V0 m d))) r'
      = (fun i => shapeCast S4x512x32 (m (aLocT d)) shapeCasts_S4x16384_S4x512x32 i) := by
    rw [(opZ (F := F)).result_of_not_mem _ (show r' ∉ ({z'} : Finset (DevRef τ sig)) by decide),
      (opC (F := F)).result_of_not_mem _ (show r' ∉ ({c'} : Finset (DevRef τ sig)) by decide)]
    exact StableHlo.reshape_result _ _ _ _ _ _ _
  have e1c : (opC (F := F)).result ((opR (F := F)).result (V0 m d)) c' = constantI S_ 32 0#32 := StableHlo.nullary_result _ _ _ _
  have e3z : (opZ (F := F)).result ((opC (F := F)).result ((opR (F := F)).result (V0 m d))) z' = constantI S_ 32 0#32 := by
    refine (StableHlo.unary_result _ _ _ _ _ _).trans ?_
    simp only [StableHlo.TRef.toBuf, StableHlo.TRef.ofBuf, cast_eq, id]
    exact e1c
  refine (StableHlo.binary_result _ _ _ _ _ _ _ _).trans ?_
  simp only [StableHlo.TRef.toBuf, StableHlo.TRef.ofBuf, cast_eq]
  rw [e3r, e3z]
  rfl

theorem held_S7 (d : Dev nD) (W : Valuation τ sig (Elt F)) :
    (held (T d) S7 W : sProp 𝕄)
      = iprop((yLoc d ↦{fullShare} W y') ∗ (aLocT d ↦{fullShare} W s') ∗ ((SparseCore.T d).loc main_v0 ↦{fullShare} W r')
          ∗ ((SparseCore.T d).loc main_c ↦{fullShare} W c') ∗ ((SparseCore.T d).loc main_call0_v0 ↦{fullShare} W z')
          ∗ (sLoc d ↦{fullShare} W p') ∗ oLoc d ↦{fullShare} W o') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((yLoc d ↦{fullShare} W main_arg0) ∗ (aLocT d ↦{fullShare} W main_arg1) ∗ ((SparseCore.T d).loc main_v0 ↦{fullShare} W main_v0)
          ∗ ((SparseCore.T d).loc main_c ↦{fullShare} W main_c) ∗ ((SparseCore.T d).loc main_call0_v0 ↦{fullShare} W main_call0_v0)
          ∗ (sLoc d ↦{fullShare} W main_v1) ∗ oLoc d ↦{fullShare} W main_v2) := by
  unfold unscopedBufs
  rw [show (Finset.univ.filter fun b : Ref sig .tc => ¬ b.isScoped) = {main_arg0, main_arg1, main_v0, main_c, main_call0_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S7 (V0 m d) := by
  rw [unscopedBufs_eq, held_S7]; rfl

theorem held_V4 (d : Dev nD) :
    (held (T d) S7 ((opP (F := F)).result ((opZ (F := F)).result ((opC (F := F)).result ((opR (F := F)).result (V0 m d))))) : sProp 𝕄)
      = iprop((yLoc d ↦{fullShare} Ym m d) ∗ (aLocT d ↦{fullShare} m (aLocT d)) ∗ ((SparseCore.T d).loc main_v0 ↦{fullShare} V4 m d r')
          ∗ ((SparseCore.T d).loc main_c ↦{fullShare} V4 m d c') ∗ ((SparseCore.T d).loc main_call0_v0 ↦{fullShare} V4 m d z')
          ∗ (sLoc d ↦{fullShare} Pm m d) ∗ oLoc d ↦{fullShare} Om m d) := by
  show held (T d) S7 (V4 m d) = _
  rw [held_S7, V4_p, V4_of m d y' (by decide) (by decide) (by decide) (by decide), V4_of m d s' (by decide) (by decide) (by decide) (by decide),
    V4_of m d o' (by decide) (by decide) (by decide) (by decide)]

/-! ## The parts dealt -/

def coordsV (c : Fin (grid0.bound 0)) (s : Fin (grid0.bound 1)) : grid0.Coords :=
  fun | 0 => c | 1 => s | ⟨_ + 2, h⟩ => absurd h (Nat.not_lt.2 (Nat.le_add_left _ _))

/-- The grid point of core `c`'s subcore `s`. -/
def pt (c : Fin 2) (s : Fin 16) : grid0.Coords := coordsV c s

theorem base_pt (c : Fin 2) (s : Fin 16) : base (pt c s) = 16 * s.val + 256 * c.val := rfl

def qC (c : Fin 2) : PosShare TreeShare := pieceOf fullShare 2 (by decide) c
def qT (c : Fin 2) (s : Fin 16) : PosShare TreeShare := pieceOf (qC c) 16 (by decide) s

abbrev tSet (c : Fin 2) (s : Fin 16) : Finset S4x16384x1024.Idx := tileSet (pt c s)
/-- The part of the result that core `c` fills. -/
abbrev cSet (c : Fin 2) : Finset S4x16384x1024.Idx := Finset.univ.biUnion (tSet c)

theorem tSet_disj (c : Fin 2) : ∀ s ∈ (Finset.univ : Finset (Fin 16)), ∀ t ∈ (Finset.univ : Finset (Fin 16)), s ≠ t → Disjoint (tSet c s) (tSet c t) := by
  intro s _ t _ h
  refine Finset.disjoint_left.mpr fun x hs ht => h (Fin.ext ?_)
  have h1 := (mem_tileSet _ x).mp hs
  have h2 := (mem_tileSet _ x).mp ht
  rw [base_pt] at h1 h2
  omega

theorem cSet_disj : ∀ c ∈ (Finset.univ : Finset (Fin 2)), ∀ e ∈ (Finset.univ : Finset (Fin 2)), c ≠ e → Disjoint (cSet c) (cSet e) := by
  intro c _ e _ h
  refine Finset.disjoint_left.mpr fun x hc he => h (Fin.ext ?_)
  obtain ⟨s, -, hs⟩ := Finset.mem_biUnion.mp hc
  obtain ⟨t, -, ht⟩ := Finset.mem_biUnion.mp he
  have h1 := (mem_tileSet _ x).mp hs
  have h2 := (mem_tileSet _ x).mp ht
  rw [base_pt] at h1 h2
  have := s.isLt; have := t.isLt
  omega

theorem cSet_cover : (Finset.univ : Finset (Fin 2)).biUnion cSet = Finset.univ := by
  refine Finset.eq_univ_iff_forall.mpr fun x => ?_
  have hx : (x 1).val < 16384 := (x 1).isLt
  refine Finset.mem_biUnion.mpr ⟨⟨(x 1).val / 8192, by omega⟩, Finset.mem_univ _,
    Finset.mem_biUnion.mpr ⟨⟨(x 1).val / 512 % 16, by omega⟩, Finset.mem_univ _, (mem_tileSet _ x).mpr ?_⟩⟩
  rw [base_pt]
  show 16 * ((x 1).val / 512 % 16) + 256 * ((x 1).val / 8192) ≤ _ ∧ _ < 16 * ((x 1).val / 512 % 16) + 256 * ((x 1).val / 8192) + 16
  omega

/-- Table, padded slots and result at share `q` and on the cells `I`. -/
abbrev Part (d : Dev nD) (q : PosShare TreeShare) (I : Finset S4x16384x1024.Idx) (f : S4x16384x1024.Idx → Elt F .f32) : sProp 𝕄 :=
  iprop((yLoc d ↦{q} Ym m d) ∗ (sLoc d ↦{q} Pm m d) ∗ oLoc d ↦[I]{fullShare} f)

theorem whole_cores (d : Dev nD) (f : S4x16384x1024.Idx → Elt F .f32) :
    Part m d fullShare Finset.univ f = bigSep Finset.univ fun c : Fin 2 => Part m d (qC c) (cSet c) f := by
  unfold Part
  rw [bigSep_sep', bigSep_sep', ← pointsTo_biUnion Finset.univ (ℓ := oLoc d) cSet cSet_disj, cSet_cover,
    pointsTo_piecesOf (ℓ := yLoc d) Finset.univ (Ym m d) (o := 2) (by decide) fullShare,
    pointsTo_piecesOf (ℓ := sLoc d) Finset.univ (Pm m d) (o := 2) (by decide) fullShare]
  rfl

theorem core_tiles (d : Dev nD) (c : Fin 2) (f : S4x16384x1024.Idx → Elt F .f32) :
    Part m d (qC c) (cSet c) f = bigSep Finset.univ fun s : Fin 16 => Part m d (qT c s) (tSet c s) f := by
  unfold Part
  rw [bigSep_sep', bigSep_sep', ← pointsTo_biUnion Finset.univ (ℓ := oLoc d) (tSet c) (tSet_disj c),
    pointsTo_piecesOf (ℓ := yLoc d) Finset.univ (Ym m d) (o := 16) (by decide) (qC c),
    pointsTo_piecesOf (ℓ := sLoc d) Finset.univ (Pm m d) (o := 16) (by decide) (qC c)]
  rfl

/-! ## What the handshakes carry -/

theorem nCore_zero : (K (F := F)).nCore 0 = 2 := rfl
theorem nSub_zero : (K (F := F)).nSub 0 = 16 := rfl

abbrev Gm (d : Dev nD) : S4x16384x1024.Idx → Elt F .f32 := G (Pm m d) (Ym m d)

def P : (K (F := F)).Pay (nD := nD) (Val := Elt F) (Name := ℕ) (U := UU) where
  st := fun q d c => match q with | 0 => Part m d (qC (Fin.cast nCore_zero c)) (cSet (Fin.cast nCore_zero c)) (Om m d)
  dn := fun q d c => match q with | 0 => Part m d (qC (Fin.cast nCore_zero c)) (cSet (Fin.cast nCore_zero c)) (Gm m d)
  go := fun q d c i => match q with
    | 0 => Part m d (qT (Fin.cast nCore_zero c) (Fin.cast nSub_zero i)) (tSet (Fin.cast nCore_zero c) (Fin.cast nSub_zero i)) (Om m d)
  td := fun q d c i => match q with
    | 0 => Part m d (qT (Fin.cast nCore_zero c) (Fin.cast nSub_zero i)) (tSet (Fin.cast nCore_zero c) (Fin.cast nSub_zero i)) (Gm m d)
  x := fun _ _ => iprop(emp)

instance P_storable : (P (F := F) m).IsStorable where
  st q d c := match q with
    | 0 => (inferInstance : BI.Storable (upEmb : UEmb _ 𝕄) (Part m d (qC (Fin.cast nCore_zero c)) (cSet (Fin.cast nCore_zero c)) (Om m d)))
  dn q d c := match q with
    | 0 => (inferInstance : BI.Storable (upEmb : UEmb _ 𝕄) (Part m d (qC (Fin.cast nCore_zero c)) (cSet (Fin.cast nCore_zero c)) (Gm m d)))
  go q d c i := match q with
    | 0 => (inferInstance : BI.Storable (upEmb : UEmb _ 𝕄)
      (Part m d (qT (Fin.cast nCore_zero c) (Fin.cast nSub_zero i)) (tSet (Fin.cast nCore_zero c) (Fin.cast nSub_zero i)) (Om m d)))
  td q d c i := match q with
    | 0 => (inferInstance : BI.Storable (upEmb : UEmb _ 𝕄)
      (Part m d (qT (Fin.cast nCore_zero c) (Fin.cast nSub_zero i)) (tSet (Fin.cast nCore_zero c) (Fin.cast nSub_zero i)) (Gm m d)))

/-! ## The obligation -/

theorem defs₀_vector (c : Fin τ.nSC) (s : Fin τ.nSub) :
    defs₀ (F := F) (.scVector c s) 0 ()
      = SparseCore.onTile hcore0 hsub0 (fun c s => cc0_gather (coordsV c s)
          yV (Memref.isWhole_whole _) sV (Memref.isWhole_whole _) oV (Memref.isWhole_whole _)
          aV (Memref.isWhole_whole _) cc0_scoped1 bV (Memref.isWhole_whole _) cc0_scoped3
          cc0_scoped4 cc0_scoped5 cc0_scoped6 cc0_scoped7 cc0_scoped8 cc0_scoped9 cc0_scoped10 cc0_scoped11) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (Pm m d) (Ym m d) (Om m d) (hpre d) (qT (Fin.cast nCore_zero c) (Fin.cast nSub_zero i))
    (qT (Fin.cast nCore_zero c) (Fin.cast nSub_zero i)) O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show Part m d (qC (Fin.cast nCore_zero c)) (cSet (Fin.cast nCore_zero c)) (Om m d) ⊢ |={Set.univ}=> iprop(
      (bigSep Finset.univ fun i : Fin ((K (F := F)).nSub 0) =>
        Part m d (qT (Fin.cast nCore_zero c) (Fin.cast nSub_zero i)) (tSet (Fin.cast nCore_zero c) (Fin.cast nSub_zero i)) (Om m d))
      ∗ ((bigSep Finset.univ fun i : Fin ((K (F := F)).nSub 0) =>
          Part m d (qT (Fin.cast nCore_zero c) (Fin.cast nSub_zero i)) (tSet (Fin.cast nCore_zero c) (Fin.cast nSub_zero i)) (Gm m d))
          -∗ Part m d (qC (Fin.cast nCore_zero c)) (cSet (Fin.cast nCore_zero c)) (Gm m d)))
  rw [bigSep_tasks (F := F) (fun i => Part m d (qT (Fin.cast nCore_zero c) i) (tSet (Fin.cast nCore_zero c) i) (Om m d)),
    bigSep_tasks (F := F) (fun i => Part m d (qT (Fin.cast nCore_zero c) i) (tSet (Fin.cast nCore_zero c) i) (Gm m d)),
    core_tiles m d (Fin.cast nCore_zero c) (Om m d), core_tiles m d (Fin.cast nCore_zero c) (Gm m d)]
  iintro H; imodintro
  isplitl [H]; · iexact H
  iintro H; iexact H

theorem st0_eq (d : Dev nD) : (bigSep Finset.univ fun c : Fin ((K (F := F)).nCore 0) => (P m).st 0 d c) = Part m d fullShare Finset.univ (Om m d) :=
  (bigSep_cores (F := F) fun c => Part m d (qC c) (cSet c) (Om m d)).trans (whole_cores m d _).symm
theorem dn0_eq (d : Dev nD) : (bigSep Finset.univ fun c : Fin ((K (F := F)).nCore 0) => (P m).dn 0 d c) = Part m d fullShare Finset.univ (Gm m d) :=
  (bigSep_cores (F := F) fun c => Part m d (qC c) (cSet c) (Gm m d)).trans (whole_cores m d _).symm

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

theorem hR : (opR (F := F)).bufs ⊆ S7 := show ({s', r'} : Finset (DevRef τ sig)) ⊆ S7 by decide
theorem hC : (opC (F := F)).bufs ⊆ S7 := show ({c'} : Finset (DevRef τ sig)) ⊆ S7 by decide
theorem hZ : (opZ (F := F)).bufs ⊆ S7 := show ({c', z'} : Finset (DevRef τ sig)) ⊆ S7 by decide
theorem hP : (opP (F := F)).bufs ⊆ S7 := show ({r', z', p'} : Finset (DevRef τ sig)) ⊆ S7 by decide

/-- What @main leaves the claims. -/
abbrev FIN (d : Dev nD) : sProp 𝕄 :=
  iprop((yLoc d ↦{fullShare} Ym m d) ∗ (aLocT d ↦{fullShare} m (aLocT d)) ∗ oLoc d ↦{fullShare} Gm m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (SparseCore.T d) none Set.univ (op := opR) (S := S7) hR (V := V0 m d)) $$ [Hb Hheld]
  · isplitl [Hb] <;> iassumption
  iintro ⟨Hb, Hheld⟩
  rw [wp_ret]; imodintro
  iapply (wp_hlo_within 𝒱 (SparseCore.T d) none Set.univ (op := opC) (S := S7) hC (V := (opR (F := F)).result (V0 m d))) $$ [Hb Hheld]
  · isplitl [Hb] <;> iassumption
  iintro ⟨Hb, Hheld⟩
  rw [wp_ret]; imodintro
  iapply (wp_hlo_within 𝒱 (SparseCore.T d) none Set.univ (op := opZ) (S := S7) hZ (V := (opC (F := F)).result ((opR (F := F)).result (V0 m d)))) $$ [Hb Hheld]
  · isplitl [Hb] <;> iassumption
  iintro ⟨Hb, Hheld⟩
  rw [wp_ret]; imodintro
  iapply (wp_hlo_within 𝒱 (SparseCore.T d) none Set.univ (op := opP) (S := S7) hP
    (V := (opZ (F := F)).result ((opC (F := F)).result ((opR (F := F)).result (V0 m d))))) $$ [Hb Hheld]
  · isplitl [Hb] <;> iassumption
  iintro ⟨Hb, Hheld⟩
  rw [wp_ret]; imodintro
  imodintro
  ihave Hh := (Entails.of_eq (held_V4 (F := F) m d)) $$ Hheld
  icases Hh with ⟨Hy, Hs, -, -, -, Hp, Ho⟩
  iapply ((K (F := F)).wp_run (D (F := F)) 𝒱 (EH := EH) (P := P m) κ d 0) $$ [Hst Hy Hs Hp Ho Hb Hts]
  isplitr; · iexact Hctx
  isplitl [Hst]; · iexact Hst
  isplitl [Hy Hp Ho]
  · rw [st0_eq]
    isplitl [Hy]; · iexact Hy
    isplitl [Hp]; · iexact Hp
    iexact Ho
  iintro ⟨Hst, Hdn⟩
  ihave Hdn' := (Entails.of_eq (dn0_eq m d)) $$ Hdn
  icases Hdn' with ⟨Hy, -, Ho⟩
  imodintro
  isplitl [Hst]; · iexact Hst
  isplitr [Hb Hts]
  · isplitl [Hy]; · iexact Hy
    isplitl [Hs]; · iexact Hs
    iexact Ho
  isplitl [Hb] <;> iassumption

def fq (d : Dev nD) (s' : Phys nD τ sig (Elt F)) : Prop :=
  s'.mem.mem (oLoc d) = Gm m d ∧ s'.mem.mem (yLoc d) = m (yLoc d) ∧ s'.mem.mem (aLocT d) = m (aLocT d)

set_option maxRecDepth 16384 in
theorem hfin (d : Dev nD) (s' : Phys nD τ sig (Elt F)) : iprop(FIN m d ∗ SI s') ⊢ (⌜fq m d s'⌝ : sProp 𝕄) := by
  iintro ⟨⟨Hy, Hs, Ho⟩, HSI⟩
  ihave H := (persistent_entails_right (SI_pointsTo_agree (st := s') (ℓ := yLoc d) (I := Finset.univ) (q := fullShare) (f := m (yLoc d)))) $$ [HSI Hy]
  · isplitl [HSI] <;> iassumption
  icases H with ⟨%h1, HSI, -⟩
  ihave H := (persistent_entails_right (SI_pointsTo_agree (st := s') (ℓ := aLocT d) (I := Finset.univ) (q := fullShare) (f := m (aLocT d)))) $$ [HSI Hs]
  · isplitl [HSI] <;> iassumption
  icases H with ⟨%h2, HSI, -⟩
  ihave H := (SI_pointsTo_agree (st := s') (ℓ := oLoc d) (I := Finset.univ) (q := fullShare) (f := Gm m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => (∀ c : Dev nD, r.2.mem (oLoc c) = Gm m c
  ∧ r.2.mem (yLoc c) = m (yLoc c) ∧ r.2.mem (aLocT c) = m (aLocT c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Hand

end
-- ==== Proof.Ref.lean ====
/-
The reference: nine host operations on the TensorCore, the last of them the gather. Over any float values it runs to the end, its
two arguments kept, its result the gather of `y`'s rows at the row numbers it computes from `slots` (a negative one counted from
the table's end).
-/
module

public import proofs.«01_k».proof.Defs
public import Idealize.ShloMosaic.Lib.StableHlo.Run
public import Idealize.ShloMosaic.Lib.Quiescent
public import proofs.«01_k».proof.Proof.Gen.ReferenceIdeal

@[expose] public section

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- The row numbers: a negative slot counted from the table's end, the others as they are. -/
def rowNo (sl : S4x16384.Idx → Elt F .i32) : S4x16384.Idx → Elt F .i32 :=
  select (cmpi .slt sl (broadcastInDim S4x16384 ![] bcast_S_S4x16384 (constantI S_ 32 0#32)))
    (addi sl (broadcastInDim S4x16384 ![] bcast_S_S4x16384 (constantI S_ 32 81920#32))) sl

/-- The reference's result. -/
def refOut (Y : S81920x1024.Idx → Elt F .f32) (sl : S4x16384.Idx → Elt F .i32) : S4x16384x1024.Idx → Elt F .f32 :=
  Host.gather gather_S81920x1024_S4x16384x1_S4x16384x1024_2_0_n_n_0_2_11024 Y
    (broadcastInDim S4x16384x1 ![0, 1] bcast_S4x16384_S4x16384x1_0_1 (rowNo (F := F) sl))

/-- @main's operations, in order. -/
abbrev ops : List (HloOp τ sig (Elt F)) :=
  [ nullary main_c (constantI S_ 32 0#32),
    unary main_c main_v0 (broadcastInDim S4x16384 ![] bcast_S_S4x16384 : (⟨S_, .i32⟩ : BufTy).Contents (Elt F) → (⟨S4x16384, .i32⟩ : BufTy).Contents (Elt F)),
    binary main_arg1 main_v0 main_v1 (cmpi .slt : (⟨S4x16384, .i32⟩ : BufTy).Contents (Elt F) → (⟨S4x16384, .i32⟩ : BufTy).Contents (Elt F) → (⟨S4x16384, .i1⟩ : BufTy).Contents (Elt F)),
    nullary main_c_0 (constantI S_ 32 81920#32),
    unary main_c_0 main_v2 (broadcastInDim S4x16384 ![] bcast_S_S4x16384 : (⟨S_, .i32⟩ : BufTy).Contents (Elt F) → (⟨S4x16384, .i32⟩ : BufTy).Contents (Elt F)),
    binary main_arg1 main_v2 main_v3 (addi : (⟨S4x16384, .i32⟩ : BufTy).Contents (Elt F) → (⟨S4x16384, .i32⟩ : BufTy).Contents (Elt F) → (⟨S4x16384, .i32⟩ : BufTy).Contents (Elt F)),
    ternary main_v1 main_v3 main_arg1 main_v4 (select : (⟨S4x16384, .i1⟩ : BufTy).Contents (Elt F) → (⟨S4x16384, .i32⟩ : BufTy).Contents (Elt F) → (⟨S4x16384, .i32⟩ : BufTy).Contents (Elt F) → (⟨S4x16384, .i32⟩ : BufTy).Contents (Elt F)),
    unary main_v4 main_v5 (broadcastInDim S4x16384x1 ![0, 1] bcast_S4x16384_S4x16384x1_0_1 : (⟨S4x16384, .i32⟩ : BufTy).Contents (Elt F) → (⟨S4x16384x1, .i32⟩ : BufTy).Contents (Elt F)),
    binary main_arg0 main_v5 main_v6 ((fun x i => Host.gather gather_S81920x1024_S4x16384x1_S4x16384x1024_2_0_n_n_0_2_11024 x i) : (⟨S81920x1024, .f32⟩ : BufTy).Contents (Elt F) → (⟨S4x16384x1, .i32⟩ : BufTy).Contents (Elt F) → (⟨S4x16384x1024, .f32⟩ : BufTy).Contents (Elt F)) ]

theorem main_eq (c : Dev nD) : main (F := F) c = seq ops := rfl

theorem out_eq (V : Valuation τ sig (Elt F)) :
    after ops V (main_v6 : DevRef τ sig) = refOut (V (main_arg0 : DevRef τ sig)) (V (main_arg1 : DevRef τ sig)) := by
  after_results
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub ..⟩

/-- The run: the result `refOut` of the arguments, which are kept; no semaphore. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v6) = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v6).trans (out_eq _), (h c main_arg0).trans (arg0_eq _), (h c main_arg1).trans (arg1_eq _)⟩,
      sem_eq_zero_of_no_sems (by decide) r.2⟩)
    (run_seq scopedRefs_eq scopedSems_eq defs main (fun _ => ops) main_eq (fun _ => ops_sub) m ρ)

end Cert.ReferenceIdeal.Hand

end
-- ==== Proof.Value.lean ====
/-
The two results are one: with every slot a row number of the table, the reference's gather reads row `slots[k, t]` of `y` at
`[k, t, :]`, and so does the kernel, whose padded slots hold `slots[k, 32 g + r]` at `[k, g, r]` for `r < 32` and zero beyond.
-/
module

public import proofs.«01_k».proof.Proof.Launch
public import proofs.«01_k».proof.Proof.Ref
public import Idealize.ShloMosaic.Lib.KernelVsHost
public import Idealize.ShloMosaic.Lib.ValueIdxCore

@[expose] public section

noncomputable section

namespace Cert.Proof.Value

open Cert.KernelIdeal Cert.KernelIdeal.Gen Cert.KernelIdeal.Hand
open Idealize.ShloMosaic

variable {F : FTy → Type} [FloatOps F]

/-- Every slot is the number of a row of the table. -/
def InRows (sl : S4x16384.Idx → BitVec 32) : Prop := ∀ i, (sl i).toNat < 81920

theorem padded_slot (sl : S4x16384.Idx → BitVec 32) (x : S4x512x128.Idx) (k : S4x16384.Idx) (h0 : (k 0).val = (x 0).val)
    (h1 : (k 1).val = 32 * (x 1).val + (x 2).val) (h2 : (x 2).val < 32) : padded (F := F) sl x = sl k := by
  have hx0 : (x 0).val < 4 := (x 0).isLt
  have hx1 : (x 1).val < 512 := (x 1).isLt
  refine (pad_apply_of_inside _ _ _ _ _ _ _ x
    (fun | 0 => ⟨(x 0).val, hx0⟩ | 1 => ⟨(x 1).val, hx1⟩ | 2 => ⟨(x 2).val, h2⟩ : S4x512x32.Idx) ?_).trans ?_
  · intro a
    match a with
    | 0 => show (x 0).val = 0 + (x 0).val * (0 + 1); omega
    | 1 => show (x 1).val = 0 + (x 1).val * (0 + 1); omega
    | 2 => show (x 2).val = 0 + (x 2).val * (0 + 1); omega
  · refine shapeCast_apply _ _ _ k ?_
    rw [Shape.rowMajor_val_three, Shape.rowMajor_val_two]
    show (k 0).val * 16384 + (k 1).val = ((x 0).val * 512 + (x 1).val) * 32 + (x 2).val
    omega

theorem padded_zero (sl : S4x16384.Idx → BitVec 32) (x : S4x512x128.Idx) (h2 : ¬ (x 2).val < 32) : padded (F := F) sl x = 0#32 := by
  refine (pad_apply_of_not_inside _ _ _ _ _ _ _ x 2 fun h => h2 ?_).trans rfl
  have h' : ((x 2).val - 0) / (0 + 1) < 32 := h.2.2
  omega

theorem padded_lt {sl : S4x16384.Idx → BitVec 32} (h : InRows sl) (x : S4x512x128.Idx) : BitVec.toNat (w := 32) (padded (F := F) sl x) < 81920 := by
  by_cases h2 : (x 2).val < 32
  · have hx1 : (x 1).val < 512 := (x 1).isLt
    have hx0 : (x 0).val < 4 := (x 0).isLt
    rw [padded_slot sl x (fun | 0 => ⟨(x 0).val, hx0⟩ | 1 => ⟨32 * (x 1).val + (x 2).val, by show _ < 16384; omega⟩) rfl rfl h2]
    exact h _
  · rw [padded_zero sl x h2]; decide

/-- The row of slots a position of the result reads. -/
def slotAt (x : S4x16384x1024.Idx) : S4x16384.Idx := fun | 0 => x 0 | 1 => x 1

theorem G_eq (sl : S4x16384.Idx → BitVec 32) (Y : S81920x1024.Idx → Elt F .f32) (x : S4x16384x1024.Idx) :
    G (padded (F := F) sl) Y x = Y (ixY (sl (slotAt x)).toNat (x 2).val) := by
  have hx0 : (x 0).val < 4 := (x 0).isLt
  have hx1 : (x 1).val < 16384 := (x 1).isLt
  unfold G
  rw [padded_slot sl _ (slotAt x) ?_ ?_ ?_]
  · show (x 0).val = (x 0).val % 4; omega
  · show (x 1).val = 32 * ((x 1).val / 32 % 512) + (x 1).val % 32 % 128; omega
  · show (x 1).val % 32 % 128 < 32; omega

theorem rowNo_eq {sl : S4x16384.Idx → BitVec 32} (h : InRows sl) : Cert.ReferenceIdeal.Hand.rowNo (F := F) sl = sl := by
  funext i
  have hi := h i
  have e : IntOp.cmpi .slt (sl i) 0#32 = 0#1 := by
    show BitVec.ofBool _ = _
    rw [BitVec.slt_eq_decide, decide_eq_false]
    · rfl
    · rw [BitVec.toInt_eq_toNat_cond, BitVec.toInt_eq_toNat_cond]
      simp only [BitVec.toNat_ofNat, Nat.reducePow, Nat.reduceMod]
      omega
  show (if IntOp.cmpi .slt (sl i) 0#32 = 1#1 then _ else sl i) = sl i
  rw [e]; rfl

abbrev gd : GatherDims S81920x1024 Cert.ReferenceIdeal.S4x16384x1 S4x16384x1024 :=
  Cert.ReferenceIdeal.gather_S81920x1024_S4x16384x1_S4x16384x1024_2_0_n_n_0_2_11024

theorem ref_eq {sl : S4x16384.Idx → BitVec 32} (h : InRows sl) (Y : S81920x1024.Idx → Elt F .f32) (x : S4x16384x1024.Idx) :
    Cert.ReferenceIdeal.Hand.refOut (F := F) Y sl x = Y (ixY (sl (slotAt x)).toNat (x 2).val) := by
  have hx2 : (x 2).val < 1024 := (x 2).isLt
  have hs := h (slotAt x)
  unfold Cert.ReferenceIdeal.Hand.refOut
  rw [rowNo_eq h]
  unfold Host.gather
  refine congrArg Y (ixY_eq ?_ ?_).symm
  · show gd.start x _ 0 + gd.batchCoord x 0 + gd.offCoord x 0 = _
    rw [gd.batchCoord_eq_zero _ _ List.not_mem_nil,
      gd.offCoord_eq_zero _ _ (fun k => ((gd.mem_sKept _).mp k).1 (List.mem_singleton.mpr rfl))]
    unfold GatherDims.start
    rw [dif_pos (show (0 : Fin 2) ∈ gd.startIndexMap from List.mem_singleton.mpr rfl)]
    have hk : ∀ z : Cert.ReferenceIdeal.S4x16384x1.Idx, (z 0).val = (x 0).val → (z 1).val = (x 1).val →
        broadcastInDim Cert.ReferenceIdeal.S4x16384x1 ![0, 1] Cert.ReferenceIdeal.Gen.bcast_S4x16384_S4x16384x1_0_1 sl z = sl (slotAt x) := by
      intro z e0 e1
      refine congrArg sl (funext fun b => Fin.ext ?_)
      match b with
      | 0 => exact e0
      | 1 => exact e1
    rw [hk _ rfl rfl]
    show min (sl (slotAt x)).toInt.toNat (81920 - 1) + 0 + 0 = _
    rw [BitVec.toInt_eq_toNat_cond, if_pos (by omega)]
    omega
  · show gd.start x _ 1 + gd.batchCoord x 1 + gd.offCoord x 1 = _
    rw [gd.batchCoord_eq_zero _ _ List.not_mem_nil]
    unfold GatherDims.start
    rw [dif_neg (show ¬ (1 : Fin 2) ∈ gd.startIndexMap from fun k => absurd (List.mem_singleton.mp k) (by decide))]
    unfold GatherDims.offCoord
    rw [dif_pos ((gd.mem_sKept 1).mpr ⟨fun k => absurd (List.mem_singleton.mp k) (by decide), List.not_mem_nil⟩)]
    exact (Nat.zero_add _).trans rfl

theorem result_eq {sl : S4x16384.Idx → BitVec 32} (h : InRows sl) (Y : S81920x1024.Idx → Elt F .f32) :
    Cert.ReferenceIdeal.Hand.refOut (F := F) Y sl = G (padded (F := F) sl) Y :=
  funext fun x => (ref_eq h Y x).trans (G_eq sl Y x).symm

end Cert.Proof.Value

end
-- ==== Proof.Combine.lean ====
/-
The combine, over the extended reals: what the kernel leaves in its result array is the reference's term, index by index. The
row mixed of the residual row and the four gated expert rows is `mix`; both programs leave at `(r, l)` the value
`mix r l * rsqrt (mean of mix r squared + eps) * gain l` (`out`). The kernel adds the four products to the residual entry one
after another, the reference adds their sum: addition is associative there.
-/
module

public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import Idealize.ShloMosaic.Lib.Pipeline.Value
public import Idealize.ShloMosaic.Lib.StableHlo.ReadAt
public import Idealize.ShloMosaic.Lib.Pointwise
public import Idealize.ShloMosaic.Lib.Tactic

@[expose] public section

noncomputable section

namespace Cert.Proof.Combine

open Idealize.ShloMosaic Idealize.ShloMosaic.TcCoe Idealize.SL.Sem

/-! ## The common value -/

section Common

open Cert.Kernel2Ideal

variable (x : FVec Ideal S16384x1024 .f32) (g : FVec Ideal S16384x4 .f32) (n : FVec Ideal S1024 .f32) (y : FVec Ideal S4x16384x1024 .f32)

/-- Entry `(r, l)` of the residual stream with the four expert rows of token `r`, each times its gate, added. -/
def mix (r : Fin 16384) (l : Fin 1024) : EReal :=
  x (ix2 r l) + y (ix3 0 r l) * g (ix2 r 0) + y (ix3 1 r l) * g (ix2 r 1) + y (ix3 2 r l) * g (ix2 r 2) + y (ix3 3 r l) * g (ix2 r 3)

/-- The row normalized by its root mean square, times the norm's gain. -/
def out : FVec Ideal S16384x1024 .f32 := fun i =>
  mix x g y (i 0) (i 1)
    * Ideal.rsqrt (Ideal.div (∑ l, mix x g y (i 0) l * mix x g y (i 0) l) (Ideal.ofBits FTy.f32 0x44800000#32)
        + Ideal.ofBits FTy.f32 0x358637BD#32)
    * n (ix1 (i 1))

end Common

/-! ## The kernel -/

section Kernel

open Cert.Kernel2Ideal Cert.Kernel2Ideal.Gen Cert.Kernel2Ideal.Value

variable (m : (ℓ : Loc nD τ sig) → Buf (Elt Ideal) ℓ)

/-- The four argument arrays. -/
abbrev aX (c : Dev nD) : FVec Ideal S16384x1024 .f32 := m ((c : Thread nD τ).loc main_arg0)
abbrev aG (c : Dev nD) : FVec Ideal S16384x4 .f32 := m ((c : Thread nD τ).loc main_arg1)
abbrev aN (c : Dev nD) : FVec Ideal S1024 .f32 := m ((c : Thread nD τ).loc main_arg2)
abbrev aY (c : Dev nD) : FVec Ideal S4x16384x1024 .f32 := m ((c : Thread nD τ).loc main_arg3)

/-- The gates as the region finds them: transposed, with four rows of zeros under them. -/
theorem V_gates (c : Dev nD) (i : S8x16384.Idx) :
    (V m c main_v2 : FVec Ideal S8x16384 .f32) i = if h : (i 0).val < 4 then aG m c (ix2 (i 1) ⟨(i 0).val, h⟩) else (0 : EReal) := by
  unfold V
  unfold hostOps0
  after_reads_at

/-- The norm's gain as one row. -/
theorem V_norm (c : Dev nD) (i : S1x1024.Idx) : (V m c main_v3 : FVec Ideal S1x1024 .f32) i = aN m c (ix1 (i 1)) := by
  unfold V
  unfold hostOps0
  after_reads_at

/-- The block of point `t` in each window's array. -/
theorem idx0 : ∀ t : Fin cfg0.N, win0_0.index t 0 = t.val ∧ win0_0.index t 1 = 0 := by decide +kernel
theorem idx1 : ∀ t : Fin cfg0.N, win0_1.index t 0 = 0 ∧ win0_1.index t 1 = t.val := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = t.val ∧ win0_3.index t 2 = 0 := by decide +kernel
theorem idx4 : ∀ t : Fin cfg0.N, win0_4.index t 0 = t.val ∧ win0_4.index t 1 = 0 := by decide +kernel

/-- Row `p` of point `t`'s block, in the whole arrays. -/
abbrev row (t : Fin cfg0.N) (p : Fin 512) : Fin 16384 :=
  ⟨t.val * 512 + p.val, by have ht : t.val < 32 := t.isLt; have hp := p.isLt; omega⟩

theorem blk_x (c : Dev nD) (t : Fin cfg0.N) (p : Fin 512) (l : Fin 1024) :
    (iblk m c 0 t : FVec Ideal S512x1024 .f32) (ix2 p l) = aX m c (ix2 (row t p) l) := by
  unfold iblk
  rw [View.read_apply]
  show V m c main_arg0 _ = _
  rw [V_main_arg0]
  congr 1
  funext a
  apply Fin.ext
  match a with
  | ⟨0, _⟩ => show win0_0.index t 0 * 512 + 1 * p.val = t.val * 512 + p.val; rw [(idx0 t).1]; omega
  | ⟨1, _⟩ => show win0_0.index t 1 * 1024 + 1 * l.val = l.val; rw [(idx0 t).2]; omega

theorem blk_g (c : Dev nD) (t : Fin cfg0.N) (k : Fin 4) (p : Fin 512) :
    (iblk m c 1 t : FVec Ideal S8x512 .f32) (ix2 ⟨k.val, by omega⟩ p) = aG m c (ix2 (row t p) k) := by
  have h : (iblk m c 1 t : FVec Ideal S8x512 .f32) (ix2 ⟨k.val, by omega⟩ p)
      = (V m c main_v2 : FVec Ideal S8x16384 .f32) (ix2 ⟨k.val, by omega⟩ (row t p)) := by
    unfold iblk
    rw [View.read_apply]
    show V m c main_v2 _ = _
    congr 1
    funext a
    apply Fin.ext
    match a with
    | ⟨0, _⟩ => show win0_1.index t 0 * 8 + 1 * k.val = k.val; rw [(idx1 t).1]; omega
    | ⟨1, _⟩ => show win0_1.index t 1 * 512 + 1 * p.val = t.val * 512 + p.val; rw [(idx1 t).2]; omega
  rw [h, V_gates]
  exact dif_pos k.isLt

theorem blk_n (c : Dev nD) (t : Fin cfg0.N) (l : Fin 1024) :
    (iblk m c 2 t : FVec Ideal S1x1024 .f32) (ix2 0 l) = aN m c (ix1 l) := by
  have h : (iblk m c 2 t : FVec Ideal S1x1024 .f32) (ix2 0 l) = (V m c main_v3 : FVec Ideal S1x1024 .f32) (ix2 0 l) := by
    unfold iblk
    rw [View.read_apply]
    show V m c main_v3 _ = _
    congr 1
    funext a
    apply Fin.ext
    match a with
    | ⟨0, _⟩ => show win0_2.index t 0 * 1 + 1 * 0 = 0; rw [(idx2 t).1]
    | ⟨1, _⟩ => show win0_2.index t 1 * 1024 + 1 * l.val = l.val; rw [(idx2 t).2]; omega
  rw [h, V_norm]
  rfl

theorem blk_y (c : Dev nD) (t : Fin cfg0.N) (k : Fin 4) (p : Fin 512) (l : Fin 1024) :
    (iblk m c 3 t : FVec Ideal S4x512x1024 .f32) (ix3 k p l) = aY m c (ix3 k (row t p) l) := by
  unfold iblk
  rw [View.read_apply]
  show V m c main_arg3 _ = _
  rw [V_main_arg3]
  congr 1
  funext a
  apply Fin.ext
  match a with
  | ⟨0, _⟩ => show win0_3.index t 0 * 4 + 1 * k.val = k.val; rw [(idx3 t).1]; omega
  | ⟨1, _⟩ => show win0_3.index t 1 * 512 + 1 * p.val = t.val * 512 + p.val; rw [(idx3 t).2.1]; omega
  | ⟨2, _⟩ => show win0_3.index t 2 * 1024 + 1 * l.val = l.val; rw [(idx3 t).2.2]; omega

/-- What the body leaves at entry `(p, l)` of its block, over the blocks it loads. -/
theorem out_apply (X : Vec Ideal S512x1024 .f32) (G : Vec Ideal S8x512 .f32) (N : Vec Ideal S1x1024 .f32) (Y : Vec Ideal S4x512x1024 .f32)
    (p : Fin 512) (l : Fin 1024) (M : Fin 1024 → EReal)
    (hM : ∀ j, M j = X (ix2 p j) + Y (ix3 0 p j) * G (ix2 0 p) + Y (ix3 1 p j) * G (ix2 1 p) + Y (ix3 2 p j) * G (ix2 2 p) + Y (ix3 3 p j) * G (ix2 3 p)) :
    out0_4 X G N Y (ix2 p l)
      = M l * Ideal.rsqrt (Ideal.div (∑ j, M j * M j) (Ideal.ofBits FTy.f32 0x44800000#32) + Ideal.ofBits FTy.f32 0x358637BD#32) * N (ix2 0 l) := by
  unfold out0_4
  rw [View.canon_unit_zero (by funext a; fin_cases a <;> rfl), lay4_0_eq]
  pointwise
  simp only [hM]

/-- What point `t` leaves is block `t` of the common value. -/
theorem flushed_eq (c : Dev nD) (t : Fin cfg0.N) :
    (dats m 0 c).flushed 4 t = ((cfg0.win 4).blk t).view.read (Elt Ideal) (out (aX m c) (aG m c) (aN m c) (aY m c)) := by
  rw [flushed4]
  show out0_4 (iblk m c 0 t) (iblk m c 1 t) (iblk m c 2 t) (iblk m c 3 t) = _
  funext j
  obtain ⟨p, l, rfl⟩ : ∃ (p : Fin 512) (l : Fin 1024), j = ix2 p l := ⟨j 0, j 1, by funext a; fin_cases a <;> rfl⟩
  rw [out_apply _ _ _ _ p l (fun j => mix (aX m c) (aG m c) (aY m c) (row t p) j) fun j => by
    rw [blk_x, blk_y, blk_y, blk_y, blk_y]
    have hg := fun k => blk_g m c t k p
    have hg0 := hg 0
    have hg1 := hg 1
    have hg2 := hg 2
    have hg3 := hg 3
    simp only [mix]
    rw [← hg0, ← hg1, ← hg2, ← hg3]
    rfl, blk_n, View.read_apply]
  show _ = out (aX m c) (aG m c) (aN m c) (aY m c) _
  have he : ((cfg0.win 4).blk t).view.emb (ix2 p l) = (ix2 (row t p) l : S16384x1024.Idx) := by
    funext a
    apply Fin.ext
    match a with
    | ⟨0, _⟩ => show win0_4.index t 0 * 512 + 1 * p.val = t.val * 512 + p.val; rw [(idx4 t).1]; omega
    | ⟨1, _⟩ => show win0_4.index t 1 * 1024 + 1 * l.val = l.val; rw [(idx4 t).2]; omega
  rw [he]
  rfl

/-- The 32 blocks tile the result array, which so ends holding the common value. -/
theorem final_eq (c : Dev nD) : (dats m 0 c).arrAt 4 cfg0.N = out (aX m c) (aG m c) (aN m c) (aY m c) :=
  (dats m 0 c).arrAt_eq_of_cover 4 _ (fun t _ => flushed_eq m c t) fun i => by
    have h0 : (i 0 : Nat) < 16384 := (i 0).isLt
    have h1 : (i 1 : Nat) < 1024 := (i 1).isLt
    obtain ⟨t, ht⟩ : ∃ t : Fin cfg0.N, t.val = (i 0 : Nat) / 512 := ⟨⟨(i 0 : Nat) / 512, by rw [show cfg0.N = 32 from N_0]; omega⟩, rfl⟩
    refine ⟨t, flush0_4 _, ?_⟩
    show (i : S16384x1024.Idx) ∈ ((View.whole main_v4).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [(idx4 t).1]
      omega
    | ⟨1, _⟩ =>
      show win0_4.index t 1 * 1024 ≤ (i 1 : Nat) ∧ (i 1 : Nat) < win0_4.index t 1 * 1024 + 1024
      rw [(idx4 t).2]
      omega

end Kernel

/-! ## The reference -/

section Reference

open Cert.Reference2Ideal

variable (x : FVec Ideal S16384x1024 .f32) (g : FVec Ideal S16384x4 .f32) (n : FVec Ideal S1024 .f32) (y : FVec Ideal S4x16384x1024 .f32)

/-- The reference's mixed rows. -/
abbrev refMix : FVec Ideal S16384x1024 .f32 :=
  addf x (Host.reduceAdd (mulf y (broadcastInDim S4x16384x1024 ![0, 1, 2] Gen.facts.bcast_S4x16384x1_S4x16384x1024_0_1_2
    (broadcastInDim S4x16384x1 ![0, 1] Gen.facts.bcast_S4x16384_S4x16384x1_0_1 (transpose S4x16384 [1, 0] g Gen.facts.transposes_S16384x4_S4x16384_1_0))))
    (constant S_ .f32 0x00000000#32) Gen.facts.reducesTo_S4x16384x1024_S16384x1024_d0 Gen.facts.h_S_)

theorem refMix_eq (r : Fin 16384) (l : Fin 1024) : refMix x g y (ix2 r l) = mix x g y r l := by
  unfold refMix mix
  pointwise
  rw [Fin.sum_univ_four]
  simp only [add_assoc]

/-- The reference's result, the mixed rows `S` named. -/
abbrev refOut (S : FVec Ideal S16384x1024 .f32) : FVec Ideal S16384x1024 .f32 :=
  mulf (mulf S (broadcastInDim S16384x1024 ![0, 1] Gen.facts.bcast_S16384x1_S16384x1024_0_1
      (Host.rsqrt (addf (Host.divf (broadcastInDim S16384x1 ![0] Gen.facts.bcast_S16384_S16384x1_0
          (Host.reduceAdd (mulf S S) (constant S_ .f32 0x00000000#32) Gen.facts.reducesTo_S16384x1024_S16384_d1 Gen.facts.h_S_))
          (broadcastInDim S16384x1 ![] Gen.facts.bcast_S_S16384x1 (constant S_ .f32 0x44800000#32)))
        (broadcastInDim S16384x1 ![] Gen.facts.bcast_S_S16384x1 (constant S_ .f32 0x358637BD#32))))))
    (broadcastInDim S16384x1024 ![0, 1] Gen.facts.bcast_S1x1024_S16384x1024_0_1
      (broadcastInDim S1x1024 ![1] Gen.facts.bcast_S1024_S1x1024_1 n))

theorem refOut_eq : refOut n (refMix x g y) = out x g n y := by
  funext i
  obtain ⟨r, l, rfl⟩ : ∃ (r : Fin 16384) (l : Fin 1024), i = ix2 r l := ⟨i 0, i 1, by funext a; fin_cases a <;> rfl⟩
  have h := refMix_eq x g y
  generalize refMix x g y = S at h
  unfold refOut out
  pointwise
  simp only [h]

end Reference

end Cert.Proof.Combine

end
-- ==== Proof.CombineSample.lean ====
/-
The combine on the sample batch's 32768 tokens, over the extended reals: what the kernel leaves in its result array is the reference's term, index by index. The
row mixed of the residual row and the four gated expert rows is `mix`; both programs leave at `(r, l)` the value
`mix r l * rsqrt (mean of mix r squared + eps) * gain l` (`out`). The kernel adds the four products to the residual entry one
after another, the reference adds their sum: addition is associative there.
-/
module

public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import Idealize.ShloMosaic.Lib.Pipeline.Value
public import Idealize.ShloMosaic.Lib.StableHlo.ReadAt
public import Idealize.ShloMosaic.Lib.Pointwise
public import Idealize.ShloMosaic.Lib.Tactic

@[expose] public section

noncomputable section

namespace Cert.Proof.CombineSample

open Idealize.ShloMosaic Idealize.ShloMosaic.TcCoe Idealize.SL.Sem

/-! ## The common value -/

section Common

open Cert.Kernel5Ideal

variable (x : FVec Ideal S32768x1024 .f32) (g : FVec Ideal S32768x4 .f32) (n : FVec Ideal S1024 .f32) (y : FVec Ideal S4x32768x1024 .f32)

/-- Entry `(r, l)` of the residual stream with the four expert rows of token `r`, each times its gate, added. -/
def mix (r : Fin 32768) (l : Fin 1024) : EReal :=
  x (ix2 r l) + y (ix3 0 r l) * g (ix2 r 0) + y (ix3 1 r l) * g (ix2 r 1) + y (ix3 2 r l) * g (ix2 r 2) + y (ix3 3 r l) * g (ix2 r 3)

/-- The row normalized by its root mean square, times the norm's gain. -/
def out : FVec Ideal S32768x1024 .f32 := fun i =>
  mix x g y (i 0) (i 1)
    * Ideal.rsqrt (Ideal.div (∑ l, mix x g y (i 0) l * mix x g y (i 0) l) (Ideal.ofBits FTy.f32 0x44800000#32)
        + Ideal.ofBits FTy.f32 0x358637BD#32)
    * n (ix1 (i 1))

end Common

/-! ## The kernel -/

section Kernel

open Cert.Kernel5Ideal Cert.Kernel5Ideal.Gen Cert.Kernel5Ideal.Value

variable (m : (ℓ : Loc nD τ sig) → Buf (Elt Ideal) ℓ)

/-- The four argument arrays. -/
abbrev aX (c : Dev nD) : FVec Ideal S32768x1024 .f32 := m ((c : Thread nD τ).loc main_arg0)
abbrev aG (c : Dev nD) : FVec Ideal S32768x4 .f32 := m ((c : Thread nD τ).loc main_arg1)
abbrev aN (c : Dev nD) : FVec Ideal S1024 .f32 := m ((c : Thread nD τ).loc main_arg2)
abbrev aY (c : Dev nD) : FVec Ideal S4x32768x1024 .f32 := m ((c : Thread nD τ).loc main_arg3)

/-- The gates as the region finds them: transposed, with four rows of zeros under them. -/
theorem V_gates (c : Dev nD) (i : S8x32768.Idx) :
    (V m c main_v2 : FVec Ideal S8x32768 .f32) i = if h : (i 0).val < 4 then aG m c (ix2 (i 1) ⟨(i 0).val, h⟩) else (0 : EReal) := by
  unfold V
  unfold hostOps0
  after_reads_at

/-- The norm's gain as one row. -/
theorem V_norm (c : Dev nD) (i : S1x1024.Idx) : (V m c main_v3 : FVec Ideal S1x1024 .f32) i = aN m c (ix1 (i 1)) := by
  unfold V
  unfold hostOps0
  after_reads_at

/-- The block of point `t` in each window's array. -/
theorem idx0 : ∀ t : Fin cfg0.N, win0_0.index t 0 = t.val ∧ win0_0.index t 1 = 0 := by decide +kernel
theorem idx1 : ∀ t : Fin cfg0.N, win0_1.index t 0 = 0 ∧ win0_1.index t 1 = t.val := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = t.val ∧ win0_3.index t 2 = 0 := by decide +kernel
theorem idx4 : ∀ t : Fin cfg0.N, win0_4.index t 0 = t.val ∧ win0_4.index t 1 = 0 := by decide +kernel

/-- Row `p` of point `t`'s block, in the whole arrays. -/
abbrev row (t : Fin cfg0.N) (p : Fin 512) : Fin 32768 :=
  ⟨t.val * 512 + p.val, by have ht : t.val < 64 := t.isLt; have hp := p.isLt; omega⟩

theorem blk_x (c : Dev nD) (t : Fin cfg0.N) (p : Fin 512) (l : Fin 1024) :
    (iblk m c 0 t : FVec Ideal S512x1024 .f32) (ix2 p l) = aX m c (ix2 (row t p) l) := by
  unfold iblk
  rw [View.read_apply]
  show V m c main_arg0 _ = _
  rw [V_main_arg0]
  congr 1
  funext a
  apply Fin.ext
  match a with
  | ⟨0, _⟩ => show win0_0.index t 0 * 512 + 1 * p.val = t.val * 512 + p.val; rw [(idx0 t).1]; omega
  | ⟨1, _⟩ => show win0_0.index t 1 * 1024 + 1 * l.val = l.val; rw [(idx0 t).2]; omega

theorem blk_g (c : Dev nD) (t : Fin cfg0.N) (k : Fin 4) (p : Fin 512) :
    (iblk m c 1 t : FVec Ideal S8x512 .f32) (ix2 ⟨k.val, by omega⟩ p) = aG m c (ix2 (row t p) k) := by
  have h : (iblk m c 1 t : FVec Ideal S8x512 .f32) (ix2 ⟨k.val, by omega⟩ p)
      = (V m c main_v2 : FVec Ideal S8x32768 .f32) (ix2 ⟨k.val, by omega⟩ (row t p)) := by
    unfold iblk
    rw [View.read_apply]
    show V m c main_v2 _ = _
    congr 1
    funext a
    apply Fin.ext
    match a with
    | ⟨0, _⟩ => show win0_1.index t 0 * 8 + 1 * k.val = k.val; rw [(idx1 t).1]; omega
    | ⟨1, _⟩ => show win0_1.index t 1 * 512 + 1 * p.val = t.val * 512 + p.val; rw [(idx1 t).2]; omega
  rw [h, V_gates]
  exact dif_pos k.isLt

theorem blk_n (c : Dev nD) (t : Fin cfg0.N) (l : Fin 1024) :
    (iblk m c 2 t : FVec Ideal S1x1024 .f32) (ix2 0 l) = aN m c (ix1 l) := by
  have h : (iblk m c 2 t : FVec Ideal S1x1024 .f32) (ix2 0 l) = (V m c main_v3 : FVec Ideal S1x1024 .f32) (ix2 0 l) := by
    unfold iblk
    rw [View.read_apply]
    show V m c main_v3 _ = _
    congr 1
    funext a
    apply Fin.ext
    match a with
    | ⟨0, _⟩ => show win0_2.index t 0 * 1 + 1 * 0 = 0; rw [(idx2 t).1]
    | ⟨1, _⟩ => show win0_2.index t 1 * 1024 + 1 * l.val = l.val; rw [(idx2 t).2]; omega
  rw [h, V_norm]
  rfl

theorem blk_y (c : Dev nD) (t : Fin cfg0.N) (k : Fin 4) (p : Fin 512) (l : Fin 1024) :
    (iblk m c 3 t : FVec Ideal S4x512x1024 .f32) (ix3 k p l) = aY m c (ix3 k (row t p) l) := by
  unfold iblk
  rw [View.read_apply]
  show V m c main_arg3 _ = _
  rw [V_main_arg3]
  congr 1
  funext a
  apply Fin.ext
  match a with
  | ⟨0, _⟩ => show win0_3.index t 0 * 4 + 1 * k.val = k.val; rw [(idx3 t).1]; omega
  | ⟨1, _⟩ => show win0_3.index t 1 * 512 + 1 * p.val = t.val * 512 + p.val; rw [(idx3 t).2.1]; omega
  | ⟨2, _⟩ => show win0_3.index t 2 * 1024 + 1 * l.val = l.val; rw [(idx3 t).2.2]; omega

/-- What the body leaves at entry `(p, l)` of its block, over the blocks it loads. -/
theorem out_apply (X : Vec Ideal S512x1024 .f32) (G : Vec Ideal S8x512 .f32) (N : Vec Ideal S1x1024 .f32) (Y : Vec Ideal S4x512x1024 .f32)
    (p : Fin 512) (l : Fin 1024) (M : Fin 1024 → EReal)
    (hM : ∀ j, M j = X (ix2 p j) + Y (ix3 0 p j) * G (ix2 0 p) + Y (ix3 1 p j) * G (ix2 1 p) + Y (ix3 2 p j) * G (ix2 2 p) + Y (ix3 3 p j) * G (ix2 3 p)) :
    out0_4 X G N Y (ix2 p l)
      = M l * Ideal.rsqrt (Ideal.div (∑ j, M j * M j) (Ideal.ofBits FTy.f32 0x44800000#32) + Ideal.ofBits FTy.f32 0x358637BD#32) * N (ix2 0 l) := by
  unfold out0_4
  rw [View.canon_unit_zero (by funext a; fin_cases a <;> rfl), lay4_0_eq]
  pointwise
  simp only [hM]

/-- What point `t` leaves is block `t` of the common value. -/
theorem flushed_eq (c : Dev nD) (t : Fin cfg0.N) :
    (dats m 0 c).flushed 4 t = ((cfg0.win 4).blk t).view.read (Elt Ideal) (out (aX m c) (aG m c) (aN m c) (aY m c)) := by
  rw [flushed4]
  show out0_4 (iblk m c 0 t) (iblk m c 1 t) (iblk m c 2 t) (iblk m c 3 t) = _
  funext j
  obtain ⟨p, l, rfl⟩ : ∃ (p : Fin 512) (l : Fin 1024), j = ix2 p l := ⟨j 0, j 1, by funext a; fin_cases a <;> rfl⟩
  rw [out_apply _ _ _ _ p l (fun j => mix (aX m c) (aG m c) (aY m c) (row t p) j) fun j => by
    rw [blk_x, blk_y, blk_y, blk_y, blk_y]
    have hg := fun k => blk_g m c t k p
    have hg0 := hg 0
    have hg1 := hg 1
    have hg2 := hg 2
    have hg3 := hg 3
    simp only [mix]
    rw [← hg0, ← hg1, ← hg2, ← hg3]
    rfl, blk_n, View.read_apply]
  show _ = out (aX m c) (aG m c) (aN m c) (aY m c) _
  have he : ((cfg0.win 4).blk t).view.emb (ix2 p l) = (ix2 (row t p) l : S32768x1024.Idx) := by
    funext a
    apply Fin.ext
    match a with
    | ⟨0, _⟩ => show win0_4.index t 0 * 512 + 1 * p.val = t.val * 512 + p.val; rw [(idx4 t).1]; omega
    | ⟨1, _⟩ => show win0_4.index t 1 * 1024 + 1 * l.val = l.val; rw [(idx4 t).2]; omega
  rw [he]
  rfl

/-- The 64 blocks tile the result array, which so ends holding the common value. -/
theorem final_eq (c : Dev nD) : (dats m 0 c).arrAt 4 cfg0.N = out (aX m c) (aG m c) (aN m c) (aY m c) :=
  (dats m 0 c).arrAt_eq_of_cover 4 _ (fun t _ => flushed_eq m c t) fun i => by
    have h0 : (i 0 : Nat) < 32768 := (i 0).isLt
    have h1 : (i 1 : Nat) < 1024 := (i 1).isLt
    obtain ⟨t, ht⟩ : ∃ t : Fin cfg0.N, t.val = (i 0 : Nat) / 512 := ⟨⟨(i 0 : Nat) / 512, by rw [show cfg0.N = 64 from N_0]; omega⟩, rfl⟩
    refine ⟨t, flush0_4 _, ?_⟩
    show (i : S32768x1024.Idx) ∈ ((View.whole main_v4).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [(idx4 t).1]
      omega
    | ⟨1, _⟩ =>
      show win0_4.index t 1 * 1024 ≤ (i 1 : Nat) ∧ (i 1 : Nat) < win0_4.index t 1 * 1024 + 1024
      rw [(idx4 t).2]
      omega

end Kernel

/-! ## The reference -/

section Reference

open Cert.Reference5Ideal

variable (x : FVec Ideal S32768x1024 .f32) (g : FVec Ideal S32768x4 .f32) (n : FVec Ideal S1024 .f32) (y : FVec Ideal S4x32768x1024 .f32)

/-- The reference's mixed rows. -/
abbrev refMix : FVec Ideal S32768x1024 .f32 :=
  addf x (Host.reduceAdd (mulf y (broadcastInDim S4x32768x1024 ![0, 1, 2] Gen.facts.bcast_S4x32768x1_S4x32768x1024_0_1_2
    (broadcastInDim S4x32768x1 ![0, 1] Gen.facts.bcast_S4x32768_S4x32768x1_0_1 (transpose S4x32768 [1, 0] g Gen.facts.transposes_S32768x4_S4x32768_1_0))))
    (constant S_ .f32 0x00000000#32) Gen.facts.reducesTo_S4x32768x1024_S32768x1024_d0 Gen.facts.h_S_)

theorem refMix_eq (r : Fin 32768) (l : Fin 1024) : refMix x g y (ix2 r l) = mix x g y r l := by
  unfold refMix mix
  pointwise
  rw [Fin.sum_univ_four]
  simp only [add_assoc]

/-- The reference's result, the mixed rows `S` named. -/
abbrev refOut (S : FVec Ideal S32768x1024 .f32) : FVec Ideal S32768x1024 .f32 :=
  mulf (mulf S (broadcastInDim S32768x1024 ![0, 1] Gen.facts.bcast_S32768x1_S32768x1024_0_1
      (Host.rsqrt (addf (Host.divf (broadcastInDim S32768x1 ![0] Gen.facts.bcast_S32768_S32768x1_0
          (Host.reduceAdd (mulf S S) (constant S_ .f32 0x00000000#32) Gen.facts.reducesTo_S32768x1024_S32768_d1 Gen.facts.h_S_))
          (broadcastInDim S32768x1 ![] Gen.facts.bcast_S_S32768x1 (constant S_ .f32 0x44800000#32)))
        (broadcastInDim S32768x1 ![] Gen.facts.bcast_S_S32768x1 (constant S_ .f32 0x358637BD#32))))))
    (broadcastInDim S32768x1024 ![0, 1] Gen.facts.bcast_S1x1024_S32768x1024_0_1
      (broadcastInDim S1x1024 ![1] Gen.facts.bcast_S1024_S1x1024_1 n))

theorem refOut_eq : refOut n (refMix x g y) = out x g n y := by
  funext i
  obtain ⟨r, l, rfl⟩ : ∃ (r : Fin 32768) (l : Fin 1024), i = ix2 r l := ⟨i 0, i 1, by funext a; fin_cases a <;> rfl⟩
  have h := refMix_eq x g y
  generalize refMix x g y = S at h
  unfold refOut out
  pointwise
  simp only [h]

end Reference

end Cert.Proof.CombineSample

end
-- ==== Proof.ExpertsFrame.lean ====
/-
The experts' call run over any float values: a grid point per block of 512 rows, the block's expert and the count of blocks in two
prefetched tables. A point below the count leaves the block's rows through the expert's gated layer, a point above it leaves
zeros. The tables' contents are those of the launch memory; where they name experts that there are (`Ok`), the program ends with
its arguments as they were and the result array tiled by what the points left (`run_main`).
-/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Claim
public import Idealize.ShloMosaic.Lib.Pointwise
public import Idealize.ShloMosaic.Lib.Tactic

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the region -/

/-- The buffers as the region finds them. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that no host operation writes is found as launched. -/
theorem V_kept (c : Dev nD) (b : Ref sig .tc) (h0 : b ≠ main_v0) (h1 : b ≠ main_v1) (h2 : b ≠ main_v2) (h3 : b ≠ main_v3) (h4 : b ≠ main_v4) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4⟩))

/-! ## The tables -/

/-- What the two tables hold when the region is entered. -/
def tbl : pre0.Contents (Elt F) := fun j => V m (0 : Dev nD) (pre0.ref j)

theorem V_pre (c : Dev nD) (j : Fin 2) : V m c (pre0.ref j) = tbl m j := by
  obtain rfl : c = 0 := Subsingleton.elim _ _
  rfl

/-- Every block that the tables place is inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The count of blocks. -/
def count : BitVec 32 := (tbl m 1 : S1.Idx → BitVec 32) (ix1 0)

/-- Of the body's two regions exactly one runs. -/
theorem cond2_iff (i : grid0.Coords) (n : BitVec 32) : k0_cond2 i n = 1#1 ↔ ¬ k0_cond1 i n = 1#1 := by
  unfold k0_cond1 k0_cond2
  simp only [Scalar.cmpi, Scalar.extui, Scalar.xori]
  generalize IntOp.cmpi _ _ n = b
  revert b
  decide

theorem idle_7 (pf : pre0.Contents (Elt F)) (i : grid0.Coords) : idle0 pf 7 i = false := by
  show (!(k0_cond1 i (pf.atD 1 ![0]) == 1#1) && !(k0_cond2 i (pf.atD 1 ![0]) == 1#1)) = false
  have h := cond2_iff i (pf.atD 1 ![0])
  by_cases h1 : k0_cond1 i (pf.atD 1 ![0]) = 1#1
  · rw [h1]
    rfl
  · rw [h.mpr h1]
    exact Bool.and_false _

/-! ## The windows' blocks -/

/-- Window `w`'s block at point `t`, of its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

theorem before_0_of (hO : Ok m) {c : Dev nD} (dat : Dat τ (Elt F) Unit ℕ (UR sig nD τ) ℕ (cfgM m hO) c)
    (hA : dat.A 0 = V m c (Pipeline.arrRef spec0 0)) (hafter : ∀ t, dat.after 0 t = iblk m hO c 0 t) (t : Fin (cfgM m hO).N) (d) :
    dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hO : Ok m) {c : Dev nD} (dat : Dat τ (Elt F) Unit ℕ (UR sig nD τ) ℕ (cfgM m hO) c)
    (hA : dat.A 1 = V m c (Pipeline.arrRef spec0 1)) (hafter : ∀ t, dat.after 1 t = iblk m hO c 1 t) (t : Fin (cfgM m hO).N) (d) :
    dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hO : Ok m) {c : Dev nD} (dat : Dat τ (Elt F) Unit ℕ (UR sig nD τ) ℕ (cfgM m hO) c)
    (hA : dat.A 2 = V m c (Pipeline.arrRef spec0 2)) (hafter : ∀ t, dat.after 2 t = iblk m hO c 2 t) (t : Fin (cfgM m hO).N) (d) :
    dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hO : Ok m) {c : Dev nD} (dat : Dat τ (Elt F) Unit ℕ (UR sig nD τ) ℕ (cfgM m hO) c)
    (hA : dat.A 3 = V m c (Pipeline.arrRef spec0 3)) (hafter : ∀ t, dat.after 3 t = iblk m hO c 3 t) (t : Fin (cfgM m hO).N) (d) :
    dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of (hO : Ok m) {c : Dev nD} (dat : Dat τ (Elt F) Unit ℕ (UR sig nD τ) ℕ (cfgM m hO) c)
    (hA : dat.A 4 = V m c (Pipeline.arrRef spec0 4)) (hafter : ∀ t, dat.after 4 t = iblk m hO c 4 t) (t : Fin (cfgM m hO).N) (d) :
    dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of (hO : Ok m) {c : Dev nD} (dat : Dat τ (Elt F) Unit ℕ (UR sig nD τ) ℕ (cfgM m hO) c)
    (hA : dat.A 5 = V m c (Pipeline.arrRef spec0 5)) (hafter : ∀ t, dat.after 5 t = iblk m hO c 5 t) (t : Fin (cfgM m hO).N) (d) :
    dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of (hO : Ok m) {c : Dev nD} (dat : Dat τ (Elt F) Unit ℕ (UR sig nD τ) ℕ (cfgM m hO) c)
    (hA : dat.A 6 = V m c (Pipeline.arrRef spec0 6)) (hafter : ∀ t, dat.after 6 t = iblk m hO c 6 t) (t : Fin (cfgM m hO).N) (d) :
    dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rRow : Rect S512x1024 := Rect.unit (s := S512x1024) ![0, 0] S512x1024.size inb_S512x1024_S512x1024_0_0
abbrev rW : Rect S1x1024x1024 := Rect.unit (s := S1x1024x1024) ![0, 0, 0] S1x1024x1024.size inb_S1x1024x1024_S1x1024x1024_0_0_0
abbrev rB : Rect S1x1x1024 := Rect.unit (s := S1x1x1024) ![0, 0, 0] S1x1x1024.size inb_S1x1x1024_S1x1x1024_0_0_0

/-- What a point below the count leaves, over the blocks it loads. -/
def live (x0 : Vec F S512x1024 .f32) (x1 : Vec F S1x1024x1024 .bf16) (x2 : Vec F S1x1024x1024 .bf16) (x3 : Vec F S1x1x1024 .f32) (x4 : Vec F S1x1x1024 .f32) (x5 : Vec F S1x1024x1024 .bf16) (x6 : Vec F S1x1x1024 .f32) : Vec F S512x1024 .f32 :=
  View.canon [⟨rRow, k0_pay1 (k0_pay3 (View.ld x0 rRow) (View.ld x1 rW) (View.ld x3 rB) (View.ld x2 rW) (View.ld x4 rB) (View.ld x5 rW)) (View.ld x6 rB)⟩]

/-- What a point above it leaves. -/
def dead : Vec F S512x1024 .f32 := View.canon [⟨rRow, k0_pay2 (F := F)⟩]

/-- What point `i` leaves where the count is `n`. -/
def left (i : grid0.Coords) (n : BitVec 32) (x0 : Vec F S512x1024 .f32) (x1 : Vec F S1x1024x1024 .bf16) (x2 : Vec F S1x1024x1024 .bf16) (x3 : Vec F S1x1x1024 .f32) (x4 : Vec F S1x1x1024 .f32) (x5 : Vec F S1x1024x1024 .bf16) (x6 : Vec F S1x1x1024 .f32) : Vec F S512x1024 .f32 :=
  if k0_cond1 i n = 1#1 then live x0 x1 x2 x3 x4 x5 x6 else dead

theorem cover (p : Vec F S512x1024 .f32) (y : S512x1024.Idx) : ∃ pc ∈ ([⟨rRow, p⟩] : List (View.Piece (Elt F) S512x1024 .f32)), y ∈ pc.1.set :=
  View.cover_of_tiled [⟨rRow, p⟩] S512x1024.size (by rfl) y

/-- The count's table on core `c`, held at half the share. -/
abbrev heldCount (c : Dev nD) (f : Buf (Elt F) ((Memref.whole main_arg1 : Memref sig .tc .smem S1 .i32).view.loc (c : Thread nD τ))) : sProp 𝕄 :=
  (Memref.whole main_arg1 : Memref sig .tc .smem S1 .i32).view.loc (c : Thread nD τ) ↦{fullShare.right} f

set_option maxHeartbeats 2000000 in
/-- The body at a point, the inputs' buffers at `xW`. -/
theorem sound_kernel (c : Dev nD) (E : Set ℕ) (i : grid0.Coords) (arg1 : Memref sig .tc .smem S160 .i32) (harg1 : arg1.IsWhole) (harg2 : (Memref.whole main_arg1 : Memref sig .tc .smem S1 .i32).IsWhole) (arg3 : Memref sig .tc .vmem S512x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S512x1024 .f32) (harg10 : arg10.IsWhole)
    (f : Buf (Elt F) ((Memref.whole main_arg1 : Memref sig .tc .smem S1 .i32).view.loc (c : Thread nD τ))) (n : BitVec 32) (hn : n = (f : S1.Idx → BitVec 32) (ix1 0))
    (x0 : Vec F S512x1024 .f32) (x1 : Vec F S1x1024x1024 .bf16) (x2 : Vec F S1x1024x1024 .bf16) (x3 : Vec F S1x1x1024 .f32) (x4 : Vec F S1x1x1024 .f32) (x5 : Vec F S1x1024x1024 .bf16) (x6 : Vec F S1x1x1024 .f32) (K : PUnit → sProp 𝕄) :
    iprop(heldCount c f ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d)
        ∗ (iprop(heldCount c f ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (left i n x0 x1 x2 x3 x4 x5 x6)) -∗ K ⟨⟩))
      ⊢ wp frame (wpE (defs₀ (F := F)) Variants.none c none) E (cc0_experts i arg1 harg1 (Memref.whole main_arg1) harg2 arg3 harg3 arg4 harg4 arg5 harg5 arg6 harg6 arg7 harg7 arg8 harg8 arg9 harg9 arg10 harg10) K := by
  simp only [cc0_experts_eq_skeleton]; unfold cc0_experts_skel
  simp only [k0_part1_eq_skeleton]
  unfold owns
  iintro ⟨Hn, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  have hr : sound_kernel.sl.r c f = n := by
    rw [hn]
    unfold sound_kernel.sl.r
    show (f : S1.Idx → BitVec 32) _ = (f : S1.Idx → BitVec 32) _
    congr 1
    funext a
    match a with
    | ⟨0, _⟩ => exact Subsingleton.elim (α := Fin 1) _ _
  simp only [hr]
  sl_step
  iapply Hk
  isplitl [Hn]; · iexact Hn
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  unfold left
  by_cases h1 : k0_cond1 i n = 1#1
  · have h2 : ¬ k0_cond2 i n = 1#1 := fun h => (cond2_iff i n).mp h h1
    rw [if_pos h1, dif_neg h2, dif_pos h1]
    exact View.read_writes_eq_canon _ _ _ (cover _)
  · rw [if_neg h1, dif_pos ((cond2_iff i n).mpr h1)]
    exact View.read_writes_eq_canon _ _ _ (cover _)

/-! ## The proof data -/

/-- Of each point, what the inputs' buffers hold and what the body leaves in the result's. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => left (grid0.coords t) (count m) (iblk m hO c 0 t) (iblk m hO c 1 t) (iblk m hO c 2 t) (iblk m hO c 3 t) (iblk m hO c 4 t) (iblk m hO c 5 t) (iblk m hO c 6 t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; rfl
theorem after_1 (hO : Ok m) (c : Dev nD) (t : Fin (cfgM m hO).N) : (dats m hO 0 c).after 1 t = iblk m hO c 1 t := by dsimp only [dats]; rfl
theorem after_2 (hO : Ok m) (c : Dev nD) (t : Fin (cfgM m hO).N) : (dats m hO 0 c).after 2 t = iblk m hO c 2 t := by dsimp only [dats]; rfl
theorem after_3 (hO : Ok m) (c : Dev nD) (t : Fin (cfgM m hO).N) : (dats m hO 0 c).after 3 t = iblk m hO c 3 t := by dsimp only [dats]; rfl
theorem after_4 (hO : Ok m) (c : Dev nD) (t : Fin (cfgM m hO).N) : (dats m hO 0 c).after 4 t = iblk m hO c 4 t := by dsimp only [dats]; rfl
theorem after_5 (hO : Ok m) (c : Dev nD) (t : Fin (cfgM m hO).N) : (dats m hO 0 c).after 5 t = iblk m hO c 5 t := by dsimp only [dats]; rfl
theorem after_6 (hO : Ok m) (c : Dev nD) (t : Fin (cfgM m hO).N) : (dats m hO 0 c).after 6 t = iblk m hO c 6 t := by dsimp only [dats]; rfl
theorem after_7 (hO : Ok m) (c : Dev nD) (t : Fin (cfgM m hO).N) :
    (dats m hO 0 c).after 7 t = left (grid0.coords t) (count m) (iblk m hO c 0 t) (iblk m hO c 1 t) (iblk m hO c 2 t) (iblk m hO c 3 t) (iblk m hO c 4 t) (iblk m hO c 5 t) (iblk m hO c 6 t) := by dsimp only [dats]; rfl

theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem before_2 (hO : Ok m) (c : Dev nD) (t : Fin (cfgM m hO).N) (d) : (dats m hO 0 c).before 2 t d = iblk m hO c 2 t :=
  before_2_of m hO (dats m hO 0 c) (A_eq m hO c 2) (after_2 m hO c) t d
theorem before_3 (hO : Ok m) (c : Dev nD) (t : Fin (cfgM m hO).N) (d) : (dats m hO 0 c).before 3 t d = iblk m hO c 3 t :=
  before_3_of m hO (dats m hO 0 c) (A_eq m hO c 3) (after_3 m hO c) t d
theorem before_4 (hO : Ok m) (c : Dev nD) (t : Fin (cfgM m hO).N) (d) : (dats m hO 0 c).before 4 t d = iblk m hO c 4 t :=
  before_4_of m hO (dats m hO 0 c) (A_eq m hO c 4) (after_4 m hO c) t d
theorem before_5 (hO : Ok m) (c : Dev nD) (t : Fin (cfgM m hO).N) (d) : (dats m hO 0 c).before 5 t d = iblk m hO c 5 t :=
  before_5_of m hO (dats m hO 0 c) (A_eq m hO c 5) (after_5 m hO c) t d
theorem before_6 (hO : Ok m) (c : Dev nD) (t : Fin (cfgM m hO).N) (d) : (dats m hO 0 c).before 6 t d = iblk m hO c 6 t :=
  before_6_of m hO (dats m hO 0 c) (A_eq m hO c 6) (after_6 m hO c) t d

/-! ## The body obligation -/

/-- Window `w`'s buffer at point `t`. -/
abbrev st (hO : Ok m) (w : Fin (cfgM m hO).W) (t : Fin (cfgM m hO).N) := ((cfgM m hO).win w).stage ((cfgM m hO).slots t w)

/-- The body at point `t`, on the tables and the windows' buffers. -/
abbrev bodyAt (hO : Ok m) (t : Fin (cfgM m hO).N) : Prog (TpuEff nD τ sig (Elt F) Λ₀ .tc) PUnit :=
  cc0_experts (grid0.coords t) (Memref.whole main_arg0) (Memref.isWhole_whole _) (Memref.whole main_arg1) (Memref.isWhole_whole _) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) (spec0_6.stage ((cfgM m hO).slots t 6)) (hstage0_6 (((cfgM m hO).slots t 6).cast nbuf0_6)) (spec0_7.stage ((cfgM m hO).slots t 7)) (hstage0_7 (((cfgM m hO).slots t 7).cast nbuf0_7))

/-- The tables' halves, one by one. -/
theorem tables_eq (c : Dev nD) : (Pipeline.ΦT pre0 (tbl m) c : sProp 𝕄)
    = iprop(((Memref.whole main_arg0 : Memref sig .tc .smem S160 .i32).view.loc (c : Thread nD τ) ↦{fullShare.right} tbl m 0) ∗ heldCount c (tbl m 1)) := by
  unfold Pipeline.ΦT Pipeline.prefHeld
  rw [show (Finset.univ : Finset (Fin 2)) = {(0 : Fin 2), (1 : Fin 2)} from by decide, bigSep_insert (by decide), bigSep_singleton]
  rfl

def bodyPre (hO : Ok m) (c : Dev nD) (t : Fin (cfgM m hO).N) : sProp 𝕄 :=
  iprop((dats m hO 0 c).Φ t.castSucc ∗ (dats m hO 0 c).owesAt () t.castSucc ∗ (∃ d, owns (c : Thread nD τ) (st m hO 0 t) fullShare ((dats m hO 0 c).before 0 t d)) ∗ (∃ d, owns (c : Thread nD τ) (st m hO 1 t) fullShare ((dats m hO 0 c).before 1 t d)) ∗ (∃ d, owns (c : Thread nD τ) (st m hO 2 t) fullShare ((dats m hO 0 c).before 2 t d)) ∗ (∃ d, owns (c : Thread nD τ) (st m hO 3 t) fullShare ((dats m hO 0 c).before 3 t d)) ∗ (∃ d, owns (c : Thread nD τ) (st m hO 4 t) fullShare ((dats m hO 0 c).before 4 t d)) ∗ (∃ d, owns (c : Thread nD τ) (st m hO 5 t) fullShare ((dats m hO 0 c).before 5 t d)) ∗ (∃ d, owns (c : Thread nD τ) (st m hO 6 t) fullShare ((dats m hO 0 c).before 6 t d)) ∗ (∃ d, owns (c : Thread nD τ) (st m hO 7 t) fullShare ((dats m hO 0 c).before 7 t d)))

def bodyPost (hO : Ok m) (c : Dev nD) (t : Fin (cfgM m hO).N) : sProp 𝕄 :=
  iprop((dats m hO 0 c).Φ t.succ ∗ (dats m hO 0 c).owesAt () t.succ ∗ owns (c : Thread nD τ) (st m hO 0 t) fullShare ((dats m hO 0 c).after 0 t) ∗ owns (c : Thread nD τ) (st m hO 1 t) fullShare ((dats m hO 0 c).after 1 t) ∗ owns (c : Thread nD τ) (st m hO 2 t) fullShare ((dats m hO 0 c).after 2 t) ∗ owns (c : Thread nD τ) (st m hO 3 t) fullShare ((dats m hO 0 c).after 3 t) ∗ owns (c : Thread nD τ) (st m hO 4 t) fullShare ((dats m hO 0 c).after 4 t) ∗ owns (c : Thread nD τ) (st m hO 5 t) fullShare ((dats m hO 0 c).after 5 t) ∗ owns (c : Thread nD τ) (st m hO 6 t) fullShare ((dats m hO 0 c).after 6 t) ∗ owns (c : Thread nD τ) (st m hO 7 t) fullShare ((dats m hO 0 c).after 7 t))

theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4, before_5, before_6]
  rw [show (dats m hO 0 c).Φ t.succ = (dats m hO 0 c).Φ t.castSucc from rfl,
    show (dats m hO 0 c).owesAt () t.succ = (dats m hO 0 c).owesAt () t.castSucc from rfl,
    show (dats m hO 0 c).Φ t.castSucc = iprop(Pipeline.ΦA spec0 c ∗ Pipeline.ΦT pre0 (tbl m) c) from rfl, tables_eq,
    after_0, after_1, after_2, after_3, after_4, after_5, after_6, after_7]
  iintro ⟨⟨HA, Hb, Hn⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ _ _ _ (tbl m 1) (count m) rfl (iblk m hO c 0 t) (iblk m hO c 1 t) (iblk m hO c 2 t) (iblk m hO c 3 t) (iblk m hO c 4 t) (iblk m hO c 5 t) (iblk m hO c 6 t) _)
  isplitl [Hn]; · iexact Hn
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨Hn, H0, H1, H2, H3, H4, H5, H6, H7⟩
  isplitl [HA Hb Hn]
  · isplitl [HA]; · iexact HA
    isplitl [Hb]; · iexact Hb
    iexact Hn
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

end Cert.Kernel3Ideal.Hand

end
-- ==== Proof.ExpertsOk.lean ====
/-
The blocks that the experts' tables place (Proof/ExpertsFrame.lean): under the precondition every block's rows and its expert's
weights are inside their arrays (`ok_of`).
-/
module

public import proofs.«01_k».proof.Proof.ExpertsFrame
public import proofs.«01_k».proof.Proof.Gen.Pre_blocks_have_experts

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The index maps at the tables -/

theorem toNat_ofNat_coord (i : grid0.Coords) : (BitVec.ofNat 32 (i 0).val).toNat = (i 0).val := by
  have h : (i 0).val < 160 := (i 0).isLt
  rw [BitVec.toNat_ofNat]
  omega

/-- The expert of block `j`. -/
def expert (j : Fin 160) : BitVec 32 := (tbl m 0 : S160.Idx → BitVec 32) (ix1 j)

theorem expert_at (i : grid0.Coords) (h h1) :
    (tbl m).at 0 (Rect.unit (s := S160) ![(Scalar.indexCast (BitVec.ofNat 32 (i 0).val)).toNat] S1.size h) h1 = expert m (i 0) := by
  show (tbl m 0 : S160.Idx → BitVec 32) _ = (tbl m 0 : S160.Idx → BitVec 32) _
  congr 1
  funext a
  match a with
  | ⟨0, _⟩ =>
    refine Fin.ext ?_
    show (Scalar.indexCast (BitVec.ofNat 32 (i 0).val)).toNat + 0 * 1 = (i 0).val
    exact (toNat_ofNat_coord i)

theorem count_at (h h1) : (tbl m).at 1 (Rect.unit (s := S1) ![0] S1.size h) h1 = count m := by
  show (tbl m 1 : S1.Idx → BitVec 32) _ = (tbl m 1 : S1.Idx → BitVec 32) _
  congr 1
  funext a
  match a with
  | ⟨0, _⟩ => exact Subsingleton.elim (α := Fin 1) _ _

/-- The block of rows that point `i` reads. -/
def rowBlk (i : grid0.Coords) : Nat := (Scalar.minsi (BitVec.ofNat 32 (i 0).val) (Scalar.subi (count m) 1#32)).toNat

theorem tr_0 (h h1) (i : grid0.Coords) : cc0_transform_0 h h1 (tbl m) i = ![rowBlk m i, 0] :=
  congrArg (fun e : BitVec 32 => (![(Scalar.minsi (BitVec.ofNat 32 (i 0).val) (Scalar.subi e 1#32)).toNat, 0] : Fin 2 → Nat)) (count_at m h h1)
theorem tr_1 (h h1) (i : grid0.Coords) : cc0_transform_1 h h1 (tbl m) i = ![(expert m (i 0)).toNat, 0, 0] :=
  congrArg (fun e : BitVec 32 => (![e.toNat, 0, 0] : Fin 3 → Nat)) (expert_at m i (h i) h1)
theorem tr_2 (h h1) (i : grid0.Coords) : cc0_transform_2 h h1 (tbl m) i = ![(expert m (i 0)).toNat, 0, 0] :=
  congrArg (fun e : BitVec 32 => (![e.toNat, 0, 0] : Fin 3 → Nat)) (expert_at m i (h i) h1)
theorem tr_3 (h h1) (i : grid0.Coords) : cc0_transform_3 h h1 (tbl m) i = ![(expert m (i 0)).toNat, 0, 0] :=
  congrArg (fun e : BitVec 32 => (![e.toNat, 0, 0] : Fin 3 → Nat)) (expert_at m i (h i) h1)
theorem tr_4 (h h1) (i : grid0.Coords) : cc0_transform_4 h h1 (tbl m) i = ![(expert m (i 0)).toNat, 0, 0] :=
  congrArg (fun e : BitVec 32 => (![e.toNat, 0, 0] : Fin 3 → Nat)) (expert_at m i (h i) h1)
theorem tr_5 (h h1) (i : grid0.Coords) : cc0_transform_5 h h1 (tbl m) i = ![(expert m (i 0)).toNat, 0, 0] :=
  congrArg (fun e : BitVec 32 => (![e.toNat, 0, 0] : Fin 3 → Nat)) (expert_at m i (h i) h1)
theorem tr_6 (h h1) (i : grid0.Coords) : cc0_transform_6 h h1 (tbl m) i = ![(expert m (i 0)).toNat, 0, 0] :=
  congrArg (fun e : BitVec 32 => (![e.toNat, 0, 0] : Fin 3 → Nat)) (expert_at m i (h i) h1)

/-! ## Inside their arrays -/

/-- The tables name experts that there are, and at least one block. -/
structure Placed : Prop where
  expert_lt : ∀ j, (expert m j).toNat < 32
  count_pos : 1 ≤ (count m).toInt

theorem rowBlk_of (h : 1 ≤ (count m).toInt) (i : grid0.Coords) : rowBlk m i ≤ (i 0).val ∧ (((i 0).val : Int) < (count m).toInt → rowBlk m i = (i 0).val) := by
  have hi : (i 0).val < 160 := (i 0).isLt
  have e := toNat_ofNat_coord i
  unfold rowBlk
  generalize BitVec.ofNat 32 (i 0).val = a at e ⊢
  generalize (i 0).val = k at *
  generalize count m = n at *
  have hn := n.isLt
  show (if a.slt (n - 1#32) = true then a else n - 1#32).toNat ≤ k ∧ ((k : Int) < n.toInt → (if a.slt (n - 1#32) = true then a else n - 1#32).toNat = k)
  have e1 : (n - 1#32).toNat = n.toNat - 1 := by
    rw [BitVec.toInt_eq_toNat_cond] at h
    rw [BitVec.toNat_sub]
    simp only [BitVec.toNat_ofNat, Nat.reducePow, Nat.reduceMod] at h hn ⊢
    omega
  by_cases hs : a.slt (n - 1#32) = true
  · rw [if_pos hs]
    exact ⟨e.le, fun _ => e⟩
  · rw [if_neg hs, e1]
    rw [BitVec.slt_eq_decide, decide_eq_true_eq, BitVec.toInt_eq_toNat_cond, BitVec.toInt_eq_toNat_cond, e1, e] at hs
    rw [BitVec.toInt_eq_toNat_cond] at h ⊢
    omega

theorem ok_of (h : Placed m) : Ok m := by
  have hrow : ∀ i : grid0.Coords, rowBlk m i < 160 := fun i => lt_of_le_of_lt (rowBlk_of m h.count_pos i).1 (i 0).isLt
  refine ⟨fun i => ?_, fun i => ?_, fun i => ?_, fun i => ?_, fun i => ?_, fun i => ?_, fun i => ?_⟩
  · refine ⟨?_, .inl rfl⟩
    rw [tr_0]
    have := hrow i
    intro a; fin_cases a
    · show (rowBlk m i + 1) * 512 ≤ 81920; omega
    · show (0 + 1) * 1024 ≤ 1024; omega
  · have hE : ∀ a, (cc0_transform_1 k0_off1_inb numel1_S1 (tbl m) i a + 1) * S1x1024x1024.size a ≤ S32x1024x1024.size a := by
      rw [tr_1]
      have := h.expert_lt (i 0)
      intro a; fin_cases a
      · show ((expert m (i 0)).toNat + 1) * 1 ≤ 32; omega
      · show (0 + 1) * 1024 ≤ 1024; omega
      · show (0 + 1) * 1024 ≤ 1024; omega
    refine ⟨hE, .inr (.inr ⟨by decide, rfl, ?_, rfl⟩)⟩
    show cc0_transform_1 k0_off1_inb numel1_S1 (tbl m) i 1 * 1024 = 0
    rw [tr_1]
    rfl
  · have hE : ∀ a, (cc0_transform_2 k0_off1_inb numel1_S1 (tbl m) i a + 1) * S1x1024x1024.size a ≤ S32x1024x1024.size a := by
      rw [tr_2]
      have := h.expert_lt (i 0)
      intro a; fin_cases a
      · show ((expert m (i 0)).toNat + 1) * 1 ≤ 32; omega
      · show (0 + 1) * 1024 ≤ 1024; omega
      · show (0 + 1) * 1024 ≤ 1024; omega
    refine ⟨hE, .inr (.inr ⟨by decide, rfl, ?_, rfl⟩)⟩
    show cc0_transform_2 k0_off1_inb numel1_S1 (tbl m) i 1 * 1024 = 0
    rw [tr_2]
    rfl
  · have hE : ∀ a, (cc0_transform_3 k0_off1_inb numel1_S1 (tbl m) i a + 1) * S1x1x1024.size a ≤ S32x1x1024.size a := by
      rw [tr_3]
      have := h.expert_lt (i 0)
      intro a; fin_cases a
      · show ((expert m (i 0)).toNat + 1) * 1 ≤ 32; omega
      · show (0 + 1) * 1 ≤ 1; omega
      · show (0 + 1) * 1024 ≤ 1024; omega
    exact ⟨hE, .inl rfl⟩
  · have hE : ∀ a, (cc0_transform_4 k0_off1_inb numel1_S1 (tbl m) i a + 1) * S1x1x1024.size a ≤ S32x1x1024.size a := by
      rw [tr_4]
      have := h.expert_lt (i 0)
      intro a; fin_cases a
      · show ((expert m (i 0)).toNat + 1) * 1 ≤ 32; omega
      · show (0 + 1) * 1 ≤ 1; omega
      · show (0 + 1) * 1024 ≤ 1024; omega
    exact ⟨hE, .inl rfl⟩
  · have hE : ∀ a, (cc0_transform_5 k0_off1_inb numel1_S1 (tbl m) i a + 1) * S1x1024x1024.size a ≤ S32x1024x1024.size a := by
      rw [tr_5]
      have := h.expert_lt (i 0)
      intro a; fin_cases a
      · show ((expert m (i 0)).toNat + 1) * 1 ≤ 32; omega
      · show (0 + 1) * 1024 ≤ 1024; omega
      · show (0 + 1) * 1024 ≤ 1024; omega
    refine ⟨hE, .inr (.inr ⟨by decide, rfl, ?_, rfl⟩)⟩
    show cc0_transform_5 k0_off1_inb numel1_S1 (tbl m) i 1 * 1024 = 0
    rw [tr_5]
    rfl
  · have hE : ∀ a, (cc0_transform_6 k0_off1_inb numel1_S1 (tbl m) i a + 1) * S1x1x1024.size a ≤ S32x1x1024.size a := by
      rw [tr_6]
      have := h.expert_lt (i 0)
      intro a; fin_cases a
      · show ((expert m (i 0)).toNat + 1) * 1 ≤ 32; omega
      · show (0 + 1) * 1 ≤ 1; omega
      · show (0 + 1) * 1024 ≤ 1024; omega
    exact ⟨hE, .inl rfl⟩

/-! ## The precondition -/

theorem tbl_0 (c : Dev nD) : tbl m 0 = m ((c : Thread nD τ).loc main_arg0) := by
  obtain rfl : c = 0 := Subsingleton.elim _ _
  exact V_kept m 0 main_arg0 (by decide) (by decide) (by decide) (by decide) (by decide)

theorem tbl_1 (c : Dev nD) : tbl m 1 = m ((c : Thread nD τ).loc main_arg1) := by
  obtain rfl : c = 0 := Subsingleton.elim _ _
  exact V_kept m 0 main_arg1 (by decide) (by decide) (by decide) (by decide) (by decide)

/-- The precondition, read: `(block_expert >= 0) & (block_expert < 32) & (n_valid >= 1)`. -/
theorem placed_of (c : Dev nD) (x2 x3 x4 x5 x6 x7)
    (h : Cert.Pre_blocks_have_experts.fn (F := F) (m ((c : Thread nD τ).loc main_arg0)) (m ((c : Thread nD τ).loc main_arg1)) x2 x3 x4 x5 x6 x7 = fun _ => 1#1) :
    Placed m := by
  have and_ofBool (p q : Bool) : IntOp.andi (BitVec.ofBool p) (BitVec.ofBool q) = BitVec.ofBool (p && q) := by
    cases p <;> cases q <;> decide
  have ofBool_one (p : Bool) : (BitVec.ofBool p = 1#1) ↔ p = true := by cases p <;> decide
  rw [← tbl_0 m c, ← tbl_1 m c] at h
  have key : ∀ j : Fin 160, (expert m j).toNat < 32 ∧ 1 ≤ (count m).toInt := by
    intro j
    have e := congrFun h (ix1 j)
    simp only [Cert.Pre_blocks_have_experts.fn, andi, cmpi, broadcastInDim, constantI] at e
    have hcnt : ∀ y : S1.Idx, (tbl m 1 : S1.Idx → BitVec 32) y = count m := fun y => by
      unfold count; congr 1; funext a
      match a with
      | ⟨0, _⟩ => exact Subsingleton.elim (α := Fin 1) _ _
    have hexp : (tbl m 0 : S160.Idx → BitVec 32) (ix1 j) = expert m j := rfl
    erw [hcnt, hexp] at e
    generalize expert m j = x at *
    generalize count m = n at *
    have hn := n.isLt
    have hx := x.isLt
    simp only [IntOp.cmpi, and_ofBool, ofBool_one, Bool.and_eq_true, BitVec.sle_eq_decide, BitVec.slt_eq_decide,
      decide_eq_true_eq, BitVec.toInt_eq_toNat_cond, BitVec.toNat_ofNat, Nat.reducePow, Nat.reduceMod] at e ⊢
    omega
  exact ⟨fun j => (key j).1, (key 0).2⟩

end Cert.Kernel3Ideal.Hand

end
-- ==== Proof.ExpertsRun.lean ====
/-
The body obligation at every point and the run of the experts' call (Proof/ExpertsFrame.lean).
-/
module

public import proofs.«01_k».proof.Proof.ExpertsFrame
public import Idealize.ShloMosaic.Lib.Claim

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A region no point of which leaves a window idle meets its body obligation where every buffer is left at what
    the body leaves there. -/
theorem obligation_of {cfg : Pipeline.Cfg sig Λ₀} {c : Dev nD} (dat : Dat τ (Elt F) Unit ℕ (UR sig nD τ) ℕ cfg c)
    (hidle : ∀ w i, cfg.idle w i = false)
    (h : ∀ t, iprop(dat.Φ t.castSucc ∗ dat.owesAt () t.castSucc
        ∗ bigSep Finset.univ fun w : Fin cfg.W => iprop(∃ d, owns (c : Thread nD τ) ((cfg.win w).stage (cfg.slots t w)) fullShare (dat.before w t d)))
      ⊢ wp frame (wpE (defs₀ (F := F)) Variants.none c none) Set.univ (defs₀ .tc cfg.body (cfg.bodyArgs t (cfg.slots t))) fun _ =>
        iprop(dat.Φ t.succ ∗ dat.owesAt () t.succ
          ∗ bigSep Finset.univ fun w : Fin cfg.W => owns (c : Thread nD τ) ((cfg.win w).stage (cfg.slots t w)) fullShare (dat.after w t))) :
    BodyObligation dat (defs₀ (F := F)) Variants.none () Set.univ := fun t => by
  have := h t
  simp only [hidle]
  exact this

theorem idle_all (pf : (pcfg0 (F := F)).Adm) : ∀ (w : Fin 8) (i : grid0.Coords), (cfg0 pf).idle w i = false
  | 0, _ | 1, _ | 2, _ | 3, _ | 4, _ | 5, _ | 6, _ => rfl
  | 7, i => idle_7 pf.1 i

theorem body_obligation (hO : Ok m) (c : Dev nD) : BodyObligation (dats (F := F) m hO 0 c) (defs₀ (F := F)) Variants.none () Set.univ :=
  obligation_of (dats m hO 0 c) (idle_all (adm m hO)) fun t => by
    rw [bigSep_W0, bigSep_W0, defs₀_row]
    exact sound_body m hO c t

/-! ## The run -/

set_option backward.isDefEq.respectTransparency.types false in
set_option maxHeartbeats 800000 in
/-- The run of the program, and every counter at zero at its end. -/
theorem run_quiescent (hO : Ok m) : θ_run defs (onTc (τ := τ) (main (F := F))) (s₀ m ρ)
    (fun r => Pipeline.FramePost (Pipeline.pin pcfgs (fun _ => adm m hO)) (dats m hO) 0 (V m) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The arguments end as they were, the result array at the blocks the points wrote back, and every counter at zero. -/
theorem run_main (hO : Ok m) : θ_run defs (onTc (τ := τ) (main (F := F))) ⟨m, fun _ => 0, ρ⟩ (fun r => (∀ c : Dev nD,
      r.2.mem ((c.tc : Thread nD τ).loc main_v5) = (dats m hO 0 c).arrAt 7 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r (h : _ ∧ _) => ⟨fun c => ⟨(h.1 c).1 7,
      ((h.1 c).2 main_arg0 (Pipeline.mem_restRefs_of main_arg0 (by decide) (by show ∀ w : Fin 8, (spec0 w).arr.view.ref ≠ main_arg0; decide))).trans (V_kept m c main_arg0 (by decide) (by decide) (by decide) (by decide) (by decide)),
      ((h.1 c).2 main_arg1 (Pipeline.mem_restRefs_of main_arg1 (by decide) (by show ∀ w : Fin 8, (spec0 w).arr.view.ref ≠ main_arg1; decide))).trans (V_kept m c main_arg1 (by decide) (by decide) (by decide) (by decide) (by decide)),
      ((h.1 c).1 0).trans (((dats m hO 0 c).arrAt_in 0 rfl _).trans ((A_eq m hO c 0).trans (V_kept m c main_arg2 (by decide) (by decide) (by decide) (by decide) (by decide)))),
      ((h.1 c).1 1).trans (((dats m hO 0 c).arrAt_in 1 rfl _).trans ((A_eq m hO c 1).trans (V_kept m c main_arg3 (by decide) (by decide) (by decide) (by decide) (by decide)))),
      ((h.1 c).1 2).trans (((dats m hO 0 c).arrAt_in 2 rfl _).trans ((A_eq m hO c 2).trans (V_kept m c main_arg4 (by decide) (by decide) (by decide) (by decide) (by decide)))),
      ((h.1 c).2 main_arg5 (Pipeline.mem_restRefs_of main_arg5 (by decide) (by show ∀ w : Fin 8, (spec0 w).arr.view.ref ≠ main_arg5; decide))).trans (V_kept m c main_arg5 (by decide) (by decide) (by decide) (by decide) (by decide)),
      ((h.1 c).1 5).trans (((dats m hO 0 c).arrAt_in 5 rfl _).trans ((A_eq m hO c 5).trans (V_kept m c main_arg6 (by decide) (by decide) (by decide) (by decide) (by decide)))),
      ((h.1 c).2 main_arg7 (Pipeline.mem_restRefs_of main_arg7 (by decide) (by show ∀ w : Fin 8, (spec0 w).arr.view.ref ≠ main_arg7; decide))).trans (V_kept m c main_arg7 (by decide) (by decide) (by decide) (by decide) (by decide))⟩, h.2⟩)
    (run_quiescent m ρ hO)

end Cert.Kernel3Ideal.Hand

end
-- ==== Proof.ExpertsValue.lean ====
/-
The experts' call, over the extended reals: what the kernel leaves in its result array is the reference's term, index by index
(`out`). A block below the count goes through its expert: the two halves of the first layer (the even and the odd columns of the
biases), the gated activation, the second layer; the other blocks are zeros. The kernel reads a block's rows at its number
capped by the count, which below the count is its own; the reference gathers every block's matrices and chooses at the end.
-/
module

public import proofs.«01_k».proof.Proof.ExpertsOk
public import proofs.«01_k».proof.Proof.Gen.Reference3Ideal
public import proofs.«01_k».proof.Proof.Gen.Reference3Ideal.Run
public import Idealize.ShloMosaic.Lib.Pipeline.Value
public import Idealize.ShloMosaic.Lib.StableHlo.ReadAt
public import Idealize.ShloMosaic.Lib.Pointwise
public import Idealize.ShloMosaic.Lib.Tactic

@[expose] public section

noncomputable section

namespace Cert.Proof.Experts

open Idealize.ShloMosaic Idealize.ShloMosaic.TcCoe Idealize.SL.Sem

/-! ## The common value -/

section Common

open Cert.Kernel3Ideal

/-- Expert number `b`, one of the 32. -/
def ex (b : BitVec 32) : Fin 32 := ⟨b.toNat % 32, Nat.mod_lt _ (by decide)⟩

/-- Row `p` of block `j`, and the two halves of an expert's column pair `f`. -/
def rowAt (j : Fin 160) (p : Fin 512) : Fin 81920 := ⟨j.val * 512 + p.val, by have := j.isLt; have := p.isLt; omega⟩
def evenCol (f : Fin 1024) : Fin 2048 := ⟨2 * f.val, by have := f.isLt; omega⟩
def oddCol (f : Fin 1024) : Fin 2048 := ⟨2 * f.val + 1, by have := f.isLt; omega⟩

variable (be : IVec S160 32) (nv : IVec S1 32) (X : FVec Ideal S81920x1024 .f32) (Wg Wl : FVec Ideal S32x1024x1024 .bf16)
  (B : FVec Ideal S32x2048 .f32) (Wd : FVec Ideal S32x1024x1024 .bf16) (Bd : FVec Ideal S32x1024 .f32)

/-- Entry `f` of row `p` of block `j` through the expert's gate columns, and through its linear columns. -/
def gate (j : Fin 160) (p : Fin 512) (f : Fin 1024) : EReal :=
  ∑ k, X (ix2 (rowAt j p) k) * Wg (ix3 (ex (be (ix1 j))) k f) + B (ix2 (ex (be (ix1 j))) (evenCol f))
def linear (j : Fin 160) (p : Fin 512) (f : Fin 1024) : EReal :=
  ∑ k, X (ix2 (rowAt j p) k) * Wl (ix3 (ex (be (ix1 j))) k f) + B (ix2 (ex (be (ix1 j))) (oddCol f))

/-- The gated activation of the two: the gate clamped from above, the linear part on both sides. -/
def swiglu (g l : EReal) : EReal :=
  min g (Ideal.ofBits FTy.f32 0x40E00000#32) * Ideal.logistic (Ideal.ofBits FTy.f32 0x3FD9DB23#32 * min g (Ideal.ofBits FTy.f32 0x40E00000#32))
    * (min (Ideal.ofBits FTy.f32 0x40E00000#32) (max (Ideal.ofBits FTy.f32 0xC0E00000#32) l) + 1)

/-- Entry `l` of row `p` of block `j` through the block's expert. -/
def layer (j : Fin 160) (p : Fin 512) (l : Fin 1024) : EReal :=
  ∑ f, swiglu (gate be X Wg B j p f) (linear be X Wl B j p f) * Wd (ix3 (ex (be (ix1 j))) f l) + Bd (ix2 (ex (be (ix1 j))) l)

/-- The block and the row in it of a row of the whole array. -/
def blkOf (r : Fin 81920) : Fin 160 := ⟨r.val / 512, by have := r.isLt; omega⟩
def rowIn (r : Fin 81920) : Fin 512 := ⟨r.val % 512, Nat.mod_lt _ (by decide)⟩

theorem blkOf_rowAt (j : Fin 160) (p : Fin 512) : blkOf (rowAt j p) = j := by
  refine Fin.ext ?_
  show (j.val * 512 + p.val) / 512 = j.val
  have := p.isLt; omega

theorem rowIn_rowAt (j : Fin 160) (p : Fin 512) : rowIn (rowAt j p) = p := by
  refine Fin.ext ?_
  show (j.val * 512 + p.val) % 512 = p.val
  have := p.isLt; omega

/-- The blocks below the count through their experts, zeros in the others. -/
def out : FVec Ideal S81920x1024 .f32 := fun i =>
  if ((blkOf (i 0)).val : Int) < (nv (ix1 0)).toInt then layer be X Wg Wl B Wd Bd (blkOf (i 0)) (rowIn (i 0)) (i 1) else 0

/-- A block's number compared with the count, as words and as integers. -/
theorem slt_ofNat (j : Fin 160) (b : BitVec 32) : IntOp.cmpi .slt (BitVec.ofNat 32 j.val) b = 1#1 ↔ (j.val : Int) < b.toInt := by
  have hj := j.isLt
  have e : (BitVec.ofNat 32 j.val).toInt = (j.val : Int) := by
    rw [BitVec.toInt_eq_toNat_cond, BitVec.toNat_ofNat, Nat.mod_eq_of_lt (by omega), if_pos (by omega)]
  show BitVec.ofBool ((BitVec.ofNat 32 j.val).slt b) = 1#1 ↔ _
  rw [BitVec.slt_eq_decide, e]
  by_cases h : (j.val : Int) < b.toInt
  · simp [h]
  · simp [h]

end Common

/-! ## The kernel -/

section Kernel

open Cert.Kernel3Ideal Cert.Kernel3Ideal.Gen Cert.Kernel3Ideal.Hand

variable (m : (ℓ : Loc nD τ sig) → Buf (Elt Ideal) ℓ)

/-- The eight argument arrays. -/
abbrev aBe (c : Dev nD) : IVec S160 32 := m ((c : Thread nD τ).loc main_arg0)
abbrev aNv (c : Dev nD) : IVec S1 32 := m ((c : Thread nD τ).loc main_arg1)
abbrev aX (c : Dev nD) : FVec Ideal S81920x1024 .f32 := m ((c : Thread nD τ).loc main_arg2)
abbrev aWg (c : Dev nD) : FVec Ideal S32x1024x1024 .bf16 := m ((c : Thread nD τ).loc main_arg3)
abbrev aWl (c : Dev nD) : FVec Ideal S32x1024x1024 .bf16 := m ((c : Thread nD τ).loc main_arg4)
abbrev aB (c : Dev nD) : FVec Ideal S32x2048 .f32 := m ((c : Thread nD τ).loc main_arg5)
abbrev aWd (c : Dev nD) : FVec Ideal S32x1024x1024 .bf16 := m ((c : Thread nD τ).loc main_arg6)
abbrev aBd (c : Dev nD) : FVec Ideal S32x1024 .f32 := m ((c : Thread nD τ).loc main_arg7)

/-- The biases as the region finds them: the even columns, the odd columns, and the second layer's. -/
theorem V_even (c : Dev nD) (e : Fin 32) (f : Fin 1024) : (V m c main_v1 : FVec Ideal S32x1x1024 .f32) (ix3 e 0 f) = aB m c (ix2 e (evenCol f)) := by
  unfold V
  unfold hostOps0
  after_reads_at
  rfl

theorem V_odd (c : Dev nD) (e : Fin 32) (f : Fin 1024) : (V m c main_v3 : FVec Ideal S32x1x1024 .f32) (ix3 e 0 f) = aB m c (ix2 e (oddCol f)) := by
  unfold V
  unfold hostOps0
  after_reads_at
  exact congrArg (fun k => aB m c (ix2 e k)) (Fin.ext (Nat.add_comm 1 _))

theorem V_down (c : Dev nD) (e : Fin 32) (f : Fin 1024) : (V m c main_v4 : FVec Ideal S32x1x1024 .f32) (ix3 e 0 f) = aBd m c (ix2 e f) := by
  unfold V
  unfold hostOps0
  after_reads_at

/-- The block of a point. -/
abbrev at0 (t : Fin grid0.N) : Fin 160 := grid0.coords t 0

theorem at0_val : ∀ t : Fin grid0.N, (at0 t).val = t.val := by decide +kernel

theorem ex_expert {m : (ℓ : Loc nD τ sig) → Buf (Elt Ideal) ℓ} (h : Placed m) (j : Fin 160) : (ex (expert m j)).val = (expert m j).toNat :=
  Nat.mod_eq_of_lt (h.expert_lt j)

theorem idx_0 (hO : Ok m) (t : Fin (cfgM m hO).N) : ((cfgM m hO).win 0).index t = ![rowBlk m (grid0.coords t), 0] := tr_0 m _ _ _

theorem blk_x (hO : Ok m) (c : Dev nD) (t : Fin (cfgM m hO).N) (hr : rowBlk m (grid0.coords t) = (at0 t).val) (p : Fin 512) (l : Fin 1024) :
    (iblk m hO c 0 t : FVec Ideal S512x1024 .f32) (ix2 p l) = aX m c (ix2 (rowAt (at0 t) p) l) := by
  unfold iblk
  refine Eq.trans (View.read_apply ..) ?_
  show V m c main_arg2 _ = _
  rw [V_kept m c main_arg2 (by decide) (by decide) (by decide) (by decide) (by decide)]
  congr 1
  funext a
  apply Fin.ext
  match a with
  | ⟨0, _⟩ =>
    have e : ((cfgM m hO).win 0).index t (0 : Fin 2) * 512 + 1 * p.val = (at0 t).val * 512 + p.val := by
      rw [idx_0]
      show rowBlk m (grid0.coords t) * 512 + 1 * p.val = (at0 t).val * 512 + p.val
      rw [hr, Nat.one_mul]
    have e2 : ((((cfgM m hO).win 0).blk t).view.emb (ix2 p l : S512x1024.Idx) (0 : Fin 2)).val = ((cfgM m hO).win 0).index t (0 : Fin 2) * 512 + 1 * p.val := rfl
    exact e2.trans e
  | ⟨1, _⟩ =>
    have e : ((cfgM m hO).win 0).index t (1 : Fin 2) * 1024 + 1 * l.val = l.val := by
      rw [idx_0]
      show 0 * 1024 + 1 * l.val = l.val
      omega
    exact e

theorem blk_wg (h : Placed m) (hO : Ok m) (c : Dev nD) (t : Fin (cfgM m hO).N) (k f : Fin 1024) :
    (iblk m hO c 1 t : FVec Ideal S1x1024x1024 .bf16) (ix3 0 k f) = aWg m c (ix3 (ex (expert m (at0 t))) k f) := by
  unfold iblk
  refine Eq.trans (View.read_apply ..) ?_
  show V m c main_arg3 _ = _
  rw [V_kept m c main_arg3 (by decide) (by decide) (by decide) (by decide) (by decide)]
  congr 1
  funext a
  apply Fin.ext
  match a with
  | ⟨0, _⟩ =>
    show cc0_transform_1 Facts₀.k0_off1_inb Facts₀.numel1_S1 (tbl m) (grid0.coords t) 0 * 1 + 1 * 0 = (ex (expert m (at0 t))).val
    rw [tr_1, ex_expert h]
    show (expert m (at0 t)).toNat * 1 + 1 * 0 = _
    omega
  | ⟨1, _⟩ =>
    show cc0_transform_1 Facts₀.k0_off1_inb Facts₀.numel1_S1 (tbl m) (grid0.coords t) 1 * 1024 + 1 * k.val = k.val
    rw [tr_1]
    show 0 * 1024 + 1 * k.val = k.val
    omega
  | ⟨2, _⟩ =>
    show cc0_transform_1 Facts₀.k0_off1_inb Facts₀.numel1_S1 (tbl m) (grid0.coords t) 2 * 1024 + 1 * f.val = f.val
    rw [tr_1]
    show 0 * 1024 + 1 * f.val = f.val
    omega

theorem blk_wl (h : Placed m) (hO : Ok m) (c : Dev nD) (t : Fin (cfgM m hO).N) (k f : Fin 1024) :
    (iblk m hO c 2 t : FVec Ideal S1x1024x1024 .bf16) (ix3 0 k f) = aWl m c (ix3 (ex (expert m (at0 t))) k f) := by
  unfold iblk
  refine Eq.trans (View.read_apply ..) ?_
  show V m c main_arg4 _ = _
  rw [V_kept m c main_arg4 (by decide) (by decide) (by decide) (by decide) (by decide)]
  congr 1
  funext a
  apply Fin.ext
  match a with
  | ⟨0, _⟩ =>
    show cc0_transform_2 Facts₀.k0_off1_inb Facts₀.numel1_S1 (tbl m) (grid0.coords t) 0 * 1 + 1 * 0 = (ex (expert m (at0 t))).val
    rw [tr_2, ex_expert h]
    show (expert m (at0 t)).toNat * 1 + 1 * 0 = _
    omega
  | ⟨1, _⟩ =>
    show cc0_transform_2 Facts₀.k0_off1_inb Facts₀.numel1_S1 (tbl m) (grid0.coords t) 1 * 1024 + 1 * k.val = k.val
    rw [tr_2]
    show 0 * 1024 + 1 * k.val = k.val
    omega
  | ⟨2, _⟩ =>
    show cc0_transform_2 Facts₀.k0_off1_inb Facts₀.numel1_S1 (tbl m) (grid0.coords t) 2 * 1024 + 1 * f.val = f.val
    rw [tr_2]
    show 0 * 1024 + 1 * f.val = f.val
    omega

theorem blk_wd (h : Placed m) (hO : Ok m) (c : Dev nD) (t : Fin (cfgM m hO).N) (k f : Fin 1024) :
    (iblk m hO c 5 t : FVec Ideal S1x1024x1024 .bf16) (ix3 0 k f) = aWd m c (ix3 (ex (expert m (at0 t))) k f) := by
  unfold iblk
  refine Eq.trans (View.read_apply ..) ?_
  show V m c main_arg6 _ = _
  rw [V_kept m c main_arg6 (by decide) (by decide) (by decide) (by decide) (by decide)]
  congr 1
  funext a
  apply Fin.ext
  match a with
  | ⟨0, _⟩ =>
    show cc0_transform_5 Facts₀.k0_off1_inb Facts₀.numel1_S1 (tbl m) (grid0.coords t) 0 * 1 + 1 * 0 = (ex (expert m (at0 t))).val
    rw [tr_5, ex_expert h]
    show (expert m (at0 t)).toNat * 1 + 1 * 0 = _
    omega
  | ⟨1, _⟩ =>
    show cc0_transform_5 Facts₀.k0_off1_inb Facts₀.numel1_S1 (tbl m) (grid0.coords t) 1 * 1024 + 1 * k.val = k.val
    rw [tr_5]
    show 0 * 1024 + 1 * k.val = k.val
    omega
  | ⟨2, _⟩ =>
    show cc0_transform_5 Facts₀.k0_off1_inb Facts₀.numel1_S1 (tbl m) (grid0.coords t) 2 * 1024 + 1 * f.val = f.val
    rw [tr_5]
    show 0 * 1024 + 1 * f.val = f.val
    omega

theorem blk_bg (h : Placed m) (hO : Ok m) (c : Dev nD) (t : Fin (cfgM m hO).N) (f : Fin 1024) :
    (iblk m hO c 3 t : FVec Ideal S1x1x1024 .f32) (ix3 0 0 f) = aB m c (ix2 (ex (expert m (at0 t))) (evenCol f)) := by
  rw [← V_even]
  unfold iblk
  refine Eq.trans (View.read_apply ..) ?_
  show V m c main_v1 _ = _
  congr 1
  funext a
  apply Fin.ext
  match a with
  | ⟨0, _⟩ =>
    show cc0_transform_3 Facts₀.k0_off1_inb Facts₀.numel1_S1 (tbl m) (grid0.coords t) 0 * 1 + 1 * 0 = (ex (expert m (at0 t))).val
    rw [tr_3, ex_expert h]
    show (expert m (at0 t)).toNat * 1 + 1 * 0 = _
    omega
  | ⟨1, _⟩ =>
    show cc0_transform_3 Facts₀.k0_off1_inb Facts₀.numel1_S1 (tbl m) (grid0.coords t) 1 * 1 + 1 * 0 = 0
    rw [tr_3]
    rfl
  | ⟨2, _⟩ =>
    show cc0_transform_3 Facts₀.k0_off1_inb Facts₀.numel1_S1 (tbl m) (grid0.coords t) 2 * 1024 + 1 * f.val = f.val
    rw [tr_3]
    show 0 * 1024 + 1 * f.val = f.val
    omega

theorem blk_bl (h : Placed m) (hO : Ok m) (c : Dev nD) (t : Fin (cfgM m hO).N) (f : Fin 1024) :
    (iblk m hO c 4 t : FVec Ideal S1x1x1024 .f32) (ix3 0 0 f) = aB m c (ix2 (ex (expert m (at0 t))) (oddCol f)) := by
  rw [← V_odd]
  unfold iblk
  refine Eq.trans (View.read_apply ..) ?_
  show V m c main_v3 _ = _
  congr 1
  funext a
  apply Fin.ext
  match a with
  | ⟨0, _⟩ =>
    show cc0_transform_4 Facts₀.k0_off1_inb Facts₀.numel1_S1 (tbl m) (grid0.coords t) 0 * 1 + 1 * 0 = (ex (expert m (at0 t))).val
    rw [tr_4, ex_expert h]
    show (expert m (at0 t)).toNat * 1 + 1 * 0 = _
    omega
  | ⟨1, _⟩ =>
    show cc0_transform_4 Facts₀.k0_off1_inb Facts₀.numel1_S1 (tbl m) (grid0.coords t) 1 * 1 + 1 * 0 = 0
    rw [tr_4]
    rfl
  | ⟨2, _⟩ =>
    show cc0_transform_4 Facts₀.k0_off1_inb Facts₀.numel1_S1 (tbl m) (grid0.coords t) 2 * 1024 + 1 * f.val = f.val
    rw [tr_4]
    show 0 * 1024 + 1 * f.val = f.val
    omega

theorem blk_bd (h : Placed m) (hO : Ok m) (c : Dev nD) (t : Fin (cfgM m hO).N) (f : Fin 1024) :
    (iblk m hO c 6 t : FVec Ideal S1x1x1024 .f32) (ix3 0 0 f) = aBd m c (ix2 (ex (expert m (at0 t))) f) := by
  rw [← V_down]
  unfold iblk
  refine Eq.trans (View.read_apply ..) ?_
  show V m c main_v4 _ = _
  congr 1
  funext a
  apply Fin.ext
  match a with
  | ⟨0, _⟩ =>
    show cc0_transform_6 Facts₀.k0_off1_inb Facts₀.numel1_S1 (tbl m) (grid0.coords t) 0 * 1 + 1 * 0 = (ex (expert m (at0 t))).val
    rw [tr_6, ex_expert h]
    show (expert m (at0 t)).toNat * 1 + 1 * 0 = _
    omega
  | ⟨1, _⟩ =>
    show cc0_transform_6 Facts₀.k0_off1_inb Facts₀.numel1_S1 (tbl m) (grid0.coords t) 1 * 1 + 1 * 0 = 0
    rw [tr_6]
    rfl
  | ⟨2, _⟩ =>
    show cc0_transform_6 Facts₀.k0_off1_inb Facts₀.numel1_S1 (tbl m) (grid0.coords t) 2 * 1024 + 1 * f.val = f.val
    rw [tr_6]
    show 0 * 1024 + 1 * f.val = f.val
    omega

/-- What a point below the count leaves at entry `(p, l)` of its block, over the blocks it loads. -/
theorem live_apply (x0 : Vec Ideal S512x1024 .f32) (x1 x2 x5 : Vec Ideal S1x1024x1024 .bf16) (x3 x4 x6 : Vec Ideal S1x1x1024 .f32) (p : Fin 512) (l : Fin 1024) :
    live x0 x1 x2 x3 x4 x5 x6 (ix2 p l)
      = ∑ f, swiglu (∑ k, x0 (ix2 p k) * x1 (ix3 0 k f) + x3 (ix3 0 0 f)) (∑ k, x0 (ix2 p k) * x2 (ix3 0 k f) + x4 (ix3 0 0 f)) * x5 (ix3 0 f l)
        + x6 (ix3 0 0 l) := by
  unfold live swiglu
  rw [View.canon_unit_zero (by funext a; fin_cases a <;> rfl)]
  unfold k0_pay1 k0_pay3
  dsimp only
  pointwise

theorem dead_apply (p : Fin 512) (l : Fin 1024) : dead (F := Ideal) (ix2 p l) = (0 : EReal) := by
  unfold dead
  rw [View.canon_unit_zero (by funext a; fin_cases a <;> rfl)]
  unfold k0_pay2
  pointwise

theorem cond1_iff (i : grid0.Coords) (n : BitVec 32) : k0_cond1 i n = 1#1 ↔ IntOp.cmpi .slt (BitVec.ofNat 32 (i 0).val) n = 1#1 := by
  unfold k0_cond1
  simp only [Scalar.cmpi, Scalar.extui]
  generalize IntOp.cmpi .slt (BitVec.ofNat 32 (i 0).val) n = b
  revert b
  decide

/-- What point `t` leaves is block `t` of the common value. -/
theorem flushed_eq (h : Placed m) (hO : Ok m) (c : Dev nD) (t : Fin (cfgM m hO).N) (p : Fin 512) (l : Fin 1024) :
    (left (grid0.coords t) (count m) (iblk m hO c 0 t) (iblk m hO c 1 t) (iblk m hO c 2 t) (iblk m hO c 3 t) (iblk m hO c 4 t) (iblk m hO c 5 t)
        (iblk m hO c 6 t) : FVec Ideal S512x1024 .f32) (ix2 p l)
      = out (aBe m c) (aNv m c) (aX m c) (aWg m c) (aWl m c) (aB m c) (aWd m c) (aBd m c) (ix2 (rowAt (at0 t) p) l) := by
  have hb : aBe m c = tbl m 0 := (tbl_0 m c).symm
  have hn : aNv m c = tbl m 1 := (tbl_1 m c).symm
  show _ = if ((blkOf (rowAt (at0 t) p)).val : Int) < (aNv m c (ix1 0)).toInt
    then layer (aBe m c) (aX m c) (aWg m c) (aWl m c) (aB m c) (aWd m c) (aBd m c) (blkOf (rowAt (at0 t) p)) (rowIn (rowAt (at0 t) p)) l else 0
  rw [blkOf_rowAt, rowIn_rowAt, hn]
  show _ = if ((at0 t).val : Int) < (count m).toInt then _ else _
  have hc : k0_cond1 (grid0.coords t) (count m) = 1#1 ↔ ((at0 t).val : Int) < (count m).toInt :=
    (cond1_iff _ _).trans (slt_ofNat (at0 t) (count m))
  unfold left
  by_cases hlt : ((at0 t).val : Int) < (count m).toInt
  · rw [if_pos (hc.mpr hlt), if_pos hlt]
    refine (live_apply _ _ _ _ _ _ _ p l).trans ?_
    unfold layer gate linear
    have e : aBe m c (ix1 (at0 t)) = expert m (at0 t) := congrFun hb _
    rw [e]
    simp only [blk_x m hO c t ((rowBlk_of m h.count_pos (grid0.coords t)).2 hlt), blk_wg m h, blk_wl m h, blk_wd m h, blk_bg m h, blk_bl m h, blk_bd m h]
  · rw [if_neg (fun k => hlt (hc.mp k)), if_neg hlt]
    exact dead_apply p l

theorem index_7 (pf : (pcfg0 (F := Ideal)).Adm) (t : Fin grid0.N) : ((cfg0 pf).win 7).index t = ![(at0 t).val, 0] := by
  show cc0_transform_7 (grid0.coords t) = _
  unfold cc0_transform_7
  show (![(BitVec.ofNat 32 (at0 t).val).toNat, 0] : Fin 2 → Nat) = _
  rw [BitVec.toNat_ofNat, Nat.mod_eq_of_lt (by have := (at0 t).isLt; omega)]

/-- Every point writes its block of the result back: the next point's is another. -/
theorem flush_7 (pf : (pcfg0 (F := Ideal)).Adm) (t : Fin grid0.N) : ((cfg0 pf).win 7).flush t = true := by
  unfold Pipeline.Window.flush
  rw [Bool.and_eq_true, Bool.or_eq_true, decide_eq_true_eq, decide_eq_true_eq]
  refine ⟨rfl, ?_⟩
  by_cases h : t.val + 1 = grid0.N
  · exact .inl h
  · refine .inr ⟨by have := t.isLt; show t.val + 1 < grid0.N; omega, fun e => ?_⟩
    rw [index_7, index_7] at e
    have e0 : (at0 _).val = (at0 t).val := congrFun e 0
    rw [at0_val, at0_val] at e0
    exact absurd e0 (Nat.succ_ne_self _)

theorem emb_7 (pf : (pcfg0 (F := Ideal)).Adm) (t : Fin grid0.N) (p : Fin 512) (l : Fin 1024) :
    (((cfg0 pf).win 7).blk t).view.emb (ix2 p l : S512x1024.Idx) = (ix2 (rowAt (at0 t) p) l : S81920x1024.Idx) := by
  funext a
  apply Fin.ext
  match a with
  | ⟨0, _⟩ =>
    have e : ((((cfg0 pf).win 7).blk t).view.emb (ix2 p l : S512x1024.Idx) (0 : Fin 2)).val = ((cfg0 pf).win 7).index t (0 : Fin 2) * 512 + 1 * p.val := rfl
    refine e.trans ?_
    rw [index_7, Nat.one_mul]
    rfl
  | ⟨1, _⟩ =>
    have e : ((((cfg0 pf).win 7).blk t).view.emb (ix2 p l : S512x1024.Idx) (1 : Fin 2)).val = ((cfg0 pf).win 7).index t (1 : Fin 2) * 1024 + 1 * l.val := rfl
    refine e.trans ?_
    rw [index_7, Nat.one_mul]
    show 0 * 1024 + l.val = l.val
    omega

/-- Where every point leaves its block of `G`, the result array ends holding `G`: its 160 blocks tile it. -/
theorem arr_7 (pf : (pcfg0 (F := Ideal)).Adm) (c : Dev nD) (dat : Pipeline.Dat τ (Elt Ideal) Unit ℕ (UR sig nD τ) ℕ (cfg0 pf) c)
    (G : FVec Ideal S81920x1024 .f32)
    (h : ∀ (t : Fin grid0.N) (p : Fin 512) (l : Fin 1024), (dat.after 7 t : FVec Ideal S512x1024 .f32) (ix2 p l) = G (ix2 (rowAt (at0 t) p) l)) :
    dat.arrAt 7 (cfg0 pf).N = G :=
  dat.arrAt_eq_of_cover 7 G (fun t _ => by
    show ((cfg0 pf).win 7).cut (grid0.coords t) (dat.after 7 t) = _
    show (dat.after 7 t : FVec Ideal S512x1024 .f32) = _
    refine funext fun (j : S512x1024.Idx) => ?_
    obtain ⟨p, l, rfl⟩ : ∃ (p : Fin 512) (l : Fin 1024), j = ix2 p l := ⟨j 0, j 1, by funext a; fin_cases a <;> rfl⟩
    refine (h t p l).trans (Eq.trans ?_ (View.read_apply ..).symm)
    exact (congrArg G (emb_7 pf t p l)).symm) fun (i : S81920x1024.Idx) => by
  have h0 : (i 0 : Nat) < 81920 := (i 0).isLt
  have ht : (i 0 : Nat) / 512 < grid0.N := by rw [N_0]; omega
  refine ⟨⟨(i 0 : Nat) / 512, ht⟩, flush_7 pf _, ?_⟩
  have e : (ix2 (rowAt (at0 ⟨(i 0 : Nat) / 512, ht⟩) (rowIn (i 0))) (i 1) : S81920x1024.Idx) = i := by
    funext a
    match a with
    | ⟨0, _⟩ =>
      refine Fin.ext ?_
      show (at0 _).val * 512 + (i 0 : Nat) % 512 = (i 0 : Nat)
      rw [at0_val]
      show (i 0 : Nat) / 512 * 512 + (i 0 : Nat) % 512 = (i 0 : Nat)
      omega
    | ⟨1, _⟩ => rfl
  have h2 := (((cfg0 pf).win 7).blk ⟨(i 0 : Nat) / 512, ht⟩).view.emb_mem_set (ix2 (rowIn (i 0)) (i 1) : S512x1024.Idx)
  exact Eq.mp (congrArg (fun j => j ∈ (((cfg0 pf).win 7).blk ⟨(i 0 : Nat) / 512, ht⟩).view.set) ((emb_7 pf _ _ _).trans e)) h2

/-- The result array ends holding the common value. -/
theorem final_eq (h : Placed m) (hO : Ok m) (c : Dev nD) : (dats m hO 0 c).arrAt 7 (cfgM m hO).N
    = out (aBe m c) (aNv m c) (aX m c) (aWg m c) (aWl m c) (aB m c) (aWd m c) (aBd m c) :=
  arr_7 (adm m hO) c (dats m hO 0 c) _ fun t p l => (congrFun (after_7 m hO c t) _).trans (flushed_eq m h hO c t p l)

end Kernel

/-! ## The reference -/

section Reference

open Cert.Reference3Ideal

variable {α : Type}

/-- An expert's number as the start index of a gather: in range, it is itself. -/
abbrev startIdx (be : IVec S160 32) : IVec S160x1 32 :=
  broadcastInDim S160x1 ![0] Gen.facts.bcast_S160_S160x1_0
    (select (cmpi .slt be (broadcastInDim S160 ![] Gen.facts.bcast_S_S160 (constantI S_ 32 0#32)))
      (addi be (broadcastInDim S160 ![] Gen.facts.bcast_S_S160 (constantI S_ 32 32#32))) be)

theorem startIdx_apply {be : IVec S160 32} (h : ∀ j : Fin 160, (be (ix1 j)).toNat < 32) (j : Fin 160) (z : S160x1.Idx) (hz : (z 0).val = j.val) :
    startIdx be z = be (ix1 j) := by
  have hb := h j
  have hz1 : z = ix2 j 0 := by
    funext a
    match a with
    | ⟨0, _⟩ => exact Fin.ext hz
    | ⟨1, _⟩ => exact Fin.ext (by have h1 : (z 1).val < 1 := (z 1).isLt; show (z 1).val = 0; omega)
  have hy : startIdx be z = (if IntOp.cmpi .slt (be (ix1 j)) 0#32 = 1#1 then IntOp.addi (be (ix1 j)) 32#32 else be (ix1 j)) := by
    rw [hz1]
    pointwise
    rfl
  rw [hy, if_neg]
  intro e
  have : (be (ix1 j)).slt 0#32 = true := by
    revert e
    show BitVec.ofBool ((be (ix1 j)).slt 0#32) = 1#1 → _
    cases (be (ix1 j)).slt 0#32 <;> decide
  rw [BitVec.slt_eq_decide, decide_eq_true_eq, BitVec.toInt_eq_toNat_cond, if_pos (by omega)] at this
  exact absurd this (by simp)

abbrev gd3 := gather_S32x1024x1024_S160x1_S160x1024x1024_12_0_n_n_0_1_110241024
abbrev gd2 := gather_S32x1024_S160x1_S160x1024_1_0_n_n_0_1_11024

theorem gather3_apply {be : IVec S160 32} (h : ∀ j : Fin 160, (be (ix1 j)).toNat < 32) (W : S32x1024x1024.Idx → α) (j : Fin 160) (k f : Fin 1024) :
    Host.gather gd3 W (startIdx be) (ix3 j k f) = W (ix3 (ex (be (ix1 j))) k f) := by
  have hb := h j
  unfold Host.gather
  refine congrArg W (funext fun a => Fin.ext ?_)
  show gd3.start (ix3 j k f) _ a + gd3.batchCoord (ix3 j k f) a + gd3.offCoord (ix3 j k f) a = _
  rw [gd3.batchCoord_eq_zero _ _ List.not_mem_nil]
  match a with
  | ⟨0, _⟩ =>
    show gd3.start (ix3 j k f) _ (0 : Fin 3) + 0 + gd3.offCoord (ix3 j k f) (0 : Fin 3) = (ex (be (ix1 j))).val
    rw [gd3.offCoord_eq_zero _ _ (fun k => ((gd3.mem_sKept _).mp k).1 (List.mem_singleton.mpr rfl))]
    unfold GatherDims.start
    rw [dif_pos (show (0 : Fin 3) ∈ gd3.startIndexMap from List.mem_singleton.mpr rfl), startIdx_apply h j _ rfl]
    show min (be (ix1 j)).toInt.toNat (32 - 1) + 0 + 0 = (be (ix1 j)).toNat % 32
    rw [BitVec.toInt_eq_toNat_cond, if_pos (by omega)]
    omega
  | ⟨1, _⟩ =>
    show gd3.start (ix3 j k f) _ (1 : Fin 3) + 0 + gd3.offCoord (ix3 j k f) (1 : Fin 3) = k.val
    unfold GatherDims.start
    rw [dif_neg (show ¬ (1 : Fin 3) ∈ gd3.startIndexMap from fun k => absurd (List.mem_singleton.mp k) (by decide))]
    unfold GatherDims.offCoord
    rw [dif_pos ((gd3.mem_sKept 1).mpr ⟨fun k => absurd (List.mem_singleton.mp k) (by decide), List.not_mem_nil⟩)]
    exact (Nat.zero_add _).trans rfl
  | ⟨2, _⟩ =>
    show gd3.start (ix3 j k f) _ (2 : Fin 3) + 0 + gd3.offCoord (ix3 j k f) (2 : Fin 3) = f.val
    unfold GatherDims.start
    rw [dif_neg (show ¬ (2 : Fin 3) ∈ gd3.startIndexMap from fun k => absurd (List.mem_singleton.mp k) (by decide))]
    unfold GatherDims.offCoord
    rw [dif_pos ((gd3.mem_sKept 2).mpr ⟨fun k => absurd (List.mem_singleton.mp k) (by decide), List.not_mem_nil⟩)]
    exact (Nat.zero_add _).trans rfl

theorem gather2_apply {be : IVec S160 32} (h : ∀ j : Fin 160, (be (ix1 j)).toNat < 32) (W : S32x1024.Idx → α) (j : Fin 160) (f : Fin 1024) :
    Host.gather gd2 W (startIdx be) (ix2 j f) = W (ix2 (ex (be (ix1 j))) f) := by
  have hb := h j
  unfold Host.gather
  refine congrArg W (funext fun a => Fin.ext ?_)
  show gd2.start (ix2 j f) _ a + gd2.batchCoord (ix2 j f) a + gd2.offCoord (ix2 j f) a = _
  rw [gd2.batchCoord_eq_zero _ _ List.not_mem_nil]
  match a with
  | ⟨0, _⟩ =>
    show gd2.start (ix2 j f) _ (0 : Fin 2) + 0 + gd2.offCoord (ix2 j f) (0 : Fin 2) = (ex (be (ix1 j))).val
    rw [gd2.offCoord_eq_zero _ _ (fun k => ((gd2.mem_sKept _).mp k).1 (List.mem_singleton.mpr rfl))]
    unfold GatherDims.start
    rw [dif_pos (show (0 : Fin 2) ∈ gd2.startIndexMap from List.mem_singleton.mpr rfl), startIdx_apply h j _ rfl]
    show min (be (ix1 j)).toInt.toNat (32 - 1) + 0 + 0 = (be (ix1 j)).toNat % 32
    rw [BitVec.toInt_eq_toNat_cond, if_pos (by omega)]
    omega
  | ⟨1, _⟩ =>
    show gd2.start (ix2 j f) _ (1 : Fin 2) + 0 + gd2.offCoord (ix2 j f) (1 : Fin 2) = f.val
    unfold GatherDims.start
    rw [dif_neg (show ¬ (1 : Fin 2) ∈ gd2.startIndexMap from fun k => absurd (List.mem_singleton.mp k) (by decide))]
    unfold GatherDims.offCoord
    rw [dif_pos ((gd2.mem_sKept 1).mpr ⟨fun k => absurd (List.mem_singleton.mp k) (by decide), List.not_mem_nil⟩)]
    exact (Nat.zero_add _).trans rfl

/-- The blocks' rows through the experts' columns `W`, biases `b`. -/
abbrev refCols (be : IVec S160 32) (X : FVec Ideal S81920x1024 .f32) (W : FVec Ideal S32x1024x1024 .bf16) (b : FVec Ideal S32x1024 .f32) : FVec Ideal S160x512x1024 .f32 :=
  addf (Host.dotGeneral dot_S160x512x1024_S160x1024x1024_S160x512x1024_2_1_1_2_0_0 none (shapeCast _ X Gen.facts.shapeCasts_S81920x1024_S160x512x1024)
      (Host.gather gd3 (extf .f32 W Gen.facts.bitsLt_bf16_f32) (startIdx be)))
    (broadcastInDim S160x512x1024 ![0, 1, 2] Gen.facts.bcast_S160x1x1024_S160x512x1024_0_1_2
      (broadcastInDim S160x1x1024 ![0, 2] Gen.facts.bcast_S160x1024_S160x1x1024_0_2 (Host.gather gd2 b (startIdx be))))

theorem refCols_apply {be : IVec S160 32} (h : ∀ j : Fin 160, (be (ix1 j)).toNat < 32) (X : FVec Ideal S81920x1024 .f32)
    (W : FVec Ideal S32x1024x1024 .bf16) (b : FVec Ideal S32x1024 .f32) (j : Fin 160) (p : Fin 512) (f : Fin 1024) :
    refCols be X W b (ix3 j p f) = ∑ k, X (ix2 (rowAt j p) k) * W (ix3 (ex (be (ix1 j))) k f) + b (ix2 (ex (be (ix1 j))) f) := by
  have h3 := gather3_apply h (extf .f32 W Gen.facts.bitsLt_bf16_f32)
  have h2 := gather2_apply h b
  unfold refCols
  generalize Host.gather gd3 (extf .f32 W Gen.facts.bitsLt_bf16_f32) (startIdx be) = G3 at h3 ⊢
  generalize Host.gather gd2 b (startIdx be) = G2 at h2 ⊢
  pointwise
  simp only [h3, h2]
  rfl

/-- The gated activation of two arrays. -/
abbrev refGlu (G : FVec Ideal S160x512x1024 .f32) : FVec Ideal S160x512x1024 .f32 :=
  minimumf G (broadcastInDim S160x512x1024 ![] Gen.facts.bcast_S_S160x512x1024 (constant S_ .f32 0x40E00000#32))

abbrev refAct (G L : FVec Ideal S160x512x1024 .f32) : FVec Ideal S160x512x1024 .f32 :=
  mulf (mulf (refGlu G)
      (Host.divf (broadcastInDim S160x512x1024 ![] Gen.facts.bcast_S_S160x512x1024 (constant S_ .f32 0x3F800000#32))
        (addf (broadcastInDim S160x512x1024 ![] Gen.facts.bcast_S_S160x512x1024 (constant S_ .f32 0x3F800000#32))
          (Host.exp (Host.negf (mulf (broadcastInDim S160x512x1024 ![] Gen.facts.bcast_S_S160x512x1024 (constant S_ .f32 0x3FD9DB23#32)) (refGlu G)))))))
    (addf (minimumf (broadcastInDim S160x512x1024 ![] Gen.facts.bcast_S_S160x512x1024 (id (constant S_ .f32 0x40E00000#32)))
        (maximumf (broadcastInDim S160x512x1024 ![] Gen.facts.bcast_S_S160x512x1024 (id (constant S_ .f32 0xC0E00000#32))) L))
      (broadcastInDim S160x512x1024 ![] Gen.facts.bcast_S_S160x512x1024 (constant S_ .f32 0x3F800000#32)))

theorem refAct_apply (G L : FVec Ideal S160x512x1024 .f32) (j : Fin 160) (p : Fin 512) (f : Fin 1024) :
    refAct G L (ix3 j p f) = swiglu (G (ix3 j p f)) (L (ix3 j p f)) := by
  unfold refAct refGlu swiglu Ideal.logistic
  simp only [id]
  pointwise

/-- The activations through the second matrices, in the blocks below the count. -/
abbrev refOut (be : IVec S160 32) (nv : IVec S1 32) (A : FVec Ideal S160x512x1024 .f32) (Wd : FVec Ideal S32x1024x1024 .bf16)
    (Bd : FVec Ideal S32x1024 .f32) : FVec Ideal S81920x1024 .f32 :=
  shapeCast _ (select (broadcastInDim S160x512x1024 ![0, 1, 2] Gen.facts.bcast_S160x1x1_S160x512x1024_0_1_2
      (cmpi .slt (broadcastInDim S160x1x1 ![0] Gen.facts.bcast_S160_S160x1x1_0 (iotaInDim S160 32 0))
        (broadcastInDim S160x1x1 ![0, 1, 2] Gen.facts.bcast_S1x1x1_S160x1x1_0_1_2
          (broadcastInDim S1x1x1 ![2] Gen.facts.bcast_S1_S1x1x1_2 nv))))
    (addf (Host.dotGeneral dot_S160x512x1024_S160x1024x1024_S160x512x1024_2_1_1_2_0_0 none A
        (Host.gather gd3 (extf .f32 Wd Gen.facts.bitsLt_bf16_f32) (startIdx be)))
      (broadcastInDim S160x512x1024 ![0, 1, 2] Gen.facts.bcast_S160x1x1024_S160x512x1024_0_1_2
        (broadcastInDim S160x1x1024 ![0, 2] Gen.facts.bcast_S160x1024_S160x1x1024_0_2 (Host.gather gd2 Bd (startIdx be)))))
    (broadcastInDim S160x512x1024 ![] Gen.facts.bcast_S_S160x512x1024 (id (constant S_ .f32 0x00000000#32))))
    Gen.facts.shapeCasts_S160x512x1024_S81920x1024

theorem refOut_apply {be : IVec S160 32} (h : ∀ j : Fin 160, (be (ix1 j)).toNat < 32) (nv : IVec S1 32) (A : FVec Ideal S160x512x1024 .f32)
    (Wd : FVec Ideal S32x1024x1024 .bf16) (Bd : FVec Ideal S32x1024 .f32) (r : Fin 81920) (l : Fin 1024) :
    refOut be nv A Wd Bd (ix2 r l) = if ((blkOf r).val : Int) < (nv (ix1 0)).toInt then
      ∑ f, A (ix3 (blkOf r) (rowIn r) f) * Wd (ix3 (ex (be (ix1 (blkOf r)))) f l) + Bd (ix2 (ex (be (ix1 (blkOf r)))) l) else 0 := by
  have h3 := gather3_apply h (extf .f32 Wd Gen.facts.bitsLt_bf16_f32)
  have h2 := gather2_apply h Bd
  unfold refOut
  generalize Host.gather gd3 (extf .f32 Wd Gen.facts.bitsLt_bf16_f32) (startIdx be) = G3 at h3 ⊢
  generalize Host.gather gd2 Bd (startIdx be) = G2 at h2 ⊢
  simp only [id]
  pointwise
  simp only [h3, h2]
  have e := slt_ofNat (blkOf r) (nv (ix1 0))
  show (if IntOp.cmpi .slt (BitVec.ofNat 32 (blkOf r).val) (nv (ix1 0)) = 1#1 then _ else _) = _
  by_cases hc : ((blkOf r).val : Int) < (nv (ix1 0)).toInt
  · rw [if_pos (e.mpr hc), if_pos hc]
    rfl
  · rw [if_neg (fun k => hc (e.mp k)), if_neg hc]

/-- The reference's result is the common one. -/
theorem ref_eq {be : IVec S160 32} (h : ∀ j : Fin 160, (be (ix1 j)).toNat < 32) (nv : IVec S1 32) (X : FVec Ideal S81920x1024 .f32)
    (Wg Wl : FVec Ideal S32x1024x1024 .bf16) (B : FVec Ideal S32x2048 .f32) (Wd : FVec Ideal S32x1024x1024 .bf16) (Bd : FVec Ideal S32x1024 .f32) :
    refOut be nv (refAct (refCols be X Wg (Host.slice S32x1024 ![0, 0] ![1, 2] B Gen.facts.slicesBy_S32x2048_S32x1024_0s1_0s2))
      (refCols be X Wl (Host.slice S32x1024 ![0, 1] ![1, 2] B Gen.facts.slicesBy_S32x2048_S32x1024_0s1_1s2))) Wd Bd = out be nv X Wg Wl B Wd Bd := by
  funext i
  obtain ⟨r, l, rfl⟩ : ∃ (r : Fin 81920) (l : Fin 1024), i = ix2 r l := ⟨i 0, i 1, by funext a; fin_cases a <;> rfl⟩
  rw [refOut_apply h]
  simp only [refAct_apply, refCols_apply h]
  have he : ∀ (e : Fin 32) (f : Fin 1024), Host.slice S32x1024 ![0, 0] ![1, 2] B Gen.facts.slicesBy_S32x2048_S32x1024_0s1_0s2 (ix2 e f) = B (ix2 e (evenCol f)) := by
    intro e f
    pointwise
    rfl
  have ho : ∀ (e : Fin 32) (f : Fin 1024), Host.slice S32x1024 ![0, 1] ![1, 2] B Gen.facts.slicesBy_S32x2048_S32x1024_0s1_1s2 (ix2 e f) = B (ix2 e (oddCol f)) := by
    intro e f
    pointwise
    exact congrArg (fun k => B (ix2 e k)) (Fin.ext (Nat.add_comm 1 _))
  simp only [he, ho]
  rfl

end Reference

end Cert.Proof.Experts

end
-- ==== Proof.AttnPre.lean ====
/-
The attention's precondition: every query and every key is below infinity in absolute value, so over the extended reals they are real.
-/
module

public import proofs.«01_k».proof.Proof.Gen.Pre_finite_qk
public import Idealize.ShloMosaic.PureOps.Ideal
public import Idealize.ShloMosaic.Lib.ReduceAll

@[expose] public section

noncomputable section

namespace Cert.Proof.Attn

open Idealize.ShloMosaic Cert.Pre_finite_qk

theorem inf : Ideal.ofBits .f32 0x7F800000#32 = ⊤ := by simp [Ideal.ofBits, Ideal.ieee]

theorem real_of {x : EReal} (h : Ideal.cmp .olt (max x (-x)) (Ideal.ofBits .f32 0x7F800000#32) = 1#1) : ∃ r : ℝ, x = (r : EReal) := by
  have ofBool_one (p : Bool) : (BitVec.ofBool p = 1#1) ↔ p = true := by cases p <;> decide
  have hl : max x (-x) < ⊤ := by
    rw [inf] at h
    exact of_decide_eq_true ((ofBool_one _).mp h)
  have h1 : x ≠ ⊤ := ((le_max_left _ _).trans_lt hl).ne
  have h2 : x ≠ ⊥ := by
    rintro rfl
    exact absurd ((le_max_right _ _).trans_lt hl) (by simp)
  exact ⟨x.toReal, (EReal.coe_toReal h1 h2).symm⟩

theorem real_qk (Qa : FVec Ideal S3x8x128x16384 .bf16) (Ka : FVec Ideal S3x8x16384x128 .bf16) (Va : FVec Ideal S3x8x32x64x512 .bf16)
    (h : fn (F := Ideal) Qa Ka Va = fun _ => 1#1) : (∀ i, ∃ r : ℝ, Qa i = (r : EReal)) ∧ ∀ i, ∃ r : ℝ, Ka i = (r : EReal) := by
  have both : ∀ a b : BitVec 1, IntOp.andi a b = 1#1 → a = 1#1 ∧ b = 1#1 := by decide
  have one : Subsingleton S_.Idx := ⟨fun a b => funext fun k => k.elim0⟩
  have e := congrFun h (fun k => k.elim0)
  dsimp only [fn] at e
  obtain ⟨eq, ek⟩ := both _ _ e
  exact ⟨fun i => real_of (Host.reduce_andi_all _ _ _ _ _ eq i), fun i => real_of (Host.reduce_andi_all _ _ _ _ _ ek i)⟩

end Cert.Proof.Attn

end
-- ==== Proof.AttnBase.lean ====
/-
The attention's online softmax over any float values: the blocks of keys and values that a step reads, the scores of
a block, the running maximum and the running sums after each number of blocks, and what the last step stores.
-/
module

public import proofs.«01_k».proof.Proof.Gen.Kernel4Ideal.Frame
public import Idealize.ShloMosaic.Lib.WholeRead
public import Idealize.ShloMosaic.Lib.Pipeline.ValueKit.Geometry
public import Idealize.ShloMosaic.Lib.Pipeline.ReadBack

@[expose] public section

noncomputable section

namespace Cert.Kernel4Ideal.Attn

open Idealize.ShloMosaic Idealize.ShloMosaic.TcCoe Cert.Kernel4Ideal Cert.Kernel4Ideal.Gen

variable {F : FTy → Type}

/-- The place in a box of sizes `d` that lies `off` beyond `y`, taken around the box's ends. -/
def place {r : ℕ} (d : Fin r → ℕ) (h : ∀ a, 0 < d a) (off : Fin r → ℕ) (y : Fin r → ℕ) (a : Fin r) : Fin (d a) :=
  ⟨(off a + y a) % d a, Nat.mod_lt _ (h a)⟩

/-- The queries of the tile that starts at column `o`. -/
def qB (x0 : Vec F S1x1x128x1024 .bf16) (o : ℕ) : Vec F S1x1x128x512 .bf16 :=
  fun y => x0 (place S1x1x128x1024.size (by decide) ![0, 0, 0, o] fun a => (y a).val)
/-- The keys of the block that starts at row `o`. -/
def kB (x1 : Vec F S1x1x16384x128 .bf16) (o : ℕ) : Vec F S1x1x256x128 .bf16 :=
  fun y => x1 (place S1x1x16384x128.size (by decide) ![0, 0, o, 0] fun a => (y a).val)
/-- The values at columns from `o` of group `g`. -/
def vB (x2 : Vec F S1x1x32x64x512 .bf16) (g o : ℕ) : Vec F S1x1x1x64x256 .bf16 :=
  fun y => x2 (place S1x1x32x64x512.size (by decide) ![0, 0, g, 0, o] fun a => (y a).val)

variable [FloatOps F]

theorem rdQ (arg3 : Memref sig .tc .vmem S1x1x128x1024 .bf16) (harg3 : arg3.IsWhole) (x0 : Vec F S1x1x128x1024 .bf16)
    (o : ℕ) (inb) :
    View.readAt (Elt F) arg3.view (Rect.unit (s := S1x1x128x1024) ![0, 0, 0, o] ![1, 1, 128, 512] inb).toLoadRect (harg3.unread x0)
      = qB x0 o := by
  funext y
  refine (harg3.readAt_unread x0 _ y).trans (congrArg x0 ?_)
  funext a
  refine Fin.ext ((ValueKit.rect_emb_unit_val _ _ inb y a).trans (Eq.symm (Nat.mod_eq_of_lt ?_)))
  exact lt_of_lt_of_le (Nat.add_lt_add_left (y a).isLt _) (inb a)

theorem rdK (arg4 : Memref sig .tc .vmem S1x1x16384x128 .bf16) (harg4 : arg4.IsWhole) (x1 : Vec F S1x1x16384x128 .bf16)
    (o : ℕ) (inb) :
    View.readAt (Elt F) arg4.view (Rect.unit (s := S1x1x16384x128) ![0, 0, o, 0] ![1, 1, 256, 128] inb).toLoadRect (harg4.unread x1)
      = kB x1 o := by
  funext y
  refine (harg4.readAt_unread x1 _ y).trans (congrArg x1 ?_)
  funext a
  refine Fin.ext ((ValueKit.rect_emb_unit_val _ _ inb y a).trans (Eq.symm (Nat.mod_eq_of_lt ?_)))
  exact lt_of_lt_of_le (Nat.add_lt_add_left (y a).isLt _) (inb a)

theorem rdV (arg5 : Memref sig .tc .vmem S1x1x32x64x512 .bf16) (harg5 : arg5.IsWhole) (x2 : Vec F S1x1x32x64x512 .bf16)
    (g o : ℕ) (inb) :
    View.readAt (Elt F) arg5.view (Rect.unit (s := S1x1x32x64x512) ![0, 0, g, 0, o] ![1, 1, 1, 64, 256] inb).toLoadRect (harg5.unread x2)
      = vB x2 g o := by
  funext y
  refine (harg5.readAt_unread x2 _ y).trans (congrArg x2 ?_)
  funext a
  refine Fin.ext ((ValueKit.rect_emb_unit_val _ _ inb y a).trans (Eq.symm (Nat.mod_eq_of_lt ?_)))
  exact lt_of_lt_of_le (Nat.add_lt_add_left (y a).isLt _) (inb a)

/-- The queries of a tile, as a matrix. -/
def Q (x0 : Vec F S1x1x128x1024 .bf16) (o : ℕ) : FVec F S128x512 .bf16 :=
  shapeCast S128x512 (qB x0 o) shapeCasts_S1x1x128x512_S128x512

/-- The scores of key block `n`: a row for each key, a column for each query. -/
def S (x0 : Vec F S1x1x128x1024 .bf16) (x1 : Vec F S1x1x16384x128 .bf16) (o n : ℕ) : FVec F S256x512 .f32 :=
  matmul dot_S256x128_S128x512_S256x512_1_0_0_1_n_n none
    (shapeCast S256x128 (kB x1 (256 * n)) shapeCasts_S1x1x256x128_S256x128) (Q x0 o) (constant S256x512 .f32 0x00000000#32)

/-- The scores of block `n` as the scratch holds them. -/
def C (x0 : Vec F S1x1x128x1024 .bf16) (x1 : Vec F S1x1x16384x128 .bf16) (o n : ℕ) : FVec F S1x256x512 .f32 :=
  shapeCast S1x256x512 (S x0 x1 o n) shapeCasts_S256x512_S1x256x512

/-- The largest score of block `n`, for each query. -/
def R (x0 : Vec F S1x1x128x1024 .bf16) (x1 : Vec F S1x1x16384x128 .bf16) (o n : ℕ) : FVec F S512 .f32 :=
  multiReduction .maximumf [0] S512 (S x0 x1 o n) 0xFF800000#32 reduces_S256x512_S512 (.inl rfl) rfl

/-- The same as a matrix of one row. -/
def B (x0 : Vec F S1x1x128x1024 .bf16) (x1 : Vec F S1x1x16384x128 .bf16) (o n : ℕ) : FVec F S1x512 .f32 :=
  shapeCast S1x512 (R x0 x1 o n) shapeCasts_S512_S1x512

/-- The running maximum after `n` blocks. -/
def M (x0 : Vec F S1x1x128x1024 .bf16) (x1 : Vec F S1x1x16384x128 .bf16) (o n : ℕ) : FVec F S1x512 .f32 :=
  Nat.rec (broadcast S1x512 (Scalar.ofBits .f32 0xFF800000#32)) (fun k m => maximumf m (B x0 x1 o k)) n

/-- The scores of block `n` below the running maximum. -/
def D (x0 : Vec F S1x1x128x1024 .bf16) (x1 : Vec F S1x1x16384x128 .bf16) (o n : ℕ) : FVec F S256x512 .f32 :=
  subf (shapeCast S256x512 (C x0 x1 o n) shapeCasts_S1x256x512_S256x512)
    (broadcastTo S256x512 (M x0 x1 o (n + 1)) broadcasts_S1x512_S256x512)

/-- The rows of ones under the values. -/
def ones : FVec F S16x256 .bf16 := broadcast S16x256 (Scalar.ofBits .bf16 0x3F80#16)

/-- The values of block `n` over the rows of ones. -/
def V (x2 : Vec F S1x1x32x64x512 .bf16) (n : ℕ) : FVec F S80x256 .bf16 :=
  concatenate S80x256 0 [⟨S64x256, shapeCast S64x256 (vB x2 (n / 2) (n % 2 * 256)) shapeCasts_S1x1x1x64x256_S64x256⟩,
    ⟨S16x256, ones⟩] concatenates_S64x256_S16x256_S80x256_d0

/-- The running sums after `n` blocks. -/
def A (x0 : Vec F S1x1x128x1024 .bf16) (x1 : Vec F S1x1x16384x128 .bf16) (x2 : Vec F S1x1x32x64x512 .bf16) (o n : ℕ) :
    FVec F S80x512 .f32 :=
  Nat.rec (broadcast S80x512 (Scalar.ofBits .f32 0x00000000#32)) (fun k a =>
    addf (mulf (broadcastTo S80x512 (exp2 (subf (M x0 x1 o k) (M x0 x1 o (k + 1)))) broadcasts_S1x512_S80x512) a)
      (matmul dot_S80x256_S256x512_S80x512_1_0_0_1_n_n none (V x2 k)
        (truncf .bf16 (exp2 (D x0 x1 o k)) bitsLt_bf16_f32) (constant S80x512 .f32 0x00000000#32))) n

/-- The weighted sums of the values over the sum of the weights. -/
def T (x0 : Vec F S1x1x128x1024 .bf16) (x1 : Vec F S1x1x16384x128 .bf16) (x2 : Vec F S1x1x32x64x512 .bf16) (o : ℕ) :
    FVec F S64x512 .bf16 :=
  truncf .bf16 (divf
    (extractStridedSlice S64x512 ![0, 0] (A x0 x1 x2 o 64) slices_S80x512_o0_0_S64x512)
    (broadcastTo S64x512 (extractStridedSlice S1x512 ![64, 0] (A x0 x1 x2 o 64) slices_S80x512_o64_0_S1x512)
      broadcasts_S1x512_S64x512)) bitsLt_bf16_f32

/-- The same as stored. -/
def O (x0 : Vec F S1x1x128x1024 .bf16) (x1 : Vec F S1x1x16384x128 .bf16) (x2 : Vec F S1x1x32x64x512 .bf16) (o : ℕ) :
    FVec F S1x1x64x512 .bf16 :=
  shapeCast S1x1x64x512 (T x0 x1 x2 o) shapeCasts_S64x512_S1x1x64x512

end Cert.Kernel4Ideal.Attn

end
-- ==== Proof.AttnTile0.lean ====
/-
The values that the body computes for its first tile, each as a step of the online softmax.
-/
module

public import proofs.«01_k».proof.Proof.AttnBase

@[expose] public section

set_option maxRecDepth 16384

noncomputable section

namespace Cert.Kernel4Ideal.Attn

open Idealize.ShloMosaic Idealize.ShloMosaic.TcCoe Cert.Kernel4Ideal Cert.Kernel4Ideal.Gen

variable {F : FTy → Type} [FloatOps F]
variable (c : Dev nD) (arg3 : Memref sig .tc .vmem S1x1x128x1024 .bf16) (harg3 : arg3.IsWhole)
  (arg4 : Memref sig .tc .vmem S1x1x16384x128 .bf16) (harg4 : arg4.IsWhole)
  (arg5 : Memref sig .tc .vmem S1x1x32x64x512 .bf16) (harg5 : arg5.IsWhole)
  (arg7 : Memref sig .tc .vmem S4x256x512 .f32)
  (x0 : Vec F S1x1x128x1024 .bf16) (x1 : Vec F S1x1x16384x128 .bf16) (x2 : Vec F S1x1x32x64x512 .bf16)

theorem r_eq : kernelRun0_A.sl.r (F := F) c arg3 harg3 x0 = Q x0 0 := by
  simp only [kernelRun0_A.sl.r, rdQ] <;> rfl

theorem r_1_eq : kernelRun0_A.sl.r_1 (F := F) c arg3 harg3 arg4 harg4 x0 x1 = B x0 x1 0 0 := by
  simp only [kernelRun0_A.sl.r_1, rdQ, rdK] <;> rfl

theorem r_2_eq : kernelRun0_A.sl.r_2 (F := F) c arg3 harg3 arg4 harg4 x0 x1 = B x0 x1 0 1 := by
  simp only [kernelRun0_A.sl.r_2, rdQ, rdK] <;> rfl

theorem r_3_eq : kernelRun0_A.sl.r_3 (F := F) c arg3 harg3 arg4 harg4 x0 x1 = S x0 x1 0 2 := by
  simp only [kernelRun0_A.sl.r_3, rdQ, rdK] <;> rfl

theorem r_4_eq : kernelRun0_A.sl.r_4 (F := F) c arg3 harg3 arg4 harg4 x0 x1 = B x0 x1 0 2 := by
  simp only [kernelRun0_A.sl.r_4, r_3_eq] <;> rfl

theorem r_5_eq : kernelRun0_A.sl.r_5 (F := F) c arg3 harg3 arg4 harg4 x0 x1 = M x0 x1 0 1 := by
  simp only [kernelRun0_A.sl.r_5, r_1_eq] <;> rfl

theorem v30_eq : kernelRun0_A.sl.v30 (F := F) c arg3 harg3 arg4 harg4 arg7 x0 x1 = C x0 x1 0 0 := by
  unfold kernelRun0_A.sl.v30 kernelRun0_A.sl.HS0_3
  refine (View.readCov_skip _ _ _ _ _ rfl).trans ((View.readCov_skip _ _ _ _ _ rfl).trans ((View.readCov_cons_toLoadRect _ _ _ _).trans ?_))
  simp only [rdQ, rdK] <;> rfl

theorem r_6_eq : kernelRun0_A.sl.r_6 (F := F) c arg3 harg3 arg4 harg4 arg5 harg5 arg7 x0 x1 x2 = A x0 x1 x2 0 1 := by
  simp only [kernelRun0_A.sl.r_6, r_1_eq, v30_eq, rdV] <;> rfl

theorem r_7_eq : kernelRun0_A.sl.r_7 (F := F) c arg3 harg3 arg4 harg4 x0 x1 = B x0 x1 0 3 := by
  simp only [kernelRun0_A.sl.r_7, r_eq, rdK] <;> rfl

theorem r_8_eq : kernelRun0_A.sl.r_8 (F := F) c arg3 harg3 arg4 harg4 x0 x1 = M x0 x1 0 2 := by
  simp only [kernelRun0_A.sl.r_8, r_1_eq, r_2_eq] <;> rfl

theorem v54_eq : kernelRun0_A.sl.v54 (F := F) c arg3 harg3 arg4 harg4 arg7 x0 x1 = C x0 x1 0 1 := by
  unfold kernelRun0_A.sl.v54 kernelRun0_A.sl.HS0_4 kernelRun0_A.sl.HS0_3
  refine (View.readCov_skip _ _ _ _ _ rfl).trans ((View.readCov_skip _ _ _ _ _ rfl).trans ((View.readCov_cons_toLoadRect _ _ _ _).trans ?_))
  simp only [rdQ, rdK] <;> rfl

theorem r_9_eq : kernelRun0_A.sl.r_9 (F := F) c arg3 harg3 arg4 harg4 arg7 x0 x1 = D x0 x1 0 1 := by
  simp only [kernelRun0_A.sl.r_9, r_1_eq, r_2_eq, v54_eq] <;> rfl

theorem r_10_eq : kernelRun0_A.sl.r_10 (F := F) c arg3 harg3 arg4 harg4 x0 x1 = B x0 x1 0 4 := by
  simp only [kernelRun0_A.sl.r_10, r_eq, rdK] <;> rfl

theorem r_11_eq : kernelRun0_A.sl.r_11 (F := F) c arg3 harg3 arg4 harg4 x0 x1 = M x0 x1 0 3 := by
  simp only [kernelRun0_A.sl.r_11, r_4_eq, r_8_eq] <;> rfl

theorem v78_eq : kernelRun0_A.sl.v78 (F := F) c arg3 harg3 arg4 harg4 arg7 x0 x1 = C x0 x1 0 2 := by
  unfold kernelRun0_A.sl.v78 kernelRun0_A.sl.HS0_5 kernelRun0_A.sl.HS0_4 kernelRun0_A.sl.HS0_3
  refine (View.readCov_skip _ _ _ _ _ rfl).trans ((View.readCov_skip _ _ _ _ _ rfl).trans ((View.readCov_cons_toLoadRect _ _ _ _).trans ?_))
  simp only [r_3_eq] <;> rfl

theorem r_12_eq : kernelRun0_A.sl.r_12 (F := F) c arg3 harg3 arg4 harg4 arg5 harg5 arg7 x0 x1 x2 = A x0 x1 x2 0 3 := by
  simp only [kernelRun0_A.sl.r_12, r_4_eq, r_5_eq, r_6_eq, r_8_eq, r_9_eq, v78_eq, rdV] <;> rfl

theorem r_13_eq : kernelRun0_A.sl.r_13 (F := F) c arg3 harg3 arg4 harg4 x0 x1 = B x0 x1 0 5 := by
  simp only [kernelRun0_A.sl.r_13, r_eq, rdK] <;> rfl

theorem r_14_eq : kernelRun0_A.sl.r_14 (F := F) c arg3 harg3 arg4 harg4 x0 x1 = M x0 x1 0 4 := by
  simp only [kernelRun0_A.sl.r_14, r_7_eq, r_11_eq] <;> rfl

theorem v102_eq : kernelRun0_A.sl.v102 (F := F) c arg3 harg3 arg4 harg4 arg7 x0 x1 = C x0 x1 0 3 := by
  unfold kernelRun0_A.sl.v102 kernelRun0_A.sl.HS0_6 kernelRun0_A.sl.HS0_5 kernelRun0_A.sl.HS0_4
  refine (View.readCov_skip _ _ _ _ _ rfl).trans ((View.readCov_skip _ _ _ _ _ rfl).trans ((View.readCov_cons_toLoadRect _ _ _ _).trans ?_))
  simp only [r_eq, rdK] <;> rfl

theorem r_15_eq : kernelRun0_A.sl.r_15 (F := F) c arg3 harg3 arg4 harg4 arg5 harg5 arg7 x0 x1 x2 = A x0 x1 x2 0 4 := by
  simp only [kernelRun0_A.sl.r_15, r_7_eq, r_11_eq, r_12_eq, v102_eq, rdV] <;> rfl

theorem r_16_eq : kernelRun0_A.sl.r_16 (F := F) c arg3 harg3 arg4 harg4 x0 x1 = R x0 x1 0 6 := by
  simp only [kernelRun0_A.sl.r_16, r_eq, rdK] <;> rfl

theorem r_17_eq : kernelRun0_A.sl.r_17 (F := F) c arg3 harg3 arg4 harg4 x0 x1 = B x0 x1 0 6 := by
  simp only [kernelRun0_A.sl.r_17, r_16_eq] <;> rfl

theorem r_18_eq : kernelRun0_A.sl.r_18 (F := F) c arg3 harg3 arg4 harg4 x0 x1 = B x0 x1 0 7 := by
  simp only [kernelRun0_A.sl.r_18, r_eq, rdK] <;> rfl

theorem r_19_eq : kernelRun0_A.sl.r_19 (F := F) c arg3 harg3 arg4 harg4 x0 x1 = M x0 x1 0 6 := by
  simp only [kernelRun0_A.sl.r_19, r_10_eq, r_13_eq, r_14_eq] <;> rfl

theorem v150_eq : kernelRun0_A.sl.v150 (F := F) c arg3 harg3 arg4 harg4 arg7 x0 x1 = C x0 x1 0 5 := by
  unfold kernelRun0_A.sl.v150 kernelRun0_A.sl.HS0_8 kernelRun0_A.sl.HS0_7 kernelRun0_A.sl.HS0_6
  refine (View.readCov_skip _ _ _ _ _ rfl).trans ((View.readCov_skip _ _ _ _ _ rfl).trans ((View.readCov_cons_toLoadRect _ _ _ _).trans ?_))
  simp only [r_eq, rdK] <;> rfl

theorem r_20_eq : kernelRun0_A.sl.r_20 (F := F) c arg3 harg3 arg4 harg4 arg7 x0 x1 = truncf .bf16 (exp2 (D x0 x1 0 5)) bitsLt_bf16_f32 := by
  simp only [kernelRun0_A.sl.r_20, r_10_eq, r_13_eq, r_14_eq, v150_eq] <;> rfl

theorem v126_eq : kernelRun0_A.sl.v126 (F := F) c arg3 harg3 arg4 harg4 arg7 x0 x1 = C x0 x1 0 4 := by
  unfold kernelRun0_A.sl.v126 kernelRun0_A.sl.HS0_7 kernelRun0_A.sl.HS0_6 kernelRun0_A.sl.HS0_5
  refine (View.readCov_skip _ _ _ _ _ rfl).trans ((View.readCov_skip _ _ _ _ _ rfl).trans ((View.readCov_cons_toLoadRect _ _ _ _).trans ?_))
  simp only [r_eq, rdK] <;> rfl

theorem r_21_eq : kernelRun0_A.sl.r_21 (F := F) c arg3 harg3 arg4 harg4 arg5 harg5 arg7 x0 x1 x2 = mulf (broadcastTo S80x512 (exp2 (subf (M x0 x1 0 5) (M x0 x1 0 6))) broadcasts_S1x512_S80x512) (A x0 x1 x2 0 5) := by
  simp only [kernelRun0_A.sl.r_21, r_10_eq, r_13_eq, r_14_eq, r_15_eq, v126_eq, rdV] <;> rfl

theorem r_22_eq : kernelRun0_A.sl.r_22 (F := F) c arg3 harg3 arg4 harg4 x0 x1 = B x0 x1 0 8 := by
  simp only [kernelRun0_A.sl.r_22, r_eq, rdK] <;> rfl

theorem r_23_eq : kernelRun0_A.sl.r_23 (F := F) c arg3 harg3 arg4 harg4 x0 x1 = M x0 x1 0 7 := by
  simp only [kernelRun0_A.sl.r_23, r_17_eq, r_19_eq] <;> rfl

theorem v174_eq : kernelRun0_A.sl.v174 (F := F) c arg3 harg3 arg4 harg4 arg7 x0 x1 = C x0 x1 0 6 := by
  unfold kernelRun0_A.sl.v174 kernelRun0_A.sl.HS0_9 kernelRun0_A.sl.HS0_8 kernelRun0_A.sl.HS0_7
  refine (View.readCov_skip _ _ _ _ _ rfl).trans ((View.readCov_skip _ _ _ _ _ rfl).trans ((View.readCov_cons_toLoadRect _ _ _ _).trans ?_))
  simp only [r_eq, rdK] <;> rfl

theorem r_24_eq : kernelRun0_A.sl.r_24 (F := F) c arg3 harg3 arg4 harg4 arg5 harg5 arg7 x0 x1 x2 = A x0 x1 x2 0 7 := by
  simp only [kernelRun0_A.sl.r_24, r_17_eq, r_19_eq, r_20_eq, r_21_eq, v174_eq, rdV] <;> rfl

theorem r_25_eq : kernelRun0_A.sl.r_25 (F := F) c arg3 harg3 arg4 harg4 x0 x1 = S x0 x1 0 9 := by
  simp only [kernelRun0_A.sl.r_25, r_eq, rdK] <;> rfl

theorem r_26_eq : kernelRun0_A.sl.r_26 (F := F) c arg3 harg3 arg4 harg4 x0 x1 = B x0 x1 0 9 := by
  simp only [kernelRun0_A.sl.r_26, r_25_eq] <;> rfl

theorem r_27_eq : kernelRun0_A.sl.r_27 (F := F) c arg3 harg3 arg4 harg4 x0 x1 = M x0 x1 0 8 := by
  simp only [kernelRun0_A.sl.r_27, r_18_eq, r_23_eq] <;> rfl

theorem v198_eq : kernelRun0_A.sl.v198 (F := F) c arg3 harg3 arg4 harg4 arg7 x0 x1 = C x0 x1 0 7 := by
  unfold kernelRun0_A.sl.v198 kernelRun0_A.sl.HS0_10 kernelRun0_A.sl.HS0_9 kernelRun0_A.sl.HS0_8
  refine (View.readCov_skip _ _ _ _ _ rfl).trans ((View.readCov_skip _ _ _ _ _ rfl).trans ((View.readCov_cons_toLoadRect _ _ _ _).trans ?_))
  simp only [r_eq, rdK] <;> rfl

theorem r_28_eq : kernelRun0_A.sl.r_28 (F := F) c arg3 harg3 arg4 harg4 arg5 harg5 arg7 x0 x1 x2 = A x0 x1 x2 0 8 := by
  simp only [kernelRun0_A.sl.r_28, r_18_eq, r_23_eq, r_24_eq, v198_eq, rdV] <;> rfl

theorem r_29_eq : kernelRun0_A.sl.r_29 (F := F) c arg3 harg3 arg4 harg4 x0 x1 = B x0 x1 0 10 := by
  simp only [kernelRun0_A.sl.r_29, r_eq, rdK] <;> rfl

theorem r_30_eq : kernelRun0_A.sl.r_30 (F := F) c arg3 harg3 arg4 harg4 x0 x1 = M x0 x1 0 9 := by
  simp only [kernelRun0_A.sl.r_30, r_18_eq, r_22_eq, r_23_eq] <;> rfl

theorem v222_eq : kernelRun0_A.sl.v222 (F := F) c arg3 harg3 arg4 harg4 arg7 x0 x1 = C x0 x1 0 8 := by
  unfold kernelRun0_A.sl.v222 kernelRun0_A.sl.HS0_11 kernelRun0_A.sl.HS0_10 kernelRun0_A.sl.HS0_9
  refine (View.readCov_skip _ _ _ _ _ rfl).trans ((View.readCov_skip _ _ _ _ _ rfl).trans ((View.readCov_cons_toLoadRect _ _ _ _).trans ?_))
  simp only [r_eq, rdK] <;> rfl

theorem r_31_eq : kernelRun0_A.sl.r_31 (F := F) c arg3 harg3 arg4 harg4 arg7 x0 x1 = shapeCast S256x512 (C x0 x1 0 8) shapeCasts_S1x256x512_S256x512 := by
  simp only [kernelRun0_A.sl.r_31, v222_eq] <;> rfl

theorem r_32_eq : kernelRun0_A.sl.r_32 (F := F) c arg3 harg3 arg4 harg4 x0 x1 = broadcastTo S256x512 (M x0 x1 0 9) broadcasts_S1x512_S256x512 := by
  simp only [kernelRun0_A.sl.r_32, r_18_eq, r_22_eq, r_23_eq] <;> rfl

theorem r_33_eq : kernelRun0_A.sl.r_33 (F := F) c arg3 harg3 arg4 harg4 x0 x1 = B x0 x1 0 11 := by
  simp only [kernelRun0_A.sl.r_33, r_eq, rdK] <;> rfl

theorem r_34_eq : kernelRun0_A.sl.r_34 (F := F) c arg3 harg3 arg4 harg4 x0 x1 = M x0 x1 0 10 := by
  simp only [kernelRun0_A.sl.r_34, r_26_eq, r_30_eq] <;> rfl

theorem r_35_eq : kernelRun0_A.sl.r_35 (F := F) c arg3 harg3 arg4 harg4 arg5 harg5 arg7 x0 x1 x2 = mulf (broadcastTo S80x512 (exp2 (subf (M x0 x1 0 9) (M x0 x1 0 10))) broadcasts_S1x512_S80x512) (A x0 x1 x2 0 9) := by
  simp only [kernelRun0_A.sl.r_35, r_26_eq, r_27_eq, r_28_eq, r_30_eq, r_31_eq, r_32_eq, rdV] <;> rfl

theorem v246_eq : kernelRun0_A.sl.v246 (F := F) c arg3 harg3 arg4 harg4 arg7 x0 x1 = C x0 x1 0 9 := by
  unfold kernelRun0_A.sl.v246 kernelRun0_A.sl.HS0_12 kernelRun0_A.sl.HS0_11 kernelRun0_A.sl.HS0_10
  refine (View.readCov_skip _ _ _ _ _ rfl).trans ((View.readCov_skip _ _ _ _ _ rfl).trans ((View.readCov_cons_toLoadRect _ _ _ _).trans ?_))
  simp only [r_25_eq] <;> rfl

theorem r_36_eq : kernelRun0_A.sl.r_36 (F := F) c arg3 harg3 arg4 harg4 arg5 harg5 arg7 x0 x1 x2 = matmul dot_S80x256_S256x512_S80x512_1_0_0_1_n_n none (V x2 9) (truncf .bf16 (exp2 (D x0 x1 0 9)) bitsLt_bf16_f32) (constant S80x512 .f32 0x00000000#32) := by
  simp only [kernelRun0_A.sl.r_36, r_26_eq, r_30_eq, v246_eq, rdV] <;> rfl

theorem r_37_eq : kernelRun0_A.sl.r_37 (F := F) c arg3 harg3 arg4 harg4 x0 x1 = B x0 x1 0 12 := by
  simp only [kernelRun0_A.sl.r_37, r_eq, rdK] <;> rfl

theorem r_38_eq : kernelRun0_A.sl.r_38 (F := F) c arg3 harg3 arg4 harg4 x0 x1 = M x0 x1 0 11 := by
  simp only [kernelRun0_A.sl.r_38, r_29_eq, r_34_eq] <;> rfl

theorem v270_eq : kernelRun0_A.sl.v270 (F := F) c arg3 harg3 arg4 harg4 arg7 x0 x1 = C x0 x1 0 10 := by
  unfold kernelRun0_A.sl.v270 kernelRun0_A.sl.HS0_13 kernelRun0_A.sl.HS0_12 kernelRun0_A.sl.HS0_11
  refine (View.readCov_skip _ _ _ _ _ rfl).trans ((View.readCov_skip _ _ _ _ _ rfl).trans ((View.readCov_cons_toLoadRect _ _ _ _).trans ?_))
  simp only [r_eq, rdK] <;> rfl

theorem r_39_eq : kernelRun0_A.sl.r_39 (F := F) c arg3 harg3 arg4 harg4 arg5 harg5 arg7 x0 x1 x2 = A x0 x1 x2 0 11 := by
  simp only [kernelRun0_A.sl.r_39, r_29_eq, r_34_eq, r_35_eq, r_36_eq, v270_eq, rdV] <;> rfl

theorem r_40_eq : kernelRun0_A.sl.r_40 (F := F) c arg3 harg3 arg4 harg4 x0 x1 = S x0 x1 0 13 := by
  simp only [kernelRun0_A.sl.r_40, r_eq, rdK] <;> rfl

theorem r_41_eq : kernelRun0_A.sl.r_41 (F := F) c arg3 harg3 arg4 harg4 x0 x1 = B x0 x1 0 13 := by
  simp only [kernelRun0_A.sl.r_41, r_40_eq] <;> rfl

theorem r_42_eq : kernelRun0_A.sl.r_42 (F := F) c arg3 harg3 arg4 harg4 x0 x1 = B x0 x1 0 14 := by
  simp only [kernelRun0_A.sl.r_42, r_eq, rdK] <;> rfl

theorem r_43_eq : kernelRun0_A.sl.r_43 (F := F) c arg3 harg3 arg4 harg4 x0 x1 = M x0 x1 0 13 := by
  simp only [kernelRun0_A.sl.r_43, r_33_eq, r_37_eq, r_38_eq] <;> rfl

theorem v318_eq : kernelRun0_A.sl.v318 (F := F) c arg3 harg3 arg4 harg4 arg7 x0 x1 = C x0 x1 0 12 := by
  unfold kernelRun0_A.sl.v318 kernelRun0_A.sl.HS0_15 kernelRun0_A.sl.HS0_14 kernelRun0_A.sl.HS0_13
  refine (View.readCov_skip _ _ _ _ _ rfl).trans ((View.readCov_skip _ _ _ _ _ rfl).trans ((View.readCov_cons_toLoadRect _ _ _ _).trans ?_))
  simp only [r_eq, rdK] <;> rfl

theorem r_44_eq : kernelRun0_A.sl.r_44 (F := F) c arg3 harg3 arg4 harg4 arg7 x0 x1 = truncf .bf16 (exp2 (D x0 x1 0 12)) bitsLt_bf16_f32 := by
  simp only [kernelRun0_A.sl.r_44, r_33_eq, r_37_eq, r_38_eq, v318_eq] <;> rfl

theorem v294_eq : kernelRun0_A.sl.v294 (F := F) c arg3 harg3 arg4 harg4 arg7 x0 x1 = C x0 x1 0 11 := by
  unfold kernelRun0_A.sl.v294 kernelRun0_A.sl.HS0_14 kernelRun0_A.sl.HS0_13 kernelRun0_A.sl.HS0_12
  refine (View.readCov_skip _ _ _ _ _ rfl).trans ((View.readCov_skip _ _ _ _ _ rfl).trans ((View.readCov_cons_toLoadRect _ _ _ _).trans ?_))
  simp only [r_eq, rdK] <;> rfl

theorem r_45_eq : kernelRun0_A.sl.r_45 (F := F) c arg3 harg3 arg4 harg4 arg5 harg5 arg7 x0 x1 x2 = mulf (broadcastTo S80x512 (exp2 (subf (M x0 x1 0 12) (M x0 x1 0 13))) broadcasts_S1x512_S80x512) (A x0 x1 x2 0 12) := by
  simp only [kernelRun0_A.sl.r_45, r_33_eq, r_37_eq, r_38_eq, r_39_eq, v294_eq, rdV] <;> rfl

theorem r_46_eq : kernelRun0_A.sl.r_46 (F := F) c arg3 harg3 arg4 harg4 x0 x1 = B x0 x1 0 15 := by
  simp only [kernelRun0_A.sl.r_46, r_eq, rdK] <;> rfl

theorem r_47_eq : kernelRun0_A.sl.r_47 (F := F) c arg3 harg3 arg4 harg4 x0 x1 = M x0 x1 0 14 := by
  simp only [kernelRun0_A.sl.r_47, r_41_eq, r_43_eq] <;> rfl

theorem v342_eq : kernelRun0_A.sl.v342 (F := F) c arg3 harg3 arg4 harg4 arg7 x0 x1 = C x0 x1 0 13 := by
  unfold kernelRun0_A.sl.v342 kernelRun0_A.sl.HS0_16 kernelRun0_A.sl.HS0_15 kernelRun0_A.sl.HS0_14
  refine (View.readCov_skip _ _ _ _ _ rfl).trans ((View.readCov_skip _ _ _ _ _ rfl).trans ((View.readCov_cons_toLoadRect _ _ _ _).trans ?_))
  simp only [r_eq, rdK] <;> rfl

theorem r_48_eq : kernelRun0_A.sl.r_48 (F := F) c arg3 harg3 arg4 harg4 arg5 harg5 arg7 x0 x1 x2 = A x0 x1 x2 0 14 := by
  simp only [kernelRun0_A.sl.r_48, r_41_eq, r_43_eq, r_44_eq, r_45_eq, v342_eq, rdV] <;> rfl

theorem r_49_eq : kernelRun0_A.sl.r_49 (F := F) c arg4 harg4 x1 = shapeCast S256x128 (kB x1 4096) shapeCasts_S1x1x256x128_S256x128 := by
  simp only [kernelRun0_A.sl.r_49, rdK] <;> rfl

theorem r_50_eq : kernelRun0_A.sl.r_50 (F := F) c arg3 harg3 arg4 harg4 x0 x1 = B x0 x1 0 16 := by
  simp only [kernelRun0_A.sl.r_50, r_eq, r_49_eq, kernelRun0_A.sl.cst_257] <;> rfl

theorem r_51_eq : kernelRun0_A.sl.r_51 (F := F) c arg3 harg3 arg4 harg4 x0 x1 = M x0 x1 0 15 := by
  simp only [kernelRun0_A.sl.r_51, r_42_eq, r_47_eq] <;> rfl

theorem v366_eq : kernelRun0_A.sl.v366 (F := F) c arg3 harg3 arg4 harg4 arg7 x0 x1 = C x0 x1 0 14 := by
  unfold kernelRun0_A.sl.v366 kernelRun0_A.sl.HS0_17 kernelRun0_A.sl.HS0_16 kernelRun0_A.sl.HS0_15
  refine (View.readCov_skip _ _ _ _ _ rfl).trans ((View.readCov_skip _ _ _ _ _ rfl).trans ((View.readCov_cons_toLoadRect _ _ _ _).trans ?_))
  simp only [r_eq, rdK] <;> rfl

theorem r_52_eq : kernelRun0_A.sl.r_52 (F := F) c arg3 harg3 arg4 harg4 arg5 harg5 arg7 x0 x1 x2 = A x0 x1 x2 0 15 := by
  simp only [kernelRun0_A.sl.r_52, r_42_eq, r_47_eq, r_48_eq, v366_eq, rdV] <;> rfl

theorem r_53_eq : kernelRun0_A.sl.r_53 (F := F) c arg3 harg3 arg4 harg4 x0 x1 = B x0 x1 0 17 := by
  simp only [kernelRun0_A.sl.r_53, r_eq, rdK] <;> rfl

theorem r_54_eq : kernelRun0_A.sl.r_54 (F := F) c arg3 harg3 arg4 harg4 x0 x1 = M x0 x1 0 16 := by
  simp only [kernelRun0_A.sl.r_54, r_42_eq, r_46_eq, r_47_eq] <;> rfl

theorem v390_eq : kernelRun0_A.sl.v390 (F := F) c arg3 harg3 arg4 harg4 arg7 x0 x1 = C x0 x1 0 15 := by
  unfold kernelRun0_A.sl.v390 kernelRun0_A.sl.HS0_18 kernelRun0_A.sl.HS0_17 kernelRun0_A.sl.HS0_16
  refine (View.readCov_skip _ _ _ _ _ rfl).trans ((View.readCov_skip _ _ _ _ _ rfl).trans ((View.readCov_cons_toLoadRect _ _ _ _).trans ?_))
  simp only [r_eq, rdK] <;> rfl

theorem r_55_eq : kernelRun0_A.sl.r_55 (F := F) c arg3 harg3 arg4 harg4 arg7 x0 x1 = shapeCast S256x512 (C x0 x1 0 15) shapeCasts_S1x256x512_S256x512 := by
  simp only [kernelRun0_A.sl.r_55, v390_eq] <;> rfl

theorem r_56_eq : kernelRun0_A.sl.r_56 (F := F) c arg3 harg3 arg4 harg4 x0 x1 = B x0 x1 0 18 := by
  simp only [kernelRun0_A.sl.r_56, r_eq, rdK] <;> rfl

theorem r_57_eq : kernelRun0_A.sl.r_57 (F := F) c arg3 harg3 arg4 harg4 x0 x1 = M x0 x1 0 17 := by
  simp only [kernelRun0_A.sl.r_57, r_50_eq, r_54_eq] <;> rfl

theorem v414_eq : kernelRun0_A.sl.v414 (F := F) c arg3 harg3 arg4 harg4 arg7 x0 x1 = C x0 x1 0 16 := by
  unfold kernelRun0_A.sl.v414 kernelRun0_A.sl.HS0_19 kernelRun0_A.sl.HS0_18 kernelRun0_A.sl.HS0_17
  refine (View.readCov_skip _ _ _ _ _ rfl).trans ((View.readCov_skip _ _ _ _ _ rfl).trans ((View.readCov_cons_toLoadRect _ _ _ _).trans ?_))
  simp only [r_eq, r_49_eq, kernelRun0_A.sl.cst_257] <;> rfl

theorem r_58_eq : kernelRun0_A.sl.r_58 (F := F) c arg3 harg3 arg4 harg4 arg7 x0 x1 = truncf .bf16 (exp2 (D x0 x1 0 16)) bitsLt_bf16_f32 := by
  simp only [kernelRun0_A.sl.r_58, r_50_eq, r_54_eq, v414_eq] <;> rfl

theorem r_59_eq : kernelRun0_A.sl.r_59 (F := F) c arg3 harg3 arg4 harg4 arg5 harg5 arg7 x0 x1 x2 = mulf (broadcastTo S80x512 (exp2 (subf (M x0 x1 0 16) (M x0 x1 0 17))) broadcasts_S1x512_S80x512) (A x0 x1 x2 0 16) := by
  simp only [kernelRun0_A.sl.r_59, r_50_eq, r_51_eq, r_52_eq, r_54_eq, r_55_eq, rdV] <;> rfl

theorem r_60_eq : kernelRun0_A.sl.r_60 (F := F) c arg5 harg5 x2 = V x2 16 := by
  simp only [kernelRun0_A.sl.r_60, rdV] <;> rfl

theorem r_61_eq : kernelRun0_A.sl.r_61 (F := F) c arg3 harg3 arg4 harg4 x0 x1 = B x0 x1 0 19 := by
  simp only [kernelRun0_A.sl.r_61, r_eq, rdK] <;> rfl

theorem r_62_eq : kernelRun0_A.sl.r_62 (F := F) c arg3 harg3 arg4 harg4 x0 x1 = M x0 x1 0 18 := by
  simp only [kernelRun0_A.sl.r_62, r_53_eq, r_57_eq] <;> rfl

theorem v438_eq : kernelRun0_A.sl.v438 (F := F) c arg3 harg3 arg4 harg4 arg7 x0 x1 = C x0 x1 0 17 := by
  unfold kernelRun0_A.sl.v438 kernelRun0_A.sl.HS0_20 kernelRun0_A.sl.HS0_19 kernelRun0_A.sl.HS0_18
  refine (View.readCov_skip _ _ _ _ _ rfl).trans ((View.readCov_skip _ _ _ _ _ rfl).trans ((View.readCov_cons_toLoadRect _ _ _ _).trans ?_))
  simp only [r_eq, rdK] <;> rfl

theorem r_63_eq : kernelRun0_A.sl.r_63 (F := F) c arg3 harg3 arg4 harg4 arg5 harg5 arg7 x0 x1 x2 = A x0 x1 x2 0 18 := by
  simp only [kernelRun0_A.sl.r_63, r_53_eq, r_57_eq, r_58_eq, r_59_eq, r_60_eq, v438_eq, kernelRun0_A.sl.cst_302, rdV] <;> rfl

theorem r_64_eq : kernelRun0_A.sl.r_64 (F := F) c arg3 harg3 arg4 harg4 x0 x1 = S x0 x1 0 20 := by
  simp only [kernelRun0_A.sl.r_64, r_eq, rdK] <;> rfl

theorem r_65_eq : kernelRun0_A.sl.r_65 (F := F) c arg3 harg3 arg4 harg4 x0 x1 = B x0 x1 0 20 := by
  simp only [kernelRun0_A.sl.r_65, r_64_eq] <;> rfl

theorem r_66_eq : kernelRun0_A.sl.r_66 (F := F) c arg3 harg3 arg4 harg4 x0 x1 = B x0 x1 0 21 := by
  simp only [kernelRun0_A.sl.r_66, r_eq, rdK] <;> rfl

theorem r_67_eq : kernelRun0_A.sl.r_67 (F := F) c arg3 harg3 arg4 harg4 x0 x1 = M x0 x1 0 20 := by
  simp only [kernelRun0_A.sl.r_67, r_56_eq, r_61_eq, r_62_eq] <;> rfl

theorem v486_eq : kernelRun0_A.sl.v486 (F := F) c arg3 harg3 arg4 harg4 arg7 x0 x1 = C x0 x1 0 19 := by
  unfold kernelRun0_A.sl.v486 kernelRun0_A.sl.HS0_22 kernelRun0_A.sl.HS0_21 kernelRun0_A.sl.HS0_20
  refine (View.readCov_skip _ _ _ _ _ rfl).trans ((View.readCov_skip _ _ _ _ _ rfl).trans ((View.readCov_cons_toLoadRect _ _ _ _).trans ?_))
  simp only [r_eq, rdK] <;> rfl

theorem r_68_eq : kernelRun0_A.sl.r_68 (F := F) c arg3 harg3 arg4 harg4 arg7 x0 x1 = truncf .bf16 (exp2 (D x0 x1 0 19)) bitsLt_bf16_f32 := by
  simp only [kernelRun0_A.sl.r_68, r_56_eq, r_61_eq, r_62_eq, v486_eq] <;> rfl

theorem v462_eq : kernelRun0_A.sl.v462 (F := F) c arg3 harg3 arg4 harg4 arg7 x0 x1 = C x0 x1 0 18 := by
  unfold kernelRun0_A.sl.v462 kernelRun0_A.sl.HS0_21 kernelRun0_A.sl.HS0_20 kernelRun0_A.sl.HS0_19
  refine (View.readCov_skip _ _ _ _ _ rfl).trans ((View.readCov_skip _ _ _ _ _ rfl).trans ((View.readCov_cons_toLoadRect _ _ _ _).trans ?_))
  simp only [r_eq, rdK] <;> rfl

theorem r_69_eq : kernelRun0_A.sl.r_69 (F := F) c arg3 harg3 arg4 harg4 arg5 harg5 arg7 x0 x1 x2 = mulf (broadcastTo S80x512 (exp2 (subf (M x0 x1 0 19) (M x0 x1 0 20))) broadcasts_S1x512_S80x512) (A x0 x1 x2 0 19) := by
  simp only [kernelRun0_A.sl.r_69, r_56_eq, r_61_eq, r_62_eq, r_63_eq, v462_eq, rdV] <;> rfl

theorem r_70_eq : kernelRun0_A.sl.r_70 (F := F) c arg3 harg3 arg4 harg4 x0 x1 = B x0 x1 0 22 := by
  simp only [kernelRun0_A.sl.r_70, r_eq, rdK] <;> rfl

theorem r_71_eq : kernelRun0_A.sl.r_71 (F := F) c arg3 harg3 arg4 harg4 x0 x1 = M x0 x1 0 21 := by
  simp only [kernelRun0_A.sl.r_71, r_65_eq, r_67_eq] <;> rfl

theorem v510_eq : kernelRun0_A.sl.v510 (F := F) c arg3 harg3 arg4 harg4 arg7 x0 x1 = C x0 x1 0 20 := by
  unfold kernelRun0_A.sl.v510 kernelRun0_A.sl.HS0_23 kernelRun0_A.sl.HS0_22 kernelRun0_A.sl.HS0_21
  refine (View.readCov_skip _ _ _ _ _ rfl).trans ((View.readCov_skip _ _ _ _ _ rfl).trans ((View.readCov_cons_toLoadRect _ _ _ _).trans ?_))
  simp only [r_eq, rdK] <;> rfl

theorem r_72_eq : kernelRun0_A.sl.r_72 (F := F) c arg3 harg3 arg4 harg4 arg5 harg5 arg7 x0 x1 x2 = A x0 x1 x2 0 21 := by
  simp only [kernelRun0_A.sl.r_72, r_65_eq, r_67_eq, r_68_eq, r_69_eq, v510_eq, rdV] <;> rfl

theorem r_73_eq : kernelRun0_A.sl.r_73 (F := F) c arg4 harg4 x1 = shapeCast S256x128 (kB x1 5888) shapeCasts_S1x1x256x128_S256x128 := by
  simp only [kernelRun0_A.sl.r_73, rdK] <;> rfl

theorem r_74_eq : kernelRun0_A.sl.r_74 (F := F) c arg3 harg3 arg4 harg4 x0 x1 = B x0 x1 0 23 := by
  simp only [kernelRun0_A.sl.r_74, r_eq, r_73_eq] <;> rfl

theorem r_75_eq : kernelRun0_A.sl.r_75 (F := F) c arg3 harg3 arg4 harg4 x0 x1 = M x0 x1 0 22 := by
  simp only [kernelRun0_A.sl.r_75, r_66_eq, r_71_eq] <;> rfl

theorem v534_eq : kernelRun0_A.sl.v534 (F := F) c arg3 harg3 arg4 harg4 arg7 x0 x1 = C x0 x1 0 21 := by
  unfold kernelRun0_A.sl.v534 kernelRun0_A.sl.HS0_24 kernelRun0_A.sl.HS0_23 kernelRun0_A.sl.HS0_22
  refine (View.readCov_skip _ _ _ _ _ rfl).trans ((View.readCov_skip _ _ _ _ _ rfl).trans ((View.readCov_cons_toLoadRect _ _ _ _).trans ?_))
  simp only [r_eq, rdK] <;> rfl

theorem r_76_eq : kernelRun0_A.sl.r_76 (F := F) c arg3 harg3 arg4 harg4 arg5 harg5 arg7 x0 x1 x2 = A x0 x1 x2 0 22 := by
  simp only [kernelRun0_A.sl.r_76, r_66_eq, r_71_eq, r_72_eq, v534_eq, rdV] <;> rfl

theorem r_77_eq : kernelRun0_A.sl.r_77 (F := F) c arg3 harg3 arg4 harg4 x0 x1 = B x0 x1 0 24 := by
  simp only [kernelRun0_A.sl.r_77, r_eq, rdK] <;> rfl

theorem r_78_eq : kernelRun0_A.sl.r_78 (F := F) c arg3 harg3 arg4 harg4 x0 x1 = M x0 x1 0 23 := by
  simp only [kernelRun0_A.sl.r_78, r_66_eq, r_70_eq, r_71_eq] <;> rfl

theorem r_79_eq : kernelRun0_A.sl.r_79 (F := F) c arg3 harg3 arg4 harg4 x0 x1 = B x0 x1 0 25 := by
  simp only [kernelRun0_A.sl.r_79, r_eq, rdK] <;> rfl

theorem r_80_eq : kernelRun0_A.sl.r_80 (F := F) c arg3 harg3 arg4 harg4 x0 x1 = M x0 x1 0 24 := by
  simp only [kernelRun0_A.sl.r_80, r_74_eq, r_78_eq] <;> rfl

theorem v582_eq : kernelRun0_A.sl.v582 (F := F) c arg3 harg3 arg4 harg4 arg7 x0 x1 = C x0 x1 0 23 := by
  unfold kernelRun0_A.sl.v582 kernelRun0_A.sl.HS0_26 kernelRun0_A.sl.HS0_25 kernelRun0_A.sl.HS0_24
  refine (View.readCov_skip _ _ _ _ _ rfl).trans ((View.readCov_skip _ _ _ _ _ rfl).trans ((View.readCov_cons_toLoadRect _ _ _ _).trans ?_))
  simp only [r_eq, r_73_eq] <;> rfl

theorem r_81_eq : kernelRun0_A.sl.r_81 (F := F) c arg3 harg3 arg4 harg4 arg7 x0 x1 = truncf .bf16 (exp2 (D x0 x1 0 23)) bitsLt_bf16_f32 := by
  simp only [kernelRun0_A.sl.r_81, r_74_eq, r_78_eq, v582_eq] <;> rfl

theorem v558_eq : kernelRun0_A.sl.v558 (F := F) c arg3 harg3 arg4 harg4 arg7 x0 x1 = C x0 x1 0 22 := by
  unfold kernelRun0_A.sl.v558 kernelRun0_A.sl.HS0_25 kernelRun0_A.sl.HS0_24 kernelRun0_A.sl.HS0_23
  refine (View.readCov_skip _ _ _ _ _ rfl).trans ((View.readCov_skip _ _ _ _ _ rfl).trans ((View.readCov_cons_toLoadRect _ _ _ _).trans ?_))
  simp only [r_eq, rdK] <;> rfl

theorem r_82_eq : kernelRun0_A.sl.r_82 (F := F) c arg3 harg3 arg4 harg4 arg5 harg5 arg7 x0 x1 x2 = mulf (broadcastTo S80x512 (exp2 (subf (M x0 x1 0 23) (M x0 x1 0 24))) broadcasts_S1x512_S80x512) (A x0 x1 x2 0 23) := by
  simp only [kernelRun0_A.sl.r_82, r_74_eq, r_75_eq, r_76_eq, r_78_eq, v558_eq, rdV] <;> rfl

theorem r_83_eq : kernelRun0_A.sl.r_83 (F := F) c arg5 harg5 x2 = V x2 23 := by
  simp only [kernelRun0_A.sl.r_83, rdV] <;> rfl

theorem r_84_eq : kernelRun0_A.sl.r_84 (F := F) c arg3 harg3 arg4 harg4 x0 x1 = B x0 x1 0 26 := by
  simp only [kernelRun0_A.sl.r_84, r_eq, rdK] <;> rfl

theorem r_85_eq : kernelRun0_A.sl.r_85 (F := F) c arg3 harg3 arg4 harg4 x0 x1 = M x0 x1 0 25 := by
  simp only [kernelRun0_A.sl.r_85, r_77_eq, r_80_eq] <;> rfl

theorem v606_eq : kernelRun0_A.sl.v606 (F := F) c arg3 harg3 arg4 harg4 arg7 x0 x1 = C x0 x1 0 24 := by
  unfold kernelRun0_A.sl.v606 kernelRun0_A.sl.HS0_27 kernelRun0_A.sl.HS0_26 kernelRun0_A.sl.HS0_25
  refine (View.readCov_skip _ _ _ _ _ rfl).trans ((View.readCov_skip _ _ _ _ _ rfl).trans ((View.readCov_cons_toLoadRect _ _ _ _).trans ?_))
  simp only [r_eq, rdK] <;> rfl

theorem r_86_eq : kernelRun0_A.sl.r_86 (F := F) c arg3 harg3 arg4 harg4 arg5 harg5 arg7 x0 x1 x2 = A x0 x1 x2 0 25 := by
  simp only [kernelRun0_A.sl.r_86, r_77_eq, r_80_eq, r_81_eq, r_82_eq, r_83_eq, v606_eq, rdV] <;> rfl

theorem r_87_eq : kernelRun0_A.sl.r_87 (F := F) c arg3 harg3 arg4 harg4 x0 x1 = S x0 x1 0 27 := by
  simp only [kernelRun0_A.sl.r_87, r_eq, rdK] <;> rfl

theorem r_88_eq : kernelRun0_A.sl.r_88 (F := F) c arg3 harg3 arg4 harg4 x0 x1 = C x0 x1 0 27 := by
  simp only [kernelRun0_A.sl.r_88, r_eq, rdK] <;> rfl

theorem r_89_eq : kernelRun0_A.sl.r_89 (F := F) c arg3 harg3 arg4 harg4 x0 x1 = B x0 x1 0 27 := by
  simp only [kernelRun0_A.sl.r_89, r_87_eq] <;> rfl

theorem v630_eq : kernelRun0_A.sl.v630 (F := F) c arg3 harg3 arg4 harg4 arg7 x0 x1 = C x0 x1 0 25 := by
  unfold kernelRun0_A.sl.v630 kernelRun0_A.sl.HS0_28 kernelRun0_A.sl.HS0_27 kernelRun0_A.sl.HS0_26
  refine (View.readCov_skip _ _ _ _ _ rfl).trans ((View.readCov_skip _ _ _ _ _ rfl).trans ((View.readCov_cons_toLoadRect _ _ _ _).trans ?_))
  simp only [r_eq, rdK] <;> rfl

theorem r_90_eq : kernelRun0_A.sl.r_90 (F := F) c arg3 harg3 arg4 harg4 arg5 harg5 arg7 x0 x1 x2 = A x0 x1 x2 0 26 := by
  simp only [kernelRun0_A.sl.r_90, r_79_eq, r_85_eq, r_86_eq, v630_eq, rdV] <;> rfl

theorem r_91_eq : kernelRun0_A.sl.r_91 (F := F) c arg3 harg3 arg4 harg4 x0 x1 = B x0 x1 0 28 := by
  simp only [kernelRun0_A.sl.r_91, r_eq, rdK] <;> rfl

theorem r_92_eq : kernelRun0_A.sl.r_92 (F := F) c arg3 harg3 arg4 harg4 x0 x1 = M x0 x1 0 27 := by
  simp only [kernelRun0_A.sl.r_92, r_79_eq, r_84_eq, r_85_eq] <;> rfl

theorem v654_eq : kernelRun0_A.sl.v654 (F := F) c arg3 harg3 arg4 harg4 arg7 x0 x1 = C x0 x1 0 26 := by
  unfold kernelRun0_A.sl.v654 kernelRun0_A.sl.HS0_29 kernelRun0_A.sl.HS0_28 kernelRun0_A.sl.HS0_27
  refine (View.readCov_skip _ _ _ _ _ rfl).trans ((View.readCov_skip _ _ _ _ _ rfl).trans ((View.readCov_cons_toLoadRect _ _ _ _).trans ?_))
  simp only [r_eq, rdK] <;> rfl

theorem r_93_eq : kernelRun0_A.sl.r_93 (F := F) c arg3 harg3 arg4 harg4 arg7 x0 x1 = truncf .bf16 (exp2 (D x0 x1 0 26)) bitsLt_bf16_f32 := by
  simp only [kernelRun0_A.sl.r_93, r_79_eq, r_84_eq, r_85_eq, v654_eq] <;> rfl

theorem r_94_eq : kernelRun0_A.sl.r_94 (F := F) c arg3 harg3 arg4 harg4 x0 x1 = broadcastTo S80x512 (exp2 (subf (M x0 x1 0 26) (M x0 x1 0 27))) broadcasts_S1x512_S80x512 := by
  simp only [kernelRun0_A.sl.r_94, r_79_eq, r_84_eq, r_85_eq] <;> rfl

theorem r_95_eq : kernelRun0_A.sl.r_95 (F := F) c arg3 harg3 arg4 harg4 x0 x1 = B x0 x1 0 29 := by
  simp only [kernelRun0_A.sl.r_95, r_eq, rdK] <;> rfl

theorem r_96_eq : kernelRun0_A.sl.r_96 (F := F) c arg3 harg3 arg4 harg4 x0 x1 = M x0 x1 0 28 := by
  simp only [kernelRun0_A.sl.r_96, r_89_eq, r_92_eq] <;> rfl

theorem v678_eq : kernelRun0_A.sl.v678 (F := F) c arg3 harg3 arg4 harg4 arg7 x0 x1 = C x0 x1 0 27 := by
  unfold kernelRun0_A.sl.v678 kernelRun0_A.sl.HS0_30 kernelRun0_A.sl.HS0_29 kernelRun0_A.sl.HS0_28
  refine (View.readCov_skip _ _ _ _ _ rfl).trans ((View.readCov_skip _ _ _ _ _ rfl).trans ((View.readCov_cons_toLoadRect _ _ _ _).trans ?_))
  simp only [r_88_eq] <;> rfl

theorem r_97_eq : kernelRun0_A.sl.r_97 (F := F) c arg3 harg3 arg4 harg4 arg5 harg5 arg7 x0 x1 x2 = A x0 x1 x2 0 28 := by
  simp only [kernelRun0_A.sl.r_97, r_89_eq, r_90_eq, r_92_eq, r_93_eq, r_94_eq, v678_eq, rdV] <;> rfl

theorem r_98_eq : kernelRun0_A.sl.r_98 (F := F) c arg4 harg4 x1 = kB x1 7680 := by
  simp only [kernelRun0_A.sl.r_98, rdK] <;> rfl

theorem r_99_eq : kernelRun0_A.sl.r_99 (F := F) c arg3 harg3 arg4 harg4 x0 x1 = B x0 x1 0 30 := by
  simp only [kernelRun0_A.sl.r_99, r_eq, r_98_eq] <;> rfl

theorem r_100_eq : kernelRun0_A.sl.r_100 (F := F) c arg3 harg3 arg4 harg4 x0 x1 = M x0 x1 0 29 := by
  simp only [kernelRun0_A.sl.r_100, r_91_eq, r_96_eq] <;> rfl

theorem v702_eq : kernelRun0_A.sl.v702 (F := F) c arg3 harg3 arg4 harg4 arg7 x0 x1 = C x0 x1 0 28 := by
  unfold kernelRun0_A.sl.v702 kernelRun0_A.sl.HS0_31 kernelRun0_A.sl.HS0_30 kernelRun0_A.sl.HS0_29
  refine (View.readCov_skip _ _ _ _ _ rfl).trans ((View.readCov_skip _ _ _ _ _ rfl).trans ((View.readCov_cons_toLoadRect _ _ _ _).trans ?_))
  simp only [r_eq, rdK] <;> rfl

theorem r_101_eq : kernelRun0_A.sl.r_101 (F := F) c arg3 harg3 arg4 harg4 arg5 harg5 arg7 x0 x1 x2 = A x0 x1 x2 0 29 := by
  simp only [kernelRun0_A.sl.r_101, r_91_eq, r_96_eq, r_97_eq, v702_eq, rdV] <;> rfl

theorem r_102_eq : kernelRun0_A.sl.r_102 (F := F) c arg3 harg3 arg4 harg4 x0 x1 = B x0 x1 0 31 := by
  simp only [kernelRun0_A.sl.r_102, r_eq, rdK] <;> rfl

theorem r_103_eq : kernelRun0_A.sl.r_103 (F := F) c arg3 harg3 arg4 harg4 x0 x1 = M x0 x1 0 30 := by
  simp only [kernelRun0_A.sl.r_103, r_91_eq, r_95_eq, r_96_eq] <;> rfl

theorem r_104_eq : kernelRun0_A.sl.r_104 (F := F) c arg3 harg3 arg4 harg4 x0 x1 = B x0 x1 0 32 := by
  simp only [kernelRun0_A.sl.r_104, r_eq, rdK] <;> rfl

theorem r_105_eq : kernelRun0_A.sl.r_105 (F := F) c arg3 harg3 arg4 harg4 x0 x1 = M x0 x1 0 31 := by
  simp only [kernelRun0_A.sl.r_105, r_99_eq, r_103_eq] <;> rfl

theorem v750_eq : kernelRun0_A.sl.v750 (F := F) c arg3 harg3 arg4 harg4 arg7 x0 x1 = C x0 x1 0 30 := by
  unfold kernelRun0_A.sl.v750 kernelRun0_A.sl.HS0_33 kernelRun0_A.sl.HS0_32 kernelRun0_A.sl.HS0_31
  refine (View.readCov_skip _ _ _ _ _ rfl).trans ((View.readCov_skip _ _ _ _ _ rfl).trans ((View.readCov_cons_toLoadRect _ _ _ _).trans ?_))
  simp only [r_eq, r_98_eq] <;> rfl

theorem r_106_eq : kernelRun0_A.sl.r_106 (F := F) c arg3 harg3 arg4 harg4 arg7 x0 x1 = truncf .bf16 (exp2 (D x0 x1 0 30)) bitsLt_bf16_f32 := by
  simp only [kernelRun0_A.sl.r_106, r_99_eq, r_103_eq, v750_eq] <;> rfl

theorem v726_eq : kernelRun0_A.sl.v726 (F := F) c arg3 harg3 arg4 harg4 arg7 x0 x1 = C x0 x1 0 29 := by
  unfold kernelRun0_A.sl.v726 kernelRun0_A.sl.HS0_32 kernelRun0_A.sl.HS0_31 kernelRun0_A.sl.HS0_30
  refine (View.readCov_skip _ _ _ _ _ rfl).trans ((View.readCov_skip _ _ _ _ _ rfl).trans ((View.readCov_cons_toLoadRect _ _ _ _).trans ?_))
  simp only [r_eq, rdK] <;> rfl

theorem r_107_eq : kernelRun0_A.sl.r_107 (F := F) c arg3 harg3 arg4 harg4 arg5 harg5 arg7 x0 x1 x2 = mulf (broadcastTo S80x512 (exp2 (subf (M x0 x1 0 30) (M x0 x1 0 31))) broadcasts_S1x512_S80x512) (A x0 x1 x2 0 30) := by
  simp only [kernelRun0_A.sl.r_107, r_99_eq, r_100_eq, r_101_eq, r_103_eq, v726_eq, rdV] <;> rfl

theorem r_108_eq : kernelRun0_A.sl.r_108 (F := F) c arg5 harg5 x2 = shapeCast S64x256 (vB x2 15 0) shapeCasts_S1x1x1x64x256_S64x256 := by
  simp only [kernelRun0_A.sl.r_108, rdV] <;> rfl

theorem r_109_eq : kernelRun0_A.sl.r_109 (F := F) c arg3 harg3 arg4 harg4 x0 x1 = B x0 x1 0 33 := by
  simp only [kernelRun0_A.sl.r_109, r_eq, rdK] <;> rfl

theorem r_110_eq : kernelRun0_A.sl.r_110 (F := F) c arg3 harg3 arg4 harg4 x0 x1 = M x0 x1 0 32 := by
  simp only [kernelRun0_A.sl.r_110, r_102_eq, r_105_eq] <;> rfl

theorem v774_eq : kernelRun0_A.sl.v774 (F := F) c arg3 harg3 arg4 harg4 arg7 x0 x1 = C x0 x1 0 31 := by
  unfold kernelRun0_A.sl.v774 kernelRun0_A.sl.HS0_34 kernelRun0_A.sl.HS0_33 kernelRun0_A.sl.HS0_32
  refine (View.readCov_skip _ _ _ _ _ rfl).trans ((View.readCov_skip _ _ _ _ _ rfl).trans ((View.readCov_cons_toLoadRect _ _ _ _).trans ?_))
  simp only [r_eq, rdK] <;> rfl

theorem r_111_eq : kernelRun0_A.sl.r_111 (F := F) c arg3 harg3 arg4 harg4 arg5 harg5 arg7 x0 x1 x2 = A x0 x1 x2 0 32 := by
  simp only [kernelRun0_A.sl.r_111, r_102_eq, r_105_eq, r_106_eq, r_107_eq, r_108_eq, v774_eq, rdV] <;> rfl

theorem r_112_eq : kernelRun0_A.sl.r_112 (F := F) c arg3 harg3 arg4 harg4 x0 x1 = S x0 x1 0 34 := by
  simp only [kernelRun0_A.sl.r_112, r_eq, rdK] <;> rfl

theorem r_113_eq : kernelRun0_A.sl.r_113 (F := F) c arg3 harg3 arg4 harg4 x0 x1 = B x0 x1 0 34 := by
  simp only [kernelRun0_A.sl.r_113, r_112_eq] <;> rfl

theorem v798_eq : kernelRun0_A.sl.v798 (F := F) c arg3 harg3 arg4 harg4 arg7 x0 x1 = C x0 x1 0 32 := by
  unfold kernelRun0_A.sl.v798 kernelRun0_A.sl.HS0_35 kernelRun0_A.sl.HS0_34 kernelRun0_A.sl.HS0_33
  refine (View.readCov_skip _ _ _ _ _ rfl).trans ((View.readCov_skip _ _ _ _ _ rfl).trans ((View.readCov_cons_toLoadRect _ _ _ _).trans ?_))
  simp only [r_eq, rdK] <;> rfl

theorem r_114_eq : kernelRun0_A.sl.r_114 (F := F) c arg3 harg3 arg4 harg4 arg5 harg5 arg7 x0 x1 x2 = A x0 x1 x2 0 33 := by
  simp only [kernelRun0_A.sl.r_114, r_104_eq, r_110_eq, r_111_eq, v798_eq, rdV] <;> rfl

theorem r_115_eq : kernelRun0_A.sl.r_115 (F := F) c arg3 harg3 arg4 harg4 x0 x1 = B x0 x1 0 35 := by
  simp only [kernelRun0_A.sl.r_115, r_eq, rdK] <;> rfl

theorem r_116_eq : kernelRun0_A.sl.r_116 (F := F) c arg3 harg3 arg4 harg4 x0 x1 = M x0 x1 0 34 := by
  simp only [kernelRun0_A.sl.r_116, r_104_eq, r_109_eq, r_110_eq] <;> rfl

theorem v822_eq : kernelRun0_A.sl.v822 (F := F) c arg3 harg3 arg4 harg4 arg7 x0 x1 = C x0 x1 0 33 := by
  unfold kernelRun0_A.sl.v822 kernelRun0_A.sl.HS0_36 kernelRun0_A.sl.HS0_35 kernelRun0_A.sl.HS0_34
  refine (View.readCov_skip _ _ _ _ _ rfl).trans ((View.readCov_skip _ _ _ _ _ rfl).trans ((View.readCov_cons_toLoadRect _ _ _ _).trans ?_))
  simp only [r_eq, rdK] <;> rfl

theorem r_117_eq : kernelRun0_A.sl.r_117 (F := F) c arg3 harg3 arg4 harg4 arg7 x0 x1 = truncf .bf16 (exp2 (D x0 x1 0 33)) bitsLt_bf16_f32 := by
  simp only [kernelRun0_A.sl.r_117, r_104_eq, r_109_eq, r_110_eq, v822_eq] <;> rfl

theorem r_118_eq : kernelRun0_A.sl.r_118 (F := F) c arg3 harg3 arg4 harg4 x0 x1 = exp2 (subf (M x0 x1 0 33) (M x0 x1 0 34)) := by
  simp only [kernelRun0_A.sl.r_118, r_104_eq, r_109_eq, r_110_eq] <;> rfl

theorem r_119_eq : kernelRun0_A.sl.r_119 (F := F) c arg3 harg3 arg4 harg4 x0 x1 = B x0 x1 0 36 := by
  simp only [kernelRun0_A.sl.r_119, r_eq, rdK] <;> rfl

theorem r_120_eq : kernelRun0_A.sl.r_120 (F := F) c arg3 harg3 arg4 harg4 x0 x1 = M x0 x1 0 35 := by
  simp only [kernelRun0_A.sl.r_120, r_113_eq, r_116_eq] <;> rfl

theorem v846_eq : kernelRun0_A.sl.v846 (F := F) c arg3 harg3 arg4 harg4 arg7 x0 x1 = C x0 x1 0 34 := by
  unfold kernelRun0_A.sl.v846 kernelRun0_A.sl.HS0_37 kernelRun0_A.sl.HS0_36 kernelRun0_A.sl.HS0_35
  refine (View.readCov_skip _ _ _ _ _ rfl).trans ((View.readCov_skip _ _ _ _ _ rfl).trans ((View.readCov_cons_toLoadRect _ _ _ _).trans ?_))
  simp only [r_112_eq] <;> rfl

theorem r_121_eq : kernelRun0_A.sl.r_121 (F := F) c arg3 harg3 arg4 harg4 arg5 harg5 arg7 x0 x1 x2 = A x0 x1 x2 0 35 := by
  simp only [kernelRun0_A.sl.r_121, r_113_eq, r_114_eq, r_116_eq, r_117_eq, r_118_eq, v846_eq, rdV] <;> rfl

theorem r_122_eq : kernelRun0_A.sl.r_122 (F := F) c arg3 harg3 arg4 harg4 x0 x1 = B x0 x1 0 37 := by
  simp only [kernelRun0_A.sl.r_122, r_eq, rdK] <;> rfl

theorem r_123_eq : kernelRun0_A.sl.r_123 (F := F) c arg3 harg3 arg4 harg4 x0 x1 = M x0 x1 0 36 := by
  simp only [kernelRun0_A.sl.r_123, r_115_eq, r_120_eq] <;> rfl

theorem v870_eq : kernelRun0_A.sl.v870 (F := F) c arg3 harg3 arg4 harg4 arg7 x0 x1 = C x0 x1 0 35 := by
  unfold kernelRun0_A.sl.v870 kernelRun0_A.sl.HS0_38 kernelRun0_A.sl.HS0_37 kernelRun0_A.sl.HS0_36
  refine (View.readCov_skip _ _ _ _ _ rfl).trans ((View.readCov_skip _ _ _ _ _ rfl).trans ((View.readCov_cons_toLoadRect _ _ _ _).trans ?_))
  simp only [r_eq, rdK] <;> rfl

theorem r_124_eq : kernelRun0_A.sl.r_124 (F := F) c arg3 harg3 arg4 harg4 arg5 harg5 arg7 x0 x1 x2 = A x0 x1 x2 0 36 := by
  simp only [kernelRun0_A.sl.r_124, r_115_eq, r_120_eq, r_121_eq, v870_eq, rdV] <;> rfl

theorem r_125_eq : kernelRun0_A.sl.r_125 (F := F) c arg3 harg3 arg4 harg4 x0 x1 = B x0 x1 0 38 := by
  simp only [kernelRun0_A.sl.r_125, r_eq, rdK] <;> rfl

theorem r_126_eq : kernelRun0_A.sl.r_126 (F := F) c arg3 harg3 arg4 harg4 x0 x1 = M x0 x1 0 37 := by
  simp only [kernelRun0_A.sl.r_126, r_115_eq, r_119_eq, r_120_eq] <;> rfl

theorem r_127_eq : kernelRun0_A.sl.r_127 (F := F) c arg3 harg3 arg4 harg4 x0 x1 = B x0 x1 0 39 := by
  simp only [kernelRun0_A.sl.r_127, r_eq, rdK] <;> rfl

theorem r_128_eq : kernelRun0_A.sl.r_128 (F := F) c arg3 harg3 arg4 harg4 x0 x1 = M x0 x1 0 38 := by
  simp only [kernelRun0_A.sl.r_128, r_122_eq, r_126_eq] <;> rfl

theorem v918_eq : kernelRun0_A.sl.v918 (F := F) c arg3 harg3 arg4 harg4 arg7 x0 x1 = C x0 x1 0 37 := by
  unfold kernelRun0_A.sl.v918 kernelRun0_A.sl.HS0_40 kernelRun0_A.sl.HS0_39 kernelRun0_A.sl.HS0_38
  refine (View.readCov_skip _ _ _ _ _ rfl).trans ((View.readCov_skip _ _ _ _ _ rfl).trans ((View.readCov_cons_toLoadRect _ _ _ _).trans ?_))
  simp only [r_eq, rdK] <;> rfl

theorem r_129_eq : kernelRun0_A.sl.r_129 (F := F) c arg3 harg3 arg4 harg4 arg7 x0 x1 = truncf .bf16 (exp2 (D x0 x1 0 37)) bitsLt_bf16_f32 := by
  simp only [kernelRun0_A.sl.r_129, r_122_eq, r_126_eq, v918_eq] <;> rfl

theorem v894_eq : kernelRun0_A.sl.v894 (F := F) c arg3 harg3 arg4 harg4 arg7 x0 x1 = C x0 x1 0 36 := by
  unfold kernelRun0_A.sl.v894 kernelRun0_A.sl.HS0_39 kernelRun0_A.sl.HS0_38 kernelRun0_A.sl.HS0_37
  refine (View.readCov_skip _ _ _ _ _ rfl).trans ((View.readCov_skip _ _ _ _ _ rfl).trans ((View.readCov_cons_toLoadRect _ _ _ _).trans ?_))
  simp only [r_eq, rdK] <;> rfl

theorem r_130_eq : kernelRun0_A.sl.r_130 (F := F) c arg3 harg3 arg4 harg4 arg5 harg5 arg7 x0 x1 x2 = mulf (broadcastTo S80x512 (exp2 (subf (M x0 x1 0 37) (M x0 x1 0 38))) broadcasts_S1x512_S80x512) (A x0 x1 x2 0 37) := by
  simp only [kernelRun0_A.sl.r_130, r_122_eq, r_123_eq, r_124_eq, r_126_eq, v894_eq, rdV] <;> rfl

theorem r_131_eq : kernelRun0_A.sl.r_131 (F := F) c arg5 harg5 x2 = vB x2 18 256 := by
  simp only [kernelRun0_A.sl.r_131, rdV] <;> rfl

theorem r_132_eq : kernelRun0_A.sl.r_132 (F := F) c arg3 harg3 arg4 harg4 x0 x1 = B x0 x1 0 40 := by
  simp only [kernelRun0_A.sl.r_132, r_eq, rdK] <;> rfl

theorem r_133_eq : kernelRun0_A.sl.r_133 (F := F) c arg3 harg3 arg4 harg4 x0 x1 = M x0 x1 0 39 := by
  simp only [kernelRun0_A.sl.r_133, r_125_eq, r_128_eq] <;> rfl

theorem v942_eq : kernelRun0_A.sl.v942 (F := F) c arg3 harg3 arg4 harg4 arg7 x0 x1 = C x0 x1 0 38 := by
  unfold kernelRun0_A.sl.v942 kernelRun0_A.sl.HS0_41 kernelRun0_A.sl.HS0_40 kernelRun0_A.sl.HS0_39
  refine (View.readCov_skip _ _ _ _ _ rfl).trans ((View.readCov_skip _ _ _ _ _ rfl).trans ((View.readCov_cons_toLoadRect _ _ _ _).trans ?_))
  simp only [r_eq, rdK] <;> rfl

theorem r_134_eq : kernelRun0_A.sl.r_134 (F := F) c arg3 harg3 arg4 harg4 arg5 harg5 arg7 x0 x1 x2 = A x0 x1 x2 0 39 := by
  simp only [kernelRun0_A.sl.r_134, r_125_eq, r_128_eq, r_129_eq, r_130_eq, r_131_eq, v942_eq, rdV] <;> rfl

theorem r_135_eq : kernelRun0_A.sl.r_135 (F := F) c arg3 harg3 arg4 harg4 x0 x1 = S x0 x1 0 41 := by
  simp only [kernelRun0_A.sl.r_135, r_eq, rdK] <;> rfl

theorem r_136_eq : kernelRun0_A.sl.r_136 (F := F) c arg3 harg3 arg4 harg4 x0 x1 = B x0 x1 0 41 := by
  simp only [kernelRun0_A.sl.r_136, r_135_eq] <;> rfl

theorem v966_eq : kernelRun0_A.sl.v966 (F := F) c arg3 harg3 arg4 harg4 arg7 x0 x1 = C x0 x1 0 39 := by
  unfold kernelRun0_A.sl.v966 kernelRun0_A.sl.HS0_42 kernelRun0_A.sl.HS0_41 kernelRun0_A.sl.HS0_40
  refine (View.readCov_skip _ _ _ _ _ rfl).trans ((View.readCov_skip _ _ _ _ _ rfl).trans ((View.readCov_cons_toLoadRect _ _ _ _).trans ?_))
  simp only [r_eq, rdK] <;> rfl

theorem r_137_eq : kernelRun0_A.sl.r_137 (F := F) c arg3 harg3 arg4 harg4 arg5 harg5 arg7 x0 x1 x2 = A x0 x1 x2 0 40 := by
  simp only [kernelRun0_A.sl.r_137, r_127_eq, r_133_eq, r_134_eq, v966_eq, rdV] <;> rfl

theorem r_138_eq : kernelRun0_A.sl.r_138 (F := F) c arg3 harg3 arg4 harg4 x0 x1 = B x0 x1 0 42 := by
  simp only [kernelRun0_A.sl.r_138, r_eq, rdK] <;> rfl

theorem r_139_eq : kernelRun0_A.sl.r_139 (F := F) c arg3 harg3 arg4 harg4 x0 x1 = M x0 x1 0 41 := by
  simp only [kernelRun0_A.sl.r_139, r_127_eq, r_132_eq, r_133_eq] <;> rfl

theorem v990_eq : kernelRun0_A.sl.v990 (F := F) c arg3 harg3 arg4 harg4 arg7 x0 x1 = C x0 x1 0 40 := by
  unfold kernelRun0_A.sl.v990 kernelRun0_A.sl.HS0_43 kernelRun0_A.sl.HS0_42 kernelRun0_A.sl.HS0_41
  refine (View.readCov_skip _ _ _ _ _ rfl).trans ((View.readCov_skip _ _ _ _ _ rfl).trans ((View.readCov_cons_toLoadRect _ _ _ _).trans ?_))
  simp only [r_eq, rdK] <;> rfl

theorem r_140_eq : kernelRun0_A.sl.r_140 (F := F) c arg3 harg3 arg4 harg4 arg7 x0 x1 = truncf .bf16 (exp2 (D x0 x1 0 40)) bitsLt_bf16_f32 := by
  simp only [kernelRun0_A.sl.r_140, r_127_eq, r_132_eq, r_133_eq, v990_eq] <;> rfl

theorem r_141_eq : kernelRun0_A.sl.r_141 (F := F) c arg3 harg3 arg4 harg4 x0 x1 = subf (M x0 x1 0 40) (M x0 x1 0 41) := by
  simp only [kernelRun0_A.sl.r_141, r_127_eq, r_132_eq, r_133_eq] <;> rfl

theorem r_142_eq : kernelRun0_A.sl.r_142 (F := F) c arg3 harg3 arg4 harg4 x0 x1 = B x0 x1 0 43 := by
  simp only [kernelRun0_A.sl.r_142, r_eq, rdK] <;> rfl

theorem r_143_eq : kernelRun0_A.sl.r_143 (F := F) c arg3 harg3 arg4 harg4 x0 x1 = M x0 x1 0 42 := by
  simp only [kernelRun0_A.sl.r_143, r_136_eq, r_139_eq] <;> rfl

theorem v1014_eq : kernelRun0_A.sl.v1014 (F := F) c arg3 harg3 arg4 harg4 arg7 x0 x1 = C x0 x1 0 41 := by
  unfold kernelRun0_A.sl.v1014 kernelRun0_A.sl.HS0_44 kernelRun0_A.sl.HS0_43 kernelRun0_A.sl.HS0_42
  refine (View.readCov_skip _ _ _ _ _ rfl).trans ((View.readCov_skip _ _ _ _ _ rfl).trans ((View.readCov_cons_toLoadRect _ _ _ _).trans ?_))
  simp only [r_135_eq] <;> rfl

theorem r_144_eq : kernelRun0_A.sl.r_144 (F := F) c arg3 harg3 arg4 harg4 arg5 harg5 arg7 x0 x1 x2 = A x0 x1 x2 0 42 := by
  simp only [kernelRun0_A.sl.r_144, r_136_eq, r_137_eq, r_139_eq, r_140_eq, r_141_eq, v1014_eq, rdV] <;> rfl

theorem r_145_eq : kernelRun0_A.sl.r_145 (F := F) c arg3 harg3 arg4 harg4 x0 x1 = B x0 x1 0 44 := by
  simp only [kernelRun0_A.sl.r_145, r_eq, rdK] <;> rfl

theorem r_146_eq : kernelRun0_A.sl.r_146 (F := F) c arg3 harg3 arg4 harg4 x0 x1 = M x0 x1 0 43 := by
  simp only [kernelRun0_A.sl.r_146, r_138_eq, r_143_eq] <;> rfl

theorem v1038_eq : kernelRun0_A.sl.v1038 (F := F) c arg3 harg3 arg4 harg4 arg7 x0 x1 = C x0 x1 0 42 := by
  unfold kernelRun0_A.sl.v1038 kernelRun0_A.sl.HS0_45 kernelRun0_A.sl.HS0_44 kernelRun0_A.sl.HS0_43
  refine (View.readCov_skip _ _ _ _ _ rfl).trans ((View.readCov_skip _ _ _ _ _ rfl).trans ((View.readCov_cons_toLoadRect _ _ _ _).trans ?_))
  simp only [r_eq, rdK] <;> rfl

theorem r_147_eq : kernelRun0_A.sl.r_147 (F := F) c arg3 harg3 arg4 harg4 arg5 harg5 arg7 x0 x1 x2 = A x0 x1 x2 0 43 := by
  simp only [kernelRun0_A.sl.r_147, r_138_eq, r_143_eq, r_144_eq, v1038_eq, rdV] <;> rfl

theorem r_148_eq : kernelRun0_A.sl.r_148 (F := F) c arg3 harg3 arg4 harg4 x0 x1 = B x0 x1 0 45 := by
  simp only [kernelRun0_A.sl.r_148, r_eq, rdK] <;> rfl

theorem r_149_eq : kernelRun0_A.sl.r_149 (F := F) c arg3 harg3 arg4 harg4 x0 x1 = M x0 x1 0 44 := by
  simp only [kernelRun0_A.sl.r_149, r_138_eq, r_142_eq, r_143_eq] <;> rfl

theorem r_150_eq : kernelRun0_A.sl.r_150 (F := F) c arg3 harg3 arg4 harg4 x0 x1 = B x0 x1 0 46 := by
  simp only [kernelRun0_A.sl.r_150, r_eq, rdK] <;> rfl

theorem r_151_eq : kernelRun0_A.sl.r_151 (F := F) c arg3 harg3 arg4 harg4 x0 x1 = M x0 x1 0 45 := by
  simp only [kernelRun0_A.sl.r_151, r_145_eq, r_149_eq] <;> rfl

theorem v1086_eq : kernelRun0_A.sl.v1086 (F := F) c arg3 harg3 arg4 harg4 arg7 x0 x1 = C x0 x1 0 44 := by
  unfold kernelRun0_A.sl.v1086 kernelRun0_A.sl.HS0_47 kernelRun0_A.sl.HS0_46 kernelRun0_A.sl.HS0_45
  refine (View.readCov_skip _ _ _ _ _ rfl).trans ((View.readCov_skip _ _ _ _ _ rfl).trans ((View.readCov_cons_toLoadRect _ _ _ _).trans ?_))
  simp only [r_eq, rdK] <;> rfl

theorem r_152_eq : kernelRun0_A.sl.r_152 (F := F) c arg3 harg3 arg4 harg4 arg7 x0 x1 = truncf .bf16 (exp2 (D x0 x1 0 44)) bitsLt_bf16_f32 := by
  simp only [kernelRun0_A.sl.r_152, r_145_eq, r_149_eq, v1086_eq] <;> rfl

theorem v1062_eq : kernelRun0_A.sl.v1062 (F := F) c arg3 harg3 arg4 harg4 arg7 x0 x1 = C x0 x1 0 43 := by
  unfold kernelRun0_A.sl.v1062 kernelRun0_A.sl.HS0_46 kernelRun0_A.sl.HS0_45 kernelRun0_A.sl.HS0_44
  refine (View.readCov_skip _ _ _ _ _ rfl).trans ((View.readCov_skip _ _ _ _ _ rfl).trans ((View.readCov_cons_toLoadRect _ _ _ _).trans ?_))
  simp only [r_eq, rdK] <;> rfl

theorem r_153_eq : kernelRun0_A.sl.r_153 (F := F) c arg3 harg3 arg4 harg4 arg5 harg5 arg7 x0 x1 x2 = mulf (broadcastTo S80x512 (exp2 (subf (M x0 x1 0 44) (M x0 x1 0 45))) broadcasts_S1x512_S80x512) (A x0 x1 x2 0 44) := by
  simp only [kernelRun0_A.sl.r_153, r_145_eq, r_146_eq, r_147_eq, r_149_eq, v1062_eq, rdV] <;> rfl

theorem r_154_eq : kernelRun0_A.sl.r_154 (F := F) c arg3 harg3 arg4 harg4 x0 x1 = B x0 x1 0 47 := by
  simp only [kernelRun0_A.sl.r_154, r_eq, rdK] <;> rfl

theorem r_155_eq : kernelRun0_A.sl.r_155 (F := F) c arg3 harg3 arg4 harg4 x0 x1 = M x0 x1 0 46 := by
  simp only [kernelRun0_A.sl.r_155, r_148_eq, r_151_eq] <;> rfl

theorem v1110_eq : kernelRun0_A.sl.v1110 (F := F) c arg3 harg3 arg4 harg4 arg7 x0 x1 = C x0 x1 0 45 := by
  unfold kernelRun0_A.sl.v1110 kernelRun0_A.sl.HS0_48 kernelRun0_A.sl.HS0_47 kernelRun0_A.sl.HS0_46
  refine (View.readCov_skip _ _ _ _ _ rfl).trans ((View.readCov_skip _ _ _ _ _ rfl).trans ((View.readCov_cons_toLoadRect _ _ _ _).trans ?_))
  simp only [r_eq, rdK] <;> rfl

theorem r_156_eq : kernelRun0_A.sl.r_156 (F := F) c arg3 harg3 arg4 harg4 arg5 harg5 arg7 x0 x1 x2 = A x0 x1 x2 0 46 := by
  simp only [kernelRun0_A.sl.r_156, r_148_eq, r_151_eq, r_152_eq, r_153_eq, v1110_eq, rdV] <;> rfl

theorem r_157_eq : kernelRun0_A.sl.r_157 (F := F) c arg3 harg3 arg4 harg4 x0 x1 = S x0 x1 0 48 := by
  simp only [kernelRun0_A.sl.r_157, r_eq, rdK] <;> rfl

theorem r_158_eq : kernelRun0_A.sl.r_158 (F := F) c arg3 harg3 arg4 harg4 x0 x1 = B x0 x1 0 48 := by
  simp only [kernelRun0_A.sl.r_158, r_157_eq] <;> rfl

theorem r_159_eq : kernelRun0_A.sl.r_159 (F := F) c arg3 harg3 arg4 harg4 x0 x1 = M x0 x1 0 47 := by
  simp only [kernelRun0_A.sl.r_159, r_150_eq, r_155_eq] <;> rfl

theorem v1134_eq : kernelRun0_A.sl.v1134 (F := F) c arg3 harg3 arg4 harg4 arg7 x0 x1 = C x0 x1 0 46 := by
  unfold kernelRun0_A.sl.v1134 kernelRun0_A.sl.HS0_49 kernelRun0_A.sl.HS0_48 kernelRun0_A.sl.HS0_47
  refine (View.readCov_skip _ _ _ _ _ rfl).trans ((View.readCov_skip _ _ _ _ _ rfl).trans ((View.readCov_cons_toLoadRect _ _ _ _).trans ?_))
  simp only [r_eq, rdK] <;> rfl

theorem r_160_eq : kernelRun0_A.sl.r_160 (F := F) c arg3 harg3 arg4 harg4 arg5 harg5 arg7 x0 x1 x2 = A x0 x1 x2 0 47 := by
  simp only [kernelRun0_A.sl.r_160, r_150_eq, r_155_eq, r_156_eq, v1134_eq, rdV] <;> rfl

theorem r_161_eq : kernelRun0_A.sl.r_161 (F := F) c arg3 harg3 arg4 harg4 x0 x1 = B x0 x1 0 49 := by
  simp only [kernelRun0_A.sl.r_161, r_eq, rdK] <;> rfl

theorem r_162_eq : kernelRun0_A.sl.r_162 (F := F) c arg3 harg3 arg4 harg4 x0 x1 = M x0 x1 0 48 := by
  simp only [kernelRun0_A.sl.r_162, r_150_eq, r_154_eq, r_155_eq] <;> rfl

theorem v1158_eq : kernelRun0_A.sl.v1158 (F := F) c arg3 harg3 arg4 harg4 arg7 x0 x1 = C x0 x1 0 47 := by
  unfold kernelRun0_A.sl.v1158 kernelRun0_A.sl.HS0_50 kernelRun0_A.sl.HS0_49 kernelRun0_A.sl.HS0_48
  refine (View.readCov_skip _ _ _ _ _ rfl).trans ((View.readCov_skip _ _ _ _ _ rfl).trans ((View.readCov_cons_toLoadRect _ _ _ _).trans ?_))
  simp only [r_eq, rdK] <;> rfl

theorem r_163_eq : kernelRun0_A.sl.r_163 (F := F) c arg3 harg3 arg4 harg4 arg7 x0 x1 = truncf .bf16 (exp2 (D x0 x1 0 47)) bitsLt_bf16_f32 := by
  simp only [kernelRun0_A.sl.r_163, r_150_eq, r_154_eq, r_155_eq, v1158_eq] <;> rfl

theorem r_164_eq : kernelRun0_A.sl.r_164 (F := F) c arg3 harg3 arg4 harg4 x0 x1 = B x0 x1 0 50 := by
  simp only [kernelRun0_A.sl.r_164, r_eq, rdK] <;> rfl

theorem r_165_eq : kernelRun0_A.sl.r_165 (F := F) c arg3 harg3 arg4 harg4 x0 x1 = M x0 x1 0 49 := by
  simp only [kernelRun0_A.sl.r_165, r_158_eq, r_162_eq] <;> rfl

theorem v1182_eq : kernelRun0_A.sl.v1182 (F := F) c arg3 harg3 arg4 harg4 arg7 x0 x1 = C x0 x1 0 48 := by
  unfold kernelRun0_A.sl.v1182 kernelRun0_A.sl.HS0_51 kernelRun0_A.sl.HS0_50 kernelRun0_A.sl.HS0_49
  refine (View.readCov_skip _ _ _ _ _ rfl).trans ((View.readCov_skip _ _ _ _ _ rfl).trans ((View.readCov_cons_toLoadRect _ _ _ _).trans ?_))
  simp only [r_157_eq] <;> rfl

theorem r_166_eq : kernelRun0_A.sl.r_166 (F := F) c arg3 harg3 arg4 harg4 arg5 harg5 arg7 x0 x1 x2 = A x0 x1 x2 0 49 := by
  simp only [kernelRun0_A.sl.r_166, r_158_eq, r_159_eq, r_160_eq, r_162_eq, r_163_eq, v1182_eq, rdV] <;> rfl

theorem r_167_eq : kernelRun0_A.sl.r_167 (F := F) c arg3 harg3 arg4 harg4 x0 x1 = B x0 x1 0 51 := by
  simp only [kernelRun0_A.sl.r_167, r_eq, rdK] <;> rfl

theorem r_168_eq : kernelRun0_A.sl.r_168 (F := F) c arg3 harg3 arg4 harg4 x0 x1 = M x0 x1 0 50 := by
  simp only [kernelRun0_A.sl.r_168, r_161_eq, r_165_eq] <;> rfl

theorem v1206_eq : kernelRun0_A.sl.v1206 (F := F) c arg3 harg3 arg4 harg4 arg7 x0 x1 = C x0 x1 0 49 := by
  unfold kernelRun0_A.sl.v1206 kernelRun0_A.sl.HS0_52 kernelRun0_A.sl.HS0_51 kernelRun0_A.sl.HS0_50
  refine (View.readCov_skip _ _ _ _ _ rfl).trans ((View.readCov_skip _ _ _ _ _ rfl).trans ((View.readCov_cons_toLoadRect _ _ _ _).trans ?_))
  simp only [r_eq, rdK] <;> rfl

theorem r_169_eq : kernelRun0_A.sl.r_169 (F := F) c arg3 harg3 arg4 harg4 arg5 harg5 arg7 x0 x1 x2 = A x0 x1 x2 0 50 := by
  simp only [kernelRun0_A.sl.r_169, r_161_eq, r_165_eq, r_166_eq, v1206_eq, rdV] <;> rfl

theorem r_170_eq : kernelRun0_A.sl.r_170 (F := F) c arg3 harg3 arg4 harg4 x0 x1 = B x0 x1 0 52 := by
  simp only [kernelRun0_A.sl.r_170, r_eq, rdK] <;> rfl

theorem r_171_eq : kernelRun0_A.sl.r_171 (F := F) c arg3 harg3 arg4 harg4 x0 x1 = M x0 x1 0 51 := by
  simp only [kernelRun0_A.sl.r_171, r_161_eq, r_164_eq, r_165_eq] <;> rfl

theorem r_172_eq : kernelRun0_A.sl.r_172 (F := F) c arg3 harg3 arg4 harg4 x0 x1 = B x0 x1 0 53 := by
  simp only [kernelRun0_A.sl.r_172, r_eq, rdK] <;> rfl

theorem r_173_eq : kernelRun0_A.sl.r_173 (F := F) c arg3 harg3 arg4 harg4 x0 x1 = M x0 x1 0 52 := by
  simp only [kernelRun0_A.sl.r_173, r_167_eq, r_171_eq] <;> rfl

theorem v1254_eq : kernelRun0_A.sl.v1254 (F := F) c arg3 harg3 arg4 harg4 arg7 x0 x1 = C x0 x1 0 51 := by
  unfold kernelRun0_A.sl.v1254 kernelRun0_A.sl.HS0_54 kernelRun0_A.sl.HS0_53 kernelRun0_A.sl.HS0_52
  refine (View.readCov_skip _ _ _ _ _ rfl).trans ((View.readCov_skip _ _ _ _ _ rfl).trans ((View.readCov_cons_toLoadRect _ _ _ _).trans ?_))
  simp only [r_eq, rdK] <;> rfl

theorem r_174_eq : kernelRun0_A.sl.r_174 (F := F) c arg3 harg3 arg4 harg4 arg7 x0 x1 = truncf .bf16 (exp2 (D x0 x1 0 51)) bitsLt_bf16_f32 := by
  simp only [kernelRun0_A.sl.r_174, r_167_eq, r_171_eq, v1254_eq] <;> rfl

theorem v1230_eq : kernelRun0_A.sl.v1230 (F := F) c arg3 harg3 arg4 harg4 arg7 x0 x1 = C x0 x1 0 50 := by
  unfold kernelRun0_A.sl.v1230 kernelRun0_A.sl.HS0_53 kernelRun0_A.sl.HS0_52 kernelRun0_A.sl.HS0_51
  refine (View.readCov_skip _ _ _ _ _ rfl).trans ((View.readCov_skip _ _ _ _ _ rfl).trans ((View.readCov_cons_toLoadRect _ _ _ _).trans ?_))
  simp only [r_eq, rdK] <;> rfl

theorem r_175_eq : kernelRun0_A.sl.r_175 (F := F) c arg3 harg3 arg4 harg4 arg5 harg5 arg7 x0 x1 x2 = mulf (broadcastTo S80x512 (exp2 (subf (M x0 x1 0 51) (M x0 x1 0 52))) broadcasts_S1x512_S80x512) (A x0 x1 x2 0 51) := by
  simp only [kernelRun0_A.sl.r_175, r_167_eq, r_168_eq, r_169_eq, r_171_eq, v1230_eq, rdV] <;> rfl

theorem r_176_eq : kernelRun0_A.sl.r_176 (F := F) c arg3 harg3 arg4 harg4 x0 x1 = B x0 x1 0 54 := by
  simp only [kernelRun0_A.sl.r_176, r_eq, rdK] <;> rfl

theorem r_177_eq : kernelRun0_A.sl.r_177 (F := F) c arg3 harg3 arg4 harg4 x0 x1 = M x0 x1 0 53 := by
  simp only [kernelRun0_A.sl.r_177, r_170_eq, r_173_eq] <;> rfl

theorem v1278_eq : kernelRun0_A.sl.v1278 (F := F) c arg3 harg3 arg4 harg4 arg7 x0 x1 = C x0 x1 0 52 := by
  unfold kernelRun0_A.sl.v1278 kernelRun0_A.sl.HS0_55 kernelRun0_A.sl.HS0_54 kernelRun0_A.sl.HS0_53
  refine (View.readCov_skip _ _ _ _ _ rfl).trans ((View.readCov_skip _ _ _ _ _ rfl).trans ((View.readCov_cons_toLoadRect _ _ _ _).trans ?_))
  simp only [r_eq, rdK] <;> rfl

theorem r_178_eq : kernelRun0_A.sl.r_178 (F := F) c arg3 harg3 arg4 harg4 arg5 harg5 arg7 x0 x1 x2 = A x0 x1 x2 0 53 := by
  simp only [kernelRun0_A.sl.r_178, r_170_eq, r_173_eq, r_174_eq, r_175_eq, v1278_eq, rdV] <;> rfl

theorem r_179_eq : kernelRun0_A.sl.r_179 (F := F) c arg3 harg3 arg4 harg4 x0 x1 = S x0 x1 0 55 := by
  simp only [kernelRun0_A.sl.r_179, r_eq, rdK] <;> rfl

theorem r_180_eq : kernelRun0_A.sl.r_180 (F := F) c arg3 harg3 arg4 harg4 x0 x1 = B x0 x1 0 55 := by
  simp only [kernelRun0_A.sl.r_180, r_179_eq] <;> rfl

theorem r_181_eq : kernelRun0_A.sl.r_181 (F := F) c arg3 harg3 arg4 harg4 x0 x1 = M x0 x1 0 54 := by
  simp only [kernelRun0_A.sl.r_181, r_172_eq, r_177_eq] <;> rfl

theorem v1302_eq : kernelRun0_A.sl.v1302 (F := F) c arg3 harg3 arg4 harg4 arg7 x0 x1 = C x0 x1 0 53 := by
  unfold kernelRun0_A.sl.v1302 kernelRun0_A.sl.HS0_56 kernelRun0_A.sl.HS0_55 kernelRun0_A.sl.HS0_54
  refine (View.readCov_skip _ _ _ _ _ rfl).trans ((View.readCov_skip _ _ _ _ _ rfl).trans ((View.readCov_cons_toLoadRect _ _ _ _).trans ?_))
  simp only [r_eq, rdK] <;> rfl

theorem r_182_eq : kernelRun0_A.sl.r_182 (F := F) c arg3 harg3 arg4 harg4 arg5 harg5 arg7 x0 x1 x2 = A x0 x1 x2 0 54 := by
  simp only [kernelRun0_A.sl.r_182, r_172_eq, r_177_eq, r_178_eq, v1302_eq, rdV] <;> rfl

theorem r_183_eq : kernelRun0_A.sl.r_183 (F := F) c arg3 harg3 arg4 harg4 x0 x1 = B x0 x1 0 56 := by
  simp only [kernelRun0_A.sl.r_183, r_eq, rdK] <;> rfl

theorem r_184_eq : kernelRun0_A.sl.r_184 (F := F) c arg3 harg3 arg4 harg4 x0 x1 = M x0 x1 0 55 := by
  simp only [kernelRun0_A.sl.r_184, r_172_eq, r_176_eq, r_177_eq] <;> rfl

theorem v1326_eq : kernelRun0_A.sl.v1326 (F := F) c arg3 harg3 arg4 harg4 arg7 x0 x1 = C x0 x1 0 54 := by
  unfold kernelRun0_A.sl.v1326 kernelRun0_A.sl.HS0_57 kernelRun0_A.sl.HS0_56 kernelRun0_A.sl.HS0_55
  refine (View.readCov_skip _ _ _ _ _ rfl).trans ((View.readCov_skip _ _ _ _ _ rfl).trans ((View.readCov_cons_toLoadRect _ _ _ _).trans ?_))
  simp only [r_eq, rdK] <;> rfl

theorem r_185_eq : kernelRun0_A.sl.r_185 (F := F) c arg3 harg3 arg4 harg4 arg7 x0 x1 = exp2 (D x0 x1 0 54) := by
  simp only [kernelRun0_A.sl.r_185, r_172_eq, r_176_eq, r_177_eq, v1326_eq] <;> rfl

theorem r_186_eq : kernelRun0_A.sl.r_186 (F := F) c arg3 harg3 arg4 harg4 x0 x1 = B x0 x1 0 57 := by
  simp only [kernelRun0_A.sl.r_186, r_eq, rdK] <;> rfl

theorem r_187_eq : kernelRun0_A.sl.r_187 (F := F) c arg3 harg3 arg4 harg4 x0 x1 = M x0 x1 0 56 := by
  simp only [kernelRun0_A.sl.r_187, r_180_eq, r_184_eq] <;> rfl

theorem v1350_eq : kernelRun0_A.sl.v1350 (F := F) c arg3 harg3 arg4 harg4 arg7 x0 x1 = C x0 x1 0 55 := by
  unfold kernelRun0_A.sl.v1350 kernelRun0_A.sl.HS0_58 kernelRun0_A.sl.HS0_57 kernelRun0_A.sl.HS0_56
  refine (View.readCov_skip _ _ _ _ _ rfl).trans ((View.readCov_skip _ _ _ _ _ rfl).trans ((View.readCov_cons_toLoadRect _ _ _ _).trans ?_))
  simp only [r_179_eq] <;> rfl

theorem r_188_eq : kernelRun0_A.sl.r_188 (F := F) c arg3 harg3 arg4 harg4 arg5 harg5 arg7 x0 x1 x2 = A x0 x1 x2 0 56 := by
  simp only [kernelRun0_A.sl.r_188, r_180_eq, r_181_eq, r_182_eq, r_184_eq, r_185_eq, v1350_eq, rdV] <;> rfl

theorem r_189_eq : kernelRun0_A.sl.r_189 (F := F) c arg3 harg3 arg4 harg4 x0 x1 = B x0 x1 0 58 := by
  simp only [kernelRun0_A.sl.r_189, r_eq, rdK] <;> rfl

theorem r_190_eq : kernelRun0_A.sl.r_190 (F := F) c arg3 harg3 arg4 harg4 x0 x1 = M x0 x1 0 57 := by
  simp only [kernelRun0_A.sl.r_190, r_183_eq, r_187_eq] <;> rfl

theorem v1374_eq : kernelRun0_A.sl.v1374 (F := F) c arg3 harg3 arg4 harg4 arg7 x0 x1 = C x0 x1 0 56 := by
  unfold kernelRun0_A.sl.v1374 kernelRun0_A.sl.HS0_59 kernelRun0_A.sl.HS0_58 kernelRun0_A.sl.HS0_57
  refine (View.readCov_skip _ _ _ _ _ rfl).trans ((View.readCov_skip _ _ _ _ _ rfl).trans ((View.readCov_cons_toLoadRect _ _ _ _).trans ?_))
  simp only [r_eq, rdK] <;> rfl

theorem r_191_eq : kernelRun0_A.sl.r_191 (F := F) c arg3 harg3 arg4 harg4 arg5 harg5 arg7 x0 x1 x2 = A x0 x1 x2 0 57 := by
  simp only [kernelRun0_A.sl.r_191, r_183_eq, r_187_eq, r_188_eq, v1374_eq, rdV] <;> rfl

theorem r_192_eq : kernelRun0_A.sl.r_192 (F := F) c arg3 harg3 arg4 harg4 x0 x1 = B x0 x1 0 59 := by
  simp only [kernelRun0_A.sl.r_192, r_eq, rdK] <;> rfl

theorem r_193_eq : kernelRun0_A.sl.r_193 (F := F) c arg3 harg3 arg4 harg4 x0 x1 = B x0 x1 0 60 := by
  simp only [kernelRun0_A.sl.r_193, r_eq, rdK] <;> rfl

theorem r_194_eq : kernelRun0_A.sl.r_194 (F := F) c arg3 harg3 arg4 harg4 x0 x1 = M x0 x1 0 59 := by
  simp only [kernelRun0_A.sl.r_194, r_186_eq, r_189_eq, r_190_eq] <;> rfl

theorem v1422_eq : kernelRun0_A.sl.v1422 (F := F) c arg3 harg3 arg4 harg4 arg7 x0 x1 = C x0 x1 0 58 := by
  unfold kernelRun0_A.sl.v1422 kernelRun0_A.sl.HS0_61 kernelRun0_A.sl.HS0_60 kernelRun0_A.sl.HS0_59
  refine (View.readCov_skip _ _ _ _ _ rfl).trans ((View.readCov_skip _ _ _ _ _ rfl).trans ((View.readCov_cons_toLoadRect _ _ _ _).trans ?_))
  simp only [r_eq, rdK] <;> rfl

theorem r_195_eq : kernelRun0_A.sl.r_195 (F := F) c arg3 harg3 arg4 harg4 arg7 x0 x1 = truncf .bf16 (exp2 (D x0 x1 0 58)) bitsLt_bf16_f32 := by
  simp only [kernelRun0_A.sl.r_195, r_186_eq, r_189_eq, r_190_eq, v1422_eq] <;> rfl

theorem v1398_eq : kernelRun0_A.sl.v1398 (F := F) c arg3 harg3 arg4 harg4 arg7 x0 x1 = C x0 x1 0 57 := by
  unfold kernelRun0_A.sl.v1398 kernelRun0_A.sl.HS0_60 kernelRun0_A.sl.HS0_59 kernelRun0_A.sl.HS0_58
  refine (View.readCov_skip _ _ _ _ _ rfl).trans ((View.readCov_skip _ _ _ _ _ rfl).trans ((View.readCov_cons_toLoadRect _ _ _ _).trans ?_))
  simp only [r_eq, rdK] <;> rfl

theorem r_196_eq : kernelRun0_A.sl.r_196 (F := F) c arg3 harg3 arg4 harg4 arg5 harg5 arg7 x0 x1 x2 = mulf (broadcastTo S80x512 (exp2 (subf (M x0 x1 0 58) (M x0 x1 0 59))) broadcasts_S1x512_S80x512) (A x0 x1 x2 0 58) := by
  simp only [kernelRun0_A.sl.r_196, r_186_eq, r_189_eq, r_190_eq, r_191_eq, v1398_eq, rdV] <;> rfl

theorem r_197_eq : kernelRun0_A.sl.r_197 (F := F) c arg3 harg3 arg4 harg4 x0 x1 = B x0 x1 0 61 := by
  simp only [kernelRun0_A.sl.r_197, r_eq, rdK] <;> rfl

theorem r_198_eq : kernelRun0_A.sl.r_198 (F := F) c arg3 harg3 arg4 harg4 x0 x1 = M x0 x1 0 60 := by
  simp only [kernelRun0_A.sl.r_198, r_192_eq, r_194_eq] <;> rfl

theorem v1446_eq : kernelRun0_A.sl.v1446 (F := F) c arg3 harg3 arg4 harg4 arg7 x0 x1 = C x0 x1 0 59 := by
  unfold kernelRun0_A.sl.v1446 kernelRun0_A.sl.HS0_62 kernelRun0_A.sl.HS0_61 kernelRun0_A.sl.HS0_60
  refine (View.readCov_skip _ _ _ _ _ rfl).trans ((View.readCov_skip _ _ _ _ _ rfl).trans ((View.readCov_cons_toLoadRect _ _ _ _).trans ?_))
  simp only [r_eq, rdK] <;> rfl

theorem r_199_eq : kernelRun0_A.sl.r_199 (F := F) c arg3 harg3 arg4 harg4 arg5 harg5 arg7 x0 x1 x2 = A x0 x1 x2 0 60 := by
  simp only [kernelRun0_A.sl.r_199, r_192_eq, r_194_eq, r_195_eq, r_196_eq, v1446_eq, rdV] <;> rfl

theorem r_200_eq : kernelRun0_A.sl.r_200 (F := F) c arg3 harg3 arg4 harg4 x0 x1 = S x0 x1 0 62 := by
  simp only [kernelRun0_A.sl.r_200, r_eq, rdK] <;> rfl

theorem r_201_eq : kernelRun0_A.sl.r_201 (F := F) c arg3 harg3 arg4 harg4 x0 x1 = B x0 x1 0 62 := by
  simp only [kernelRun0_A.sl.r_201, r_200_eq] <;> rfl

theorem r_202_eq : kernelRun0_A.sl.r_202 (F := F) c arg3 harg3 arg4 harg4 x0 x1 = M x0 x1 0 61 := by
  simp only [kernelRun0_A.sl.r_202, r_193_eq, r_198_eq] <;> rfl

theorem v1470_eq : kernelRun0_A.sl.v1470 (F := F) c arg3 harg3 arg4 harg4 arg7 x0 x1 = C x0 x1 0 60 := by
  unfold kernelRun0_A.sl.v1470 kernelRun0_A.sl.HS0_63 kernelRun0_A.sl.HS0_62 kernelRun0_A.sl.HS0_61
  refine (View.readCov_skip _ _ _ _ _ rfl).trans ((View.readCov_skip _ _ _ _ _ rfl).trans ((View.readCov_cons_toLoadRect _ _ _ _).trans ?_))
  simp only [r_eq, rdK] <;> rfl

theorem r_203_eq : kernelRun0_A.sl.r_203 (F := F) c arg3 harg3 arg4 harg4 arg5 harg5 arg7 x0 x1 x2 = A x0 x1 x2 0 61 := by
  simp only [kernelRun0_A.sl.r_203, r_193_eq, r_198_eq, r_199_eq, v1470_eq, rdV] <;> rfl

theorem r_204_eq : kernelRun0_A.sl.r_204 (F := F) c arg3 harg3 arg4 harg4 x0 x1 = B x0 x1 0 63 := by
  simp only [kernelRun0_A.sl.r_204, r_eq, rdK] <;> rfl

theorem r_205_eq : kernelRun0_A.sl.r_205 (F := F) c arg3 harg3 arg4 harg4 x0 x1 = M x0 x1 0 62 := by
  simp only [kernelRun0_A.sl.r_205, r_193_eq, r_197_eq, r_198_eq] <;> rfl

theorem v1494_eq : kernelRun0_A.sl.v1494 (F := F) c arg3 harg3 arg4 harg4 arg7 x0 x1 = C x0 x1 0 61 := by
  unfold kernelRun0_A.sl.v1494 kernelRun0_A.sl.HS0_64 kernelRun0_A.sl.HS0_63 kernelRun0_A.sl.HS0_62
  refine (View.readCov_skip _ _ _ _ _ rfl).trans ((View.readCov_skip _ _ _ _ _ rfl).trans ((View.readCov_cons_toLoadRect _ _ _ _).trans ?_))
  simp only [r_eq, rdK] <;> rfl

theorem r_206_eq : kernelRun0_A.sl.r_206 (F := F) c arg3 harg3 arg4 harg4 arg7 x0 x1 = D x0 x1 0 61 := by
  simp only [kernelRun0_A.sl.r_206, r_193_eq, r_197_eq, r_198_eq, v1494_eq] <;> rfl

theorem v1526_eq : kernelRun0_A.sl.v1526 (F := F) c arg3 harg3 arg4 harg4 arg7 x0 x1 = C x0 x1 0 63 := by
  unfold kernelRun0_A.sl.v1526 kernelRun0_A.sl.HS0_64
  refine (View.readCov_cons_toLoadRect _ _ _ _).trans ?_
  simp only [r_eq, rdK] <;> rfl

theorem r_207_eq : kernelRun0_A.sl.r_207 (F := F) c arg3 harg3 arg4 harg4 arg7 x0 x1 = truncf .bf16 (exp2 (D x0 x1 0 63)) bitsLt_bf16_f32 := by
  simp only [kernelRun0_A.sl.r_207, r_201_eq, r_204_eq, r_205_eq, v1526_eq] <;> rfl

theorem v1510_eq : kernelRun0_A.sl.v1510 (F := F) c arg3 harg3 arg4 harg4 arg7 x0 x1 = C x0 x1 0 62 := by
  unfold kernelRun0_A.sl.v1510 kernelRun0_A.sl.HS0_64 kernelRun0_A.sl.HS0_63
  refine (View.readCov_skip _ _ _ _ _ rfl).trans ((View.readCov_cons_toLoadRect _ _ _ _).trans ?_)
  simp only [r_200_eq] <;> rfl

theorem r_208_eq : kernelRun0_A.sl.r_208 (F := F) c arg3 harg3 arg4 harg4 arg5 harg5 arg7 x0 x1 x2 = mulf (broadcastTo S80x512 (exp2 (subf (M x0 x1 0 63) (M x0 x1 0 64))) broadcasts_S1x512_S80x512) (A x0 x1 x2 0 63) := by
  simp only [kernelRun0_A.sl.r_208, r_201_eq, r_202_eq, r_203_eq, r_204_eq, r_205_eq, r_206_eq, v1510_eq, rdV] <;> rfl

end Cert.Kernel4Ideal.Attn

end
-- ==== Proof.AttnTile1.lean ====
/-
The values that the body computes for its second tile, each as a step of the online softmax.
-/
module

public import proofs.«01_k».proof.Proof.AttnTile0

@[expose] public section

set_option maxRecDepth 16384

noncomputable section

namespace Cert.Kernel4Ideal.Attn

open Idealize.ShloMosaic Idealize.ShloMosaic.TcCoe Cert.Kernel4Ideal Cert.Kernel4Ideal.Gen

variable {F : FTy → Type} [FloatOps F]
variable (c : Dev nD) (arg3 : Memref sig .tc .vmem S1x1x128x1024 .bf16) (harg3 : arg3.IsWhole)
  (arg4 : Memref sig .tc .vmem S1x1x16384x128 .bf16) (harg4 : arg4.IsWhole)
  (arg5 : Memref sig .tc .vmem S1x1x32x64x512 .bf16) (harg5 : arg5.IsWhole)
  (arg7 : Memref sig .tc .vmem S4x256x512 .f32)
  (x0 : Vec F S1x1x128x1024 .bf16) (x1 : Vec F S1x1x16384x128 .bf16) (x2 : Vec F S1x1x32x64x512 .bf16)

theorem r_209_eq : kernelRun0_A.sl.r_209 (F := F) c arg3 harg3 x0 = Q x0 512 := by
  simp only [kernelRun0_A.sl.r_209, rdQ] <;> rfl

theorem r_210_eq : kernelRun0_A.sl.r_210 (F := F) c arg3 harg3 arg4 harg4 x0 x1 = B x0 x1 512 0 := by
  simp only [kernelRun0_A.sl.r_210, rdQ, rdK] <;> rfl

theorem r_211_eq : kernelRun0_A.sl.r_211 (F := F) c arg3 harg3 arg4 harg4 x0 x1 = S x0 x1 512 1 := by
  simp only [kernelRun0_A.sl.r_211, rdQ, rdK] <;> rfl

theorem r_212_eq : kernelRun0_A.sl.r_212 (F := F) c arg3 harg3 arg4 harg4 x0 x1 = B x0 x1 512 1 := by
  simp only [kernelRun0_A.sl.r_212, r_211_eq] <;> rfl

theorem r_213_eq : kernelRun0_A.sl.r_213 (F := F) c arg3 harg3 arg4 harg4 x0 x1 = B x0 x1 512 2 := by
  simp only [kernelRun0_A.sl.r_213, r_209_eq, rdK] <;> rfl

theorem r_214_eq : kernelRun0_A.sl.r_214 (F := F) c arg3 harg3 arg4 harg4 x0 x1 = M x0 x1 512 1 := by
  simp only [kernelRun0_A.sl.r_214, r_210_eq] <;> rfl

theorem v1578_eq : kernelRun0_A.sl.v1578 (F := F) c arg3 harg3 arg4 harg4 arg7 x0 x1 = C x0 x1 512 0 := by
  unfold kernelRun0_A.sl.v1578 kernelRun0_A.sl.HS0_67 kernelRun0_A.sl.HS0_65
  refine (View.readCov_skip _ _ _ _ _ rfl).trans ((View.readCov_skip _ _ _ _ _ rfl).trans ((View.readCov_cons_toLoadRect _ _ _ _).trans ?_))
  simp only [rdQ, rdK] <;> rfl

theorem r_215_eq : kernelRun0_A.sl.r_215 (F := F) c arg3 harg3 arg4 harg4 arg5 harg5 arg7 x0 x1 x2 = A x0 x1 x2 512 1 := by
  simp only [kernelRun0_A.sl.r_215, r_210_eq, v1578_eq, rdV] <;> rfl

theorem r_216_eq : kernelRun0_A.sl.r_216 (F := F) c arg3 harg3 arg4 harg4 x0 x1 = S x0 x1 512 3 := by
  simp only [kernelRun0_A.sl.r_216, r_209_eq, rdK] <;> rfl

theorem r_217_eq : kernelRun0_A.sl.r_217 (F := F) c arg3 harg3 arg4 harg4 x0 x1 = B x0 x1 512 3 := by
  simp only [kernelRun0_A.sl.r_217, r_216_eq] <;> rfl

theorem r_218_eq : kernelRun0_A.sl.r_218 (F := F) c arg3 harg3 arg4 harg4 x0 x1 = M x0 x1 512 2 := by
  simp only [kernelRun0_A.sl.r_218, r_212_eq, r_214_eq] <;> rfl

theorem v1602_eq : kernelRun0_A.sl.v1602 (F := F) c arg3 harg3 arg4 harg4 arg7 x0 x1 = C x0 x1 512 1 := by
  unfold kernelRun0_A.sl.v1602 kernelRun0_A.sl.HS0_68 kernelRun0_A.sl.HS0_67
  refine (View.readCov_skip _ _ _ _ _ rfl).trans ((View.readCov_skip _ _ _ _ _ rfl).trans ((View.readCov_cons_toLoadRect _ _ _ _).trans ?_))
  simp only [r_211_eq] <;> rfl

theorem r_219_eq : kernelRun0_A.sl.r_219 (F := F) c arg3 harg3 arg4 harg4 arg5 harg5 arg7 x0 x1 x2 = A x0 x1 x2 512 2 := by
  simp only [kernelRun0_A.sl.r_219, r_212_eq, r_214_eq, r_215_eq, v1602_eq, rdV] <;> rfl

theorem r_220_eq : kernelRun0_A.sl.r_220 (F := F) c arg3 harg3 arg4 harg4 x0 x1 = B x0 x1 512 4 := by
  simp only [kernelRun0_A.sl.r_220, r_209_eq, rdK] <;> rfl

theorem r_221_eq : kernelRun0_A.sl.r_221 (F := F) c arg3 harg3 arg4 harg4 x0 x1 = M x0 x1 512 3 := by
  simp only [kernelRun0_A.sl.r_221, r_212_eq, r_213_eq, r_214_eq] <;> rfl

theorem v1626_eq : kernelRun0_A.sl.v1626 (F := F) c arg3 harg3 arg4 harg4 arg7 x0 x1 = C x0 x1 512 2 := by
  unfold kernelRun0_A.sl.v1626 kernelRun0_A.sl.HS0_69 kernelRun0_A.sl.HS0_68 kernelRun0_A.sl.HS0_67
  refine (View.readCov_skip _ _ _ _ _ rfl).trans ((View.readCov_skip _ _ _ _ _ rfl).trans ((View.readCov_cons_toLoadRect _ _ _ _).trans ?_))
  simp only [r_209_eq, rdK] <;> rfl

theorem r_222_eq : kernelRun0_A.sl.r_222 (F := F) c arg3 harg3 arg4 harg4 arg7 x0 x1 = truncf .bf16 (exp2 (D x0 x1 512 2)) bitsLt_bf16_f32 := by
  simp only [kernelRun0_A.sl.r_222, r_212_eq, r_213_eq, r_214_eq, v1626_eq] <;> rfl

theorem r_223_eq : kernelRun0_A.sl.r_223 (F := F) c arg3 harg3 arg4 harg4 x0 x1 = B x0 x1 512 5 := by
  simp only [kernelRun0_A.sl.r_223, r_209_eq, rdK] <;> rfl

theorem r_224_eq : kernelRun0_A.sl.r_224 (F := F) c arg3 harg3 arg4 harg4 x0 x1 = M x0 x1 512 4 := by
  simp only [kernelRun0_A.sl.r_224, r_217_eq, r_221_eq] <;> rfl

theorem v1650_eq : kernelRun0_A.sl.v1650 (F := F) c arg3 harg3 arg4 harg4 arg7 x0 x1 = C x0 x1 512 3 := by
  unfold kernelRun0_A.sl.v1650 kernelRun0_A.sl.HS0_70 kernelRun0_A.sl.HS0_69 kernelRun0_A.sl.HS0_68
  refine (View.readCov_skip _ _ _ _ _ rfl).trans ((View.readCov_skip _ _ _ _ _ rfl).trans ((View.readCov_cons_toLoadRect _ _ _ _).trans ?_))
  simp only [r_216_eq] <;> rfl

theorem r_225_eq : kernelRun0_A.sl.r_225 (F := F) c arg3 harg3 arg4 harg4 arg5 harg5 arg7 x0 x1 x2 = A x0 x1 x2 512 4 := by
  simp only [kernelRun0_A.sl.r_225, r_217_eq, r_218_eq, r_219_eq, r_221_eq, r_222_eq, v1650_eq, rdV] <;> rfl

theorem r_226_eq : kernelRun0_A.sl.r_226 (F := F) c arg3 harg3 arg4 harg4 x0 x1 = B x0 x1 512 6 := by
  simp only [kernelRun0_A.sl.r_226, r_209_eq, rdK] <;> rfl

theorem r_227_eq : kernelRun0_A.sl.r_227 (F := F) c arg3 harg3 arg4 harg4 x0 x1 = M x0 x1 512 5 := by
  simp only [kernelRun0_A.sl.r_227, r_220_eq, r_224_eq] <;> rfl

theorem v1674_eq : kernelRun0_A.sl.v1674 (F := F) c arg3 harg3 arg4 harg4 arg7 x0 x1 = C x0 x1 512 4 := by
  unfold kernelRun0_A.sl.v1674 kernelRun0_A.sl.HS0_71 kernelRun0_A.sl.HS0_70 kernelRun0_A.sl.HS0_69
  refine (View.readCov_skip _ _ _ _ _ rfl).trans ((View.readCov_skip _ _ _ _ _ rfl).trans ((View.readCov_cons_toLoadRect _ _ _ _).trans ?_))
  simp only [r_209_eq, rdK] <;> rfl

theorem r_228_eq : kernelRun0_A.sl.r_228 (F := F) c arg3 harg3 arg4 harg4 arg5 harg5 arg7 x0 x1 x2 = A x0 x1 x2 512 5 := by
  simp only [kernelRun0_A.sl.r_228, r_220_eq, r_224_eq, r_225_eq, v1674_eq, rdV] <;> rfl

theorem r_229_eq : kernelRun0_A.sl.r_229 (F := F) c arg3 harg3 arg4 harg4 x0 x1 = B x0 x1 512 7 := by
  simp only [kernelRun0_A.sl.r_229, r_209_eq, rdK] <;> rfl

theorem r_230_eq : kernelRun0_A.sl.r_230 (F := F) c arg3 harg3 arg4 harg4 x0 x1 = M x0 x1 512 6 := by
  simp only [kernelRun0_A.sl.r_230, r_220_eq, r_223_eq, r_224_eq] <;> rfl

theorem r_231_eq : kernelRun0_A.sl.r_231 (F := F) c arg3 harg3 arg4 harg4 x0 x1 = B x0 x1 512 8 := by
  simp only [kernelRun0_A.sl.r_231, r_209_eq, rdK] <;> rfl

theorem r_232_eq : kernelRun0_A.sl.r_232 (F := F) c arg3 harg3 arg4 harg4 x0 x1 = M x0 x1 512 7 := by
  simp only [kernelRun0_A.sl.r_232, r_226_eq, r_230_eq] <;> rfl

theorem v1722_eq : kernelRun0_A.sl.v1722 (F := F) c arg3 harg3 arg4 harg4 arg7 x0 x1 = C x0 x1 512 6 := by
  unfold kernelRun0_A.sl.v1722 kernelRun0_A.sl.HS0_73 kernelRun0_A.sl.HS0_72 kernelRun0_A.sl.HS0_71
  refine (View.readCov_skip _ _ _ _ _ rfl).trans ((View.readCov_skip _ _ _ _ _ rfl).trans ((View.readCov_cons_toLoadRect _ _ _ _).trans ?_))
  simp only [r_209_eq, rdK] <;> rfl

theorem r_233_eq : kernelRun0_A.sl.r_233 (F := F) c arg3 harg3 arg4 harg4 arg7 x0 x1 = truncf .bf16 (exp2 (D x0 x1 512 6)) bitsLt_bf16_f32 := by
  simp only [kernelRun0_A.sl.r_233, r_226_eq, r_230_eq, v1722_eq] <;> rfl

theorem v1698_eq : kernelRun0_A.sl.v1698 (F := F) c arg3 harg3 arg4 harg4 arg7 x0 x1 = C x0 x1 512 5 := by
  unfold kernelRun0_A.sl.v1698 kernelRun0_A.sl.HS0_72 kernelRun0_A.sl.HS0_71 kernelRun0_A.sl.HS0_70
  refine (View.readCov_skip _ _ _ _ _ rfl).trans ((View.readCov_skip _ _ _ _ _ rfl).trans ((View.readCov_cons_toLoadRect _ _ _ _).trans ?_))
  simp only [r_209_eq, rdK] <;> rfl

theorem r_234_eq : kernelRun0_A.sl.r_234 (F := F) c arg3 harg3 arg4 harg4 arg5 harg5 arg7 x0 x1 x2 = mulf (broadcastTo S80x512 (exp2 (subf (M x0 x1 512 6) (M x0 x1 512 7))) broadcasts_S1x512_S80x512) (A x0 x1 x2 512 6) := by
  simp only [kernelRun0_A.sl.r_234, r_226_eq, r_227_eq, r_228_eq, r_230_eq, v1698_eq, rdV] <;> rfl

theorem r_235_eq : kernelRun0_A.sl.r_235 (F := F) c arg3 harg3 arg4 harg4 x0 x1 = B x0 x1 512 9 := by
  simp only [kernelRun0_A.sl.r_235, r_209_eq, rdK] <;> rfl

theorem r_236_eq : kernelRun0_A.sl.r_236 (F := F) c arg3 harg3 arg4 harg4 x0 x1 = M x0 x1 512 8 := by
  simp only [kernelRun0_A.sl.r_236, r_229_eq, r_232_eq] <;> rfl

theorem v1746_eq : kernelRun0_A.sl.v1746 (F := F) c arg3 harg3 arg4 harg4 arg7 x0 x1 = C x0 x1 512 7 := by
  unfold kernelRun0_A.sl.v1746 kernelRun0_A.sl.HS0_74 kernelRun0_A.sl.HS0_73 kernelRun0_A.sl.HS0_72
  refine (View.readCov_skip _ _ _ _ _ rfl).trans ((View.readCov_skip _ _ _ _ _ rfl).trans ((View.readCov_cons_toLoadRect _ _ _ _).trans ?_))
  simp only [r_209_eq, rdK] <;> rfl

theorem r_237_eq : kernelRun0_A.sl.r_237 (F := F) c arg3 harg3 arg4 harg4 arg5 harg5 arg7 x0 x1 x2 = A x0 x1 x2 512 8 := by
  simp only [kernelRun0_A.sl.r_237, r_229_eq, r_232_eq, r_233_eq, r_234_eq, v1746_eq, rdV] <;> rfl

theorem r_238_eq : kernelRun0_A.sl.r_238 (F := F) c arg3 harg3 arg4 harg4 x0 x1 = S x0 x1 512 10 := by
  simp only [kernelRun0_A.sl.r_238, r_209_eq, rdK] <;> rfl

theorem r_239_eq : kernelRun0_A.sl.r_239 (F := F) c arg3 harg3 arg4 harg4 x0 x1 = B x0 x1 512 10 := by
  simp only [kernelRun0_A.sl.r_239, r_238_eq] <;> rfl

theorem r_240_eq : kernelRun0_A.sl.r_240 (F := F) c arg3 harg3 arg4 harg4 x0 x1 = M x0 x1 512 9 := by
  simp only [kernelRun0_A.sl.r_240, r_231_eq, r_236_eq] <;> rfl

theorem v1770_eq : kernelRun0_A.sl.v1770 (F := F) c arg3 harg3 arg4 harg4 arg7 x0 x1 = C x0 x1 512 8 := by
  unfold kernelRun0_A.sl.v1770 kernelRun0_A.sl.HS0_75 kernelRun0_A.sl.HS0_74 kernelRun0_A.sl.HS0_73
  refine (View.readCov_skip _ _ _ _ _ rfl).trans ((View.readCov_skip _ _ _ _ _ rfl).trans ((View.readCov_cons_toLoadRect _ _ _ _).trans ?_))
  simp only [r_209_eq, rdK] <;> rfl

theorem r_241_eq : kernelRun0_A.sl.r_241 (F := F) c arg3 harg3 arg4 harg4 arg5 harg5 arg7 x0 x1 x2 = A x0 x1 x2 512 9 := by
  simp only [kernelRun0_A.sl.r_241, r_231_eq, r_236_eq, r_237_eq, v1770_eq, rdV] <;> rfl

theorem r_242_eq : kernelRun0_A.sl.r_242 (F := F) c arg3 harg3 arg4 harg4 x0 x1 = B x0 x1 512 11 := by
  simp only [kernelRun0_A.sl.r_242, r_209_eq, rdK] <;> rfl

theorem r_243_eq : kernelRun0_A.sl.r_243 (F := F) c arg3 harg3 arg4 harg4 x0 x1 = M x0 x1 512 10 := by
  simp only [kernelRun0_A.sl.r_243, r_231_eq, r_235_eq, r_236_eq] <;> rfl

theorem v1794_eq : kernelRun0_A.sl.v1794 (F := F) c arg3 harg3 arg4 harg4 arg7 x0 x1 = C x0 x1 512 9 := by
  unfold kernelRun0_A.sl.v1794 kernelRun0_A.sl.HS0_76 kernelRun0_A.sl.HS0_75 kernelRun0_A.sl.HS0_74
  refine (View.readCov_skip _ _ _ _ _ rfl).trans ((View.readCov_skip _ _ _ _ _ rfl).trans ((View.readCov_cons_toLoadRect _ _ _ _).trans ?_))
  simp only [r_209_eq, rdK] <;> rfl

theorem r_244_eq : kernelRun0_A.sl.r_244 (F := F) c arg3 harg3 arg4 harg4 arg7 x0 x1 = exp2 (D x0 x1 512 9) := by
  simp only [kernelRun0_A.sl.r_244, r_231_eq, r_235_eq, r_236_eq, v1794_eq] <;> rfl

theorem r_245_eq : kernelRun0_A.sl.r_245 (F := F) c arg3 harg3 arg4 harg4 x0 x1 = B x0 x1 512 12 := by
  simp only [kernelRun0_A.sl.r_245, r_209_eq, rdK] <;> rfl

theorem r_246_eq : kernelRun0_A.sl.r_246 (F := F) c arg3 harg3 arg4 harg4 x0 x1 = M x0 x1 512 11 := by
  simp only [kernelRun0_A.sl.r_246, r_239_eq, r_243_eq] <;> rfl

theorem v1818_eq : kernelRun0_A.sl.v1818 (F := F) c arg3 harg3 arg4 harg4 arg7 x0 x1 = C x0 x1 512 10 := by
  unfold kernelRun0_A.sl.v1818 kernelRun0_A.sl.HS0_77 kernelRun0_A.sl.HS0_76 kernelRun0_A.sl.HS0_75
  refine (View.readCov_skip _ _ _ _ _ rfl).trans ((View.readCov_skip _ _ _ _ _ rfl).trans ((View.readCov_cons_toLoadRect _ _ _ _).trans ?_))
  simp only [r_238_eq] <;> rfl

theorem r_247_eq : kernelRun0_A.sl.r_247 (F := F) c arg3 harg3 arg4 harg4 arg5 harg5 arg7 x0 x1 x2 = A x0 x1 x2 512 11 := by
  simp only [kernelRun0_A.sl.r_247, r_239_eq, r_240_eq, r_241_eq, r_243_eq, r_244_eq, v1818_eq, rdV] <;> rfl

theorem r_248_eq : kernelRun0_A.sl.r_248 (F := F) c arg3 harg3 arg4 harg4 x0 x1 = B x0 x1 512 13 := by
  simp only [kernelRun0_A.sl.r_248, r_209_eq, rdK] <;> rfl

theorem r_249_eq : kernelRun0_A.sl.r_249 (F := F) c arg3 harg3 arg4 harg4 x0 x1 = M x0 x1 512 12 := by
  simp only [kernelRun0_A.sl.r_249, r_242_eq, r_246_eq] <;> rfl

theorem v1842_eq : kernelRun0_A.sl.v1842 (F := F) c arg3 harg3 arg4 harg4 arg7 x0 x1 = C x0 x1 512 11 := by
  unfold kernelRun0_A.sl.v1842 kernelRun0_A.sl.HS0_78 kernelRun0_A.sl.HS0_77 kernelRun0_A.sl.HS0_76
  refine (View.readCov_skip _ _ _ _ _ rfl).trans ((View.readCov_skip _ _ _ _ _ rfl).trans ((View.readCov_cons_toLoadRect _ _ _ _).trans ?_))
  simp only [r_209_eq, rdK] <;> rfl

theorem r_250_eq : kernelRun0_A.sl.r_250 (F := F) c arg3 harg3 arg4 harg4 arg5 harg5 arg7 x0 x1 x2 = A x0 x1 x2 512 12 := by
  simp only [kernelRun0_A.sl.r_250, r_242_eq, r_246_eq, r_247_eq, v1842_eq, rdV] <;> rfl

theorem r_251_eq : kernelRun0_A.sl.r_251 (F := F) c arg3 harg3 arg4 harg4 x0 x1 = B x0 x1 512 14 := by
  simp only [kernelRun0_A.sl.r_251, r_209_eq, rdK] <;> rfl

theorem r_252_eq : kernelRun0_A.sl.r_252 (F := F) c arg3 harg3 arg4 harg4 x0 x1 = B x0 x1 512 15 := by
  simp only [kernelRun0_A.sl.r_252, r_209_eq, rdK] <;> rfl

theorem r_253_eq : kernelRun0_A.sl.r_253 (F := F) c arg3 harg3 arg4 harg4 x0 x1 = M x0 x1 512 14 := by
  simp only [kernelRun0_A.sl.r_253, r_245_eq, r_248_eq, r_249_eq] <;> rfl

theorem v1890_eq : kernelRun0_A.sl.v1890 (F := F) c arg3 harg3 arg4 harg4 arg7 x0 x1 = C x0 x1 512 13 := by
  unfold kernelRun0_A.sl.v1890 kernelRun0_A.sl.HS0_80 kernelRun0_A.sl.HS0_79 kernelRun0_A.sl.HS0_78
  refine (View.readCov_skip _ _ _ _ _ rfl).trans ((View.readCov_skip _ _ _ _ _ rfl).trans ((View.readCov_cons_toLoadRect _ _ _ _).trans ?_))
  simp only [r_209_eq, rdK] <;> rfl

theorem r_254_eq : kernelRun0_A.sl.r_254 (F := F) c arg3 harg3 arg4 harg4 arg7 x0 x1 = truncf .bf16 (exp2 (D x0 x1 512 13)) bitsLt_bf16_f32 := by
  simp only [kernelRun0_A.sl.r_254, r_245_eq, r_248_eq, r_249_eq, v1890_eq] <;> rfl

theorem v1866_eq : kernelRun0_A.sl.v1866 (F := F) c arg3 harg3 arg4 harg4 arg7 x0 x1 = C x0 x1 512 12 := by
  unfold kernelRun0_A.sl.v1866 kernelRun0_A.sl.HS0_79 kernelRun0_A.sl.HS0_78 kernelRun0_A.sl.HS0_77
  refine (View.readCov_skip _ _ _ _ _ rfl).trans ((View.readCov_skip _ _ _ _ _ rfl).trans ((View.readCov_cons_toLoadRect _ _ _ _).trans ?_))
  simp only [r_209_eq, rdK] <;> rfl

theorem r_255_eq : kernelRun0_A.sl.r_255 (F := F) c arg3 harg3 arg4 harg4 arg5 harg5 arg7 x0 x1 x2 = mulf (broadcastTo S80x512 (exp2 (subf (M x0 x1 512 13) (M x0 x1 512 14))) broadcasts_S1x512_S80x512) (A x0 x1 x2 512 13) := by
  simp only [kernelRun0_A.sl.r_255, r_245_eq, r_248_eq, r_249_eq, r_250_eq, v1866_eq, rdV] <;> rfl

theorem r_256_eq : kernelRun0_A.sl.r_256 (F := F) c arg3 harg3 arg4 harg4 x0 x1 = B x0 x1 512 16 := by
  simp only [kernelRun0_A.sl.r_256, r_209_eq, rdK] <;> rfl

theorem r_257_eq : kernelRun0_A.sl.r_257 (F := F) c arg3 harg3 arg4 harg4 x0 x1 = M x0 x1 512 15 := by
  simp only [kernelRun0_A.sl.r_257, r_251_eq, r_253_eq] <;> rfl

theorem v1914_eq : kernelRun0_A.sl.v1914 (F := F) c arg3 harg3 arg4 harg4 arg7 x0 x1 = C x0 x1 512 14 := by
  unfold kernelRun0_A.sl.v1914 kernelRun0_A.sl.HS0_81 kernelRun0_A.sl.HS0_80 kernelRun0_A.sl.HS0_79
  refine (View.readCov_skip _ _ _ _ _ rfl).trans ((View.readCov_skip _ _ _ _ _ rfl).trans ((View.readCov_cons_toLoadRect _ _ _ _).trans ?_))
  simp only [r_209_eq, rdK] <;> rfl

theorem r_258_eq : kernelRun0_A.sl.r_258 (F := F) c arg3 harg3 arg4 harg4 arg5 harg5 arg7 x0 x1 x2 = A x0 x1 x2 512 15 := by
  simp only [kernelRun0_A.sl.r_258, r_251_eq, r_253_eq, r_254_eq, r_255_eq, v1914_eq, rdV] <;> rfl

theorem r_259_eq : kernelRun0_A.sl.r_259 (F := F) c arg3 harg3 arg4 harg4 x0 x1 = S x0 x1 512 17 := by
  simp only [kernelRun0_A.sl.r_259, r_209_eq, rdK] <;> rfl

theorem r_260_eq : kernelRun0_A.sl.r_260 (F := F) c arg3 harg3 arg4 harg4 x0 x1 = B x0 x1 512 17 := by
  simp only [kernelRun0_A.sl.r_260, r_259_eq] <;> rfl

theorem r_261_eq : kernelRun0_A.sl.r_261 (F := F) c arg3 harg3 arg4 harg4 x0 x1 = M x0 x1 512 16 := by
  simp only [kernelRun0_A.sl.r_261, r_252_eq, r_257_eq] <;> rfl

theorem v1938_eq : kernelRun0_A.sl.v1938 (F := F) c arg3 harg3 arg4 harg4 arg7 x0 x1 = C x0 x1 512 15 := by
  unfold kernelRun0_A.sl.v1938 kernelRun0_A.sl.HS0_82 kernelRun0_A.sl.HS0_81 kernelRun0_A.sl.HS0_80
  refine (View.readCov_skip _ _ _ _ _ rfl).trans ((View.readCov_skip _ _ _ _ _ rfl).trans ((View.readCov_cons_toLoadRect _ _ _ _).trans ?_))
  simp only [r_209_eq, rdK] <;> rfl

theorem r_262_eq : kernelRun0_A.sl.r_262 (F := F) c arg3 harg3 arg4 harg4 arg5 harg5 arg7 x0 x1 x2 = A x0 x1 x2 512 16 := by
  simp only [kernelRun0_A.sl.r_262, r_252_eq, r_257_eq, r_258_eq, v1938_eq, rdV] <;> rfl

theorem r_263_eq : kernelRun0_A.sl.r_263 (F := F) c arg3 harg3 arg4 harg4 x0 x1 = B x0 x1 512 18 := by
  simp only [kernelRun0_A.sl.r_263, r_209_eq, rdK] <;> rfl

theorem r_264_eq : kernelRun0_A.sl.r_264 (F := F) c arg3 harg3 arg4 harg4 x0 x1 = M x0 x1 512 17 := by
  simp only [kernelRun0_A.sl.r_264, r_252_eq, r_256_eq, r_257_eq] <;> rfl

theorem v1962_eq : kernelRun0_A.sl.v1962 (F := F) c arg3 harg3 arg4 harg4 arg7 x0 x1 = C x0 x1 512 16 := by
  unfold kernelRun0_A.sl.v1962 kernelRun0_A.sl.HS0_83 kernelRun0_A.sl.HS0_82 kernelRun0_A.sl.HS0_81
  refine (View.readCov_skip _ _ _ _ _ rfl).trans ((View.readCov_skip _ _ _ _ _ rfl).trans ((View.readCov_cons_toLoadRect _ _ _ _).trans ?_))
  simp only [r_209_eq, rdK] <;> rfl

theorem r_265_eq : kernelRun0_A.sl.r_265 (F := F) c arg3 harg3 arg4 harg4 arg7 x0 x1 = D x0 x1 512 16 := by
  simp only [kernelRun0_A.sl.r_265, r_252_eq, r_256_eq, r_257_eq, v1962_eq] <;> rfl

theorem r_266_eq : kernelRun0_A.sl.r_266 (F := F) c arg3 harg3 arg4 harg4 x0 x1 = B x0 x1 512 19 := by
  simp only [kernelRun0_A.sl.r_266, r_209_eq, rdK] <;> rfl

theorem r_267_eq : kernelRun0_A.sl.r_267 (F := F) c arg3 harg3 arg4 harg4 x0 x1 = M x0 x1 512 18 := by
  simp only [kernelRun0_A.sl.r_267, r_260_eq, r_264_eq] <;> rfl

theorem v1986_eq : kernelRun0_A.sl.v1986 (F := F) c arg3 harg3 arg4 harg4 arg7 x0 x1 = C x0 x1 512 17 := by
  unfold kernelRun0_A.sl.v1986 kernelRun0_A.sl.HS0_84 kernelRun0_A.sl.HS0_83 kernelRun0_A.sl.HS0_82
  refine (View.readCov_skip _ _ _ _ _ rfl).trans ((View.readCov_skip _ _ _ _ _ rfl).trans ((View.readCov_cons_toLoadRect _ _ _ _).trans ?_))
  simp only [r_259_eq] <;> rfl

theorem r_268_eq : kernelRun0_A.sl.r_268 (F := F) c arg3 harg3 arg4 harg4 arg5 harg5 arg7 x0 x1 x2 = A x0 x1 x2 512 18 := by
  simp only [kernelRun0_A.sl.r_268, r_260_eq, r_261_eq, r_262_eq, r_264_eq, r_265_eq, v1986_eq, rdV] <;> rfl

theorem r_269_eq : kernelRun0_A.sl.r_269 (F := F) c arg3 harg3 arg4 harg4 x0 x1 = B x0 x1 512 20 := by
  simp only [kernelRun0_A.sl.r_269, r_209_eq, rdK] <;> rfl

theorem r_270_eq : kernelRun0_A.sl.r_270 (F := F) c arg3 harg3 arg4 harg4 x0 x1 = M x0 x1 512 19 := by
  simp only [kernelRun0_A.sl.r_270, r_263_eq, r_267_eq] <;> rfl

theorem v2010_eq : kernelRun0_A.sl.v2010 (F := F) c arg3 harg3 arg4 harg4 arg7 x0 x1 = C x0 x1 512 18 := by
  unfold kernelRun0_A.sl.v2010 kernelRun0_A.sl.HS0_85 kernelRun0_A.sl.HS0_84 kernelRun0_A.sl.HS0_83
  refine (View.readCov_skip _ _ _ _ _ rfl).trans ((View.readCov_skip _ _ _ _ _ rfl).trans ((View.readCov_cons_toLoadRect _ _ _ _).trans ?_))
  simp only [r_209_eq, rdK] <;> rfl

theorem r_271_eq : kernelRun0_A.sl.r_271 (F := F) c arg3 harg3 arg4 harg4 arg5 harg5 arg7 x0 x1 x2 = A x0 x1 x2 512 19 := by
  simp only [kernelRun0_A.sl.r_271, r_263_eq, r_267_eq, r_268_eq, v2010_eq, rdV] <;> rfl

theorem r_272_eq : kernelRun0_A.sl.r_272 (F := F) c arg3 harg3 arg4 harg4 x0 x1 = R x0 x1 512 21 := by
  simp only [kernelRun0_A.sl.r_272, r_209_eq, rdK] <;> rfl

theorem r_273_eq : kernelRun0_A.sl.r_273 (F := F) c arg3 harg3 arg4 harg4 x0 x1 = B x0 x1 512 21 := by
  simp only [kernelRun0_A.sl.r_273, r_272_eq] <;> rfl

theorem r_274_eq : kernelRun0_A.sl.r_274 (F := F) c arg3 harg3 arg4 harg4 x0 x1 = B x0 x1 512 22 := by
  simp only [kernelRun0_A.sl.r_274, r_209_eq, rdK] <;> rfl

theorem r_275_eq : kernelRun0_A.sl.r_275 (F := F) c arg3 harg3 arg4 harg4 x0 x1 = M x0 x1 512 21 := by
  simp only [kernelRun0_A.sl.r_275, r_266_eq, r_269_eq, r_270_eq] <;> rfl

theorem v2058_eq : kernelRun0_A.sl.v2058 (F := F) c arg3 harg3 arg4 harg4 arg7 x0 x1 = C x0 x1 512 20 := by
  unfold kernelRun0_A.sl.v2058 kernelRun0_A.sl.HS0_87 kernelRun0_A.sl.HS0_86 kernelRun0_A.sl.HS0_85
  refine (View.readCov_skip _ _ _ _ _ rfl).trans ((View.readCov_skip _ _ _ _ _ rfl).trans ((View.readCov_cons_toLoadRect _ _ _ _).trans ?_))
  simp only [r_209_eq, rdK] <;> rfl

theorem r_276_eq : kernelRun0_A.sl.r_276 (F := F) c arg3 harg3 arg4 harg4 arg7 x0 x1 = truncf .bf16 (exp2 (D x0 x1 512 20)) bitsLt_bf16_f32 := by
  simp only [kernelRun0_A.sl.r_276, r_266_eq, r_269_eq, r_270_eq, v2058_eq] <;> rfl

theorem v2034_eq : kernelRun0_A.sl.v2034 (F := F) c arg3 harg3 arg4 harg4 arg7 x0 x1 = C x0 x1 512 19 := by
  unfold kernelRun0_A.sl.v2034 kernelRun0_A.sl.HS0_86 kernelRun0_A.sl.HS0_85 kernelRun0_A.sl.HS0_84
  refine (View.readCov_skip _ _ _ _ _ rfl).trans ((View.readCov_skip _ _ _ _ _ rfl).trans ((View.readCov_cons_toLoadRect _ _ _ _).trans ?_))
  simp only [r_209_eq, rdK] <;> rfl

theorem r_277_eq : kernelRun0_A.sl.r_277 (F := F) c arg3 harg3 arg4 harg4 arg5 harg5 arg7 x0 x1 x2 = mulf (broadcastTo S80x512 (exp2 (subf (M x0 x1 512 20) (M x0 x1 512 21))) broadcasts_S1x512_S80x512) (A x0 x1 x2 512 20) := by
  simp only [kernelRun0_A.sl.r_277, r_266_eq, r_269_eq, r_270_eq, r_271_eq, v2034_eq, rdV] <;> rfl

theorem r_278_eq : kernelRun0_A.sl.r_278 (F := F) c arg3 harg3 arg4 harg4 x0 x1 = B x0 x1 512 23 := by
  simp only [kernelRun0_A.sl.r_278, r_209_eq, rdK] <;> rfl

theorem r_279_eq : kernelRun0_A.sl.r_279 (F := F) c arg3 harg3 arg4 harg4 x0 x1 = M x0 x1 512 22 := by
  simp only [kernelRun0_A.sl.r_279, r_273_eq, r_275_eq] <;> rfl

theorem v2082_eq : kernelRun0_A.sl.v2082 (F := F) c arg3 harg3 arg4 harg4 arg7 x0 x1 = C x0 x1 512 21 := by
  unfold kernelRun0_A.sl.v2082 kernelRun0_A.sl.HS0_88 kernelRun0_A.sl.HS0_87 kernelRun0_A.sl.HS0_86
  refine (View.readCov_skip _ _ _ _ _ rfl).trans ((View.readCov_skip _ _ _ _ _ rfl).trans ((View.readCov_cons_toLoadRect _ _ _ _).trans ?_))
  simp only [r_209_eq, rdK] <;> rfl

theorem r_280_eq : kernelRun0_A.sl.r_280 (F := F) c arg3 harg3 arg4 harg4 arg5 harg5 arg7 x0 x1 x2 = A x0 x1 x2 512 22 := by
  simp only [kernelRun0_A.sl.r_280, r_273_eq, r_275_eq, r_276_eq, r_277_eq, v2082_eq, rdV] <;> rfl

theorem r_281_eq : kernelRun0_A.sl.r_281 (F := F) c arg3 harg3 arg4 harg4 x0 x1 = S x0 x1 512 24 := by
  simp only [kernelRun0_A.sl.r_281, r_209_eq, rdK] <;> rfl

theorem r_282_eq : kernelRun0_A.sl.r_282 (F := F) c arg3 harg3 arg4 harg4 x0 x1 = B x0 x1 512 24 := by
  simp only [kernelRun0_A.sl.r_282, r_281_eq] <;> rfl

theorem r_283_eq : kernelRun0_A.sl.r_283 (F := F) c arg3 harg3 arg4 harg4 x0 x1 = M x0 x1 512 23 := by
  simp only [kernelRun0_A.sl.r_283, r_274_eq, r_279_eq] <;> rfl

theorem v2106_eq : kernelRun0_A.sl.v2106 (F := F) c arg3 harg3 arg4 harg4 arg7 x0 x1 = C x0 x1 512 22 := by
  unfold kernelRun0_A.sl.v2106 kernelRun0_A.sl.HS0_89 kernelRun0_A.sl.HS0_88 kernelRun0_A.sl.HS0_87
  refine (View.readCov_skip _ _ _ _ _ rfl).trans ((View.readCov_skip _ _ _ _ _ rfl).trans ((View.readCov_cons_toLoadRect _ _ _ _).trans ?_))
  simp only [r_209_eq, rdK] <;> rfl

theorem r_284_eq : kernelRun0_A.sl.r_284 (F := F) c arg3 harg3 arg4 harg4 arg5 harg5 arg7 x0 x1 x2 = A x0 x1 x2 512 23 := by
  simp only [kernelRun0_A.sl.r_284, r_274_eq, r_279_eq, r_280_eq, v2106_eq, rdV] <;> rfl

theorem r_285_eq : kernelRun0_A.sl.r_285 (F := F) c arg3 harg3 arg4 harg4 x0 x1 = B x0 x1 512 25 := by
  simp only [kernelRun0_A.sl.r_285, r_209_eq, rdK] <;> rfl

theorem r_286_eq : kernelRun0_A.sl.r_286 (F := F) c arg3 harg3 arg4 harg4 x0 x1 = M x0 x1 512 24 := by
  simp only [kernelRun0_A.sl.r_286, r_274_eq, r_278_eq, r_279_eq] <;> rfl

theorem v2130_eq : kernelRun0_A.sl.v2130 (F := F) c arg3 harg3 arg4 harg4 arg7 x0 x1 = C x0 x1 512 23 := by
  unfold kernelRun0_A.sl.v2130 kernelRun0_A.sl.HS0_90 kernelRun0_A.sl.HS0_89 kernelRun0_A.sl.HS0_88
  refine (View.readCov_skip _ _ _ _ _ rfl).trans ((View.readCov_skip _ _ _ _ _ rfl).trans ((View.readCov_cons_toLoadRect _ _ _ _).trans ?_))
  simp only [r_209_eq, rdK] <;> rfl

theorem r_287_eq : kernelRun0_A.sl.r_287 (F := F) c arg3 harg3 arg4 harg4 arg7 x0 x1 = shapeCast S256x512 (C x0 x1 512 23) shapeCasts_S1x256x512_S256x512 := by
  simp only [kernelRun0_A.sl.r_287, v2130_eq] <;> rfl

theorem r_288_eq : kernelRun0_A.sl.r_288 (F := F) c arg3 harg3 arg4 harg4 x0 x1 = broadcastTo S256x512 (M x0 x1 512 24) broadcasts_S1x512_S256x512 := by
  simp only [kernelRun0_A.sl.r_288, r_274_eq, r_278_eq, r_279_eq] <;> rfl

theorem r_289_eq : kernelRun0_A.sl.r_289 (F := F) c arg3 harg3 arg4 harg4 x0 x1 = B x0 x1 512 26 := by
  simp only [kernelRun0_A.sl.r_289, r_209_eq, rdK] <;> rfl

theorem r_290_eq : kernelRun0_A.sl.r_290 (F := F) c arg3 harg3 arg4 harg4 x0 x1 = M x0 x1 512 25 := by
  simp only [kernelRun0_A.sl.r_290, r_282_eq, r_286_eq] <;> rfl

theorem r_291_eq : kernelRun0_A.sl.r_291 (F := F) c arg3 harg3 arg4 harg4 arg5 harg5 arg7 x0 x1 x2 = mulf (broadcastTo S80x512 (exp2 (subf (M x0 x1 512 24) (M x0 x1 512 25))) broadcasts_S1x512_S80x512) (A x0 x1 x2 512 24) := by
  simp only [kernelRun0_A.sl.r_291, r_282_eq, r_283_eq, r_284_eq, r_286_eq, r_287_eq, r_288_eq, rdV] <;> rfl

theorem v2154_eq : kernelRun0_A.sl.v2154 (F := F) c arg3 harg3 arg4 harg4 arg7 x0 x1 = C x0 x1 512 24 := by
  unfold kernelRun0_A.sl.v2154 kernelRun0_A.sl.HS0_91 kernelRun0_A.sl.HS0_90 kernelRun0_A.sl.HS0_89
  refine (View.readCov_skip _ _ _ _ _ rfl).trans ((View.readCov_skip _ _ _ _ _ rfl).trans ((View.readCov_cons_toLoadRect _ _ _ _).trans ?_))
  simp only [r_281_eq] <;> rfl

theorem r_292_eq : kernelRun0_A.sl.r_292 (F := F) c arg3 harg3 arg4 harg4 arg5 harg5 arg7 x0 x1 x2 = matmul dot_S80x256_S256x512_S80x512_1_0_0_1_n_n none (V x2 24) (truncf .bf16 (exp2 (D x0 x1 512 24)) bitsLt_bf16_f32) (constant S80x512 .f32 0x00000000#32) := by
  simp only [kernelRun0_A.sl.r_292, r_282_eq, r_286_eq, v2154_eq, rdV] <;> rfl

theorem r_293_eq : kernelRun0_A.sl.r_293 (F := F) c arg3 harg3 arg4 harg4 x0 x1 = B x0 x1 512 27 := by
  simp only [kernelRun0_A.sl.r_293, r_209_eq, rdK] <;> rfl

theorem r_294_eq : kernelRun0_A.sl.r_294 (F := F) c arg3 harg3 arg4 harg4 x0 x1 = M x0 x1 512 26 := by
  simp only [kernelRun0_A.sl.r_294, r_285_eq, r_290_eq] <;> rfl

theorem v2178_eq : kernelRun0_A.sl.v2178 (F := F) c arg3 harg3 arg4 harg4 arg7 x0 x1 = C x0 x1 512 25 := by
  unfold kernelRun0_A.sl.v2178 kernelRun0_A.sl.HS0_92 kernelRun0_A.sl.HS0_91 kernelRun0_A.sl.HS0_90
  refine (View.readCov_skip _ _ _ _ _ rfl).trans ((View.readCov_skip _ _ _ _ _ rfl).trans ((View.readCov_cons_toLoadRect _ _ _ _).trans ?_))
  simp only [r_209_eq, rdK] <;> rfl

theorem r_295_eq : kernelRun0_A.sl.r_295 (F := F) c arg3 harg3 arg4 harg4 arg5 harg5 arg7 x0 x1 x2 = A x0 x1 x2 512 26 := by
  simp only [kernelRun0_A.sl.r_295, r_285_eq, r_290_eq, r_291_eq, r_292_eq, v2178_eq, rdV] <;> rfl

theorem r_296_eq : kernelRun0_A.sl.r_296 (F := F) c arg3 harg3 arg4 harg4 x0 x1 = S x0 x1 512 28 := by
  simp only [kernelRun0_A.sl.r_296, r_209_eq, rdK] <;> rfl

theorem r_297_eq : kernelRun0_A.sl.r_297 (F := F) c arg3 harg3 arg4 harg4 x0 x1 = B x0 x1 512 28 := by
  simp only [kernelRun0_A.sl.r_297, r_296_eq] <;> rfl

theorem r_298_eq : kernelRun0_A.sl.r_298 (F := F) c arg3 harg3 arg4 harg4 x0 x1 = B x0 x1 512 29 := by
  simp only [kernelRun0_A.sl.r_298, r_209_eq, rdK] <;> rfl

theorem r_299_eq : kernelRun0_A.sl.r_299 (F := F) c arg3 harg3 arg4 harg4 x0 x1 = M x0 x1 512 28 := by
  simp only [kernelRun0_A.sl.r_299, r_289_eq, r_293_eq, r_294_eq] <;> rfl

theorem v2226_eq : kernelRun0_A.sl.v2226 (F := F) c arg3 harg3 arg4 harg4 arg7 x0 x1 = C x0 x1 512 27 := by
  unfold kernelRun0_A.sl.v2226 kernelRun0_A.sl.HS0_94 kernelRun0_A.sl.HS0_93 kernelRun0_A.sl.HS0_92
  refine (View.readCov_skip _ _ _ _ _ rfl).trans ((View.readCov_skip _ _ _ _ _ rfl).trans ((View.readCov_cons_toLoadRect _ _ _ _).trans ?_))
  simp only [r_209_eq, rdK] <;> rfl

theorem r_300_eq : kernelRun0_A.sl.r_300 (F := F) c arg3 harg3 arg4 harg4 arg7 x0 x1 = truncf .bf16 (exp2 (D x0 x1 512 27)) bitsLt_bf16_f32 := by
  simp only [kernelRun0_A.sl.r_300, r_289_eq, r_293_eq, r_294_eq, v2226_eq] <;> rfl

theorem v2202_eq : kernelRun0_A.sl.v2202 (F := F) c arg3 harg3 arg4 harg4 arg7 x0 x1 = C x0 x1 512 26 := by
  unfold kernelRun0_A.sl.v2202 kernelRun0_A.sl.HS0_93 kernelRun0_A.sl.HS0_92 kernelRun0_A.sl.HS0_91
  refine (View.readCov_skip _ _ _ _ _ rfl).trans ((View.readCov_skip _ _ _ _ _ rfl).trans ((View.readCov_cons_toLoadRect _ _ _ _).trans ?_))
  simp only [r_209_eq, rdK] <;> rfl

theorem r_301_eq : kernelRun0_A.sl.r_301 (F := F) c arg3 harg3 arg4 harg4 arg5 harg5 arg7 x0 x1 x2 = mulf (broadcastTo S80x512 (exp2 (subf (M x0 x1 512 27) (M x0 x1 512 28))) broadcasts_S1x512_S80x512) (A x0 x1 x2 512 27) := by
  simp only [kernelRun0_A.sl.r_301, r_289_eq, r_293_eq, r_294_eq, r_295_eq, v2202_eq, rdV] <;> rfl

theorem r_302_eq : kernelRun0_A.sl.r_302 (F := F) c arg3 harg3 arg4 harg4 x0 x1 = B x0 x1 512 30 := by
  simp only [kernelRun0_A.sl.r_302, r_209_eq, rdK] <;> rfl

theorem r_303_eq : kernelRun0_A.sl.r_303 (F := F) c arg3 harg3 arg4 harg4 x0 x1 = M x0 x1 512 29 := by
  simp only [kernelRun0_A.sl.r_303, r_297_eq, r_299_eq] <;> rfl

theorem v2250_eq : kernelRun0_A.sl.v2250 (F := F) c arg3 harg3 arg4 harg4 arg7 x0 x1 = C x0 x1 512 28 := by
  unfold kernelRun0_A.sl.v2250 kernelRun0_A.sl.HS0_95 kernelRun0_A.sl.HS0_94 kernelRun0_A.sl.HS0_93
  refine (View.readCov_skip _ _ _ _ _ rfl).trans ((View.readCov_skip _ _ _ _ _ rfl).trans ((View.readCov_cons_toLoadRect _ _ _ _).trans ?_))
  simp only [r_209_eq, rdK] <;> rfl

theorem r_304_eq : kernelRun0_A.sl.r_304 (F := F) c arg3 harg3 arg4 harg4 arg5 harg5 arg7 x0 x1 x2 = A x0 x1 x2 512 29 := by
  simp only [kernelRun0_A.sl.r_304, r_297_eq, r_299_eq, r_300_eq, r_301_eq, v2250_eq, rdV] <;> rfl

theorem r_305_eq : kernelRun0_A.sl.r_305 (F := F) c arg4 harg4 x1 = shapeCast S256x128 (kB x1 7936) shapeCasts_S1x1x256x128_S256x128 := by
  simp only [kernelRun0_A.sl.r_305, rdK] <;> rfl

theorem r_306_eq : kernelRun0_A.sl.r_306 (F := F) c arg3 harg3 arg4 harg4 x0 x1 = B x0 x1 512 31 := by
  simp only [kernelRun0_A.sl.r_306, r_209_eq, r_305_eq, kernelRun0_A.sl.cst_257] <;> rfl

theorem r_307_eq : kernelRun0_A.sl.r_307 (F := F) c arg3 harg3 arg4 harg4 x0 x1 = M x0 x1 512 30 := by
  simp only [kernelRun0_A.sl.r_307, r_298_eq, r_303_eq] <;> rfl

theorem v2274_eq : kernelRun0_A.sl.v2274 (F := F) c arg3 harg3 arg4 harg4 arg7 x0 x1 = C x0 x1 512 29 := by
  unfold kernelRun0_A.sl.v2274 kernelRun0_A.sl.HS0_96 kernelRun0_A.sl.HS0_95 kernelRun0_A.sl.HS0_94
  refine (View.readCov_skip _ _ _ _ _ rfl).trans ((View.readCov_skip _ _ _ _ _ rfl).trans ((View.readCov_cons_toLoadRect _ _ _ _).trans ?_))
  simp only [r_209_eq, rdK] <;> rfl

theorem r_308_eq : kernelRun0_A.sl.r_308 (F := F) c arg3 harg3 arg4 harg4 arg5 harg5 arg7 x0 x1 x2 = A x0 x1 x2 512 30 := by
  simp only [kernelRun0_A.sl.r_308, r_298_eq, r_303_eq, r_304_eq, v2274_eq, rdV] <;> rfl

theorem r_309_eq : kernelRun0_A.sl.r_309 (F := F) c arg3 harg3 arg4 harg4 x0 x1 = B x0 x1 512 32 := by
  simp only [kernelRun0_A.sl.r_309, r_209_eq, rdK] <;> rfl

theorem r_310_eq : kernelRun0_A.sl.r_310 (F := F) c arg3 harg3 arg4 harg4 x0 x1 = M x0 x1 512 31 := by
  simp only [kernelRun0_A.sl.r_310, r_298_eq, r_302_eq, r_303_eq] <;> rfl

theorem v2298_eq : kernelRun0_A.sl.v2298 (F := F) c arg3 harg3 arg4 harg4 arg7 x0 x1 = C x0 x1 512 30 := by
  unfold kernelRun0_A.sl.v2298 kernelRun0_A.sl.HS0_97 kernelRun0_A.sl.HS0_96 kernelRun0_A.sl.HS0_95
  refine (View.readCov_skip _ _ _ _ _ rfl).trans ((View.readCov_skip _ _ _ _ _ rfl).trans ((View.readCov_cons_toLoadRect _ _ _ _).trans ?_))
  simp only [r_209_eq, rdK] <;> rfl

theorem r_311_eq : kernelRun0_A.sl.r_311 (F := F) c arg3 harg3 arg4 harg4 arg7 x0 x1 = shapeCast S256x512 (C x0 x1 512 30) shapeCasts_S1x256x512_S256x512 := by
  simp only [kernelRun0_A.sl.r_311, v2298_eq] <;> rfl

theorem r_312_eq : kernelRun0_A.sl.r_312 (F := F) c arg3 harg3 arg4 harg4 x0 x1 = B x0 x1 512 33 := by
  simp only [kernelRun0_A.sl.r_312, r_209_eq, rdK] <;> rfl

theorem r_313_eq : kernelRun0_A.sl.r_313 (F := F) c arg3 harg3 arg4 harg4 x0 x1 = M x0 x1 512 32 := by
  simp only [kernelRun0_A.sl.r_313, r_306_eq, r_310_eq] <;> rfl

theorem v2322_eq : kernelRun0_A.sl.v2322 (F := F) c arg3 harg3 arg4 harg4 arg7 x0 x1 = C x0 x1 512 31 := by
  unfold kernelRun0_A.sl.v2322 kernelRun0_A.sl.HS0_98 kernelRun0_A.sl.HS0_97 kernelRun0_A.sl.HS0_96
  refine (View.readCov_skip _ _ _ _ _ rfl).trans ((View.readCov_skip _ _ _ _ _ rfl).trans ((View.readCov_cons_toLoadRect _ _ _ _).trans ?_))
  simp only [r_209_eq, r_305_eq, kernelRun0_A.sl.cst_257] <;> rfl

theorem r_314_eq : kernelRun0_A.sl.r_314 (F := F) c arg3 harg3 arg4 harg4 arg7 x0 x1 = truncf .bf16 (exp2 (D x0 x1 512 31)) bitsLt_bf16_f32 := by
  simp only [kernelRun0_A.sl.r_314, r_306_eq, r_310_eq, v2322_eq] <;> rfl

theorem r_315_eq : kernelRun0_A.sl.r_315 (F := F) c arg3 harg3 arg4 harg4 arg5 harg5 arg7 x0 x1 x2 = mulf (broadcastTo S80x512 (exp2 (subf (M x0 x1 512 31) (M x0 x1 512 32))) broadcasts_S1x512_S80x512) (A x0 x1 x2 512 31) := by
  simp only [kernelRun0_A.sl.r_315, r_306_eq, r_307_eq, r_308_eq, r_310_eq, r_311_eq, rdV] <;> rfl

theorem r_316_eq : kernelRun0_A.sl.r_316 (F := F) c arg5 harg5 x2 = V x2 31 := by
  simp only [kernelRun0_A.sl.r_316, rdV] <;> rfl

theorem r_317_eq : kernelRun0_A.sl.r_317 (F := F) c arg3 harg3 arg4 harg4 x0 x1 = B x0 x1 512 34 := by
  simp only [kernelRun0_A.sl.r_317, r_209_eq, rdK] <;> rfl

theorem r_318_eq : kernelRun0_A.sl.r_318 (F := F) c arg3 harg3 arg4 harg4 x0 x1 = M x0 x1 512 33 := by
  simp only [kernelRun0_A.sl.r_318, r_309_eq, r_313_eq] <;> rfl

theorem v2346_eq : kernelRun0_A.sl.v2346 (F := F) c arg3 harg3 arg4 harg4 arg7 x0 x1 = C x0 x1 512 32 := by
  unfold kernelRun0_A.sl.v2346 kernelRun0_A.sl.HS0_99 kernelRun0_A.sl.HS0_98 kernelRun0_A.sl.HS0_97
  refine (View.readCov_skip _ _ _ _ _ rfl).trans ((View.readCov_skip _ _ _ _ _ rfl).trans ((View.readCov_cons_toLoadRect _ _ _ _).trans ?_))
  simp only [r_209_eq, rdK] <;> rfl

theorem r_319_eq : kernelRun0_A.sl.r_319 (F := F) c arg3 harg3 arg4 harg4 arg5 harg5 arg7 x0 x1 x2 = A x0 x1 x2 512 33 := by
  simp only [kernelRun0_A.sl.r_319, r_309_eq, r_313_eq, r_314_eq, r_315_eq, r_316_eq, v2346_eq, kernelRun0_A.sl.cst_302, rdV] <;> rfl

theorem r_320_eq : kernelRun0_A.sl.r_320 (F := F) c arg3 harg3 arg4 harg4 x0 x1 = S x0 x1 512 35 := by
  simp only [kernelRun0_A.sl.r_320, r_209_eq, rdK] <;> rfl

theorem r_321_eq : kernelRun0_A.sl.r_321 (F := F) c arg3 harg3 arg4 harg4 x0 x1 = B x0 x1 512 35 := by
  simp only [kernelRun0_A.sl.r_321, r_320_eq] <;> rfl

theorem r_322_eq : kernelRun0_A.sl.r_322 (F := F) c arg3 harg3 arg4 harg4 x0 x1 = B x0 x1 512 36 := by
  simp only [kernelRun0_A.sl.r_322, r_209_eq, rdK] <;> rfl

theorem r_323_eq : kernelRun0_A.sl.r_323 (F := F) c arg3 harg3 arg4 harg4 x0 x1 = M x0 x1 512 35 := by
  simp only [kernelRun0_A.sl.r_323, r_312_eq, r_317_eq, r_318_eq] <;> rfl

theorem v2394_eq : kernelRun0_A.sl.v2394 (F := F) c arg3 harg3 arg4 harg4 arg7 x0 x1 = C x0 x1 512 34 := by
  unfold kernelRun0_A.sl.v2394 kernelRun0_A.sl.HS0_101 kernelRun0_A.sl.HS0_100 kernelRun0_A.sl.HS0_99
  refine (View.readCov_skip _ _ _ _ _ rfl).trans ((View.readCov_skip _ _ _ _ _ rfl).trans ((View.readCov_cons_toLoadRect _ _ _ _).trans ?_))
  simp only [r_209_eq, rdK] <;> rfl

theorem r_324_eq : kernelRun0_A.sl.r_324 (F := F) c arg3 harg3 arg4 harg4 arg7 x0 x1 = truncf .bf16 (exp2 (D x0 x1 512 34)) bitsLt_bf16_f32 := by
  simp only [kernelRun0_A.sl.r_324, r_312_eq, r_317_eq, r_318_eq, v2394_eq] <;> rfl

theorem v2370_eq : kernelRun0_A.sl.v2370 (F := F) c arg3 harg3 arg4 harg4 arg7 x0 x1 = C x0 x1 512 33 := by
  unfold kernelRun0_A.sl.v2370 kernelRun0_A.sl.HS0_100 kernelRun0_A.sl.HS0_99 kernelRun0_A.sl.HS0_98
  refine (View.readCov_skip _ _ _ _ _ rfl).trans ((View.readCov_skip _ _ _ _ _ rfl).trans ((View.readCov_cons_toLoadRect _ _ _ _).trans ?_))
  simp only [r_209_eq, rdK] <;> rfl

theorem r_325_eq : kernelRun0_A.sl.r_325 (F := F) c arg3 harg3 arg4 harg4 arg5 harg5 arg7 x0 x1 x2 = mulf (broadcastTo S80x512 (exp2 (subf (M x0 x1 512 34) (M x0 x1 512 35))) broadcasts_S1x512_S80x512) (A x0 x1 x2 512 34) := by
  simp only [kernelRun0_A.sl.r_325, r_312_eq, r_317_eq, r_318_eq, r_319_eq, v2370_eq, rdV] <;> rfl

theorem r_326_eq : kernelRun0_A.sl.r_326 (F := F) c arg3 harg3 arg4 harg4 x0 x1 = B x0 x1 512 37 := by
  simp only [kernelRun0_A.sl.r_326, r_209_eq, rdK] <;> rfl

theorem r_327_eq : kernelRun0_A.sl.r_327 (F := F) c arg3 harg3 arg4 harg4 x0 x1 = M x0 x1 512 36 := by
  simp only [kernelRun0_A.sl.r_327, r_321_eq, r_323_eq] <;> rfl

theorem v2418_eq : kernelRun0_A.sl.v2418 (F := F) c arg3 harg3 arg4 harg4 arg7 x0 x1 = C x0 x1 512 35 := by
  unfold kernelRun0_A.sl.v2418 kernelRun0_A.sl.HS0_102 kernelRun0_A.sl.HS0_101 kernelRun0_A.sl.HS0_100
  refine (View.readCov_skip _ _ _ _ _ rfl).trans ((View.readCov_skip _ _ _ _ _ rfl).trans ((View.readCov_cons_toLoadRect _ _ _ _).trans ?_))
  simp only [r_209_eq, rdK] <;> rfl

theorem r_328_eq : kernelRun0_A.sl.r_328 (F := F) c arg3 harg3 arg4 harg4 arg5 harg5 arg7 x0 x1 x2 = A x0 x1 x2 512 36 := by
  simp only [kernelRun0_A.sl.r_328, r_321_eq, r_323_eq, r_324_eq, r_325_eq, v2418_eq, rdV] <;> rfl

theorem r_329_eq : kernelRun0_A.sl.r_329 (F := F) c arg4 harg4 x1 = shapeCast S256x128 (kB x1 9728) shapeCasts_S1x1x256x128_S256x128 := by
  simp only [kernelRun0_A.sl.r_329, rdK] <;> rfl

theorem r_330_eq : kernelRun0_A.sl.r_330 (F := F) c arg3 harg3 arg4 harg4 x0 x1 = B x0 x1 512 38 := by
  simp only [kernelRun0_A.sl.r_330, r_209_eq, r_329_eq] <;> rfl

theorem r_331_eq : kernelRun0_A.sl.r_331 (F := F) c arg3 harg3 arg4 harg4 x0 x1 = M x0 x1 512 37 := by
  simp only [kernelRun0_A.sl.r_331, r_322_eq, r_327_eq] <;> rfl

theorem v2442_eq : kernelRun0_A.sl.v2442 (F := F) c arg3 harg3 arg4 harg4 arg7 x0 x1 = C x0 x1 512 36 := by
  unfold kernelRun0_A.sl.v2442 kernelRun0_A.sl.HS0_103 kernelRun0_A.sl.HS0_102 kernelRun0_A.sl.HS0_101
  refine (View.readCov_skip _ _ _ _ _ rfl).trans ((View.readCov_skip _ _ _ _ _ rfl).trans ((View.readCov_cons_toLoadRect _ _ _ _).trans ?_))
  simp only [r_209_eq, rdK] <;> rfl

theorem r_332_eq : kernelRun0_A.sl.r_332 (F := F) c arg3 harg3 arg4 harg4 arg5 harg5 arg7 x0 x1 x2 = A x0 x1 x2 512 37 := by
  simp only [kernelRun0_A.sl.r_332, r_322_eq, r_327_eq, r_328_eq, v2442_eq, rdV] <;> rfl

theorem r_333_eq : kernelRun0_A.sl.r_333 (F := F) c arg3 harg3 arg4 harg4 x0 x1 = B x0 x1 512 39 := by
  simp only [kernelRun0_A.sl.r_333, r_209_eq, rdK] <;> rfl

theorem r_334_eq : kernelRun0_A.sl.r_334 (F := F) c arg3 harg3 arg4 harg4 x0 x1 = M x0 x1 512 38 := by
  simp only [kernelRun0_A.sl.r_334, r_322_eq, r_326_eq, r_327_eq] <;> rfl

theorem r_335_eq : kernelRun0_A.sl.r_335 (F := F) c arg3 harg3 arg4 harg4 x0 x1 = B x0 x1 512 40 := by
  simp only [kernelRun0_A.sl.r_335, r_209_eq, rdK] <;> rfl

theorem r_336_eq : kernelRun0_A.sl.r_336 (F := F) c arg3 harg3 arg4 harg4 x0 x1 = M x0 x1 512 39 := by
  simp only [kernelRun0_A.sl.r_336, r_330_eq, r_334_eq] <;> rfl

theorem v2490_eq : kernelRun0_A.sl.v2490 (F := F) c arg3 harg3 arg4 harg4 arg7 x0 x1 = C x0 x1 512 38 := by
  unfold kernelRun0_A.sl.v2490 kernelRun0_A.sl.HS0_105 kernelRun0_A.sl.HS0_104 kernelRun0_A.sl.HS0_103
  refine (View.readCov_skip _ _ _ _ _ rfl).trans ((View.readCov_skip _ _ _ _ _ rfl).trans ((View.readCov_cons_toLoadRect _ _ _ _).trans ?_))
  simp only [r_209_eq, r_329_eq] <;> rfl

theorem r_337_eq : kernelRun0_A.sl.r_337 (F := F) c arg3 harg3 arg4 harg4 arg7 x0 x1 = truncf .bf16 (exp2 (D x0 x1 512 38)) bitsLt_bf16_f32 := by
  simp only [kernelRun0_A.sl.r_337, r_330_eq, r_334_eq, v2490_eq] <;> rfl

theorem v2466_eq : kernelRun0_A.sl.v2466 (F := F) c arg3 harg3 arg4 harg4 arg7 x0 x1 = C x0 x1 512 37 := by
  unfold kernelRun0_A.sl.v2466 kernelRun0_A.sl.HS0_104 kernelRun0_A.sl.HS0_103 kernelRun0_A.sl.HS0_102
  refine (View.readCov_skip _ _ _ _ _ rfl).trans ((View.readCov_skip _ _ _ _ _ rfl).trans ((View.readCov_cons_toLoadRect _ _ _ _).trans ?_))
  simp only [r_209_eq, rdK] <;> rfl

theorem r_338_eq : kernelRun0_A.sl.r_338 (F := F) c arg3 harg3 arg4 harg4 arg5 harg5 arg7 x0 x1 x2 = mulf (broadcastTo S80x512 (exp2 (subf (M x0 x1 512 38) (M x0 x1 512 39))) broadcasts_S1x512_S80x512) (A x0 x1 x2 512 38) := by
  simp only [kernelRun0_A.sl.r_338, r_330_eq, r_331_eq, r_332_eq, r_334_eq, v2466_eq, rdV] <;> rfl

theorem r_339_eq : kernelRun0_A.sl.r_339 (F := F) c arg5 harg5 x2 = V x2 38 := by
  simp only [kernelRun0_A.sl.r_339, rdV] <;> rfl

theorem r_340_eq : kernelRun0_A.sl.r_340 (F := F) c arg3 harg3 arg4 harg4 x0 x1 = B x0 x1 512 41 := by
  simp only [kernelRun0_A.sl.r_340, r_209_eq, rdK] <;> rfl

theorem r_341_eq : kernelRun0_A.sl.r_341 (F := F) c arg3 harg3 arg4 harg4 x0 x1 = M x0 x1 512 40 := by
  simp only [kernelRun0_A.sl.r_341, r_333_eq, r_336_eq] <;> rfl

theorem v2514_eq : kernelRun0_A.sl.v2514 (F := F) c arg3 harg3 arg4 harg4 arg7 x0 x1 = C x0 x1 512 39 := by
  unfold kernelRun0_A.sl.v2514 kernelRun0_A.sl.HS0_106 kernelRun0_A.sl.HS0_105 kernelRun0_A.sl.HS0_104
  refine (View.readCov_skip _ _ _ _ _ rfl).trans ((View.readCov_skip _ _ _ _ _ rfl).trans ((View.readCov_cons_toLoadRect _ _ _ _).trans ?_))
  simp only [r_209_eq, rdK] <;> rfl

theorem r_342_eq : kernelRun0_A.sl.r_342 (F := F) c arg3 harg3 arg4 harg4 arg5 harg5 arg7 x0 x1 x2 = A x0 x1 x2 512 40 := by
  simp only [kernelRun0_A.sl.r_342, r_333_eq, r_336_eq, r_337_eq, r_338_eq, r_339_eq, v2514_eq, rdV] <;> rfl

theorem r_343_eq : kernelRun0_A.sl.r_343 (F := F) c arg3 harg3 arg4 harg4 x0 x1 = S x0 x1 512 42 := by
  simp only [kernelRun0_A.sl.r_343, r_209_eq, rdK] <;> rfl

theorem r_344_eq : kernelRun0_A.sl.r_344 (F := F) c arg3 harg3 arg4 harg4 x0 x1 = C x0 x1 512 42 := by
  simp only [kernelRun0_A.sl.r_344, r_209_eq, rdK] <;> rfl

theorem r_345_eq : kernelRun0_A.sl.r_345 (F := F) c arg3 harg3 arg4 harg4 x0 x1 = B x0 x1 512 42 := by
  simp only [kernelRun0_A.sl.r_345, r_343_eq] <;> rfl

theorem v2538_eq : kernelRun0_A.sl.v2538 (F := F) c arg3 harg3 arg4 harg4 arg7 x0 x1 = C x0 x1 512 40 := by
  unfold kernelRun0_A.sl.v2538 kernelRun0_A.sl.HS0_107 kernelRun0_A.sl.HS0_106 kernelRun0_A.sl.HS0_105
  refine (View.readCov_skip _ _ _ _ _ rfl).trans ((View.readCov_skip _ _ _ _ _ rfl).trans ((View.readCov_cons_toLoadRect _ _ _ _).trans ?_))
  simp only [r_209_eq, rdK] <;> rfl

theorem r_346_eq : kernelRun0_A.sl.r_346 (F := F) c arg3 harg3 arg4 harg4 arg5 harg5 arg7 x0 x1 x2 = A x0 x1 x2 512 41 := by
  simp only [kernelRun0_A.sl.r_346, r_335_eq, r_341_eq, r_342_eq, v2538_eq, rdV] <;> rfl

theorem r_347_eq : kernelRun0_A.sl.r_347 (F := F) c arg3 harg3 arg4 harg4 x0 x1 = B x0 x1 512 43 := by
  simp only [kernelRun0_A.sl.r_347, r_209_eq, rdK] <;> rfl

theorem r_348_eq : kernelRun0_A.sl.r_348 (F := F) c arg3 harg3 arg4 harg4 x0 x1 = M x0 x1 512 42 := by
  simp only [kernelRun0_A.sl.r_348, r_335_eq, r_340_eq, r_341_eq] <;> rfl

theorem v2562_eq : kernelRun0_A.sl.v2562 (F := F) c arg3 harg3 arg4 harg4 arg7 x0 x1 = C x0 x1 512 41 := by
  unfold kernelRun0_A.sl.v2562 kernelRun0_A.sl.HS0_108 kernelRun0_A.sl.HS0_107 kernelRun0_A.sl.HS0_106
  refine (View.readCov_skip _ _ _ _ _ rfl).trans ((View.readCov_skip _ _ _ _ _ rfl).trans ((View.readCov_cons_toLoadRect _ _ _ _).trans ?_))
  simp only [r_209_eq, rdK] <;> rfl

theorem r_349_eq : kernelRun0_A.sl.r_349 (F := F) c arg3 harg3 arg4 harg4 arg7 x0 x1 = truncf .bf16 (exp2 (D x0 x1 512 41)) bitsLt_bf16_f32 := by
  simp only [kernelRun0_A.sl.r_349, r_335_eq, r_340_eq, r_341_eq, v2562_eq] <;> rfl

theorem r_350_eq : kernelRun0_A.sl.r_350 (F := F) c arg3 harg3 arg4 harg4 x0 x1 = broadcastTo S80x512 (exp2 (subf (M x0 x1 512 41) (M x0 x1 512 42))) broadcasts_S1x512_S80x512 := by
  simp only [kernelRun0_A.sl.r_350, r_335_eq, r_340_eq, r_341_eq] <;> rfl

theorem r_351_eq : kernelRun0_A.sl.r_351 (F := F) c arg3 harg3 arg4 harg4 x0 x1 = B x0 x1 512 44 := by
  simp only [kernelRun0_A.sl.r_351, r_209_eq, rdK] <;> rfl

theorem r_352_eq : kernelRun0_A.sl.r_352 (F := F) c arg3 harg3 arg4 harg4 x0 x1 = M x0 x1 512 43 := by
  simp only [kernelRun0_A.sl.r_352, r_345_eq, r_348_eq] <;> rfl

theorem v2586_eq : kernelRun0_A.sl.v2586 (F := F) c arg3 harg3 arg4 harg4 arg7 x0 x1 = C x0 x1 512 42 := by
  unfold kernelRun0_A.sl.v2586 kernelRun0_A.sl.HS0_109 kernelRun0_A.sl.HS0_108 kernelRun0_A.sl.HS0_107
  refine (View.readCov_skip _ _ _ _ _ rfl).trans ((View.readCov_skip _ _ _ _ _ rfl).trans ((View.readCov_cons_toLoadRect _ _ _ _).trans ?_))
  simp only [r_344_eq] <;> rfl

theorem r_353_eq : kernelRun0_A.sl.r_353 (F := F) c arg3 harg3 arg4 harg4 arg5 harg5 arg7 x0 x1 x2 = A x0 x1 x2 512 43 := by
  simp only [kernelRun0_A.sl.r_353, r_345_eq, r_346_eq, r_348_eq, r_349_eq, r_350_eq, v2586_eq, rdV] <;> rfl

theorem r_354_eq : kernelRun0_A.sl.r_354 (F := F) c arg4 harg4 x1 = kB x1 11520 := by
  simp only [kernelRun0_A.sl.r_354, rdK] <;> rfl

theorem r_355_eq : kernelRun0_A.sl.r_355 (F := F) c arg3 harg3 arg4 harg4 x0 x1 = B x0 x1 512 45 := by
  simp only [kernelRun0_A.sl.r_355, r_209_eq, r_354_eq] <;> rfl

theorem r_356_eq : kernelRun0_A.sl.r_356 (F := F) c arg3 harg3 arg4 harg4 x0 x1 = M x0 x1 512 44 := by
  simp only [kernelRun0_A.sl.r_356, r_347_eq, r_352_eq] <;> rfl

theorem v2610_eq : kernelRun0_A.sl.v2610 (F := F) c arg3 harg3 arg4 harg4 arg7 x0 x1 = C x0 x1 512 43 := by
  unfold kernelRun0_A.sl.v2610 kernelRun0_A.sl.HS0_110 kernelRun0_A.sl.HS0_109 kernelRun0_A.sl.HS0_108
  refine (View.readCov_skip _ _ _ _ _ rfl).trans ((View.readCov_skip _ _ _ _ _ rfl).trans ((View.readCov_cons_toLoadRect _ _ _ _).trans ?_))
  simp only [r_209_eq, rdK] <;> rfl

theorem r_357_eq : kernelRun0_A.sl.r_357 (F := F) c arg3 harg3 arg4 harg4 arg5 harg5 arg7 x0 x1 x2 = A x0 x1 x2 512 44 := by
  simp only [kernelRun0_A.sl.r_357, r_347_eq, r_352_eq, r_353_eq, v2610_eq, rdV] <;> rfl

theorem r_358_eq : kernelRun0_A.sl.r_358 (F := F) c arg3 harg3 arg4 harg4 x0 x1 = B x0 x1 512 46 := by
  simp only [kernelRun0_A.sl.r_358, r_209_eq, rdK] <;> rfl

theorem r_359_eq : kernelRun0_A.sl.r_359 (F := F) c arg3 harg3 arg4 harg4 x0 x1 = M x0 x1 512 45 := by
  simp only [kernelRun0_A.sl.r_359, r_347_eq, r_351_eq, r_352_eq] <;> rfl

theorem r_360_eq : kernelRun0_A.sl.r_360 (F := F) c arg3 harg3 arg4 harg4 x0 x1 = B x0 x1 512 47 := by
  simp only [kernelRun0_A.sl.r_360, r_209_eq, rdK] <;> rfl

theorem r_361_eq : kernelRun0_A.sl.r_361 (F := F) c arg3 harg3 arg4 harg4 x0 x1 = M x0 x1 512 46 := by
  simp only [kernelRun0_A.sl.r_361, r_355_eq, r_359_eq] <;> rfl

theorem v2658_eq : kernelRun0_A.sl.v2658 (F := F) c arg3 harg3 arg4 harg4 arg7 x0 x1 = C x0 x1 512 45 := by
  unfold kernelRun0_A.sl.v2658 kernelRun0_A.sl.HS0_112 kernelRun0_A.sl.HS0_111 kernelRun0_A.sl.HS0_110
  refine (View.readCov_skip _ _ _ _ _ rfl).trans ((View.readCov_skip _ _ _ _ _ rfl).trans ((View.readCov_cons_toLoadRect _ _ _ _).trans ?_))
  simp only [r_209_eq, r_354_eq] <;> rfl

theorem r_362_eq : kernelRun0_A.sl.r_362 (F := F) c arg3 harg3 arg4 harg4 arg7 x0 x1 = truncf .bf16 (exp2 (D x0 x1 512 45)) bitsLt_bf16_f32 := by
  simp only [kernelRun0_A.sl.r_362, r_355_eq, r_359_eq, v2658_eq] <;> rfl

theorem v2634_eq : kernelRun0_A.sl.v2634 (F := F) c arg3 harg3 arg4 harg4 arg7 x0 x1 = C x0 x1 512 44 := by
  unfold kernelRun0_A.sl.v2634 kernelRun0_A.sl.HS0_111 kernelRun0_A.sl.HS0_110 kernelRun0_A.sl.HS0_109
  refine (View.readCov_skip _ _ _ _ _ rfl).trans ((View.readCov_skip _ _ _ _ _ rfl).trans ((View.readCov_cons_toLoadRect _ _ _ _).trans ?_))
  simp only [r_209_eq, rdK] <;> rfl

theorem r_363_eq : kernelRun0_A.sl.r_363 (F := F) c arg3 harg3 arg4 harg4 arg5 harg5 arg7 x0 x1 x2 = mulf (broadcastTo S80x512 (exp2 (subf (M x0 x1 512 45) (M x0 x1 512 46))) broadcasts_S1x512_S80x512) (A x0 x1 x2 512 45) := by
  simp only [kernelRun0_A.sl.r_363, r_355_eq, r_356_eq, r_357_eq, r_359_eq, v2634_eq, rdV] <;> rfl

theorem r_364_eq : kernelRun0_A.sl.r_364 (F := F) c arg5 harg5 x2 = shapeCast S64x256 (vB x2 22 256) shapeCasts_S1x1x1x64x256_S64x256 := by
  simp only [kernelRun0_A.sl.r_364, rdV] <;> rfl

theorem r_365_eq : kernelRun0_A.sl.r_365 (F := F) c arg3 harg3 arg4 harg4 x0 x1 = B x0 x1 512 48 := by
  simp only [kernelRun0_A.sl.r_365, r_209_eq, rdK] <;> rfl

theorem r_366_eq : kernelRun0_A.sl.r_366 (F := F) c arg3 harg3 arg4 harg4 x0 x1 = M x0 x1 512 47 := by
  simp only [kernelRun0_A.sl.r_366, r_358_eq, r_361_eq] <;> rfl

theorem v2682_eq : kernelRun0_A.sl.v2682 (F := F) c arg3 harg3 arg4 harg4 arg7 x0 x1 = C x0 x1 512 46 := by
  unfold kernelRun0_A.sl.v2682 kernelRun0_A.sl.HS0_113 kernelRun0_A.sl.HS0_112 kernelRun0_A.sl.HS0_111
  refine (View.readCov_skip _ _ _ _ _ rfl).trans ((View.readCov_skip _ _ _ _ _ rfl).trans ((View.readCov_cons_toLoadRect _ _ _ _).trans ?_))
  simp only [r_209_eq, rdK] <;> rfl

theorem r_367_eq : kernelRun0_A.sl.r_367 (F := F) c arg3 harg3 arg4 harg4 arg5 harg5 arg7 x0 x1 x2 = A x0 x1 x2 512 47 := by
  simp only [kernelRun0_A.sl.r_367, r_358_eq, r_361_eq, r_362_eq, r_363_eq, r_364_eq, v2682_eq, rdV] <;> rfl

theorem r_368_eq : kernelRun0_A.sl.r_368 (F := F) c arg3 harg3 arg4 harg4 x0 x1 = S x0 x1 512 49 := by
  simp only [kernelRun0_A.sl.r_368, r_209_eq, rdK] <;> rfl

theorem r_369_eq : kernelRun0_A.sl.r_369 (F := F) c arg3 harg3 arg4 harg4 x0 x1 = B x0 x1 512 49 := by
  simp only [kernelRun0_A.sl.r_369, r_368_eq] <;> rfl

theorem v2706_eq : kernelRun0_A.sl.v2706 (F := F) c arg3 harg3 arg4 harg4 arg7 x0 x1 = C x0 x1 512 47 := by
  unfold kernelRun0_A.sl.v2706 kernelRun0_A.sl.HS0_114 kernelRun0_A.sl.HS0_113 kernelRun0_A.sl.HS0_112
  refine (View.readCov_skip _ _ _ _ _ rfl).trans ((View.readCov_skip _ _ _ _ _ rfl).trans ((View.readCov_cons_toLoadRect _ _ _ _).trans ?_))
  simp only [r_209_eq, rdK] <;> rfl

theorem r_370_eq : kernelRun0_A.sl.r_370 (F := F) c arg3 harg3 arg4 harg4 arg5 harg5 arg7 x0 x1 x2 = A x0 x1 x2 512 48 := by
  simp only [kernelRun0_A.sl.r_370, r_360_eq, r_366_eq, r_367_eq, v2706_eq, rdV] <;> rfl

theorem r_371_eq : kernelRun0_A.sl.r_371 (F := F) c arg3 harg3 arg4 harg4 x0 x1 = B x0 x1 512 50 := by
  simp only [kernelRun0_A.sl.r_371, r_209_eq, rdK] <;> rfl

theorem r_372_eq : kernelRun0_A.sl.r_372 (F := F) c arg3 harg3 arg4 harg4 x0 x1 = M x0 x1 512 49 := by
  simp only [kernelRun0_A.sl.r_372, r_360_eq, r_365_eq, r_366_eq] <;> rfl

theorem v2730_eq : kernelRun0_A.sl.v2730 (F := F) c arg3 harg3 arg4 harg4 arg7 x0 x1 = C x0 x1 512 48 := by
  unfold kernelRun0_A.sl.v2730 kernelRun0_A.sl.HS0_115 kernelRun0_A.sl.HS0_114 kernelRun0_A.sl.HS0_113
  refine (View.readCov_skip _ _ _ _ _ rfl).trans ((View.readCov_skip _ _ _ _ _ rfl).trans ((View.readCov_cons_toLoadRect _ _ _ _).trans ?_))
  simp only [r_209_eq, rdK] <;> rfl

theorem r_373_eq : kernelRun0_A.sl.r_373 (F := F) c arg3 harg3 arg4 harg4 arg7 x0 x1 = truncf .bf16 (exp2 (D x0 x1 512 48)) bitsLt_bf16_f32 := by
  simp only [kernelRun0_A.sl.r_373, r_360_eq, r_365_eq, r_366_eq, v2730_eq] <;> rfl

theorem r_374_eq : kernelRun0_A.sl.r_374 (F := F) c arg3 harg3 arg4 harg4 x0 x1 = exp2 (subf (M x0 x1 512 48) (M x0 x1 512 49)) := by
  simp only [kernelRun0_A.sl.r_374, r_360_eq, r_365_eq, r_366_eq] <;> rfl

theorem r_375_eq : kernelRun0_A.sl.r_375 (F := F) c arg3 harg3 arg4 harg4 x0 x1 = B x0 x1 512 51 := by
  simp only [kernelRun0_A.sl.r_375, r_209_eq, rdK] <;> rfl

theorem r_376_eq : kernelRun0_A.sl.r_376 (F := F) c arg3 harg3 arg4 harg4 x0 x1 = M x0 x1 512 50 := by
  simp only [kernelRun0_A.sl.r_376, r_369_eq, r_372_eq] <;> rfl

theorem v2754_eq : kernelRun0_A.sl.v2754 (F := F) c arg3 harg3 arg4 harg4 arg7 x0 x1 = C x0 x1 512 49 := by
  unfold kernelRun0_A.sl.v2754 kernelRun0_A.sl.HS0_116 kernelRun0_A.sl.HS0_115 kernelRun0_A.sl.HS0_114
  refine (View.readCov_skip _ _ _ _ _ rfl).trans ((View.readCov_skip _ _ _ _ _ rfl).trans ((View.readCov_cons_toLoadRect _ _ _ _).trans ?_))
  simp only [r_368_eq] <;> rfl

theorem r_377_eq : kernelRun0_A.sl.r_377 (F := F) c arg3 harg3 arg4 harg4 arg5 harg5 arg7 x0 x1 x2 = A x0 x1 x2 512 50 := by
  simp only [kernelRun0_A.sl.r_377, r_369_eq, r_370_eq, r_372_eq, r_373_eq, r_374_eq, v2754_eq, rdV] <;> rfl

theorem r_378_eq : kernelRun0_A.sl.r_378 (F := F) c arg3 harg3 arg4 harg4 x0 x1 = B x0 x1 512 52 := by
  simp only [kernelRun0_A.sl.r_378, r_209_eq, rdK] <;> rfl

theorem r_379_eq : kernelRun0_A.sl.r_379 (F := F) c arg3 harg3 arg4 harg4 x0 x1 = M x0 x1 512 51 := by
  simp only [kernelRun0_A.sl.r_379, r_371_eq, r_376_eq] <;> rfl

theorem v2778_eq : kernelRun0_A.sl.v2778 (F := F) c arg3 harg3 arg4 harg4 arg7 x0 x1 = C x0 x1 512 50 := by
  unfold kernelRun0_A.sl.v2778 kernelRun0_A.sl.HS0_117 kernelRun0_A.sl.HS0_116 kernelRun0_A.sl.HS0_115
  refine (View.readCov_skip _ _ _ _ _ rfl).trans ((View.readCov_skip _ _ _ _ _ rfl).trans ((View.readCov_cons_toLoadRect _ _ _ _).trans ?_))
  simp only [r_209_eq, rdK] <;> rfl

theorem r_380_eq : kernelRun0_A.sl.r_380 (F := F) c arg3 harg3 arg4 harg4 arg5 harg5 arg7 x0 x1 x2 = A x0 x1 x2 512 51 := by
  simp only [kernelRun0_A.sl.r_380, r_371_eq, r_376_eq, r_377_eq, v2778_eq, rdV] <;> rfl

theorem r_381_eq : kernelRun0_A.sl.r_381 (F := F) c arg3 harg3 arg4 harg4 x0 x1 = B x0 x1 512 53 := by
  simp only [kernelRun0_A.sl.r_381, r_209_eq, rdK] <;> rfl

theorem r_382_eq : kernelRun0_A.sl.r_382 (F := F) c arg3 harg3 arg4 harg4 x0 x1 = M x0 x1 512 52 := by
  simp only [kernelRun0_A.sl.r_382, r_371_eq, r_375_eq, r_376_eq] <;> rfl

theorem r_383_eq : kernelRun0_A.sl.r_383 (F := F) c arg3 harg3 arg4 harg4 x0 x1 = B x0 x1 512 54 := by
  simp only [kernelRun0_A.sl.r_383, r_209_eq, rdK] <;> rfl

theorem r_384_eq : kernelRun0_A.sl.r_384 (F := F) c arg3 harg3 arg4 harg4 x0 x1 = M x0 x1 512 53 := by
  simp only [kernelRun0_A.sl.r_384, r_378_eq, r_382_eq] <;> rfl

theorem v2826_eq : kernelRun0_A.sl.v2826 (F := F) c arg3 harg3 arg4 harg4 arg7 x0 x1 = C x0 x1 512 52 := by
  unfold kernelRun0_A.sl.v2826 kernelRun0_A.sl.HS0_119 kernelRun0_A.sl.HS0_118 kernelRun0_A.sl.HS0_117
  refine (View.readCov_skip _ _ _ _ _ rfl).trans ((View.readCov_skip _ _ _ _ _ rfl).trans ((View.readCov_cons_toLoadRect _ _ _ _).trans ?_))
  simp only [r_209_eq, rdK] <;> rfl

theorem r_385_eq : kernelRun0_A.sl.r_385 (F := F) c arg3 harg3 arg4 harg4 arg7 x0 x1 = truncf .bf16 (exp2 (D x0 x1 512 52)) bitsLt_bf16_f32 := by
  simp only [kernelRun0_A.sl.r_385, r_378_eq, r_382_eq, v2826_eq] <;> rfl

theorem v2802_eq : kernelRun0_A.sl.v2802 (F := F) c arg3 harg3 arg4 harg4 arg7 x0 x1 = C x0 x1 512 51 := by
  unfold kernelRun0_A.sl.v2802 kernelRun0_A.sl.HS0_118 kernelRun0_A.sl.HS0_117 kernelRun0_A.sl.HS0_116
  refine (View.readCov_skip _ _ _ _ _ rfl).trans ((View.readCov_skip _ _ _ _ _ rfl).trans ((View.readCov_cons_toLoadRect _ _ _ _).trans ?_))
  simp only [r_209_eq, rdK] <;> rfl

theorem r_386_eq : kernelRun0_A.sl.r_386 (F := F) c arg3 harg3 arg4 harg4 arg5 harg5 arg7 x0 x1 x2 = mulf (broadcastTo S80x512 (exp2 (subf (M x0 x1 512 52) (M x0 x1 512 53))) broadcasts_S1x512_S80x512) (A x0 x1 x2 512 52) := by
  simp only [kernelRun0_A.sl.r_386, r_378_eq, r_379_eq, r_380_eq, r_382_eq, v2802_eq, rdV] <;> rfl

theorem r_387_eq : kernelRun0_A.sl.r_387 (F := F) c arg5 harg5 x2 = vB x2 26 0 := by
  simp only [kernelRun0_A.sl.r_387, rdV] <;> rfl

theorem r_388_eq : kernelRun0_A.sl.r_388 (F := F) c arg3 harg3 arg4 harg4 x0 x1 = B x0 x1 512 55 := by
  simp only [kernelRun0_A.sl.r_388, r_209_eq, rdK] <;> rfl

theorem r_389_eq : kernelRun0_A.sl.r_389 (F := F) c arg3 harg3 arg4 harg4 x0 x1 = M x0 x1 512 54 := by
  simp only [kernelRun0_A.sl.r_389, r_381_eq, r_384_eq] <;> rfl

theorem v2850_eq : kernelRun0_A.sl.v2850 (F := F) c arg3 harg3 arg4 harg4 arg7 x0 x1 = C x0 x1 512 53 := by
  unfold kernelRun0_A.sl.v2850 kernelRun0_A.sl.HS0_120 kernelRun0_A.sl.HS0_119 kernelRun0_A.sl.HS0_118
  refine (View.readCov_skip _ _ _ _ _ rfl).trans ((View.readCov_skip _ _ _ _ _ rfl).trans ((View.readCov_cons_toLoadRect _ _ _ _).trans ?_))
  simp only [r_209_eq, rdK] <;> rfl

theorem r_390_eq : kernelRun0_A.sl.r_390 (F := F) c arg3 harg3 arg4 harg4 arg5 harg5 arg7 x0 x1 x2 = A x0 x1 x2 512 54 := by
  simp only [kernelRun0_A.sl.r_390, r_381_eq, r_384_eq, r_385_eq, r_386_eq, r_387_eq, v2850_eq, rdV] <;> rfl

theorem r_391_eq : kernelRun0_A.sl.r_391 (F := F) c arg3 harg3 arg4 harg4 x0 x1 = S x0 x1 512 56 := by
  simp only [kernelRun0_A.sl.r_391, r_209_eq, rdK] <;> rfl

theorem r_392_eq : kernelRun0_A.sl.r_392 (F := F) c arg3 harg3 arg4 harg4 x0 x1 = B x0 x1 512 56 := by
  simp only [kernelRun0_A.sl.r_392, r_391_eq] <;> rfl

theorem v2874_eq : kernelRun0_A.sl.v2874 (F := F) c arg3 harg3 arg4 harg4 arg7 x0 x1 = C x0 x1 512 54 := by
  unfold kernelRun0_A.sl.v2874 kernelRun0_A.sl.HS0_121 kernelRun0_A.sl.HS0_120 kernelRun0_A.sl.HS0_119
  refine (View.readCov_skip _ _ _ _ _ rfl).trans ((View.readCov_skip _ _ _ _ _ rfl).trans ((View.readCov_cons_toLoadRect _ _ _ _).trans ?_))
  simp only [r_209_eq, rdK] <;> rfl

theorem r_393_eq : kernelRun0_A.sl.r_393 (F := F) c arg3 harg3 arg4 harg4 arg5 harg5 arg7 x0 x1 x2 = A x0 x1 x2 512 55 := by
  simp only [kernelRun0_A.sl.r_393, r_383_eq, r_389_eq, r_390_eq, v2874_eq, rdV] <;> rfl

theorem r_394_eq : kernelRun0_A.sl.r_394 (F := F) c arg3 harg3 arg4 harg4 x0 x1 = B x0 x1 512 57 := by
  simp only [kernelRun0_A.sl.r_394, r_209_eq, rdK] <;> rfl

theorem r_395_eq : kernelRun0_A.sl.r_395 (F := F) c arg3 harg3 arg4 harg4 x0 x1 = M x0 x1 512 56 := by
  simp only [kernelRun0_A.sl.r_395, r_383_eq, r_388_eq, r_389_eq] <;> rfl

theorem v2898_eq : kernelRun0_A.sl.v2898 (F := F) c arg3 harg3 arg4 harg4 arg7 x0 x1 = C x0 x1 512 55 := by
  unfold kernelRun0_A.sl.v2898 kernelRun0_A.sl.HS0_122 kernelRun0_A.sl.HS0_121 kernelRun0_A.sl.HS0_120
  refine (View.readCov_skip _ _ _ _ _ rfl).trans ((View.readCov_skip _ _ _ _ _ rfl).trans ((View.readCov_cons_toLoadRect _ _ _ _).trans ?_))
  simp only [r_209_eq, rdK] <;> rfl

theorem r_396_eq : kernelRun0_A.sl.r_396 (F := F) c arg3 harg3 arg4 harg4 arg7 x0 x1 = truncf .bf16 (exp2 (D x0 x1 512 55)) bitsLt_bf16_f32 := by
  simp only [kernelRun0_A.sl.r_396, r_383_eq, r_388_eq, r_389_eq, v2898_eq] <;> rfl

theorem r_397_eq : kernelRun0_A.sl.r_397 (F := F) c arg3 harg3 arg4 harg4 x0 x1 = subf (M x0 x1 512 55) (M x0 x1 512 56) := by
  simp only [kernelRun0_A.sl.r_397, r_383_eq, r_388_eq, r_389_eq] <;> rfl

theorem r_398_eq : kernelRun0_A.sl.r_398 (F := F) c arg3 harg3 arg4 harg4 x0 x1 = B x0 x1 512 58 := by
  simp only [kernelRun0_A.sl.r_398, r_209_eq, rdK] <;> rfl

theorem r_399_eq : kernelRun0_A.sl.r_399 (F := F) c arg3 harg3 arg4 harg4 x0 x1 = M x0 x1 512 57 := by
  simp only [kernelRun0_A.sl.r_399, r_392_eq, r_395_eq] <;> rfl

theorem v2922_eq : kernelRun0_A.sl.v2922 (F := F) c arg3 harg3 arg4 harg4 arg7 x0 x1 = C x0 x1 512 56 := by
  unfold kernelRun0_A.sl.v2922 kernelRun0_A.sl.HS0_123 kernelRun0_A.sl.HS0_122 kernelRun0_A.sl.HS0_121
  refine (View.readCov_skip _ _ _ _ _ rfl).trans ((View.readCov_skip _ _ _ _ _ rfl).trans ((View.readCov_cons_toLoadRect _ _ _ _).trans ?_))
  simp only [r_391_eq] <;> rfl

theorem r_400_eq : kernelRun0_A.sl.r_400 (F := F) c arg3 harg3 arg4 harg4 arg5 harg5 arg7 x0 x1 x2 = A x0 x1 x2 512 57 := by
  simp only [kernelRun0_A.sl.r_400, r_392_eq, r_393_eq, r_395_eq, r_396_eq, r_397_eq, v2922_eq, rdV] <;> rfl

theorem r_401_eq : kernelRun0_A.sl.r_401 (F := F) c arg3 harg3 arg4 harg4 x0 x1 = B x0 x1 512 59 := by
  simp only [kernelRun0_A.sl.r_401, r_209_eq, rdK] <;> rfl

theorem r_402_eq : kernelRun0_A.sl.r_402 (F := F) c arg3 harg3 arg4 harg4 x0 x1 = M x0 x1 512 58 := by
  simp only [kernelRun0_A.sl.r_402, r_394_eq, r_399_eq] <;> rfl

theorem v2946_eq : kernelRun0_A.sl.v2946 (F := F) c arg3 harg3 arg4 harg4 arg7 x0 x1 = C x0 x1 512 57 := by
  unfold kernelRun0_A.sl.v2946 kernelRun0_A.sl.HS0_124 kernelRun0_A.sl.HS0_123 kernelRun0_A.sl.HS0_122
  refine (View.readCov_skip _ _ _ _ _ rfl).trans ((View.readCov_skip _ _ _ _ _ rfl).trans ((View.readCov_cons_toLoadRect _ _ _ _).trans ?_))
  simp only [r_209_eq, rdK] <;> rfl

theorem r_403_eq : kernelRun0_A.sl.r_403 (F := F) c arg3 harg3 arg4 harg4 arg5 harg5 arg7 x0 x1 x2 = A x0 x1 x2 512 58 := by
  simp only [kernelRun0_A.sl.r_403, r_394_eq, r_399_eq, r_400_eq, v2946_eq, rdV] <;> rfl

theorem r_404_eq : kernelRun0_A.sl.r_404 (F := F) c arg3 harg3 arg4 harg4 x0 x1 = B x0 x1 512 60 := by
  simp only [kernelRun0_A.sl.r_404, r_209_eq, rdK] <;> rfl

theorem r_405_eq : kernelRun0_A.sl.r_405 (F := F) c arg3 harg3 arg4 harg4 x0 x1 = M x0 x1 512 59 := by
  simp only [kernelRun0_A.sl.r_405, r_394_eq, r_398_eq, r_399_eq] <;> rfl

theorem r_406_eq : kernelRun0_A.sl.r_406 (F := F) c arg3 harg3 arg4 harg4 x0 x1 = B x0 x1 512 61 := by
  simp only [kernelRun0_A.sl.r_406, r_209_eq, rdK] <;> rfl

theorem r_407_eq : kernelRun0_A.sl.r_407 (F := F) c arg3 harg3 arg4 harg4 x0 x1 = M x0 x1 512 60 := by
  simp only [kernelRun0_A.sl.r_407, r_401_eq, r_405_eq] <;> rfl

theorem v2994_eq : kernelRun0_A.sl.v2994 (F := F) c arg3 harg3 arg4 harg4 arg7 x0 x1 = C x0 x1 512 59 := by
  unfold kernelRun0_A.sl.v2994 kernelRun0_A.sl.HS0_126 kernelRun0_A.sl.HS0_125 kernelRun0_A.sl.HS0_124
  refine (View.readCov_skip _ _ _ _ _ rfl).trans ((View.readCov_skip _ _ _ _ _ rfl).trans ((View.readCov_cons_toLoadRect _ _ _ _).trans ?_))
  simp only [r_209_eq, rdK] <;> rfl

theorem r_408_eq : kernelRun0_A.sl.r_408 (F := F) c arg3 harg3 arg4 harg4 arg7 x0 x1 = truncf .bf16 (exp2 (D x0 x1 512 59)) bitsLt_bf16_f32 := by
  simp only [kernelRun0_A.sl.r_408, r_401_eq, r_405_eq, v2994_eq] <;> rfl

theorem v2970_eq : kernelRun0_A.sl.v2970 (F := F) c arg3 harg3 arg4 harg4 arg7 x0 x1 = C x0 x1 512 58 := by
  unfold kernelRun0_A.sl.v2970 kernelRun0_A.sl.HS0_125 kernelRun0_A.sl.HS0_124 kernelRun0_A.sl.HS0_123
  refine (View.readCov_skip _ _ _ _ _ rfl).trans ((View.readCov_skip _ _ _ _ _ rfl).trans ((View.readCov_cons_toLoadRect _ _ _ _).trans ?_))
  simp only [r_209_eq, rdK] <;> rfl

theorem r_409_eq : kernelRun0_A.sl.r_409 (F := F) c arg3 harg3 arg4 harg4 arg5 harg5 arg7 x0 x1 x2 = mulf (broadcastTo S80x512 (exp2 (subf (M x0 x1 512 59) (M x0 x1 512 60))) broadcasts_S1x512_S80x512) (A x0 x1 x2 512 59) := by
  simp only [kernelRun0_A.sl.r_409, r_401_eq, r_402_eq, r_403_eq, r_405_eq, v2970_eq, rdV] <;> rfl

theorem r_410_eq : kernelRun0_A.sl.r_410 (F := F) c arg3 harg3 arg4 harg4 x0 x1 = B x0 x1 512 62 := by
  simp only [kernelRun0_A.sl.r_410, r_209_eq, rdK] <;> rfl

theorem r_411_eq : kernelRun0_A.sl.r_411 (F := F) c arg3 harg3 arg4 harg4 x0 x1 = M x0 x1 512 61 := by
  simp only [kernelRun0_A.sl.r_411, r_404_eq, r_407_eq] <;> rfl

theorem v3018_eq : kernelRun0_A.sl.v3018 (F := F) c arg3 harg3 arg4 harg4 arg7 x0 x1 = C x0 x1 512 60 := by
  unfold kernelRun0_A.sl.v3018 kernelRun0_A.sl.HS0_127 kernelRun0_A.sl.HS0_126 kernelRun0_A.sl.HS0_125
  refine (View.readCov_skip _ _ _ _ _ rfl).trans ((View.readCov_skip _ _ _ _ _ rfl).trans ((View.readCov_cons_toLoadRect _ _ _ _).trans ?_))
  simp only [r_209_eq, rdK] <;> rfl

theorem r_412_eq : kernelRun0_A.sl.r_412 (F := F) c arg3 harg3 arg4 harg4 arg5 harg5 arg7 x0 x1 x2 = A x0 x1 x2 512 61 := by
  simp only [kernelRun0_A.sl.r_412, r_404_eq, r_407_eq, r_408_eq, r_409_eq, v3018_eq, rdV] <;> rfl

theorem r_413_eq : kernelRun0_A.sl.r_413 (F := F) c arg3 harg3 arg4 harg4 x0 x1 = S x0 x1 512 63 := by
  simp only [kernelRun0_A.sl.r_413, r_209_eq, rdK] <;> rfl

theorem r_414_eq : kernelRun0_A.sl.r_414 (F := F) c arg3 harg3 arg4 harg4 x0 x1 = M x0 x1 512 63 := by
  simp only [kernelRun0_A.sl.r_414, r_406_eq, r_410_eq, r_411_eq] <;> rfl

theorem v3042_eq : kernelRun0_A.sl.v3042 (F := F) c arg3 harg3 arg4 harg4 arg7 x0 x1 = C x0 x1 512 61 := by
  unfold kernelRun0_A.sl.v3042 kernelRun0_A.sl.HS0_128 kernelRun0_A.sl.HS0_127 kernelRun0_A.sl.HS0_126
  refine (View.readCov_skip _ _ _ _ _ rfl).trans ((View.readCov_skip _ _ _ _ _ rfl).trans ((View.readCov_cons_toLoadRect _ _ _ _).trans ?_))
  simp only [r_209_eq, rdK] <;> rfl

theorem v3058_eq : kernelRun0_A.sl.v3058 (F := F) c arg3 harg3 arg4 harg4 arg7 x0 x1 = C x0 x1 512 62 := by
  unfold kernelRun0_A.sl.v3058 kernelRun0_A.sl.HS0_128 kernelRun0_A.sl.HS0_127
  refine (View.readCov_skip _ _ _ _ _ rfl).trans ((View.readCov_cons_toLoadRect _ _ _ _).trans ?_)
  simp only [r_209_eq, rdK] <;> rfl

theorem r_415_eq : kernelRun0_A.sl.r_415 (F := F) c arg3 harg3 arg4 harg4 arg5 harg5 arg7 x0 x1 x2 = A x0 x1 x2 512 63 := by
  simp only [kernelRun0_A.sl.r_415, r_406_eq, r_410_eq, r_411_eq, r_412_eq, v3042_eq, v3058_eq, rdV] <;> rfl

theorem r_416_eq : kernelRun0_A.sl.r_416 (F := F) c arg3 harg3 arg4 harg4 x0 x1 = M x0 x1 512 64 := by
  simp only [kernelRun0_A.sl.r_416, r_406_eq, r_410_eq, r_411_eq, r_413_eq] <;> rfl

theorem v3074_eq : kernelRun0_A.sl.v3074 (F := F) c arg3 harg3 arg4 harg4 arg7 x0 x1 = C x0 x1 512 63 := by
  unfold kernelRun0_A.sl.v3074 kernelRun0_A.sl.HS0_128
  refine (View.readCov_cons_toLoadRect _ _ _ _).trans ?_
  simp only [r_413_eq] <;> rfl

theorem r_417_eq : kernelRun0_A.sl.r_417 (F := F) c arg3 harg3 arg4 harg4 arg5 harg5 arg7 x0 x1 x2 = T x0 x1 x2 512 := by
  simp only [kernelRun0_A.sl.r_417, r_414_eq, r_415_eq, r_416_eq, v3074_eq, rdV] <;> rfl

theorem v1564_eq : kernelRun0_A.sl.v1564 (F := F) c arg3 harg3 arg4 harg4 arg7 x0 x1 = C x0 x1 0 61 := by
  unfold kernelRun0_A.sl.v1564 kernelRun0_A.sl.HS0_65 kernelRun0_A.sl.HS0_64 kernelRun0_A.sl.HS0_63 kernelRun0_A.sl.HS0_62
  refine (View.readCov_skip _ _ _ _ _ rfl).trans ((View.readCov_skip _ _ _ _ _ rfl).trans ((View.readCov_skip _ _ _ _ _ rfl).trans ((View.readCov_cons_toLoadRect _ _ _ _).trans ?_)))
  simp only [r_eq, rdK] <;> rfl

theorem v2868_eq : kernelRun0_A.sl.v2868 (F := F) c arg3 harg3 arg4 harg4 arg7 x0 x1 = C x0 x1 512 52 := by
  unfold kernelRun0_A.sl.v2868 kernelRun0_A.sl.HS0_120 kernelRun0_A.sl.HS0_119 kernelRun0_A.sl.HS0_118 kernelRun0_A.sl.HS0_117
  refine (View.readCov_skip _ _ _ _ _ rfl).trans ((View.readCov_skip _ _ _ _ _ rfl).trans ((View.readCov_skip _ _ _ _ _ rfl).trans ((View.readCov_cons_toLoadRect _ _ _ _).trans ?_)))
  simp only [r_209_eq, rdK] <;> rfl

theorem v960_eq : kernelRun0_A.sl.v960 (F := F) c arg3 harg3 arg4 harg4 arg7 x0 x1 = C x0 x1 0 37 := by
  unfold kernelRun0_A.sl.v960 kernelRun0_A.sl.HS0_41 kernelRun0_A.sl.HS0_40 kernelRun0_A.sl.HS0_39 kernelRun0_A.sl.HS0_38
  refine (View.readCov_skip _ _ _ _ _ rfl).trans ((View.readCov_skip _ _ _ _ _ rfl).trans ((View.readCov_skip _ _ _ _ _ rfl).trans ((View.readCov_cons_toLoadRect _ _ _ _).trans ?_)))
  simp only [r_eq, rdK] <;> rfl

end Cert.Kernel4Ideal.Attn

end
-- ==== Proof.AttnPoint.lean ====
/-
The attention's tiles entry by entry over the extended reals: scores, running maxima, running sums, and the quotient stored.
-/
module

public import proofs.«01_k».proof.Proof.AttnBase
public import Idealize.ShloMosaic.Lib.Pipeline.Value
public import Idealize.ShloMosaic.Lib.StableHlo.ReadAt
public import Idealize.ShloMosaic.Lib.Pointwise
public import Idealize.ShloMosaic.Lib.Tactic

@[expose] public section

noncomputable section

namespace Cert.Kernel4Ideal.Attn

open Idealize.ShloMosaic Idealize.ShloMosaic.TcCoe Cert.Kernel4Ideal Cert.Kernel4Ideal.Gen

/-- The entries of the blocks: key `j`, query `q` of the 1024, value `j`. -/
def xq (x0 : Vec Ideal S1x1x128x1024 .bf16) (q : ℕ) (d : Fin 128) : EReal := x0 (ix4 0 0 d ⟨q % 1024, Nat.mod_lt _ (by decide)⟩)
def xk (x1 : Vec Ideal S1x1x16384x128 .bf16) (j : ℕ) (d : Fin 128) : EReal := x1 (ix4 0 0 ⟨j % 16384, Nat.mod_lt _ (by decide)⟩ d)
def xv (x2 : Vec Ideal S1x1x32x64x512 .bf16) (j : ℕ) (d : Fin 64) : EReal :=
  x2 (ix5 0 0 ⟨j / 512 % 32, Nat.mod_lt _ (by decide)⟩ d ⟨j % 512, Nat.mod_lt _ (by decide)⟩)

theorem qB_apply (x0 : Vec Ideal S1x1x128x1024 .bf16) (o : ℕ) (d : Fin 128) (q : Fin 512) : qB x0 o (ix4 0 0 d q) = xq x0 (o + q.val) d := by
  refine congrArg x0 (funext fun a => Fin.ext ?_)
  fin_cases a
  · rfl
  · rfl
  · show (0 + d.val) % 128 = d.val
    have := d.isLt; omega
  · rfl

theorem kB_apply (x1 : Vec Ideal S1x1x16384x128 .bf16) (o : ℕ) (r : Fin 256) (d : Fin 128) : kB x1 o (ix4 0 0 r d) = xk x1 (o + r.val) d := by
  refine congrArg x1 (funext fun a => Fin.ext ?_)
  fin_cases a
  · rfl
  · rfl
  · rfl
  · show (0 + d.val) % 128 = d.val
    have := d.isLt; omega

theorem vB_apply (x2 : Vec Ideal S1x1x32x64x512 .bf16) (n : ℕ) (d : Fin 64) (r : Fin 256) :
    vB x2 (n / 2) (n % 2 * 256) (ix5 0 0 0 d r) = xv x2 (256 * n + r.val) d := by
  have := r.isLt
  have := d.isLt
  refine congrArg x2 (funext fun a => Fin.ext ?_)
  fin_cases a
  · rfl
  · rfl
  · show (n / 2 + 0) % 32 = (256 * n + r.val) / 512 % 32
    omega
  · show (0 + d.val) % 64 = d.val
    omega
  · show (n % 2 * 256 + r.val) % 512 = (256 * n + r.val) % 512
    omega

theorem negInf : Ideal.ofBits .f32 0xFF800000#32 = ⊥ := by simp [Ideal.ofBits, Ideal.ieee]

/-- The score of key `j` and query `q`. -/
def sc (x0 : Vec Ideal S1x1x128x1024 .bf16) (x1 : Vec Ideal S1x1x16384x128 .bf16) (q j : ℕ) : EReal := ∑ d, xk x1 j d * xq x0 q d

theorem S_apply (x0 : Vec Ideal S1x1x128x1024 .bf16) (x1 : Vec Ideal S1x1x16384x128 .bf16) (o n : ℕ) (r : Fin 256) (q : Fin 512) :
    S x0 x1 o n (ix2 r q) = sc x0 x1 (o + q.val) (256 * n + r.val) := by
  unfold S Q sc
  pointwise [kB_apply, qB_apply]

theorem C_apply (x0 : Vec Ideal S1x1x128x1024 .bf16) (x1 : Vec Ideal S1x1x16384x128 .bf16) (o n : ℕ) (r : Fin 256) (q : Fin 512) :
    C x0 x1 o n (ix3 0 r q) = S x0 x1 o n (ix2 r q) := by
  unfold C
  pointwise

theorem B_apply (x0 : Vec Ideal S1x1x128x1024 .bf16) (x1 : Vec Ideal S1x1x16384x128 .bf16) (o n : ℕ) (q : Fin 512) :
    B x0 x1 o n (ix2 0 q) = Finset.univ.sup fun r : Fin 256 => S x0 x1 o n (ix2 r q) := by
  unfold B R
  pointwise
  rw [show Ideal.ofBits FTy.f32 4286578688#32 = ⊥ from negInf]
  rfl

theorem V_lo (x2 : Vec Ideal S1x1x32x64x512 .bf16) (n : ℕ) (d : Fin 64) (r : Fin 256) :
    V x2 n (ix2 ⟨d.val, by have := d.isLt; omega⟩ r) = xv x2 (256 * n + r.val) d := by
  unfold V
  pointwise [vB_apply]

theorem V_hi (x2 : Vec Ideal S1x1x32x64x512 .bf16) (n : ℕ) (r : Fin 256) :
    V x2 n (ix2 ⟨64, by decide⟩ r) = (1 : EReal) := by
  unfold V ones
  pointwise

theorem M_succ (x0 : Vec Ideal S1x1x128x1024 .bf16) (x1 : Vec Ideal S1x1x16384x128 .bf16) (o n : ℕ) (q : Fin 512) :
    M x0 x1 o (n + 1) (ix2 0 q) = max (M x0 x1 o n (ix2 0 q)) (B x0 x1 o n (ix2 0 q)) := rfl

theorem M_zero (x0 : Vec Ideal S1x1x128x1024 .bf16) (x1 : Vec Ideal S1x1x16384x128 .bf16) (o : ℕ) (q : Fin 512) :
    M x0 x1 o 0 (ix2 0 q) = (⊥ : EReal) := by
  exact negInf

theorem A_zero (x0 : Vec Ideal S1x1x128x1024 .bf16) (x1 : Vec Ideal S1x1x16384x128 .bf16) (x2 : Vec Ideal S1x1x32x64x512 .bf16) (o : ℕ)
    (p : Fin 80) (q : Fin 512) : A x0 x1 x2 o 0 (ix2 p q) = (0 : EReal) := by
  show (broadcast S80x512 (Scalar.ofBits .f32 0x00000000#32) : FVec Ideal S80x512 .f32) (ix2 p q) = _
  pointwise

theorem A_succ (x0 : Vec Ideal S1x1x128x1024 .bf16) (x1 : Vec Ideal S1x1x16384x128 .bf16) (x2 : Vec Ideal S1x1x32x64x512 .bf16) (o n : ℕ)
    (p : Fin 80) (q : Fin 512) :
    A x0 x1 x2 o (n + 1) (ix2 p q)
      = Ideal.exp2 (M x0 x1 o n (ix2 0 q) - M x0 x1 o (n + 1) (ix2 0 q)) * A x0 x1 x2 o n (ix2 p q)
        + ∑ r : Fin 256, V x2 n (ix2 p r) * Ideal.exp2 (S x0 x1 o n (ix2 r q) - M x0 x1 o (n + 1) (ix2 0 q)) := by
  have e : A x0 x1 x2 o (n + 1)
      = addf (mulf (broadcastTo S80x512 (exp2 (subf (M x0 x1 o n) (M x0 x1 o (n + 1)))) broadcasts_S1x512_S80x512) (A x0 x1 x2 o n))
          (matmul dot_S80x256_S256x512_S80x512_1_0_0_1_n_n none (V x2 n) (truncf .bf16 (exp2 (D x0 x1 o n)) bitsLt_bf16_f32)
            (constant S80x512 .f32 0x00000000#32)) := rfl
  rw [e]
  pointwise [D, C_apply]
  rfl

theorem O_apply (x0 : Vec Ideal S1x1x128x1024 .bf16) (x1 : Vec Ideal S1x1x16384x128 .bf16) (x2 : Vec Ideal S1x1x32x64x512 .bf16) (o : ℕ)
    (d : Fin 64) (q : Fin 512) :
    O x0 x1 x2 o (ix4 0 0 d q) = Ideal.div (A x0 x1 x2 o 64 (ix2 ⟨d.val, by have := d.isLt; omega⟩ q)) (A x0 x1 x2 o 64 (ix2 ⟨64, by decide⟩ q)) := by
  unfold O T
  pointwise

end Cert.Kernel4Ideal.Attn

end
-- ==== Proof.AttnMath.lean ====
/-
The online softmax over the extended reals, one query at a time: running maxima and running sums over blocks of 256 keys, against
the sums over all keys below one maximum. Scores are real; the weights summed may be anything.
-/
module

public import Idealize.ShloMosaic.PureOps.Ideal

@[expose] public section

noncomputable section

namespace Cert.Proof.Attn

open Idealize.ShloMosaic

/-- A real factor that isn't negative goes into a sum. -/
theorem mul_sum' {ι : Type} (c : ℝ) (hc : 0 ≤ c) (T : Finset ι) (f : ι → EReal) : (c : EReal) * ∑ j ∈ T, f j = ∑ j ∈ T, (c : EReal) * f j := by
  classical
  induction T using Finset.induction_on with
  | empty => simp
  | insert a T ha ih =>
    rw [Finset.sum_insert ha, Finset.sum_insert ha, EReal.left_distrib_of_nonneg_of_ne_top (by exact_mod_cast hc) (EReal.coe_ne_top c), ih]

theorem coe_sum' {ι : Type} (T : Finset ι) (f : ι → ℝ) : ((∑ j ∈ T, f j : ℝ) : EReal) = ∑ j ∈ T, (f j : EReal) := by
  classical
  induction T using Finset.induction_on with
  | empty => simp
  | insert a T ha ih => rw [Finset.sum_insert ha, Finset.sum_insert ha, EReal.coe_add, ih]

/-- Two to a real number. -/
def e2 (r : ℝ) : ℝ := Real.rpow 2 r

theorem e2_pos (r : ℝ) : 0 < e2 r := Real.rpow_pos_of_pos (by norm_num) r
theorem e2_add (a b : ℝ) : e2 (a + b) = e2 a * e2 b := Real.rpow_add (by norm_num) a b
theorem exp2_sub (a b : ℝ) : Ideal.exp2 ((a : EReal) - (b : EReal)) = (e2 (a - b) : EReal) := by
  rw [← EReal.coe_sub]
  rfl

theorem sum_block (f : ℕ → EReal) (n : ℕ) :
    ∑ j ∈ Finset.range (256 * (n + 1)), f j = ∑ j ∈ Finset.range (256 * n), f j + ∑ r : Fin 256, f (256 * n + r.val) := by
  rw [show 256 * (n + 1) = 256 * n + 256 by ring, Finset.sum_range_add, Finset.sum_range (fun x => f (256 * n + x))]

theorem sup_block (f : ℕ → EReal) (n : ℕ) :
    (Finset.range (256 * (n + 1))).sup f = max ((Finset.range (256 * n)).sup f) (Finset.univ.sup fun r : Fin 256 => f (256 * n + r.val)) := by
  apply le_antisymm
  · refine Finset.sup_le fun j hj => ?_
    rw [Finset.mem_range] at hj
    by_cases h : j < 256 * n
    · exact le_max_of_le_left (Finset.le_sup (f := f) (Finset.mem_range.mpr h))
    · refine le_max_of_le_right ?_
      have := Finset.le_sup (f := fun r : Fin 256 => f (256 * n + r.val)) (Finset.mem_univ (⟨j - 256 * n, by omega⟩ : Fin 256))
      rwa [show 256 * n + (j - 256 * n) = j by omega] at this
  · refine max_le (Finset.sup_mono (Finset.range_mono (by omega))) (Finset.sup_le fun r _ => ?_)
    refine Finset.le_sup (f := f) (Finset.mem_range.mpr ?_)
    have := r.isLt; omega

/-- The largest of finitely many reals is real. -/
theorem sup_real (s : ℕ → ℝ) (N : ℕ) (h : 0 < N) : ∃ t : ℝ, (Finset.range N).sup (fun j => (s j : EReal)) = (t : EReal) := by
  obtain ⟨j, _, hj⟩ := Finset.exists_mem_eq_sup (Finset.range N) ⟨0, Finset.mem_range.mpr h⟩ (fun j => (s j : EReal))
  exact ⟨s j, hj⟩

section Online

variable (s : ℕ → ℝ) (mx : ℕ → EReal)
variable (h0 : mx 0 = ⊥) (hs : ∀ n, mx (n + 1) = max (mx n) (Finset.univ.sup fun r : Fin 256 => (s (256 * n + r.val) : EReal)))

include h0 hs in
/-- The running maximum is the largest score so far. -/
theorem mx_eq (n : ℕ) : mx n = (Finset.range (256 * n)).sup fun j => (s j : EReal) := by
  induction n with
  | zero => simpa using h0
  | succ n ih => rw [hs, ih, sup_block (fun j => (s j : EReal))]

variable (w : ℕ → EReal) (a : ℕ → EReal) (ha0 : a 0 = 0)
  (ha : ∀ n, a (n + 1) = Ideal.exp2 (mx n - mx (n + 1)) * a n
    + ∑ r : Fin 256, w (256 * n + r.val) * Ideal.exp2 ((s (256 * n + r.val) : EReal) - mx (n + 1)))

include h0 hs ha0 ha in
/-- The running sum is the sum so far, below the running maximum. -/
theorem a_eq (n : ℕ) : a n = ∑ j ∈ Finset.range (256 * n), w j * Ideal.exp2 ((s j : EReal) - mx n) := by
  induction n with
  | zero => simpa using ha0
  | succ n ih =>
    rw [ha, sum_block (fun j => w j * Ideal.exp2 ((s j : EReal) - mx (n + 1)))]
    congr 1
    rcases Nat.eq_zero_or_pos n with rfl | hn
    · rw [ha0]; simp
    · obtain ⟨t, ht⟩ := sup_real s (256 * n) (by omega)
      obtain ⟨t', ht'⟩ := sup_real s (256 * (n + 1)) (by omega)
      rw [ih, mx_eq s mx h0 hs n, mx_eq s mx h0 hs (n + 1), ht, ht', exp2_sub, mul_sum' _ (e2_pos _).le]
      refine Finset.sum_congr rfl fun j _ => ?_
      rw [exp2_sub, exp2_sub, mul_left_comm, ← EReal.coe_mul, ← e2_add, show t - t' + (s j - t) = s j - t' by ring]

end Online

/-- A sum of weights over the sum of the factors is the sum of the weights, each with its share of the factors. -/
theorem div_sum (s : ℕ → ℝ) (w : ℕ → EReal) (N : ℕ) (hN : 0 < N) (m : EReal) (hm : m = (Finset.range N).sup fun j => (s j : EReal)) :
    Ideal.div (∑ j ∈ Finset.range N, w j * Ideal.exp2 ((s j : EReal) - m)) (∑ j ∈ Finset.range N, 1 * Ideal.exp2 ((s j : EReal) - m))
      = ∑ j ∈ Finset.range N, Ideal.div (Ideal.exp2 ((s j : EReal) - m)) (∑ k ∈ Finset.range N, Ideal.exp2 ((s k : EReal) - m)) * w j := by
  obtain ⟨t, ht⟩ := sup_real s N hN
  rw [hm, ht]
  simp only [exp2_sub, one_mul]
  rw [← coe_sum']
  have hl : 0 < ∑ j ∈ Finset.range N, e2 (s j - t) := Finset.sum_pos (fun j _ => e2_pos _) ⟨0, Finset.mem_range.mpr hN⟩
  have hl0 : ((∑ j ∈ Finset.range N, e2 (s j - t) : ℝ) : EReal) ≠ 0 := by exact_mod_cast hl.ne'
  have hd : ∀ x : EReal, Ideal.div x ((∑ j ∈ Finset.range N, e2 (s j - t) : ℝ) : EReal) = ((∑ j ∈ Finset.range N, e2 (s j - t))⁻¹ : ℝ) * x := by
    intro x
    unfold Ideal.div
    rw [if_neg hl0, mul_comm, EReal.coe_inv]
  simp only [hd]
  rw [mul_sum' _ (inv_pos.mpr hl).le]
  refine Finset.sum_congr rfl fun j _ => ?_
  rw [mul_comm (w j), mul_assoc]

end Cert.Proof.Attn

end
-- ==== Proof.AttnOut.lean ====
/-
What one point of the attention's grid leaves in its block of 1024 queries, over the extended reals: the softmax of the scores
below their maximum, over all 16384 keys, applied to the values (`out_apply`). The scores must be real.
-/
module

public import proofs.«01_k».proof.Proof.AttnTile1
public import proofs.«01_k».proof.Proof.AttnPoint
public import proofs.«01_k».proof.Proof.AttnMath
public import Idealize.ShloMosaic.Lib.WritesUnit

@[expose] public section

set_option maxRecDepth 16384

noncomputable section

namespace Cert.Kernel4Ideal.Attn

open Idealize.ShloMosaic Idealize.ShloMosaic.TcCoe Cert.Kernel4Ideal Cert.Kernel4Ideal.Gen Cert.Proof.Attn

section Pieces

variable {F : FTy → Type} [FloatOps F]

/-- The body stores the two tiles. -/
theorem pieces (c : Dev nD) (i : grid0.Coords) (arg3 : Memref sig .tc .vmem S1x1x128x1024 .bf16) (harg3 : arg3.IsWhole)
    (arg4 : Memref sig .tc .vmem S1x1x16384x128 .bf16) (harg4 : arg4.IsWhole)
    (arg5 : Memref sig .tc .vmem S1x1x32x64x512 .bf16) (harg5 : arg5.IsWhole)
    (arg6 : Memref sig .tc .vmem S1x1x64x1024 .bf16) (harg6 : arg6.IsWhole)
    (arg7 : Memref sig .tc .vmem S4x256x512 .f32) (harg7 : arg7.IsWhole)
    (x0 : Vec F S1x1x128x1024 .bf16) (x1 : Vec F S1x1x16384x128 .bf16) (x2 : Vec F S1x1x32x64x512 .bf16) :
    (kernelRun0_A c i arg3 harg3 arg4 harg4 arg5 harg5 arg6 harg6 arg7 harg7 x0 x1 x2).1
      = [⟨Rect.unit (s := S1x1x64x1024) ![0, 0, 0, 512] ![1, 1, 64, 512] (by decide), O x0 x1 x2 512⟩,
         ⟨Rect.unit (s := S1x1x64x1024) ![0, 0, 0, 0] ![1, 1, 64, 512] (by decide), O x0 x1 x2 0⟩] := by
  unfold kernelRun0_A
  dsimp only
  simp only [r_417_eq, r_207_eq, r_208_eq, rdV] <;> rfl

end Pieces

variable (x0 : Vec Ideal S1x1x128x1024 .bf16) (x1 : Vec Ideal S1x1x16384x128 .bf16) (x2 : Vec Ideal S1x1x32x64x512 .bf16)

/-- The attention of query `q` over the block's keys, at entry `d`. -/
def att (q : ℕ) (d : Fin 64) : EReal :=
  ∑ j ∈ Finset.range 16384,
    Ideal.div (Ideal.exp2 (sc x0 x1 q j - (Finset.range 16384).sup (sc x0 x1 q)))
      (∑ k ∈ Finset.range 16384, Ideal.exp2 (sc x0 x1 q k - (Finset.range 16384).sup (sc x0 x1 q))) * xv x2 j d

theorem sc_real (h0 : ∀ y, ∃ r : ℝ, x0 y = (r : EReal)) (h1 : ∀ y, ∃ r : ℝ, x1 y = (r : EReal)) (q j : ℕ) :
    ∃ r : ℝ, sc x0 x1 q j = (r : EReal) := by
  choose f hf using h0
  choose g hg using h1
  refine ⟨∑ d : Fin 128, g (ix4 0 0 ⟨j % 16384, Nat.mod_lt _ (by decide)⟩ d) * f (ix4 0 0 d ⟨q % 1024, Nat.mod_lt _ (by decide)⟩), ?_⟩
  rw [coe_sum']
  unfold sc xk xq
  refine Finset.sum_congr rfl fun d _ => ?_
  rw [hf, hg, EReal.coe_mul]

theorem O_val (h0 : ∀ y, ∃ r : ℝ, x0 y = (r : EReal)) (h1 : ∀ y, ∃ r : ℝ, x1 y = (r : EReal)) (o : ℕ) (d : Fin 64) (q : Fin 512) :
    O x0 x1 x2 o (ix4 0 0 d q) = att x0 x1 x2 (o + q.val) d := by
  choose s hs using fun j => sc_real x0 x1 h0 h1 (o + q.val) j
  have hM0 : M x0 x1 o 0 (ix2 0 q) = (⊥ : EReal) := M_zero x0 x1 o q
  have hMs : ∀ n, M x0 x1 o (n + 1) (ix2 0 q)
      = max (M x0 x1 o n (ix2 0 q)) (Finset.univ.sup fun r : Fin 256 => (s (256 * n + r.val) : EReal)) := by
    intro n
    rw [M_succ, B_apply]
    simp only [S_apply, hs]
  have hAs : ∀ (p : Fin 80) (w : ℕ → EReal) (hw : ∀ n (r : Fin 256), V x2 n (ix2 p r) = w (256 * n + r.val)) (n : ℕ),
      A x0 x1 x2 o (n + 1) (ix2 p q) = Ideal.exp2 (M x0 x1 o n (ix2 0 q) - M x0 x1 o (n + 1) (ix2 0 q)) * A x0 x1 x2 o n (ix2 p q)
        + ∑ r : Fin 256, w (256 * n + r.val) * Ideal.exp2 ((s (256 * n + r.val) : EReal) - M x0 x1 o (n + 1) (ix2 0 q)) := by
    intro p w hw n
    rw [A_succ]
    simp only [S_apply, hs, hw]
  have hA : ∀ (p : Fin 80) (w : ℕ → EReal) (hw : ∀ n (r : Fin 256), V x2 n (ix2 p r) = w (256 * n + r.val)) (n : ℕ),
      A x0 x1 x2 o n (ix2 p q) = ∑ j ∈ Finset.range (256 * n), w j * Ideal.exp2 ((s j : EReal) - M x0 x1 o n (ix2 0 q)) :=
    fun p w hw n => a_eq s (fun n => M x0 x1 o n (ix2 0 q)) hM0 hMs w (fun n => A x0 x1 x2 o n (ix2 p q)) (A_zero x0 x1 x2 o p q) (hAs p w hw) n
  have e1 := hA ⟨d.val, by have := d.isLt; omega⟩ (fun j => xv x2 j d) (fun n r => V_lo x2 n d r) 64
  have e2 := hA ⟨64, by decide⟩ (fun _ => 1) (fun n r => V_hi x2 n r) 64
  have em := mx_eq s (fun n => M x0 x1 o n (ix2 0 q)) hM0 hMs 64
  rw [O_apply, e1, e2]
  refine (div_sum s (fun j => xv x2 j d) 16384 (by decide) _ em).trans ?_
  unfold att
  rw [em]
  have hf : sc x0 x1 (o + q.val) = fun j => (s j : EReal) := funext hs
  rw [hf]

/-- What a point leaves at query `q` of its block. -/
theorem out_apply (h0 : ∀ y, ∃ r : ℝ, x0 y = (r : EReal)) (h1 : ∀ y, ∃ r : ℝ, x1 y = (r : EReal))
    (c : Dev nD) (i : grid0.Coords) (arg3 : Memref sig .tc .vmem S1x1x128x1024 .bf16) (harg3 : arg3.IsWhole)
    (arg4 : Memref sig .tc .vmem S1x1x16384x128 .bf16) (harg4 : arg4.IsWhole)
    (arg5 : Memref sig .tc .vmem S1x1x32x64x512 .bf16) (harg5 : arg5.IsWhole)
    (arg6 : Memref sig .tc .vmem S1x1x64x1024 .bf16) (harg6 : arg6.IsWhole)
    (arg7 : Memref sig .tc .vmem S4x256x512 .f32) (harg7 : arg7.IsWhole) (d : Fin 64) (q : Fin 1024) :
    (out0_A_3 c i arg3 harg3 arg4 harg4 arg5 harg5 arg6 harg6 arg7 harg7 x0 x1 x2 : FVec Ideal S1x1x64x1024 .bf16) (ix4 0 0 d q)
      = att x0 x1 x2 q.val d := by
  unfold out0_A_3
  rw [pieces]
  have hd := d.isLt
  have hq := q.isLt
  by_cases h : q.val < 512
  · refine (View.read_writes_cons_unit_of_not_mem _ _ _ _ _ _ rfl (3 : Fin 4) (.inl h)).trans ?_
    refine (View.read_writes_cons_unit_of_mem _ _ _ _ _ _ (ix4 0 0 d ⟨q.val, h⟩ : S1x1x64x512.Idx) rfl ?_).trans ?_
    · intro a
      fin_cases a
      · rfl
      · rfl
      · exact (Nat.zero_add _).symm
      · exact (Nat.zero_add _).symm
    · rw [O_val x0 x1 x2 h0 h1]
      exact congrArg (fun k => att x0 x1 x2 k d) (Nat.zero_add _)
  · refine (View.read_writes_cons_unit_of_mem _ _ _ _ _ _ (ix4 0 0 d ⟨q.val - 512, by omega⟩ : S1x1x64x512.Idx) rfl ?_).trans ?_
    · intro a
      fin_cases a
      · rfl
      · rfl
      · exact (Nat.zero_add _).symm
      · show q.val = 512 + (q.val - 512)
        omega
    · rw [O_val x0 x1 x2 h0 h1]
      exact congrArg (fun k => att x0 x1 x2 k d) (show 512 + (q.val - 512) = q.val by omega)

end Cert.Kernel4Ideal.Attn

end
-- ==== Proof.AttnValue.lean ====
/-
The attention's call, over the extended reals: what the kernel leaves in its result array is the reference's term, index by index
(`out`), when the queries and the keys are real.
-/
module

public import proofs.«01_k».proof.Proof.AttnOut
public import proofs.«01_k».proof.Proof.Gen.Kernel4Ideal.Value
public import proofs.«01_k».proof.Proof.Gen.Reference4Ideal
public import proofs.«01_k».proof.Proof.Gen.Reference4Ideal.Run

@[expose] public section

noncomputable section

namespace Cert.Proof.Attn

open Idealize.ShloMosaic Idealize.ShloMosaic.TcCoe Idealize.SL.Sem

/-! ## The common value -/

section Common

open Cert.Kernel4Ideal

variable (Qa : FVec Ideal S3x8x128x16384 .bf16) (Ka : FVec Ideal S3x8x16384x128 .bf16) (Va : FVec Ideal S3x8x32x64x512 .bf16)

/-- The score of key `j` for query `q`. -/
def score (b : Fin 3) (h : Fin 8) (q j : Fin 16384) : EReal := ∑ d, Ka (ix4 b h j d) * Qa (ix4 b h d q)

/-- Two to the score, below the largest score. -/
def wt (b : Fin 3) (h : Fin 8) (q j : Fin 16384) : EReal :=
  Ideal.exp2 (score Qa Ka b h q j - Finset.univ.sup (score Qa Ka b h q))

def grp (j : Fin 16384) : Fin 32 := ⟨j.val / 512, by have := j.isLt; omega⟩
def pos (j : Fin 16384) : Fin 512 := ⟨j.val % 512, Nat.mod_lt _ (by decide)⟩

/-- The softmax of the scores, applied to the values. -/
def entry (b : Fin 3) (h : Fin 8) (d : Fin 64) (q : Fin 16384) : EReal :=
  ∑ j, Ideal.div (wt Qa Ka b h q j) (∑ k, wt Qa Ka b h q k) * Va (ix5 b h (grp j) d (pos j))

def out : FVec Ideal S3x8x64x16384 .bf16 := fun i => entry Qa Ka Va (i 0) (i 1) (i 2) (i 3)

theorem sup_range (N : ℕ) (f : ℕ → EReal) : (Finset.range N).sup f = Finset.univ.sup fun j : Fin N => f j.val := by
  apply le_antisymm
  · exact Finset.sup_le fun j hj => Finset.le_sup (f := fun j : Fin N => f j.val) (Finset.mem_univ (⟨j, Finset.mem_range.mp hj⟩ : Fin N))
  · exact Finset.sup_le fun j _ => Finset.le_sup (f := f) (Finset.mem_range.mpr j.isLt)

end Common

/-! ## The kernel -/

section Kernel

open Cert.Kernel4Ideal Cert.Kernel4Ideal.Gen Cert.Kernel4Ideal.Attn

variable (m : (ℓ : Loc nD τ sig) → Buf (Elt Ideal) ℓ)

abbrev aQ (c : Dev nD) : FVec Ideal S3x8x128x16384 .bf16 := m ((c : Thread nD τ).loc main_arg0)
abbrev aK (c : Dev nD) : FVec Ideal S3x8x16384x128 .bf16 := m ((c : Thread nD τ).loc main_arg1)
abbrev aV (c : Dev nD) : FVec Ideal S3x8x32x64x512 .bf16 := m ((c : Thread nD τ).loc main_arg2)

/-- The problem, the head and the queries' tile of a point. -/
abbrev pb (t : Fin grid0.N) : Fin 3 := grid0.coords t 0
abbrev ph (t : Fin grid0.N) : Fin 8 := grid0.coords t 1
abbrev pt (t : Fin grid0.N) : Fin 16 := grid0.coords t 2

theorem pb_val : ∀ t : Fin grid0.N, (pb t).val = t.val / 128 := by decide +kernel
theorem ph_val : ∀ t : Fin grid0.N, (ph t).val = t.val / 16 % 8 := by decide +kernel
theorem pt_val : ∀ t : Fin grid0.N, (pt t).val = t.val % 16 := by decide +kernel

/-- Query `q` of a point's tile. -/
def col (n : Fin 16) (q : Fin 1024) : Fin 16384 := ⟨n.val * 1024 + q.val, by have := n.isLt; have := q.isLt; omega⟩

theorem toNat_lt {n k : ℕ} (h : n < k) (hk : k ≤ 2 ^ 32) : (BitVec.ofNat 32 n).toNat = n := by
  rw [BitVec.toNat_ofNat, Nat.mod_eq_of_lt (by omega)]

theorem tr_0 (t : Fin grid0.N) : cc0_transform_0 (grid0.coords t) = ![(pb t).val, (ph t).val, 0, (pt t).val] := by
  unfold cc0_transform_0
  show (![(BitVec.ofNat 32 (pb t).val).toNat, (BitVec.ofNat 32 (ph t).val).toNat, 0, (BitVec.ofNat 32 (pt t).val).toNat] : Fin 4 → Nat) = _
  rw [toNat_lt (pb t).isLt (by decide), toNat_lt (ph t).isLt (by decide), toNat_lt (pt t).isLt (by decide)]

theorem tr_1 (t : Fin grid0.N) : cc0_transform_1 (grid0.coords t) = ![(pb t).val, (ph t).val, 0, 0] := by
  unfold cc0_transform_1
  show (![(BitVec.ofNat 32 (pb t).val).toNat, (BitVec.ofNat 32 (ph t).val).toNat, 0, 0] : Fin 4 → Nat) = _
  rw [toNat_lt (pb t).isLt (by decide), toNat_lt (ph t).isLt (by decide)]

theorem tr_2 (t : Fin grid0.N) : cc0_transform_2 (grid0.coords t) = ![(pb t).val, (ph t).val, 0, 0, 0] := by
  unfold cc0_transform_2
  show (![(BitVec.ofNat 32 (pb t).val).toNat, (BitVec.ofNat 32 (ph t).val).toNat, 0, 0, 0] : Fin 5 → Nat) = _
  rw [toNat_lt (pb t).isLt (by decide), toNat_lt (ph t).isLt (by decide)]

theorem tr_3 (t : Fin grid0.N) : cc0_transform_3 (grid0.coords t) = ![(pb t).val, (ph t).val, 0, (pt t).val] := by
  unfold cc0_transform_3
  show (![(BitVec.ofNat 32 (pb t).val).toNat, (BitVec.ofNat 32 (ph t).val).toNat, 0, (BitVec.ofNat 32 (pt t).val).toNat] : Fin 4 → Nat) = _
  rw [toNat_lt (pb t).isLt (by decide), toNat_lt (ph t).isLt (by decide), toNat_lt (pt t).isLt (by decide)]

theorem blk_q (c : Dev nD) (t : Fin cfg0.N) (d : Fin 128) (q : Fin 1024) :
    (iblk m c 0 t : FVec Ideal S1x1x128x1024 .bf16) (ix4 0 0 d q) = aQ m c (ix4 (pb t) (ph t) d (col (pt t) q)) := by
  unfold iblk
  refine Eq.trans (View.read_apply ..) ?_
  show aQ m c _ = _
  congr 1
  funext a
  apply Fin.ext
  match a with
  | ⟨0, _⟩ =>
    show cc0_transform_0 (grid0.coords t) 0 * 1 + 1 * 0 = (pb t).val
    rw [tr_0]; show (pb t).val * 1 + 1 * 0 = _; omega
  | ⟨1, _⟩ =>
    show cc0_transform_0 (grid0.coords t) 1 * 1 + 1 * 0 = (ph t).val
    rw [tr_0]; show (ph t).val * 1 + 1 * 0 = _; omega
  | ⟨2, _⟩ =>
    show cc0_transform_0 (grid0.coords t) 2 * 128 + 1 * d.val = d.val
    rw [tr_0]; show 0 * 128 + 1 * d.val = _; omega
  | ⟨3, _⟩ =>
    show cc0_transform_0 (grid0.coords t) 3 * 1024 + 1 * q.val = (pt t).val * 1024 + q.val
    rw [tr_0]; show (pt t).val * 1024 + 1 * q.val = _; omega

theorem blk_k (c : Dev nD) (t : Fin cfg0.N) (j : Fin 16384) (d : Fin 128) :
    (iblk m c 1 t : FVec Ideal S1x1x16384x128 .bf16) (ix4 0 0 j d) = aK m c (ix4 (pb t) (ph t) j d) := by
  unfold iblk
  refine Eq.trans (View.read_apply ..) ?_
  show aK m c _ = _
  congr 1
  funext a
  apply Fin.ext
  match a with
  | ⟨0, _⟩ =>
    show cc0_transform_1 (grid0.coords t) 0 * 1 + 1 * 0 = (pb t).val
    rw [tr_1]; show (pb t).val * 1 + 1 * 0 = _; omega
  | ⟨1, _⟩ =>
    show cc0_transform_1 (grid0.coords t) 1 * 1 + 1 * 0 = (ph t).val
    rw [tr_1]; show (ph t).val * 1 + 1 * 0 = _; omega
  | ⟨2, _⟩ =>
    show cc0_transform_1 (grid0.coords t) 2 * 16384 + 1 * j.val = j.val
    rw [tr_1]; show 0 * 16384 + 1 * j.val = _; omega
  | ⟨3, _⟩ =>
    show cc0_transform_1 (grid0.coords t) 3 * 128 + 1 * d.val = d.val
    rw [tr_1]; show 0 * 128 + 1 * d.val = _; omega

theorem blk_v (c : Dev nD) (t : Fin cfg0.N) (g : Fin 32) (d : Fin 64) (p : Fin 512) :
    (iblk m c 2 t : FVec Ideal S1x1x32x64x512 .bf16) (ix5 0 0 g d p) = aV m c (ix5 (pb t) (ph t) g d p) := by
  unfold iblk
  refine Eq.trans (View.read_apply ..) ?_
  show aV m c _ = _
  congr 1
  funext a
  apply Fin.ext
  match a with
  | ⟨0, _⟩ =>
    show cc0_transform_2 (grid0.coords t) 0 * 1 + 1 * 0 = (pb t).val
    rw [tr_2]; show (pb t).val * 1 + 1 * 0 = _; omega
  | ⟨1, _⟩ =>
    show cc0_transform_2 (grid0.coords t) 1 * 1 + 1 * 0 = (ph t).val
    rw [tr_2]; show (ph t).val * 1 + 1 * 0 = _; omega
  | ⟨2, _⟩ =>
    show cc0_transform_2 (grid0.coords t) 2 * 32 + 1 * g.val = g.val
    rw [tr_2]; show 0 * 32 + 1 * g.val = _; omega
  | ⟨3, _⟩ =>
    show cc0_transform_2 (grid0.coords t) 3 * 64 + 1 * d.val = d.val
    rw [tr_2]; show 0 * 64 + 1 * d.val = _; omega
  | ⟨4, _⟩ =>
    show cc0_transform_2 (grid0.coords t) 4 * 512 + 1 * p.val = p.val
    rw [tr_2]; show 0 * 512 + 1 * p.val = _; omega

/-- Entries of the arrays are real, so entries of the blocks are. -/
theorem blk_q_real (c : Dev nD) (t : Fin cfg0.N) (h : ∀ i, ∃ r : ℝ, aQ m c i = (r : EReal)) (y : S1x1x128x1024.Idx) :
    ∃ r : ℝ, (iblk m c 0 t : FVec Ideal S1x1x128x1024 .bf16) y = (r : EReal) := by
  obtain ⟨r, hr⟩ := h (((cfg0.win 0).blk t).view.emb y)
  exact ⟨r, (View.read_apply ..).trans hr⟩

theorem blk_k_real (c : Dev nD) (t : Fin cfg0.N) (h : ∀ i, ∃ r : ℝ, aK m c i = (r : EReal)) (y : S1x1x16384x128.Idx) :
    ∃ r : ℝ, (iblk m c 1 t : FVec Ideal S1x1x16384x128 .bf16) y = (r : EReal) := by
  obtain ⟨r, hr⟩ := h (((cfg0.win 1).blk t).view.emb y)
  exact ⟨r, (View.read_apply ..).trans hr⟩

theorem sc_eq (c : Dev nD) (t : Fin cfg0.N) (q : Fin 1024) (j : Fin 16384) :
    sc (iblk m c 0 t) (iblk m c 1 t) q.val j.val = score (aQ m c) (aK m c) (pb t) (ph t) (col (pt t) q) j := by
  unfold sc score
  refine Finset.sum_congr rfl fun d _ => ?_
  rw [← blk_q, ← blk_k]
  have ej : (⟨j.val % 16384, Nat.mod_lt _ (by decide)⟩ : Fin 16384) = j := Fin.ext (Nat.mod_eq_of_lt j.isLt)
  have eq : (⟨q.val % 1024, Nat.mod_lt _ (by decide)⟩ : Fin 1024) = q := Fin.ext (Nat.mod_eq_of_lt q.isLt)
  unfold xk xq
  rw [ej, eq]

theorem xv_eq (c : Dev nD) (t : Fin cfg0.N) (j : Fin 16384) (d : Fin 64) :
    xv (iblk m c 2 t) j.val d = aV m c (ix5 (pb t) (ph t) (grp j) d (pos j)) := by
  rw [← blk_v]
  have ej : (⟨j.val / 512 % 32, Nat.mod_lt _ (by decide)⟩ : Fin 32) = grp j :=
    Fin.ext (Nat.mod_eq_of_lt (by have := j.isLt; omega))
  unfold xv
  rw [ej]
  rfl

theorem att_eq (c : Dev nD) (t : Fin cfg0.N) (d : Fin 64) (q : Fin 1024) :
    att (iblk m c 0 t) (iblk m c 1 t) (iblk m c 2 t) q.val d = out (aQ m c) (aK m c) (aV m c) (ix4 (pb t) (ph t) d (col (pt t) q)) := by
  show _ = entry (aQ m c) (aK m c) (aV m c) (pb t) (ph t) d (col (pt t) q)
  unfold att entry wt
  rw [Finset.sum_range, Finset.sum_range, sup_range]
  simp only [sc_eq, xv_eq]

/-- What point `t` leaves is block `t` of the common value. -/
theorem left_eq (c : Dev nD) (t : Fin cfg0.N) (hq : ∀ i, ∃ r : ℝ, aQ m c i = (r : EReal)) (hk : ∀ i, ∃ r : ℝ, aK m c i = (r : EReal))
    (d : Fin 64) (q : Fin 1024) :
    ((dats m 0 c).flushed 3 t : FVec Ideal S1x1x64x1024 .bf16) (ix4 0 0 d q)
      = out (aQ m c) (aK m c) (aV m c) (ix4 (pb t) (ph t) d (col (pt t) q)) := by
  refine (congrFun (Value.flushed3_A m c t) _).trans ?_
  refine Eq.trans ?_ (att_eq m c t d q)
  exact out_apply _ _ _ (blk_q_real m c t hq) (blk_k_real m c t hk) c _ _ _ _ _ _ _ _ _ _ _ d q

theorem index_3 (t : Fin grid0.N) : (cfg0.win 3).index t = ![(pb t).val, (ph t).val, 0, (pt t).val] := tr_3 t

/-- Every point writes its block of the result back: the next point's is another. -/
theorem flush_3 (t : Fin grid0.N) : (cfg0.win 3).flush t = true := by
  unfold Pipeline.Window.flush
  rw [Bool.and_eq_true, Bool.or_eq_true, decide_eq_true_eq, decide_eq_true_eq]
  refine ⟨rfl, ?_⟩
  by_cases h : t.val + 1 = grid0.N
  · exact .inl h
  · refine .inr ⟨by have := t.isLt; show t.val + 1 < grid0.N; omega, fun e => ?_⟩
    rw [index_3, index_3] at e
    have e0 : (pt _).val = (pt t).val := congrFun e 3
    rw [pt_val, pt_val] at e0
    have : (t.val + 1) % 16 = t.val % 16 := e0
    omega

theorem emb_3 (t : Fin cfg0.N) (d : Fin 64) (q : Fin 1024) :
    ((cfg0.win 3).blk t).view.emb (ix4 0 0 d q : S1x1x64x1024.Idx) = (ix4 (pb t) (ph t) d (col (pt t) q) : S3x8x64x16384.Idx) := by
  funext a
  apply Fin.ext
  match a with
  | ⟨0, _⟩ =>
    show cc0_transform_3 (grid0.coords t) 0 * 1 + 1 * 0 = (pb t).val
    rw [tr_3]; show (pb t).val * 1 + 1 * 0 = _; omega
  | ⟨1, _⟩ =>
    show cc0_transform_3 (grid0.coords t) 1 * 1 + 1 * 0 = (ph t).val
    rw [tr_3]; show (ph t).val * 1 + 1 * 0 = _; omega
  | ⟨2, _⟩ =>
    show cc0_transform_3 (grid0.coords t) 2 * 64 + 1 * d.val = d.val
    rw [tr_3]; show 0 * 64 + 1 * d.val = _; omega
  | ⟨3, _⟩ =>
    show cc0_transform_3 (grid0.coords t) 3 * 1024 + 1 * q.val = (pt t).val * 1024 + q.val
    rw [tr_3]; show (pt t).val * 1024 + 1 * q.val = _; omega

/-- Where every point writes back its block of `G`, the result array ends holding `G`: the 384 blocks tile it. -/
theorem arr_3 (c : Dev nD) (G : FVec Ideal S3x8x64x16384 .bf16)
    (h : ∀ (t : Fin cfg0.N) (d : Fin 64) (q : Fin 1024), ((dats m 0 c).flushed 3 t : FVec Ideal S1x1x64x1024 .bf16) (ix4 0 0 d q)
      = G (ix4 (pb t) (ph t) d (col (pt t) q))) :
    (dats m 0 c).arrAt 3 cfg0.N = G :=
  (dats m 0 c).arrAt_eq_of_cover 3 G (fun t _ => by
    show ((dats m 0 c).flushed 3 t : FVec Ideal S1x1x64x1024 .bf16) = _
    refine funext fun (j : S1x1x64x1024.Idx) => ?_
    obtain ⟨d, q, rfl⟩ : ∃ (d : Fin 64) (q : Fin 1024), j = ix4 0 0 d q := ⟨j 2, j 3, by
      funext a
      match a with
      | ⟨0, _⟩ => exact Fin.ext (by have h1 : (j 0).val < 1 := (j 0).isLt; show (j 0).val = 0; omega)
      | ⟨1, _⟩ => exact Fin.ext (by have h1 : (j 1).val < 1 := (j 1).isLt; show (j 1).val = 0; omega)
      | ⟨2, _⟩ => rfl
      | ⟨3, _⟩ => rfl⟩
    refine (h t d q).trans (Eq.trans ?_ (View.read_apply ..).symm)
    exact (congrArg G (emb_3 t d q)).symm) fun (i : S3x8x64x16384.Idx) => by
  have h0 : (i 0 : Nat) < 3 := (i 0).isLt
  have h1 : (i 1 : Nat) < 8 := (i 1).isLt
  have h3 : (i 3 : Nat) < 16384 := (i 3).isLt
  have ht : (i 0 : Nat) * 128 + (i 1 : Nat) * 16 + (i 3 : Nat) / 1024 < grid0.N := by rw [N_0]; omega
  refine ⟨⟨(i 0 : Nat) * 128 + (i 1 : Nat) * 16 + (i 3 : Nat) / 1024, ht⟩, flush_3 _, ?_⟩
  have e : (ix4 (pb ⟨_, ht⟩) (ph ⟨_, ht⟩) (i 2) (col (pt ⟨_, ht⟩) ⟨(i 3 : Nat) % 1024, Nat.mod_lt _ (by decide)⟩) : S3x8x64x16384.Idx) = i := by
    funext a
    match a with
    | ⟨0, _⟩ => exact Fin.ext ((pb_val _).trans (by show _ = (i 0 : Nat); dsimp only; omega))
    | ⟨1, _⟩ => exact Fin.ext ((ph_val _).trans (by show _ = (i 1 : Nat); dsimp only; omega))
    | ⟨2, _⟩ => rfl
    | ⟨3, _⟩ =>
      refine Fin.ext ?_
      show (pt _).val * 1024 + (i 3 : Nat) % 1024 = (i 3 : Nat)
      rw [pt_val]
      dsimp only
      omega
  have h2 := ((cfg0.win 3).blk ⟨_, ht⟩).view.emb_mem_set (ix4 0 0 (i 2) ⟨(i 3 : Nat) % 1024, Nat.mod_lt _ (by decide)⟩ : S1x1x64x1024.Idx)
  exact Eq.mp (congrArg (fun j => j ∈ ((cfg0.win 3).blk ⟨_, ht⟩).view.set) ((emb_3 _ _ _).trans e)) h2

/-- The result array ends holding the common value. -/
theorem final_eq (c : Dev nD) (hq : ∀ i, ∃ r : ℝ, aQ m c i = (r : EReal)) (hk : ∀ i, ∃ r : ℝ, aK m c i = (r : EReal)) :
    (dats m 0 c).arrAt 3 cfg0.N = out (aQ m c) (aK m c) (aV m c) :=
  arr_3 m c _ fun t d q => left_eq m c t hq hk d q

end Kernel

/-! ## The reference -/

section Reference

open Cert.Reference4Ideal

variable (Qa : FVec Ideal S3x8x128x16384 .bf16) (Ka : FVec Ideal S3x8x16384x128 .bf16) (Va : FVec Ideal S3x8x32x64x512 .bf16)

/-- The reference's scores. -/
abbrev refS : FVec Ideal S3x8x16384x16384 .f32 :=
  Host.dotGeneral dot_S3x8x16384x128_S3x8x16384x128_S3x8x16384x16384_3_3_2_2_01_01 none
    (extf .f32 (transpose S3x8x16384x128 [0, 1, 3, 2] Qa Gen.facts.transposes_S3x8x128x16384_S3x8x16384x128_0_1_3_2) Gen.facts.bitsLt_bf16_f32)
    (extf .f32 Ka Gen.facts.bitsLt_bf16_f32)

theorem refS_apply (b : Fin 3) (h : Fin 8) (q j : Fin 16384) : refS Qa Ka (ix4 b h q j) = score Qa Ka b h q j := by
  unfold refS score
  pointwise
  exact Finset.sum_congr rfl fun d _ => mul_comm _ _

/-- Two to the scores below each query's largest. -/
abbrev refP (s : FVec Ideal S3x8x16384x16384 .f32) : FVec Ideal S3x8x16384x16384 .f32 :=
  Host.powf (broadcastInDim S3x8x16384x16384 ![] Gen.facts.bcast_S_S3x8x16384x16384 (constant S_ .f32 0x40000000#32))
    (subf s (broadcastInDim S3x8x16384x16384 ![0, 1, 2, 3] Gen.facts.bcast_S3x8x16384x1_S3x8x16384x16384_0_1_2_3
      (broadcastInDim S3x8x16384x1 ![0, 1, 2] Gen.facts.bcast_S3x8x16384_S3x8x16384x1_0_1_2
        (Host.reduce FloatOps.maximumf s (constant S_ .f32 0xFF800000#32) Gen.facts.reducesTo_S3x8x16384x16384_S3x8x16384_d3 Gen.facts.h_S_))))

theorem two : Ideal.ofBits .f32 0x40000000#32 = ((2 : ℝ) : EReal) := by
  simp [Ideal.ofBits, Ideal.ieee, -EReal.coe_mul]
  norm_num

theorem pow_two (y : EReal) : Ideal.pow ((2 : ℝ) : EReal) y = Ideal.exp2 y := by
  induction y with
  | bot =>
    show (if (2 : ℝ) < 0 then ⊥ else if (1 : ℝ) < 2 then (0 : EReal) else if (2 : ℝ) = 1 then 1 else ⊤) = 0
    rw [if_neg (by norm_num), if_pos (by norm_num)]
  | top =>
    show (if (2 : ℝ) < 0 then (⊥ : EReal) else if (1 : ℝ) < 2 then ⊤ else if (2 : ℝ) = 1 then 1 else 0) = ⊤
    rw [if_neg (by norm_num), if_pos (by norm_num)]
  | coe r => rfl

theorem refP_apply (s : FVec Ideal S3x8x16384x16384 .f32) (b : Fin 3) (h : Fin 8) (q j : Fin 16384) :
    refP s (ix4 b h q j) = Ideal.exp2 (s (ix4 b h q j) - Finset.univ.sup fun k => s (ix4 b h q k)) := by
  unfold refP
  pointwise
  rw [← pow_two, ← two]
  rfl

/-- The weights over their sums. -/
abbrev refW (p : FVec Ideal S3x8x16384x16384 .f32) : FVec Ideal S3x8x16384x16384 .f32 :=
  Host.divf p (broadcastInDim S3x8x16384x16384 ![0, 1, 2, 3] Gen.facts.bcast_S3x8x16384x1_S3x8x16384x16384_0_1_2_3
    (broadcastInDim S3x8x16384x1 ![0, 1, 2] Gen.facts.bcast_S3x8x16384_S3x8x16384x1_0_1_2
      (Host.reduceAdd p (constant S_ .f32 0x00000000#32) Gen.facts.reducesTo_S3x8x16384x16384_S3x8x16384_d3 Gen.facts.h_S_)))

theorem refW_apply (p : FVec Ideal S3x8x16384x16384 .f32) (b : Fin 3) (h : Fin 8) (q j : Fin 16384) :
    refW p (ix4 b h q j) = Ideal.div (p (ix4 b h q j)) (∑ k, p (ix4 b h q k)) := by
  unfold refW
  pointwise

/-- The values, a row for each key. -/
abbrev refV : FVec Ideal S3x8x16384x64 .bf16 :=
  shapeCast _ (transpose S3x8x32x512x64 [0, 1, 2, 4, 3] Va Gen.facts.transposes_S3x8x32x64x512_S3x8x32x512x64_0_1_2_4_3)
    Gen.facts.shapeCasts_S3x8x32x512x64_S3x8x16384x64

theorem refV_apply (b : Fin 3) (h : Fin 8) (j : Fin 16384) (d : Fin 64) : refV Va (ix4 b h j d) = Va (ix5 b h (grp j) d (pos j)) := by
  unfold refV
  pointwise
  rfl

abbrev refO (w : FVec Ideal S3x8x16384x16384 .f32) (v : FVec Ideal S3x8x16384x64 .bf16) : FVec Ideal S3x8x64x16384 .bf16 :=
  truncf .bf16 (transpose S3x8x64x16384 [0, 1, 3, 2]
    (Host.dotGeneral dot_S3x8x16384x16384_S3x8x16384x64_S3x8x16384x64_3_2_2_3_01_01 none w (extf .f32 v Gen.facts.bitsLt_bf16_f32))
    Gen.facts.transposes_S3x8x16384x64_S3x8x64x16384_0_1_3_2) Gen.facts.bitsLt_bf16_f32

theorem refO_apply (w : FVec Ideal S3x8x16384x16384 .f32) (v : FVec Ideal S3x8x16384x64 .bf16) (b : Fin 3) (h : Fin 8) (d : Fin 64) (q : Fin 16384) :
    refO w v (ix4 b h d q) = ∑ j, w (ix4 b h q j) * v (ix4 b h j d) := by
  unfold refO
  pointwise

/-- The reference's term is the common value. -/
theorem ref_eq : refO (refW (refP (refS Qa Ka))) (refV Va) = out Qa Ka Va := by
  refine funext fun (i : S3x8x64x16384.Idx) => ?_
  obtain ⟨b, h, d, q, rfl⟩ : ∃ (b : Fin 3) (h : Fin 8) (d : Fin 64) (q : Fin 16384), i = ix4 b h d q :=
    ⟨i 0, i 1, i 2, i 3, by funext a; fin_cases a <;> rfl⟩
  show _ = entry Qa Ka Va b h d q
  rw [refO_apply]
  unfold entry wt
  simp only [refW_apply, refP_apply, refS_apply, refV_apply]

end Reference

end Cert.Proof.Attn

end
-- ==== Proof.PreRun.lean ====
/-
The run of the body of the call that projects the tokens to the mixers' inputs, over any float values: from whole staging buffers it
ends with the inputs' as they were and each of the nine results' with its stores.
-/
module

public import proofs.«01_k».proof.Proof.Gen.Kernel6Ideal.Frame.Runs

@[expose] public section

set_option maxRecDepth 16384

noncomputable section

namespace Cert.Kernel6Ideal.Hand

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 6000000 in
/-- What the body's stores leave in each result's staging buffer, as pieces (last first), with the run that finds them. -/
noncomputable def bodyRun (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x2432 .bf16) (harg5 : arg5.IsWhole) (arg6 : Memref sig .tc .vmem S1x384 .f32) (harg6 : arg6.IsWhole) (arg7 : Memref sig .tc .vmem S768x384 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S512x256 .bf16) (harg10 : arg10.IsWhole) (arg11 : Memref sig .tc .vmem S128x256 .bf16) (harg11 : arg11.IsWhole) (arg12 : Memref sig .tc .vmem S1x256 .f32) (harg12 : arg12.IsWhole) (arg13 : Memref sig .tc .vmem S128x256 .bf16) (harg13 : arg13.IsWhole) (arg14 : Memref sig .tc .vmem S1x256 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S128x512 .f32) (harg18 : arg18.IsWhole) (arg19 : Memref sig .tc .vmem S128x512 .f32) (harg19 : arg19.IsWhole) (arg20 : Memref sig .tc .vmem S1x8x128x512 .bf16) (harg20 : arg20.IsWhole) (arg21 : Memref sig .tc .vmem S1x8x512x128 .bf16) (harg21 : arg21.IsWhole) (arg22 : Memref sig .tc .vmem S1x8x1x64x512 .bf16) (harg22 : arg22.IsWhole) (arg23 : Memref sig .tc .vmem S1x512x256 .f32) (harg23 : arg23.IsWhole) (arg24 : Memref sig .tc .vmem S1x512x256 .f32) (harg24 : arg24.IsWhole) (arg25 : Memref sig .tc .vmem S1x512x512 .f32) (harg25 : arg25.IsWhole) (arg26 : Memref sig .tc .vmem S1x512x256 .f32) (harg26 : arg26.IsWhole) (arg27 : Memref sig .tc .vmem S1x512x256 .f32) (harg27 : arg27.IsWhole) (arg28 : Memref sig .tc .vmem S1x512x512 .f32) (harg28 : arg28.IsWhole)
    (x0 : Vec F S1x512x1024 .f32) (x1 : Vec F S1x512x1024 .f32) (x2 : Vec F S1x1024 .f32) (x3 : Vec F S1024x2432 .bf16) (x4 : Vec F S1x384 .f32) (x5 : Vec F S768x384 .bf16) (x6 : Vec F S1x256 .f32) (x7 : Vec F S256x1024 .bf16) (x8 : Vec F S512x256 .bf16) (x9 : Vec F S128x256 .bf16) (x10 : Vec F S1x256 .f32) (x11 : Vec F S128x256 .bf16) (x12 : Vec F S1x256 .f32) (x13 : Vec F S512x128 .f32) (x14 : Vec F S512x128 .f32) (x15 : Vec F S512x128 .f32) (x16 : Vec F S128x512 .f32) (x17 : Vec F S128x512 .f32) :
    Σ' (L18 : List (View.Piece (Elt F) S1x8x128x512 .bf16)), Σ' (L19 : List (View.Piece (Elt F) S1x8x512x128 .bf16)), Σ' (L20 : List (View.Piece (Elt F) S1x8x1x64x512 .bf16)), Σ' (L21 : List (View.Piece (Elt F) S1x512x256 .f32)), Σ' (L22 : List (View.Piece (Elt F) S1x512x256 .f32)), Σ' (L23 : List (View.Piece (Elt F) S1x512x512 .f32)), Σ' (L24 : List (View.Piece (Elt F) S1x512x256 .f32)), Σ' (L25 : List (View.Piece (Elt F) S1x512x256 .f32)), { L26 : List (View.Piece (Elt F) S1x512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26)) -∗ K ⟨⟩))
          ⊢ wp frame (wpE (defs₀ (F := F)) Variants.none c none) E (cc0_pre i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, ?_, ?_, fun E K => ?run⟩
  case run =>
    simp only [cc0_pre_eq_skeleton]; unfold cc0_pre_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact H26

end Cert.Kernel6Ideal.Hand

end
-- ==== Proof.PreCover.lean ====
/-
The frame of the call that projects the tokens to the mixers' inputs, over any float values: what each point of the grid leaves in the
nine results' staging buffers, the proof data of the pipeline, and the run of the whole program.
-/
module

public import proofs.«01_k».proof.Proof.PreRun
public import Idealize.ShloMosaic.Lib.Claim

@[expose] public section

set_option maxRecDepth 16384

noncomputable section

namespace Cert.Kernel6Ideal.Hand

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at point `t`. -/
def runAt (c : Dev nD) (t : Fin cfg0.N) := bodyRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)

/-- The stores to result 0 cover its block. -/
theorem cover18 (c : Dev nD) (t : Fin cfg0.N) (y : S1x8x128x512.Idx) : ∃ pc ∈ (runAt m c t).1, y ∈ pc.1.set :=
  View.cover_of_tiledBy (runAt m c t).1 ![1, 1, 16, 512] (by sl_kernel_rfl) y

/-- The stores to result 1 cover its block. -/
theorem cover19 (c : Dev nD) (t : Fin cfg0.N) (y : S1x8x512x128.Idx) : ∃ pc ∈ (runAt m c t).2.1, y ∈ pc.1.set :=
  View.cover_of_tiledL (runAt m c t).2.1 S1x1x512x128.size (by sl_kernel_rfl) y

/-- The stores to result 2 cover its block. -/
theorem cover20 (c : Dev nD) (t : Fin cfg0.N) (y : S1x8x1x64x512.Idx) : ∃ pc ∈ (runAt m c t).2.2.1, y ∈ pc.1.set :=
  View.cover_of_tiledL (runAt m c t).2.2.1 S1x1x1x64x512.size (by sl_kernel_rfl) y

/-- The stores to result 3 cover its block. -/
theorem cover21 (c : Dev nD) (t : Fin cfg0.N) (y : S1x512x256.Idx) : ∃ pc ∈ (runAt m c t).2.2.2.1, y ∈ pc.1.set :=
  View.cover_of_tiledL (runAt m c t).2.2.2.1 S1x512x256.size (by sl_kernel_rfl) y

/-- The stores to result 4 cover its block. -/
theorem cover22 (c : Dev nD) (t : Fin cfg0.N) (y : S1x512x256.Idx) : ∃ pc ∈ (runAt m c t).2.2.2.2.1, y ∈ pc.1.set :=
  View.cover_of_tiledL (runAt m c t).2.2.2.2.1 S1x512x256.size (by sl_kernel_rfl) y

/-- The stores to result 5 cover its block. -/
theorem cover23 (c : Dev nD) (t : Fin cfg0.N) (y : S1x512x512.Idx) : ∃ pc ∈ (runAt m c t).2.2.2.2.2.1, y ∈ pc.1.set :=
  View.cover_of_tiledL (runAt m c t).2.2.2.2.2.1 S1x512x512.size (by sl_kernel_rfl) y

/-- The stores to result 6 cover its block. -/
theorem cover24 (c : Dev nD) (t : Fin cfg0.N) (y : S1x512x256.Idx) : ∃ pc ∈ (runAt m c t).2.2.2.2.2.2.1, y ∈ pc.1.set :=
  View.cover_of_tiledL (runAt m c t).2.2.2.2.2.2.1 S1x512x256.size (by sl_kernel_rfl) y

/-- The stores to result 7 cover its block. -/
theorem cover25 (c : Dev nD) (t : Fin cfg0.N) (y : S1x512x256.Idx) : ∃ pc ∈ (runAt m c t).2.2.2.2.2.2.2.1, y ∈ pc.1.set :=
  View.cover_of_tiledL (runAt m c t).2.2.2.2.2.2.2.1 S1x512x256.size (by sl_kernel_rfl) y

/-- The stores to result 8 cover its block. -/
theorem cover26 (c : Dev nD) (t : Fin cfg0.N) (y : S1x512x512.Idx) : ∃ pc ∈ (runAt m c t).2.2.2.2.2.2.2.2.1, y ∈ pc.1.set :=
  View.cover_of_tiledL (runAt m c t).2.2.2.2.2.2.2.2.1 S1x512x512.size (by sl_kernel_rfl) y

/-- What the body leaves in result 0's block, whatever it held before. -/
def left18 (c : Dev nD) (t : Fin cfg0.N) : Vec F S1x8x128x512 .bf16 := VO0_18.read (Elt F) (VO0_18.writes (Elt F) VO0_18.junk (runAt m c t).1)
theorem leaves18 (c : Dev nD) (t : Fin cfg0.N) (e) :
    View.read (Elt F) (ms0_18 t).view ((ms0_18 t).view.writes (Elt F) e (runAt m c t).1) = left18 m c t :=
  View.read_writes_of_cover _ _ _ _ _ (cover18 m c t)

/-- What the body leaves in result 1's block, whatever it held before. -/
def left19 (c : Dev nD) (t : Fin cfg0.N) : Vec F S1x8x512x128 .bf16 := VO0_19.read (Elt F) (VO0_19.writes (Elt F) VO0_19.junk (runAt m c t).2.1)
theorem leaves19 (c : Dev nD) (t : Fin cfg0.N) (e) :
    View.read (Elt F) (ms0_19 t).view ((ms0_19 t).view.writes (Elt F) e (runAt m c t).2.1) = left19 m c t :=
  View.read_writes_of_cover _ _ _ _ _ (cover19 m c t)

/-- What the body leaves in result 2's block, whatever it held before. -/
def left20 (c : Dev nD) (t : Fin cfg0.N) : Vec F S1x8x1x64x512 .bf16 := VO0_20.read (Elt F) (VO0_20.writes (Elt F) VO0_20.junk (runAt m c t).2.2.1)
theorem leaves20 (c : Dev nD) (t : Fin cfg0.N) (e) :
    View.read (Elt F) (ms0_20 t).view ((ms0_20 t).view.writes (Elt F) e (runAt m c t).2.2.1) = left20 m c t :=
  View.read_writes_of_cover _ _ _ _ _ (cover20 m c t)

/-- What the body leaves in result 3's block, whatever it held before. -/
def left21 (c : Dev nD) (t : Fin cfg0.N) : Vec F S1x512x256 .f32 := VO0_21.read (Elt F) (VO0_21.writes (Elt F) VO0_21.junk (runAt m c t).2.2.2.1)
theorem leaves21 (c : Dev nD) (t : Fin cfg0.N) (e) :
    View.read (Elt F) (ms0_21 t).view ((ms0_21 t).view.writes (Elt F) e (runAt m c t).2.2.2.1) = left21 m c t :=
  View.read_writes_of_cover _ _ _ _ _ (cover21 m c t)

/-- What the body leaves in result 4's block, whatever it held before. -/
def left22 (c : Dev nD) (t : Fin cfg0.N) : Vec F S1x512x256 .f32 := VO0_22.read (Elt F) (VO0_22.writes (Elt F) VO0_22.junk (runAt m c t).2.2.2.2.1)
theorem leaves22 (c : Dev nD) (t : Fin cfg0.N) (e) :
    View.read (Elt F) (ms0_22 t).view ((ms0_22 t).view.writes (Elt F) e (runAt m c t).2.2.2.2.1) = left22 m c t :=
  View.read_writes_of_cover _ _ _ _ _ (cover22 m c t)

/-- What the body leaves in result 5's block, whatever it held before. -/
def left23 (c : Dev nD) (t : Fin cfg0.N) : Vec F S1x512x512 .f32 := VO0_23.read (Elt F) (VO0_23.writes (Elt F) VO0_23.junk (runAt m c t).2.2.2.2.2.1)
theorem leaves23 (c : Dev nD) (t : Fin cfg0.N) (e) :
    View.read (Elt F) (ms0_23 t).view ((ms0_23 t).view.writes (Elt F) e (runAt m c t).2.2.2.2.2.1) = left23 m c t :=
  View.read_writes_of_cover _ _ _ _ _ (cover23 m c t)

/-- What the body leaves in result 6's block, whatever it held before. -/
def left24 (c : Dev nD) (t : Fin cfg0.N) : Vec F S1x512x256 .f32 := VO0_24.read (Elt F) (VO0_24.writes (Elt F) VO0_24.junk (runAt m c t).2.2.2.2.2.2.1)
theorem leaves24 (c : Dev nD) (t : Fin cfg0.N) (e) :
    View.read (Elt F) (ms0_24 t).view ((ms0_24 t).view.writes (Elt F) e (runAt m c t).2.2.2.2.2.2.1) = left24 m c t :=
  View.read_writes_of_cover _ _ _ _ _ (cover24 m c t)

/-- What the body leaves in result 7's block, whatever it held before. -/
def left25 (c : Dev nD) (t : Fin cfg0.N) : Vec F S1x512x256 .f32 := VO0_25.read (Elt F) (VO0_25.writes (Elt F) VO0_25.junk (runAt m c t).2.2.2.2.2.2.2.1)
theorem leaves25 (c : Dev nD) (t : Fin cfg0.N) (e) :
    View.read (Elt F) (ms0_25 t).view ((ms0_25 t).view.writes (Elt F) e (runAt m c t).2.2.2.2.2.2.2.1) = left25 m c t :=
  View.read_writes_of_cover _ _ _ _ _ (cover25 m c t)

/-- What the body leaves in result 8's block, whatever it held before. -/
def left26 (c : Dev nD) (t : Fin cfg0.N) : Vec F S1x512x512 .f32 := VO0_26.read (Elt F) (VO0_26.writes (Elt F) VO0_26.junk (runAt m c t).2.2.2.2.2.2.2.2.1)
theorem leaves26 (c : Dev nD) (t : Fin cfg0.N) (e) :
    View.read (Elt F) (ms0_26 t).view ((ms0_26 t).view.writes (Elt F) e (runAt m c t).2.2.2.2.2.2.2.2.1) = left26 m c t :=
  View.read_writes_of_cover _ _ _ _ _ (cover26 m c t)

end Cert.Kernel6Ideal.Hand

end
-- ==== Proof.PreFrame.lean ====
/-
The frame of the call that projects the tokens to the mixers' inputs, over any float values: what each point of the grid leaves in the
nine results' staging buffers, the proof data of the pipeline, and the run of the whole program.
-/
module

public import proofs.«01_k».proof.Proof.PreCover
public import Idealize.ShloMosaic.Lib.Claim

@[expose] public section

set_option maxRecDepth 16384

noncomputable section

namespace Cert.Kernel6Ideal.Hand

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] runAt left18 left19 left20 left21 left22 left23 left24 left25 left26

/-! ## The pipeline's proof data -/

/-- The proof data of the pipeline: the arrays as the region finds them; after the body each input's buffer at its block and the results' at what it leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => left18 m c t
    | ⟨19, _⟩ => left19 m c t
    | ⟨20, _⟩ => left20 m c t
    | ⟨21, _⟩ => left21 m c t
    | ⟨22, _⟩ => left22 m c t
    | ⟨23, _⟩ => left23 m c t
    | ⟨24, _⟩ => left24 m c t
    | ⟨25, _⟩ => left25 m c t
    | ⟨26, _⟩ => left26 m c t
    | ⟨_ + 27, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = left18 m c t := by dsimp only [dats]
theorem after0_19 (c : Dev nD) (t : Fin cfg0.N) : (dats m 0 c).after 19 t = left19 m c t := by dsimp only [dats]
theorem after0_20 (c : Dev nD) (t : Fin cfg0.N) : (dats m 0 c).after 20 t = left20 m c t := by dsimp only [dats]
theorem after0_21 (c : Dev nD) (t : Fin cfg0.N) : (dats m 0 c).after 21 t = left21 m c t := by dsimp only [dats]
theorem after0_22 (c : Dev nD) (t : Fin cfg0.N) : (dats m 0 c).after 22 t = left22 m c t := by dsimp only [dats]
theorem after0_23 (c : Dev nD) (t : Fin cfg0.N) : (dats m 0 c).after 23 t = left23 m c t := by dsimp only [dats]
theorem after0_24 (c : Dev nD) (t : Fin cfg0.N) : (dats m 0 c).after 24 t = left24 m c t := by dsimp only [dats]
theorem after0_25 (c : Dev nD) (t : Fin cfg0.N) : (dats m 0 c).after 25 t = left25 m c t := by dsimp only [dats]
theorem after0_26 (c : Dev nD) (t : Fin cfg0.N) : (dats m 0 c).after 26 t = left26 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 2400000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((runAt m c t).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact leaves18 m c t _
  isplitl [H19]
  · unfold owns; iexists _; isplitr
    swap; · iexact H19
    ipureintro; exact leaves19 m c t _
  isplitl [H20]
  · unfold owns; iexists _; isplitr
    swap; · iexact H20
    ipureintro; exact leaves20 m c t _
  isplitl [H21]
  · unfold owns; iexists _; isplitr
    swap; · iexact H21
    ipureintro; exact leaves21 m c t _
  isplitl [H22]
  · unfold owns; iexists _; isplitr
    swap; · iexact H22
    ipureintro; exact leaves22 m c t _
  isplitl [H23]
  · unfold owns; iexists _; isplitr
    swap; · iexact H23
    ipureintro; exact leaves23 m c t _
  isplitl [H24]
  · unfold owns; iexists _; isplitr
    swap; · iexact H24
    ipureintro; exact leaves24 m c t _
  isplitl [H25]
  · unfold owns; iexists _; isplitr
    swap; · iexact H25
    ipureintro; exact leaves25 m c t _
  unfold owns; iexists _; isplitr
  swap; · iexact H26
  ipureintro; exact leaves26 m c t _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel6Ideal.Hand

end
-- ==== Proof.PreSame.lean ====
/-
The two programs of the call that projects the tokens to the mixers' inputs have the same text.
-/
module

public import proofs.«01_k».proof.Proof.Gen.Kernel6
public import proofs.«01_k».proof.Proof.Gen.Kernel6Ideal

@[expose] public section

set_option maxRecDepth 16384
set_option maxHeartbeats 8000000

namespace Cert.Proof.Projections

open Idealize.ShloMosaic Idealize.SL.Sem

variable {F : FTy → Type} [FloatOps F]

theorem main_same : @Cert.Kernel6.main F _ _ = @Cert.Kernel6Ideal.main F _ _ := rfl

theorem defs₀_same : @Cert.Kernel6.defs₀ F _ _ = @Cert.Kernel6Ideal.defs₀ F _ _ := by
  unfold Cert.Kernel6.defs₀ Cert.Kernel6Ideal.defs₀
  refine congrArg Defs.onTc ?_
  funext l x
  match l, x with
  | 0, (t, s) =>
    exact rfl

theorem defs_same : @Cert.Kernel6.defs F _ _ = @Cert.Kernel6Ideal.defs F _ _ :=
  congrArg (Pipeline.defs (Cert.Kernel6Ideal.pcfgs (F := F))) defs₀_same

end Cert.Proof.Projections
-- ==== Proof.PreMath.lean ====
/-
The products of the call that projects the tokens to the mixers' inputs, over the extended reals: a token's normalized row against
a column of the projection, in the kernel's words and in the reference's.
-/
module

public import proofs.«01_k».proof.Proof.Gen.Kernel6Ideal.Skeleton
public import Idealize.ShloMosaic.Lib.Pipeline.Value
public import Idealize.ShloMosaic.Lib.StableHlo.ReadAt
public import Idealize.ShloMosaic.Lib.Pointwise
public import Idealize.ShloMosaic.Lib.Tactic

@[expose] public section

noncomputable section

namespace Cert.Proof.Projections

open Idealize.ShloMosaic Idealize.ShloMosaic.TcCoe Idealize.SL.Sem

/-- Entry `k` of a row over its root mean square, scaled. -/
def normRow (x g : Fin 1024 → EReal) (k : Fin 1024) : EReal :=
  x k * Ideal.rsqrt (Ideal.div (∑ j, x j * x j) (Ideal.ofBits FTy.f32 0x44800000#32) + Ideal.ofBits FTy.f32 0x358637BD#32) * g k

section Kernel

open Cert.Kernel6Ideal Cert.Kernel6Ideal.Gen

/-- The row a point works on: the first array's in the first sequence, the second's in the others. -/
def rowOf (i : grid0.Coords) (x0 x1 : Vec Ideal S1x512x1024 .f32) (p : Fin 512) (k : Fin 1024) : EReal :=
  if (i 0).val < 1 then x0 (ix3 0 p k) else x1 (ix3 0 p k)

theorem slt_one (i : grid0.Coords) : Scalar.cmpi .slt (BitVec.ofNat 32 (i 0).val) 1#32 = 1#1 ↔ (i 0).val < 1 := by
  have h : (i 0).val < 3 := (i 0).isLt
  generalize (i 0).val = n at h
  match n, h with
  | 0, _ => decide
  | 1, _ => decide
  | 2, _ => decide

theorem pay2_apply (i : grid0.Coords) (x0 x1 : Vec Ideal S1x512x1024 .f32) (x2 : Vec Ideal S1x1024 .f32) (x3 : Vec Ideal S1024x2432 .bf16)
    (p : Fin 512) (l : Fin 2432) :
    k0_pay2 i x0 x1 x2 x3 (ix2 p l) = ∑ k, normRow (rowOf i x0 x1 p) (fun k => x2 (ix2 0 k)) k * x3 (ix2 k l) := by
  have hs : ∀ p k, (Scalar.select (Scalar.cmpi .slt (BitVec.ofNat 32 (i 0).val) 1#32) (shapeCast S512x1024 x0 Facts₀.shapeCasts_S1x512x1024_S512x1024)
      (shapeCast S512x1024 x1 Facts₀.shapeCasts_S1x512x1024_S512x1024) : FVec Ideal S512x1024 .f32) (ix2 p k) = rowOf i x0 x1 p k := by
    intro p k
    unfold Scalar.select rowOf
    by_cases h : (i 0).val < 1
    · rw [if_pos (show _ = (1 : BitVec 1) from (slt_one i).mpr h), if_pos h]
      pointwise
    · rw [if_neg (fun e : _ = (1 : BitVec 1) => h ((slt_one i).mp e)), if_neg h]
      pointwise
  unfold k0_pay2 normRow
  dsimp only
  generalize (Scalar.select (Scalar.cmpi .slt (BitVec.ofNat 32 (i 0).val) 1#32) (shapeCast S512x1024 x0 Facts₀.shapeCasts_S1x512x1024_S512x1024)
      (shapeCast S512x1024 x1 Facts₀.shapeCasts_S1x512x1024_S512x1024) : FVec Ideal S512x1024 .f32) = v at hs ⊢
  simp only [← hs]
  pointwise

theorem pay72_apply (v : FVec Ideal S512x2432 .f32) (p : Fin 512) (l : Fin 256) :
    k0_pay72 v (ix3 0 p l) = v (ix2 p ⟨768 + l.val, by have := l.isLt; omega⟩) * Ideal.ofBits FTy.f32 0x3E000000#32 := by
  unfold k0_pay72
  pointwise

theorem pay73_apply (v : FVec Ideal S512x2432 .f32) (p : Fin 512) (l : Fin 256) :
    k0_pay73 v (ix3 0 p l) = v (ix2 p ⟨1024 + l.val, by have := l.isLt; omega⟩) := by
  unfold k0_pay73
  pointwise

theorem pay74_apply (v : FVec Ideal S512x2432 .f32) (p : Fin 512) (l : Fin 512) :
    k0_pay74 v (ix3 0 p l) = v (ix2 p ⟨1280 + l.val, by have := l.isLt; omega⟩) := by
  unfold k0_pay74
  pointwise

theorem pay75_apply (v : FVec Ideal S512x2432 .f32) (p : Fin 512) (l : Fin 512) :
    k0_pay75 v (ix3 0 p l) = v (ix2 p ⟨1920 + l.val, by have := l.isLt; omega⟩) := by
  unfold k0_pay75
  pointwise

end Kernel

end Cert.Proof.Projections

end
-- ==== Proof.PreArrays.lean ====
/-
The arrays the call that projects the tokens to the mixers' inputs is launched on, over the extended reals, and their blocks: the two
batches' rows, the norm's scales, and the projection with its columns moved apart by columns of zeros.
-/
module

public import proofs.«01_k».proof.Proof.PreMath
public import proofs.«01_k».proof.Proof.Gen.Kernel6Ideal.Frame.Runs

@[expose] public section

noncomputable section

namespace Cert.Proof.Projections

open Idealize.ShloMosaic Idealize.ShloMosaic.TcCoe Idealize.SL.Sem
open Cert.Kernel6Ideal Cert.Kernel6Ideal.Gen

variable (m : (ℓ : Loc nD τ sig) → Buf (Elt Ideal) ℓ)

/-- The four argument arrays the claimed results depend on. -/
abbrev aXa (c : Dev nD) : FVec Ideal S1x16384x1024 .f32 := m ((c : Thread nD τ).loc main_arg0)
abbrev aXb (c : Dev nD) : FVec Ideal S2x16384x1024 .f32 := m ((c : Thread nD τ).loc main_arg1)
abbrev aG (c : Dev nD) : FVec Ideal S1024 .f32 := m ((c : Thread nD τ).loc main_arg2)
abbrev aW (c : Dev nD) : FVec Ideal S1024x2240 .f32 := m ((c : Thread nD τ).loc main_arg3)

set_option maxHeartbeats 2000000 in
theorem V_norm (c : Dev nD) (k : Fin 1024) : (V m c main_v27 : FVec Ideal S1x1024 .f32) (ix2 0 k) = aG m c (ix1 k) := by
  unfold V
  unfold hostOps0
  after_reads_at

/-- The projection's columns, moved apart. -/
abbrev moved (W : FVec Ideal S1024x2240 .f32) : FVec Ideal S1024x2432 .bf16 :=
  truncf .bf16 (concatenate S1024x2432 1 [⟨S1024x384, extractStridedSlice S1024x384 ![0, 0] W Facts₀.slices_S1024x2240_S1024x384_0_0⟩,
    ⟨S1024x256, extractStridedSlice S1024x256 ![0, 384] W Facts₀.slices_S1024x2240_S1024x256_0_384⟩,
    ⟨S1024x64, broadcastInDim S1024x64 ![] Facts₀.bcast_S_S1024x64 (constant S_ .f32 0x00000000#32)⟩,
    ⟨S1024x32, extractStridedSlice S1024x32 ![0, 640] W Facts₀.slices_S1024x2240_S1024x32_0_640⟩,
    ⟨S1024x32, broadcastInDim S1024x32 ![] Facts₀.bcast_S_S1024x32 (constant S_ .f32 0x00000000#32)⟩,
    ⟨S1024x256, extractStridedSlice S1024x256 ![0, 672] W Facts₀.slices_S1024x2240_S1024x256_0_672⟩,
    ⟨S1024x256, extractStridedSlice S1024x256 ![0, 928] W Facts₀.slices_S1024x2240_S1024x256_0_928⟩,
    ⟨S1024x512, extractStridedSlice S1024x512 ![0, 1184] W Facts₀.slices_S1024x2240_S1024x512_0_1184⟩,
    ⟨S1024x32, extractStridedSlice S1024x32 ![0, 1696] W Facts₀.slices_S1024x2240_S1024x32_0_1696⟩,
    ⟨S1024x96, broadcastInDim S1024x96 ![] Facts₀.bcast_S_S1024x96 (constant S_ .f32 0x00000000#32)⟩,
    ⟨S1024x512, extractStridedSlice S1024x512 ![0, 1728] W Facts₀.slices_S1024x2240_S1024x512_0_1728⟩]
    Facts₀.concatenates_S1024x384_S1024x256_S1024x64_S1024x32_S1024x32_S1024x256_S1024x256_S1024x512_S1024x32_S1024x96_S1024x512_S1024x2432_d1) Facts₀.bitsLt_bf16_f32

set_option maxHeartbeats 2000000 in
/-- The projection as the region finds it. -/
theorem V_win (c : Dev nD) : (V m c main_v12 : FVec Ideal S1024x2432 .bf16) = moved (aW m c) := by
  unfold V
  unfold hostOps0
  after_results
  simp only [Matrix.cons_val, ↓StableHlo.readResult, ↓StableHlo.readPieces]

set_option maxHeartbeats 4000000 in
theorem moved_q (W : FVec Ideal S1024x2240 .f32) (k : Fin 1024) (l : Fin 256) :
    moved W (ix2 k ⟨768 + l.val, by have := l.isLt; omega⟩) = W (ix2 k ⟨672 + l.val, by have := l.isLt; omega⟩) := by
  have hl := l.isLt
  unfold moved
  pointwise
  repeat first | refine (dif_neg (by omega)).trans ?_ | refine (dif_pos (by omega)).trans ?_
  exact congrArg (fun z => W (ix2 k z)) (Fin.ext (by dsimp only; omega))

set_option maxHeartbeats 4000000 in
theorem moved_k (W : FVec Ideal S1024x2240 .f32) (k : Fin 1024) (l : Fin 256) :
    moved W (ix2 k ⟨1024 + l.val, by have := l.isLt; omega⟩) = W (ix2 k ⟨928 + l.val, by have := l.isLt; omega⟩) := by
  have hl := l.isLt
  unfold moved
  pointwise
  repeat first | refine (dif_neg (by omega)).trans ?_ | refine (dif_pos (by omega)).trans ?_
  exact congrArg (fun z => W (ix2 k z)) (Fin.ext (by dsimp only; omega))

set_option maxHeartbeats 4000000 in
theorem moved_v (W : FVec Ideal S1024x2240 .f32) (k : Fin 1024) (l : Fin 512) :
    moved W (ix2 k ⟨1280 + l.val, by have := l.isLt; omega⟩) = W (ix2 k ⟨1184 + l.val, by have := l.isLt; omega⟩) := by
  have hl := l.isLt
  unfold moved
  pointwise
  repeat first | refine (dif_neg (by omega)).trans ?_ | refine (dif_pos (by omega)).trans ?_
  exact congrArg (fun z => W (ix2 k z)) (Fin.ext (by dsimp only; omega))

set_option maxHeartbeats 4000000 in
theorem moved_r (W : FVec Ideal S1024x2240 .f32) (k : Fin 1024) (l : Fin 512) :
    moved W (ix2 k ⟨1920 + l.val, by have := l.isLt; omega⟩) = W (ix2 k ⟨1728 + l.val, by have := l.isLt; omega⟩) := by
  have hl := l.isLt
  unfold moved
  pointwise
  repeat first | refine (dif_neg (by omega)).trans ?_ | refine (dif_pos (by omega)).trans ?_
  exact congrArg (fun z => W (ix2 k z)) (Fin.ext (by dsimp only; omega))

end Cert.Proof.Projections

end
-- ==== Proof.PreRef.lean ====
/-
The call that projects the tokens to the mixers' inputs, over the extended reals: the value both programs' four results have in
common, and the reference's terms at it.
-/
module

public import proofs.«01_k».proof.Proof.PreMath
public import proofs.«01_k».proof.Proof.Gen.Reference6Ideal

@[expose] public section

noncomputable section

namespace Cert.Proof.Projections

open Idealize.ShloMosaic Idealize.ShloMosaic.TcCoe Idealize.SL.Sem

section Common

open Cert.Kernel6Ideal

variable (a : FVec Ideal S1x16384x1024 .f32) (b : FVec Ideal S2x16384x1024 .f32) (g : FVec Ideal S1024 .f32) (W : FVec Ideal S1024x2240 .f32)

/-- Token `q` of sample `s` of the two batches. -/
def xRow (s : Fin 3) (q : Fin 16384) (k : Fin 1024) : EReal :=
  if h : s.val < 1 then a (ix3 0 q k) else b (ix3 ⟨s.val - 1, by have := s.isLt; omega⟩ q k)

/-- Column `col` of its projection. -/
def projAt (s : Fin 3) (q : Fin 16384) (col : Fin 2240) : EReal :=
  ∑ k, normRow (xRow a b s q) (fun k => g (ix1 k)) k * W (ix2 k col)

/-- The four results. -/
def outQ : FVec Ideal S3x16384x256 .f32 := fun i =>
  projAt a b g W (i 0) (i 1) ⟨672 + (i 2).val, by have h : (i 2).val < 256 := (i 2).isLt; omega⟩ * Ideal.ofBits FTy.f32 0x3E000000#32
def outK : FVec Ideal S3x16384x256 .f32 := fun i =>
  projAt a b g W (i 0) (i 1) ⟨928 + (i 2).val, by have h : (i 2).val < 256 := (i 2).isLt; omega⟩
def outV : FVec Ideal S3x16384x512 .f32 := fun i =>
  projAt a b g W (i 0) (i 1) ⟨1184 + (i 2).val, by have h : (i 2).val < 512 := (i 2).isLt; omega⟩
def outR : FVec Ideal S3x16384x512 .f32 := fun i =>
  projAt a b g W (i 0) (i 1) ⟨1728 + (i 2).val, by have h : (i 2).val < 512 := (i 2).isLt; omega⟩

end Common

section Reference

open Cert.Reference6Ideal Cert.Reference6Ideal.Gen

variable (a : FVec Ideal S1x16384x1024 .f32) (b : FVec Ideal S2x16384x1024 .f32) (g : FVec Ideal S1024 .f32) (W : FVec Ideal S1024x2240 .f32)

/-- The two batches, one after the other. -/
abbrev refX : FVec Ideal S3x16384x1024 .f32 :=
  concatenate S3x16384x1024 0 [⟨S1x16384x1024, a⟩, ⟨S2x16384x1024, b⟩] facts.concatenates_S1x16384x1024_S2x16384x1024_S3x16384x1024_d0

theorem refX_apply (s : Fin 3) (q : Fin 16384) (k : Fin 1024) : refX a b (ix3 s q k) = xRow a b s q k := by
  unfold refX xRow
  pointwise
  by_cases h : s.val < 1
  · rw [dif_pos h, dif_pos h]
    exact congrArg (fun z => a (ix3 z q k)) (Fin.ext (by show s.val = 0; omega))
  · rw [dif_neg h, dif_neg h]

/-- The norm of rows `X`. -/
abbrev refNorm (X : FVec Ideal S3x16384x1024 .f32) : FVec Ideal S3x16384x1024 .f32 :=
  mulf (mulf X (broadcastInDim S3x16384x1024 ![0, 1, 2] facts.bcast_S3x16384x1_S3x16384x1024_0_1_2 (Host.rsqrt (addf (Host.divf
      (broadcastInDim S3x16384x1 ![0, 1] facts.bcast_S3x16384_S3x16384x1_0_1 (Host.reduceAdd (mulf X X) (constant S_ .f32 0x00000000#32)
        facts.reducesTo_S3x16384x1024_S3x16384_d2 facts.h_S_))
      (broadcastInDim S3x16384x1 ![] facts.bcast_S_S3x16384x1 (constant S_ .f32 0x44800000#32)))
    (broadcastInDim S3x16384x1 ![] facts.bcast_S_S3x16384x1 (constant S_ .f32 0x358637BD#32))))))
    (broadcastInDim S3x16384x1024 ![0, 1, 2] facts.bcast_S1x1x1024_S3x16384x1024_0_1_2 (broadcastInDim S1x1x1024 ![2] facts.bcast_S1024_S1x1x1024_2 g))

theorem refNorm_apply (X : FVec Ideal S3x16384x1024 .f32) (s : Fin 3) (q : Fin 16384) (k : Fin 1024) :
    refNorm g X (ix3 s q k) = normRow (fun k => X (ix3 s q k)) (fun k => g (ix1 k)) k := by
  unfold refNorm normRow
  pointwise

/-- The projection. -/
abbrev refProj : FVec Ideal S3x16384x2240 .f32 :=
  Host.dotGeneral dot_S3x16384x1024_S1024x2240_S3x16384x2240_2_0_01_1_n_n none (refNorm g (refX a b)) W

theorem refProj_apply (s : Fin 3) (q : Fin 16384) (col : Fin 2240) : refProj a b g W (ix3 s q col) = projAt a b g W s q col := by
  have h : ∀ k, refNorm g (refX a b) (ix3 s q k) = normRow (xRow a b s q) (fun k => g (ix1 k)) k := fun k => by
    rw [refNorm_apply]
    simp only [refX_apply]
  unfold refProj projAt
  generalize refNorm g (refX a b) = N at h ⊢
  pointwise
  simp only [h]

theorem ref_q : mulf (extractStridedSlice S3x16384x256 ![0, 0, 672] (refProj a b g W) facts.slices_S3x16384x2240_S3x16384x256_0_0_672)
    (broadcastInDim S3x16384x256 ![] facts.bcast_S_S3x16384x256 (constant S_ .f32 0x3E000000#32)) = outQ a b g W := by
  have h := refProj_apply a b g W
  generalize refProj a b g W = P at h ⊢
  funext i
  obtain ⟨s, q, l, rfl⟩ : ∃ (s : Fin 3) (q : Fin 16384) (l : Fin 256), i = ix3 s q l := ⟨i 0, i 1, i 2, by funext a; fin_cases a <;> rfl⟩
  pointwise
  simp only [h]
  rfl

theorem ref_k : extractStridedSlice S3x16384x256 ![0, 0, 928] (refProj a b g W) facts.slices_S3x16384x2240_S3x16384x256_0_0_928 = outK a b g W := by
  have h := refProj_apply a b g W
  generalize refProj a b g W = P at h ⊢
  funext i
  obtain ⟨s, q, l, rfl⟩ : ∃ (s : Fin 3) (q : Fin 16384) (l : Fin 256), i = ix3 s q l := ⟨i 0, i 1, i 2, by funext a; fin_cases a <;> rfl⟩
  pointwise
  simp only [h]
  rfl

theorem ref_v : extractStridedSlice S3x16384x512 ![0, 0, 1184] (refProj a b g W) facts.slices_S3x16384x2240_S3x16384x512_0_0_1184 = outV a b g W := by
  have h := refProj_apply a b g W
  generalize refProj a b g W = P at h ⊢
  funext i
  obtain ⟨s, q, l, rfl⟩ : ∃ (s : Fin 3) (q : Fin 16384) (l : Fin 512), i = ix3 s q l := ⟨i 0, i 1, i 2, by funext a; fin_cases a <;> rfl⟩
  pointwise
  simp only [h]
  rfl

theorem ref_r : extractStridedSlice S3x16384x512 ![0, 0, 1728] (refProj a b g W) facts.slices_S3x16384x2240_S3x16384x512_0_0_1728 = outR a b g W := by
  have h := refProj_apply a b g W
  generalize refProj a b g W = P at h ⊢
  funext i
  obtain ⟨s, q, l, rfl⟩ : ∃ (s : Fin 3) (q : Fin 16384) (l : Fin 512), i = ix3 s q l := ⟨i 0, i 1, i 2, by funext a; fin_cases a <;> rfl⟩
  pointwise
  simp only [h]
  rfl

end Reference

end Cert.Proof.Projections

end
-- ==== Proof.PreOut.lean ====
/-
What a point of the call that projects the tokens to the mixers' inputs leaves in its results, over any float values: each of the four
results the claims speak of is stored once, whole.
-/
module

public import proofs.«01_k».proof.Proof.PreRun
public import Idealize.ShloMosaic.Lib.WritesUnit
public import Idealize.ShloMosaic.Lib.WholeRead
public import Idealize.ShloMosaic.Lib.Pipeline.ValueKit.Geometry
public import Idealize.ShloMosaic.Lib.Pipeline.ReadBack

@[expose] public section

set_option maxHeartbeats 1000000
set_option maxRecDepth 16384

noncomputable section

namespace Cert.Kernel6Ideal.Hand

open Cert.Kernel6Ideal Cert.Kernel6Ideal.Gen Idealize.ShloMosaic Idealize.ShloMosaic.TcCoe

variable {F : FTy → Type} [FloatOps F]

theorem rdX (a : Memref sig .tc .vmem S1x512x1024 .f32) (h : a.IsWhole) (x : Vec F S1x512x1024 .f32) (inb) :
    View.readAt (Elt F) a.view (Rect.unit (s := S1x512x1024) ![0, 0, 0] S1x512x1024.size inb).toLoadRect (h.unread x) = x := by
  funext y
  refine (h.readAt_unread x _ y).trans (congrArg x ?_)
  funext b
  refine Fin.ext ((ValueKit.rect_emb_unit_val _ _ inb y b).trans ?_)
  fin_cases b <;> exact Nat.zero_add _

theorem rdG (a : Memref sig .tc .vmem S1x1024 .f32) (h : a.IsWhole) (x : Vec F S1x1024 .f32) (inb) :
    View.readAt (Elt F) a.view (Rect.unit (s := S1x1024) ![0, 0] S1x1024.size inb).toLoadRect (h.unread x) = x := by
  funext y
  refine (h.readAt_unread x _ y).trans (congrArg x ?_)
  funext b
  refine Fin.ext ((ValueKit.rect_emb_unit_val _ _ inb y b).trans ?_)
  fin_cases b <;> exact Nat.zero_add _

theorem rdW (a : Memref sig .tc .vmem S1024x2432 .bf16) (h : a.IsWhole) (x : Vec F S1024x2432 .bf16) (inb) :
    View.readAt (Elt F) a.view (Rect.unit (s := S1024x2432) ![0, 0] S1024x2432.size inb).toLoadRect (h.unread x) = x := by
  funext y
  refine (h.readAt_unread x _ y).trans (congrArg x ?_)
  funext b
  refine Fin.ext ((ValueKit.rect_emb_unit_val _ _ inb y b).trans ?_)
  fin_cases b <;> exact Nat.zero_add _

/-- The body's product, on what the windows hold. -/
theorem prod_eq (c : Dev nD) (i : grid0.Coords) (arg2 : Memref sig .tc .vmem S1x512x1024 .f32) (harg2 : arg2.IsWhole)
    (arg3 : Memref sig .tc .vmem S1x512x1024 .f32) (harg3 : arg3.IsWhole) (arg4 : Memref sig .tc .vmem S1x1024 .f32) (harg4 : arg4.IsWhole)
    (arg5 : Memref sig .tc .vmem S1024x2432 .bf16) (harg5 : arg5.IsWhole) (x0 : Vec F S1x512x1024 .f32) (x1 : Vec F S1x512x1024 .f32)
    (x2 : Vec F S1x1024 .f32) (x3 : Vec F S1024x2432 .bf16) :
    bodyRun.sl.r c i arg2 harg2 arg3 harg3 arg4 harg4 arg5 harg5 x0 x1 x2 x3 = k0_pay2 i x0 x1 x2 x3 := by
  unfold bodyRun.sl.r
  rw [rdX, rdX, rdG, rdW]

variable (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x2432 .bf16) (harg5 : arg5.IsWhole) (arg6 : Memref sig .tc .vmem S1x384 .f32) (harg6 : arg6.IsWhole) (arg7 : Memref sig .tc .vmem S768x384 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S512x256 .bf16) (harg10 : arg10.IsWhole) (arg11 : Memref sig .tc .vmem S128x256 .bf16) (harg11 : arg11.IsWhole) (arg12 : Memref sig .tc .vmem S1x256 .f32) (harg12 : arg12.IsWhole) (arg13 : Memref sig .tc .vmem S128x256 .bf16) (harg13 : arg13.IsWhole) (arg14 : Memref sig .tc .vmem S1x256 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S128x512 .f32) (harg18 : arg18.IsWhole) (arg19 : Memref sig .tc .vmem S128x512 .f32) (harg19 : arg19.IsWhole) (arg20 : Memref sig .tc .vmem S1x8x128x512 .bf16) (harg20 : arg20.IsWhole) (arg21 : Memref sig .tc .vmem S1x8x512x128 .bf16) (harg21 : arg21.IsWhole) (arg22 : Memref sig .tc .vmem S1x8x1x64x512 .bf16) (harg22 : arg22.IsWhole) (arg23 : Memref sig .tc .vmem S1x512x256 .f32) (harg23 : arg23.IsWhole) (arg24 : Memref sig .tc .vmem S1x512x256 .f32) (harg24 : arg24.IsWhole) (arg25 : Memref sig .tc .vmem S1x512x512 .f32) (harg25 : arg25.IsWhole) (arg26 : Memref sig .tc .vmem S1x512x256 .f32) (harg26 : arg26.IsWhole) (arg27 : Memref sig .tc .vmem S1x512x256 .f32) (harg27 : arg27.IsWhole) (arg28 : Memref sig .tc .vmem S1x512x512 .f32) (harg28 : arg28.IsWhole)
  (x0 : Vec F S1x512x1024 .f32) (x1 : Vec F S1x512x1024 .f32) (x2 : Vec F S1x1024 .f32) (x3 : Vec F S1024x2432 .bf16) (x4 : Vec F S1x384 .f32) (x5 : Vec F S768x384 .bf16) (x6 : Vec F S1x256 .f32) (x7 : Vec F S256x1024 .bf16) (x8 : Vec F S512x256 .bf16) (x9 : Vec F S128x256 .bf16) (x10 : Vec F S1x256 .f32) (x11 : Vec F S128x256 .bf16) (x12 : Vec F S1x256 .f32) (x13 : Vec F S512x128 .f32) (x14 : Vec F S512x128 .f32) (x15 : Vec F S512x128 .f32) (x16 : Vec F S128x512 .f32) (x17 : Vec F S128x512 .f32)

theorem pieces21 : (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17).2.2.2.1
    = [⟨Rect.unit (s := S1x512x256) ![0, 0, 0] S1x512x256.size (by decide), k0_pay72 (k0_pay2 i x0 x1 x2 x3)⟩] := by
  unfold bodyRun
  dsimp only
  rw [prod_eq]

theorem pieces22 : (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17).2.2.2.2.1
    = [⟨Rect.unit (s := S1x512x256) ![0, 0, 0] S1x512x256.size (by decide), k0_pay73 (k0_pay2 i x0 x1 x2 x3)⟩] := by
  unfold bodyRun
  dsimp only
  rw [prod_eq]

theorem pieces23 : (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17).2.2.2.2.2.1
    = [⟨Rect.unit (s := S1x512x512) ![0, 0, 0] S1x512x512.size (by decide), k0_pay74 (k0_pay2 i x0 x1 x2 x3)⟩] := by
  unfold bodyRun
  dsimp only
  rw [prod_eq]

theorem pieces26 : (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17).2.2.2.2.2.2.2.2.1
    = [⟨Rect.unit (s := S1x512x512) ![0, 0, 0] S1x512x512.size (by decide), k0_pay75 (k0_pay2 i x0 x1 x2 x3)⟩] := by
  unfold bodyRun
  dsimp only
  rw [prod_eq]

end Cert.Kernel6Ideal.Hand

end
-- ==== Proof.PreBlocks.lean ====
/-
The blocks of the call that projects the tokens to the mixers' inputs, over the extended reals: each point's rows are those of 512
tokens of one sample of the two batches, and what it leaves in the four results is their block of the common value.
-/
module

public import proofs.«01_k».proof.Proof.PreArrays
public import proofs.«01_k».proof.Proof.PreRef
public import proofs.«01_k».proof.Proof.PreOut
public import proofs.«01_k».proof.Proof.PreCover
public import Idealize.ShloMosaic.Lib.VecWindow
public import Idealize.ShloMosaic.Lib.Pipeline.Value

@[expose] public section

set_option maxRecDepth 16384

noncomputable section

namespace Cert.Proof.Projections

open Idealize.ShloMosaic Idealize.ShloMosaic.TcCoe Idealize.SL.Sem
open Cert.Kernel6Ideal Cert.Kernel6Ideal.Gen Cert.Kernel6Ideal.Hand

variable (m : (ℓ : Loc nD τ sig) → Buf (Elt Ideal) ℓ)

/-- The sample and the block of tokens of a point. -/
abbrev at0 (t : Fin grid0.N) : Fin 3 := grid0.coords t 0
abbrev at1 (t : Fin grid0.N) : Fin 32 := grid0.coords t 1

theorem at0_val : ∀ t : Fin grid0.N, (at0 t).val = t.val / 32 := by decide +kernel
theorem at1_val : ∀ t : Fin grid0.N, (at1 t).val = t.val % 32 := by decide +kernel

/-- Token `p` of a point's block. -/
def tok (t : Fin grid0.N) (p : Fin 512) : Fin 16384 := ⟨(at1 t).val * 512 + p.val, by have := (at1 t).isLt; have := p.isLt; omega⟩

theorem tr_0 : ∀ t : Fin grid0.N, cc0_transform_0 (grid0.coords t) = ![0, (at1 t).val, 0] := by decide +kernel
theorem tr_1 : ∀ t : Fin grid0.N, cc0_transform_1 (grid0.coords t) = ![(at0 t).val - 1, (at1 t).val, 0] := by decide +kernel
theorem tr_21 : ∀ t : Fin grid0.N, cc0_transform_21 (grid0.coords t) = ![(at0 t).val, (at1 t).val, 0] := by decide +kernel
theorem tr_22 : ∀ t : Fin grid0.N, cc0_transform_22 (grid0.coords t) = ![(at0 t).val, (at1 t).val, 0] := by decide +kernel
theorem tr_23 : ∀ t : Fin grid0.N, cc0_transform_23 (grid0.coords t) = ![(at0 t).val, (at1 t).val, 0] := by decide +kernel
theorem tr_26 : ∀ t : Fin grid0.N, cc0_transform_26 (grid0.coords t) = ![(at0 t).val, (at1 t).val, 0] := by decide +kernel

theorem blk_a (c : Dev nD) (t : Fin grid0.N) (p : Fin 512) (k : Fin 1024) :
    (iblk m c 0 t : FVec Ideal S1x512x1024 .f32) (ix3 0 p k) = aXa m c (ix3 0 (tok t p) k) := by
  unfold iblk
  refine Eq.trans (View.read_apply ..) ?_
  show V m c main_arg0 _ = _
  rw [V_main_arg0 m c]
  congr 1
  funext a
  apply Fin.ext
  match a with
  | ⟨0, _⟩ =>
    show cc0_transform_0 (grid0.coords t) 0 * 1 + 1 * 0 = 0
    rw [tr_0]
    rfl
  | ⟨1, _⟩ =>
    show cc0_transform_0 (grid0.coords t) 1 * 512 + 1 * p.val = (tok t p).val
    rw [tr_0]
    show (at1 t).val * 512 + 1 * p.val = (at1 t).val * 512 + p.val
    omega
  | ⟨2, _⟩ =>
    show cc0_transform_0 (grid0.coords t) 2 * 1024 + 1 * k.val = k.val
    rw [tr_0]
    show 0 * 1024 + 1 * k.val = k.val
    omega

theorem blk_b (c : Dev nD) (t : Fin grid0.N) (p : Fin 512) (k : Fin 1024) :
    (iblk m c 1 t : FVec Ideal S1x512x1024 .f32) (ix3 0 p k)
      = aXb m c (ix3 ⟨(at0 t).val - 1, by have := (at0 t).isLt; omega⟩ (tok t p) k) := by
  unfold iblk
  refine Eq.trans (View.read_apply ..) ?_
  show V m c main_arg1 _ = _
  rw [V_main_arg1 m c]
  congr 1
  funext a
  apply Fin.ext
  match a with
  | ⟨0, _⟩ =>
    show cc0_transform_1 (grid0.coords t) 0 * 1 + 1 * 0 = (at0 t).val - 1
    rw [tr_1]
    show ((at0 t).val - 1) * 1 + 1 * 0 = (at0 t).val - 1
    omega
  | ⟨1, _⟩ =>
    show cc0_transform_1 (grid0.coords t) 1 * 512 + 1 * p.val = (tok t p).val
    rw [tr_1]
    show (at1 t).val * 512 + 1 * p.val = (at1 t).val * 512 + p.val
    omega
  | ⟨2, _⟩ =>
    show cc0_transform_1 (grid0.coords t) 2 * 1024 + 1 * k.val = k.val
    rw [tr_1]
    show 0 * 1024 + 1 * k.val = k.val
    omega

theorem blk_g (c : Dev nD) (t : Fin grid0.N) (k : Fin 1024) :
    (iblk m c 2 t : FVec Ideal S1x1024 .f32) (ix2 0 k) = aG m c (ix1 k) := by
  rw [← V_norm]
  unfold iblk
  refine Eq.trans (View.read_apply ..) ?_
  show V m c main_v27 _ = _
  congr 1
  funext a
  apply Fin.ext
  match a with
  | ⟨0, _⟩ => rfl
  | ⟨1, _⟩ =>
    show 0 * 1024 + 1 * k.val = k.val
    omega

theorem blk_w (c : Dev nD) (t : Fin grid0.N) (k : Fin 1024) (l : Fin 2432) :
    (iblk m c 3 t : FVec Ideal S1024x2432 .bf16) (ix2 k l) = moved (aW m c) (ix2 k l) := by
  rw [← V_win]
  unfold iblk
  refine Eq.trans (View.read_apply ..) ?_
  show V m c main_v12 _ = _
  congr 1
  funext a
  apply Fin.ext
  match a with
  | ⟨0, _⟩ =>
    show 0 * 1024 + 1 * k.val = k.val
    omega
  | ⟨1, _⟩ =>
    show 0 * 2432 + 1 * l.val = l.val
    omega

/-- The rows a point normalises. -/
theorem row_eq (c : Dev nD) (t : Fin grid0.N) (p : Fin 512) :
    rowOf (grid0.coords t) (iblk m c 0 t) (iblk m c 1 t) p = xRow (aXa m c) (aXb m c) (at0 t) (tok t p) := by
  funext k
  unfold rowOf xRow
  by_cases h : (at0 t).val < 1
  · rw [if_pos h, dif_pos h, blk_a]
  · rw [if_neg h, dif_neg h, blk_b]

/-- A point's product. -/
theorem prod_apply (c : Dev nD) (t : Fin grid0.N) (p : Fin 512) (l : Fin 2432) :
    k0_pay2 (grid0.coords t) (iblk m c 0 t) (iblk m c 1 t) (iblk m c 2 t) (iblk m c 3 t) (ix2 p l)
      = ∑ k, normRow (xRow (aXa m c) (aXb m c) (at0 t) (tok t p)) (fun k => aG m c (ix1 k)) k * moved (aW m c) (ix2 k l) := by
  refine (pay2_apply _ _ _ _ _ p l).trans ?_
  rw [row_eq]
  simp only [blk_g, blk_w]

theorem left21_eq (c : Dev nD) (t : Fin grid0.N) : left21 m c t
    = k0_pay72 (k0_pay2 (grid0.coords t) (iblk m c 0 t) (iblk m c 1 t) (iblk m c 2 t) (iblk m c 3 t)) := by
  unfold left21 runAt
  rw [pieces21]
  exact View.read_writes_full _ _ _ _ _

/-- What a point leaves is its block of the common value. -/
theorem left21_apply (c : Dev nD) (t : Fin grid0.N) (p : Fin 512) (l : Fin 256) :
    (left21 m c t : FVec Ideal S1x512x256 .f32) (ix3 0 p l) = outQ (aXa m c) (aXb m c) (aG m c) (aW m c) (ix3 (at0 t) (tok t p) l) := by
  rw [left21_eq, pay72_apply, prod_apply]
  simp only [moved_q]
  rfl

theorem emb_21 (t : Fin grid0.N) (p : Fin 512) (l : Fin 256) :
    ((cfg0.win 21).blk t).view.emb (ix3 0 p l : S1x512x256.Idx) = (ix3 (at0 t) (tok t p) l : S3x16384x256.Idx) := by
  funext a
  apply Fin.ext
  match a with
  | ⟨0, _⟩ =>
    show cc0_transform_21 (grid0.coords t) 0 * 1 + 1 * 0 = (at0 t).val
    rw [tr_21]
    show (at0 t).val * 1 + 1 * 0 = (at0 t).val
    omega
  | ⟨1, _⟩ =>
    show cc0_transform_21 (grid0.coords t) 1 * 512 + 1 * p.val = (tok t p).val
    rw [tr_21]
    show (at1 t).val * 512 + 1 * p.val = (at1 t).val * 512 + p.val
    omega
  | ⟨2, _⟩ =>
    show cc0_transform_21 (grid0.coords t) 2 * 256 + 1 * l.val = l.val
    rw [tr_21]
    show 0 * 256 + 1 * l.val = l.val
    omega

/-- Where every point leaves its block of `G`, the result array ends holding `G`: the 96 blocks tile it. -/
theorem arr_21 (c : Dev nD) (dat : Pipeline.Dat τ (Elt Ideal) Unit ℕ (UR sig nD τ) ℕ cfg0 c) (G : FVec Ideal S3x16384x256 .f32)
    (h : ∀ (t : Fin grid0.N) (p : Fin 512) (l : Fin 256), (dat.after 21 t : FVec Ideal S1x512x256 .f32) (ix3 0 p l) = G (ix3 (at0 t) (tok t p) l)) :
    dat.arrAt 21 cfg0.N = G :=
  dat.arrAt_eq_of_cover 21 G (fun t _ => by
    show (cfg0.win 21).cut (grid0.coords t) (dat.after 21 t) = _
    show (dat.after 21 t : FVec Ideal S1x512x256 .f32) = _
    refine funext fun (j : S1x512x256.Idx) => ?_
    obtain ⟨p, l, rfl⟩ : ∃ (p : Fin 512) (l : Fin 256), j = ix3 0 p l := ⟨j 1, j 2, by
      funext a
      match a with
      | ⟨0, _⟩ => exact Subsingleton.elim (α := Fin 1) _ _
      | ⟨1, _⟩ => rfl
      | ⟨2, _⟩ => rfl⟩
    refine (h t p l).trans (Eq.trans ?_ (View.read_apply ..).symm)
    exact (congrArg G (emb_21 t p l)).symm) fun (i : S3x16384x256.Idx) => by
  have h0 : (i 0 : Nat) < 3 := (i 0).isLt
  have h1 : (i 1 : Nat) < 16384 := (i 1).isLt
  have ht : (i 0 : Nat) * 32 + (i 1 : Nat) / 512 < grid0.N := by rw [N_0]; omega
  refine ⟨⟨(i 0 : Nat) * 32 + (i 1 : Nat) / 512, ht⟩, flush0_21 _, ?_⟩
  have e : (ix3 (at0 ⟨(i 0 : Nat) * 32 + (i 1 : Nat) / 512, ht⟩) (tok ⟨(i 0 : Nat) * 32 + (i 1 : Nat) / 512, ht⟩ ⟨(i 1 : Nat) % 512, Nat.mod_lt _ (by decide)⟩) (i 2) : S3x16384x256.Idx) = i := by
    funext a
    match a with
    | ⟨0, _⟩ =>
      refine Fin.ext ?_
      show (at0 _).val = (i 0 : Nat)
      rw [at0_val]
      show ((i 0 : Nat) * 32 + (i 1 : Nat) / 512) / 32 = (i 0 : Nat)
      omega
    | ⟨1, _⟩ =>
      refine Fin.ext ?_
      show (at1 _).val * 512 + (i 1 : Nat) % 512 = (i 1 : Nat)
      rw [at1_val]
      show ((i 0 : Nat) * 32 + (i 1 : Nat) / 512) % 32 * 512 + (i 1 : Nat) % 512 = (i 1 : Nat)
      omega
    | ⟨2, _⟩ => rfl
  have h2 := ((cfg0.win 21).blk ⟨(i 0 : Nat) * 32 + (i 1 : Nat) / 512, ht⟩).view.emb_mem_set (ix3 0 ⟨(i 1 : Nat) % 512, Nat.mod_lt _ (by decide)⟩ (i 2) : S1x512x256.Idx)
  exact Eq.mp (congrArg (fun j => j ∈ ((cfg0.win 21).blk ⟨(i 0 : Nat) * 32 + (i 1 : Nat) / 512, ht⟩).view.set) ((emb_21 _ _ _).trans e)) h2

theorem left22_eq (c : Dev nD) (t : Fin grid0.N) : left22 m c t
    = k0_pay73 (k0_pay2 (grid0.coords t) (iblk m c 0 t) (iblk m c 1 t) (iblk m c 2 t) (iblk m c 3 t)) := by
  unfold left22 runAt
  rw [pieces22]
  exact View.read_writes_full _ _ _ _ _

/-- What a point leaves is its block of the common value. -/
theorem left22_apply (c : Dev nD) (t : Fin grid0.N) (p : Fin 512) (l : Fin 256) :
    (left22 m c t : FVec Ideal S1x512x256 .f32) (ix3 0 p l) = outK (aXa m c) (aXb m c) (aG m c) (aW m c) (ix3 (at0 t) (tok t p) l) := by
  rw [left22_eq, pay73_apply, prod_apply]
  simp only [moved_k]
  rfl

theorem emb_22 (t : Fin grid0.N) (p : Fin 512) (l : Fin 256) :
    ((cfg0.win 22).blk t).view.emb (ix3 0 p l : S1x512x256.Idx) = (ix3 (at0 t) (tok t p) l : S3x16384x256.Idx) := by
  funext a
  apply Fin.ext
  match a with
  | ⟨0, _⟩ =>
    show cc0_transform_22 (grid0.coords t) 0 * 1 + 1 * 0 = (at0 t).val
    rw [tr_22]
    show (at0 t).val * 1 + 1 * 0 = (at0 t).val
    omega
  | ⟨1, _⟩ =>
    show cc0_transform_22 (grid0.coords t) 1 * 512 + 1 * p.val = (tok t p).val
    rw [tr_22]
    show (at1 t).val * 512 + 1 * p.val = (at1 t).val * 512 + p.val
    omega
  | ⟨2, _⟩ =>
    show cc0_transform_22 (grid0.coords t) 2 * 256 + 1 * l.val = l.val
    rw [tr_22]
    show 0 * 256 + 1 * l.val = l.val
    omega

/-- Where every point leaves its block of `G`, the result array ends holding `G`: the 96 blocks tile it. -/
theorem arr_22 (c : Dev nD) (dat : Pipeline.Dat τ (Elt Ideal) Unit ℕ (UR sig nD τ) ℕ cfg0 c) (G : FVec Ideal S3x16384x256 .f32)
    (h : ∀ (t : Fin grid0.N) (p : Fin 512) (l : Fin 256), (dat.after 22 t : FVec Ideal S1x512x256 .f32) (ix3 0 p l) = G (ix3 (at0 t) (tok t p) l)) :
    dat.arrAt 22 cfg0.N = G :=
  dat.arrAt_eq_of_cover 22 G (fun t _ => by
    show (cfg0.win 22).cut (grid0.coords t) (dat.after 22 t) = _
    show (dat.after 22 t : FVec Ideal S1x512x256 .f32) = _
    refine funext fun (j : S1x512x256.Idx) => ?_
    obtain ⟨p, l, rfl⟩ : ∃ (p : Fin 512) (l : Fin 256), j = ix3 0 p l := ⟨j 1, j 2, by
      funext a
      match a with
      | ⟨0, _⟩ => exact Subsingleton.elim (α := Fin 1) _ _
      | ⟨1, _⟩ => rfl
      | ⟨2, _⟩ => rfl⟩
    refine (h t p l).trans (Eq.trans ?_ (View.read_apply ..).symm)
    exact (congrArg G (emb_22 t p l)).symm) fun (i : S3x16384x256.Idx) => by
  have h0 : (i 0 : Nat) < 3 := (i 0).isLt
  have h1 : (i 1 : Nat) < 16384 := (i 1).isLt
  have ht : (i 0 : Nat) * 32 + (i 1 : Nat) / 512 < grid0.N := by rw [N_0]; omega
  refine ⟨⟨(i 0 : Nat) * 32 + (i 1 : Nat) / 512, ht⟩, flush0_22 _, ?_⟩
  have e : (ix3 (at0 ⟨(i 0 : Nat) * 32 + (i 1 : Nat) / 512, ht⟩) (tok ⟨(i 0 : Nat) * 32 + (i 1 : Nat) / 512, ht⟩ ⟨(i 1 : Nat) % 512, Nat.mod_lt _ (by decide)⟩) (i 2) : S3x16384x256.Idx) = i := by
    funext a
    match a with
    | ⟨0, _⟩ =>
      refine Fin.ext ?_
      show (at0 _).val = (i 0 : Nat)
      rw [at0_val]
      show ((i 0 : Nat) * 32 + (i 1 : Nat) / 512) / 32 = (i 0 : Nat)
      omega
    | ⟨1, _⟩ =>
      refine Fin.ext ?_
      show (at1 _).val * 512 + (i 1 : Nat) % 512 = (i 1 : Nat)
      rw [at1_val]
      show ((i 0 : Nat) * 32 + (i 1 : Nat) / 512) % 32 * 512 + (i 1 : Nat) % 512 = (i 1 : Nat)
      omega
    | ⟨2, _⟩ => rfl
  have h2 := ((cfg0.win 22).blk ⟨(i 0 : Nat) * 32 + (i 1 : Nat) / 512, ht⟩).view.emb_mem_set (ix3 0 ⟨(i 1 : Nat) % 512, Nat.mod_lt _ (by decide)⟩ (i 2) : S1x512x256.Idx)
  exact Eq.mp (congrArg (fun j => j ∈ ((cfg0.win 22).blk ⟨(i 0 : Nat) * 32 + (i 1 : Nat) / 512, ht⟩).view.set) ((emb_22 _ _ _).trans e)) h2

theorem left23_eq (c : Dev nD) (t : Fin grid0.N) : left23 m c t
    = k0_pay74 (k0_pay2 (grid0.coords t) (iblk m c 0 t) (iblk m c 1 t) (iblk m c 2 t) (iblk m c 3 t)) := by
  unfold left23 runAt
  rw [pieces23]
  exact View.read_writes_full _ _ _ _ _

/-- What a point leaves is its block of the common value. -/
theorem left23_apply (c : Dev nD) (t : Fin grid0.N) (p : Fin 512) (l : Fin 512) :
    (left23 m c t : FVec Ideal S1x512x512 .f32) (ix3 0 p l) = outV (aXa m c) (aXb m c) (aG m c) (aW m c) (ix3 (at0 t) (tok t p) l) := by
  rw [left23_eq, pay74_apply, prod_apply]
  simp only [moved_v]
  rfl

theorem emb_23 (t : Fin grid0.N) (p : Fin 512) (l : Fin 512) :
    ((cfg0.win 23).blk t).view.emb (ix3 0 p l : S1x512x512.Idx) = (ix3 (at0 t) (tok t p) l : S3x16384x512.Idx) := by
  funext a
  apply Fin.ext
  match a with
  | ⟨0, _⟩ =>
    show cc0_transform_23 (grid0.coords t) 0 * 1 + 1 * 0 = (at0 t).val
    rw [tr_23]
    show (at0 t).val * 1 + 1 * 0 = (at0 t).val
    omega
  | ⟨1, _⟩ =>
    show cc0_transform_23 (grid0.coords t) 1 * 512 + 1 * p.val = (tok t p).val
    rw [tr_23]
    show (at1 t).val * 512 + 1 * p.val = (at1 t).val * 512 + p.val
    omega
  | ⟨2, _⟩ =>
    show cc0_transform_23 (grid0.coords t) 2 * 512 + 1 * l.val = l.val
    rw [tr_23]
    show 0 * 512 + 1 * l.val = l.val
    omega

/-- Where every point leaves its block of `G`, the result array ends holding `G`: the 96 blocks tile it. -/
theorem arr_23 (c : Dev nD) (dat : Pipeline.Dat τ (Elt Ideal) Unit ℕ (UR sig nD τ) ℕ cfg0 c) (G : FVec Ideal S3x16384x512 .f32)
    (h : ∀ (t : Fin grid0.N) (p : Fin 512) (l : Fin 512), (dat.after 23 t : FVec Ideal S1x512x512 .f32) (ix3 0 p l) = G (ix3 (at0 t) (tok t p) l)) :
    dat.arrAt 23 cfg0.N = G :=
  dat.arrAt_eq_of_cover 23 G (fun t _ => by
    show (cfg0.win 23).cut (grid0.coords t) (dat.after 23 t) = _
    show (dat.after 23 t : FVec Ideal S1x512x512 .f32) = _
    refine funext fun (j : S1x512x512.Idx) => ?_
    obtain ⟨p, l, rfl⟩ : ∃ (p : Fin 512) (l : Fin 512), j = ix3 0 p l := ⟨j 1, j 2, by
      funext a
      match a with
      | ⟨0, _⟩ => exact Subsingleton.elim (α := Fin 1) _ _
      | ⟨1, _⟩ => rfl
      | ⟨2, _⟩ => rfl⟩
    refine (h t p l).trans (Eq.trans ?_ (View.read_apply ..).symm)
    exact (congrArg G (emb_23 t p l)).symm) fun (i : S3x16384x512.Idx) => by
  have h0 : (i 0 : Nat) < 3 := (i 0).isLt
  have h1 : (i 1 : Nat) < 16384 := (i 1).isLt
  have ht : (i 0 : Nat) * 32 + (i 1 : Nat) / 512 < grid0.N := by rw [N_0]; omega
  refine ⟨⟨(i 0 : Nat) * 32 + (i 1 : Nat) / 512, ht⟩, flush0_23 _, ?_⟩
  have e : (ix3 (at0 ⟨(i 0 : Nat) * 32 + (i 1 : Nat) / 512, ht⟩) (tok ⟨(i 0 : Nat) * 32 + (i 1 : Nat) / 512, ht⟩ ⟨(i 1 : Nat) % 512, Nat.mod_lt _ (by decide)⟩) (i 2) : S3x16384x512.Idx) = i := by
    funext a
    match a with
    | ⟨0, _⟩ =>
      refine Fin.ext ?_
      show (at0 _).val = (i 0 : Nat)
      rw [at0_val]
      show ((i 0 : Nat) * 32 + (i 1 : Nat) / 512) / 32 = (i 0 : Nat)
      omega
    | ⟨1, _⟩ =>
      refine Fin.ext ?_
      show (at1 _).val * 512 + (i 1 : Nat) % 512 = (i 1 : Nat)
      rw [at1_val]
      show ((i 0 : Nat) * 32 + (i 1 : Nat) / 512) % 32 * 512 + (i 1 : Nat) % 512 = (i 1 : Nat)
      omega
    | ⟨2, _⟩ => rfl
  have h2 := ((cfg0.win 23).blk ⟨(i 0 : Nat) * 32 + (i 1 : Nat) / 512, ht⟩).view.emb_mem_set (ix3 0 ⟨(i 1 : Nat) % 512, Nat.mod_lt _ (by decide)⟩ (i 2) : S1x512x512.Idx)
  exact Eq.mp (congrArg (fun j => j ∈ ((cfg0.win 23).blk ⟨(i 0 : Nat) * 32 + (i 1 : Nat) / 512, ht⟩).view.set) ((emb_23 _ _ _).trans e)) h2

theorem left26_eq (c : Dev nD) (t : Fin grid0.N) : left26 m c t
    = k0_pay75 (k0_pay2 (grid0.coords t) (iblk m c 0 t) (iblk m c 1 t) (iblk m c 2 t) (iblk m c 3 t)) := by
  unfold left26 runAt
  rw [pieces26]
  exact View.read_writes_full _ _ _ _ _

/-- What a point leaves is its block of the common value. -/
theorem left26_apply (c : Dev nD) (t : Fin grid0.N) (p : Fin 512) (l : Fin 512) :
    (left26 m c t : FVec Ideal S1x512x512 .f32) (ix3 0 p l) = outR (aXa m c) (aXb m c) (aG m c) (aW m c) (ix3 (at0 t) (tok t p) l) := by
  rw [left26_eq, pay75_apply, prod_apply]
  simp only [moved_r]
  rfl

theorem emb_26 (t : Fin grid0.N) (p : Fin 512) (l : Fin 512) :
    ((cfg0.win 26).blk t).view.emb (ix3 0 p l : S1x512x512.Idx) = (ix3 (at0 t) (tok t p) l : S3x16384x512.Idx) := by
  funext a
  apply Fin.ext
  match a with
  | ⟨0, _⟩ =>
    show cc0_transform_26 (grid0.coords t) 0 * 1 + 1 * 0 = (at0 t).val
    rw [tr_26]
    show (at0 t).val * 1 + 1 * 0 = (at0 t).val
    omega
  | ⟨1, _⟩ =>
    show cc0_transform_26 (grid0.coords t) 1 * 512 + 1 * p.val = (tok t p).val
    rw [tr_26]
    show (at1 t).val * 512 + 1 * p.val = (at1 t).val * 512 + p.val
    omega
  | ⟨2, _⟩ =>
    show cc0_transform_26 (grid0.coords t) 2 * 512 + 1 * l.val = l.val
    rw [tr_26]
    show 0 * 512 + 1 * l.val = l.val
    omega

/-- Where every point leaves its block of `G`, the result array ends holding `G`: the 96 blocks tile it. -/
theorem arr_26 (c : Dev nD) (dat : Pipeline.Dat τ (Elt Ideal) Unit ℕ (UR sig nD τ) ℕ cfg0 c) (G : FVec Ideal S3x16384x512 .f32)
    (h : ∀ (t : Fin grid0.N) (p : Fin 512) (l : Fin 512), (dat.after 26 t : FVec Ideal S1x512x512 .f32) (ix3 0 p l) = G (ix3 (at0 t) (tok t p) l)) :
    dat.arrAt 26 cfg0.N = G :=
  dat.arrAt_eq_of_cover 26 G (fun t _ => by
    show (cfg0.win 26).cut (grid0.coords t) (dat.after 26 t) = _
    show (dat.after 26 t : FVec Ideal S1x512x512 .f32) = _
    refine funext fun (j : S1x512x512.Idx) => ?_
    obtain ⟨p, l, rfl⟩ : ∃ (p : Fin 512) (l : Fin 512), j = ix3 0 p l := ⟨j 1, j 2, by
      funext a
      match a with
      | ⟨0, _⟩ => exact Subsingleton.elim (α := Fin 1) _ _
      | ⟨1, _⟩ => rfl
      | ⟨2, _⟩ => rfl⟩
    refine (h t p l).trans (Eq.trans ?_ (View.read_apply ..).symm)
    exact (congrArg G (emb_26 t p l)).symm) fun (i : S3x16384x512.Idx) => by
  have h0 : (i 0 : Nat) < 3 := (i 0).isLt
  have h1 : (i 1 : Nat) < 16384 := (i 1).isLt
  have ht : (i 0 : Nat) * 32 + (i 1 : Nat) / 512 < grid0.N := by rw [N_0]; omega
  refine ⟨⟨(i 0 : Nat) * 32 + (i 1 : Nat) / 512, ht⟩, flush0_26 _, ?_⟩
  have e : (ix3 (at0 ⟨(i 0 : Nat) * 32 + (i 1 : Nat) / 512, ht⟩) (tok ⟨(i 0 : Nat) * 32 + (i 1 : Nat) / 512, ht⟩ ⟨(i 1 : Nat) % 512, Nat.mod_lt _ (by decide)⟩) (i 2) : S3x16384x512.Idx) = i := by
    funext a
    match a with
    | ⟨0, _⟩ =>
      refine Fin.ext ?_
      show (at0 _).val = (i 0 : Nat)
      rw [at0_val]
      show ((i 0 : Nat) * 32 + (i 1 : Nat) / 512) / 32 = (i 0 : Nat)
      omega
    | ⟨1, _⟩ =>
      refine Fin.ext ?_
      show (at1 _).val * 512 + (i 1 : Nat) % 512 = (i 1 : Nat)
      rw [at1_val]
      show ((i 0 : Nat) * 32 + (i 1 : Nat) / 512) % 32 * 512 + (i 1 : Nat) % 512 = (i 1 : Nat)
      omega
    | ⟨2, _⟩ => rfl
  have h2 := ((cfg0.win 26).blk ⟨(i 0 : Nat) * 32 + (i 1 : Nat) / 512, ht⟩).view.emb_mem_set (ix3 0 ⟨(i 1 : Nat) % 512, Nat.mod_lt _ (by decide)⟩ (i 2) : S1x512x512.Idx)
  exact Eq.mp (congrArg (fun j => j ∈ ((cfg0.win 26).blk ⟨(i 0 : Nat) * 32 + (i 1 : Nat) / 512, ht⟩).view.set) ((emb_26 _ _ _).trans e)) h2

end Cert.Proof.Projections

end
-- ==== Proof.PreValue.lean ====
/-
The call that projects the tokens to the mixers' inputs, over the extended reals: what its four results end holding.
-/
module

public import proofs.«01_k».proof.Proof.PreBlocks
public import proofs.«01_k».proof.Proof.PreFrame

@[expose] public section

noncomputable section

namespace Cert.Proof.Projections

open Idealize.ShloMosaic Idealize.ShloMosaic.TcCoe Idealize.SL.Sem
open Cert.Kernel6Ideal Cert.Kernel6Ideal.Gen Cert.Kernel6Ideal.Hand

variable (m : (ℓ : Loc nD τ sig) → Buf (Elt Ideal) ℓ)

theorem final_21 (c : Dev nD) : (dats m 0 c).arrAt 21 cfg0.N = outQ (aXa m c) (aXb m c) (aG m c) (aW m c) :=
  arr_21 c (dats m 0 c) _ fun t p l => (congrFun (after0_21 m c t) _).trans (left21_apply m c t p l)

theorem final_22 (c : Dev nD) : (dats m 0 c).arrAt 22 cfg0.N = outK (aXa m c) (aXb m c) (aG m c) (aW m c) :=
  arr_22 c (dats m 0 c) _ fun t p l => (congrFun (after0_22 m c t) _).trans (left22_apply m c t p l)

theorem final_23 (c : Dev nD) : (dats m 0 c).arrAt 23 cfg0.N = outV (aXa m c) (aXb m c) (aG m c) (aW m c) :=
  arr_23 c (dats m 0 c) _ fun t p l => (congrFun (after0_23 m c t) _).trans (left23_apply m c t p l)

theorem final_26 (c : Dev nD) : (dats m 0 c).arrAt 26 cfg0.N = outR (aXa m c) (aXb m c) (aG m c) (aW m c) :=
  arr_26 c (dats m 0 c) _ fun t p l => (congrFun (after0_26 m c t) _).trans (left26_apply m c t p l)

theorem post21 (r : PUnit × MemSt nD τ sig (Elt Ideal)) (h : Pipeline.FramePost cfgs (dats m) 0 (V m) r) (c : Dev nD) :
    r.2.mem ((c : Thread nD τ).loc main_v84_3) = (dats m 0 c).arrAt 21 cfg0.N :=
  (h c).1 21

theorem post22 (r : PUnit × MemSt nD τ sig (Elt Ideal)) (h : Pipeline.FramePost cfgs (dats m) 0 (V m) r) (c : Dev nD) :
    r.2.mem ((c : Thread nD τ).loc main_v84_4) = (dats m 0 c).arrAt 22 cfg0.N :=
  (h c).1 22

theorem post23 (r : PUnit × MemSt nD τ sig (Elt Ideal)) (h : Pipeline.FramePost cfgs (dats m) 0 (V m) r) (c : Dev nD) :
    r.2.mem ((c : Thread nD τ).loc main_v84_5) = (dats m 0 c).arrAt 23 cfg0.N :=
  (h c).1 23

theorem post26 (r : PUnit × MemSt nD τ sig (Elt Ideal)) (h : Pipeline.FramePost cfgs (dats m) 0 (V m) r) (c : Dev nD) :
    r.2.mem ((c : Thread nD τ).loc main_v84_8) = (dats m 0 c).arrAt 26 cfg0.N :=
  (h c).1 26

/-- The run of the whole program, its four results told. -/
theorem results (ρ : Dev nD → PrngReg) : θ_run defs (onTc (τ := τ) (main (F := Ideal))) ⟨m, fun _ => 0, ρ⟩ fun r => ∀ c : Dev nD,
    r.2.mem ((c : Thread nD τ).loc main_v84_3) = outQ (aXa m c) (aXb m c) (aG m c) (aW m c)
    ∧ r.2.mem ((c : Thread nD τ).loc main_v84_4) = outK (aXa m c) (aXb m c) (aG m c) (aW m c)
    ∧ r.2.mem ((c : Thread nD τ).loc main_v84_5) = outV (aXa m c) (aXb m c) (aG m c) (aW m c)
    ∧ r.2.mem ((c : Thread nD τ).loc main_v84_8) = outR (aXa m c) (aXb m c) (aG m c) (aW m c) :=
  (θ_run defs _ _).mono (fun r h c => ⟨(post21 m r h c).trans (final_21 m c), (post22 m r h c).trans (final_22 m c),
    (post23 m r h c).trans (final_23 m c), (post26 m r h c).trans (final_26 m c)⟩) (run_main m ρ)

end Cert.Proof.Projections

end
-- ==== Proof.lean ====
/-
The proof of `Cert.Claim` (proofs.«01_k».proof.Defs): the attention, the experts' products, the gather of the experts' output
rows, and the combine that makes the results of them. The run of the gather over any float
values is `Cert.KernelIdeal.Hand.run_main` (Proof/Launch.lean), the reference's `Cert.ReferenceIdeal.Hand.run_main` (Proof/Ref.lean),
the equation of their results `Cert.Proof.Value.result_eq` (Proof/Value.lean). The programs at the bit-exact instance have the same
text, so their claims come from the same two runs. The combine's runs are generated; the equation of its results is
`Combine.final_eq` and `Combine.refOut_eq` (Proof/Combine.lean), and on the sample batch `CombineSample.final_eq` and
`CombineSample.refOut_eq` (Proof/CombineSample.lean). The experts' run is `Cert.Kernel3Ideal.Hand.run_main`
(Proof/ExpertsRun.lean), the equation `Experts.final_eq` and `Experts.ref_eq` (Proof/ExpertsValue.lean). The attention's runs
are generated; the equation of its results is `Attn.final_eq` and `Attn.ref_eq` (Proof/AttnValue.lean). The run of the call
that projects the tokens to the mixers' inputs is `Cert.Kernel6Ideal.Hand.run_main` (Proof/PreFrame.lean), the equation of four of
its results `Projections.final_21`, `final_22`, `final_23`, `final_26` (Proof/PreValue.lean) and `Projections.ref_q`, `ref_k`,
`ref_v`, `ref_r` (Proof/PreRef.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value
public import proofs.«01_k».proof.Proof.Combine
public import proofs.«01_k».proof.Proof.CombineSample
public import proofs.«01_k».proof.Proof.ExpertsOk
public import proofs.«01_k».proof.Proof.ExpertsRun
public import proofs.«01_k».proof.Proof.ExpertsValue
public import proofs.«01_k».proof.Proof.Gen.Kernel2
public import proofs.«01_k».proof.Proof.Gen.Kernel2Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel5
public import proofs.«01_k».proof.Proof.Gen.Kernel5Ideal
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Pre_blocks_have_experts
public import proofs.«01_k».proof.Proof.AttnPre
public import proofs.«01_k».proof.Proof.AttnValue
public import proofs.«01_k».proof.Proof.Gen.Pre_finite_qk
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel6
public import proofs.«01_k».proof.Proof.Gen.Kernel6Ideal
public import proofs.«01_k».proof.Proof.PreFrame
public import proofs.«01_k».proof.Proof.PreSame
public import proofs.«01_k».proof.Proof.PreValue
public import proofs.«01_k».proof.Proof.Gen.Reference6Ideal
public import proofs.«01_k».proof.Proof.Gen.Reference6Ideal.Run
public import Idealize.ShloMosaic.Adequacy
public import Idealize.ShloMosaic.Init

@[expose] public section

noncomputable section

namespace Cert.Proof

open Idealize.ShloMosaic Idealize.SL.Sem
open Cert.Proof.Value (InRows padded_lt result_eq)

/-! ## The facts that no generated module states -/

instance refFacts₀ : Cert.Reference.Facts₀ where
  bcast_S_S4x16384 := by decide
  bcast_S4x16384_S4x16384x1_0_1 := by decide
  gather_S81920x1024_S4x16384x1_S4x16384x1024_2_0_n_n_0_2_11024_wf := by decide

instance refFacts : Cert.Reference.Facts where

instance preFacts : Cert.Pre_slots_in_rows.Facts where
  bcast_S_S4x16384 := by decide

/-! ## The precondition -/

/-- The precondition — `(slots >= 0) & (slots < 81920)` elementwise — says that every slot is the number of a row of the table. -/
theorem inRows {F : FTy → Type} [FloatOps F] (Y : Cert.KernelIdeal.S81920x1024.Idx → Elt F .f32) (sl : Cert.KernelIdeal.S4x16384.Idx → BitVec 32)
    (h : Cert.Pre_slots_in_rows.fn (F := F) Y sl = fun _ => 1#1) : InRows sl := by
  have and_ofBool (p q : Bool) : IntOp.andi (BitVec.ofBool p) (BitVec.ofBool q) = BitVec.ofBool (p && q) := by
    cases p <;> cases q <;> decide
  have ofBool_one (p : Bool) : (BitVec.ofBool p = 1#1) ↔ p = true := by cases p <;> decide
  intro i
  have e := congrFun h i
  simp only [Cert.Pre_slots_in_rows.fn, andi, cmpi, broadcastInDim, constantI] at e
  simp only [IntOp.cmpi, and_ofBool, ofBool_one, Bool.and_eq_true, BitVec.sle_eq_decide, BitVec.slt_eq_decide,
    decide_eq_true_eq, BitVec.toInt_eq_toNat_cond, BitVec.toNat_ofNat, Nat.reducePow, Nat.reduceMod] at e
  omega

/-! ## The claims -/

theorem frame_kernel : Cert.quiescent_Kernel := fun m ρ h =>
  (θ_run Cert.KernelIdeal.defs _ _).mono (fun _ k => ⟨fun c => (k.1 c).2, k.2⟩)
    (Cert.KernelIdeal.Hand.run_main (F := Bits) m ρ fun d x => padded_lt (F := Bits) (inRows (F := Bits) _ _ (h d)) x)

theorem frame_kernelIdeal : Cert.quiescent_KernelIdeal := fun m ρ h =>
  (θ_run Cert.KernelIdeal.defs _ _).mono (fun _ k => ⟨fun c => (k.1 c).2, k.2⟩)
    (Cert.KernelIdeal.Hand.run_main (F := Ideal) m ρ fun d x => padded_lt (F := Ideal) (inRows (F := Ideal) _ _ (h d)) x)

theorem frame_referenceIdeal : Cert.quiescent_ReferenceIdeal := fun m ρ _ =>
  (θ_run Cert.ReferenceIdeal.defs _ _).mono (fun _ k => ⟨fun c => (k.1 c).2, k.2⟩) (Cert.ReferenceIdeal.Hand.run_main (F := Ideal) m ρ)

theorem frame_reference : Cert.quiescent_Reference := fun m ρ _ =>
  (θ_run Cert.ReferenceIdeal.defs _ _).mono (fun _ k => ⟨fun c => (k.1 c).2, k.2⟩) (Cert.ReferenceIdeal.Hand.run_main (F := Bits) m ρ)

theorem algebraic : Cert.algebraic_KernelIdeal_ReferenceIdeal := fun m ρ m' ρ' h ha =>
  ⟨fun c => Cert.KernelIdeal.Hand.Gm (F := Ideal) m c,
    (θ_run Cert.KernelIdeal.defs _ _).mono (fun _ k => fun c => k.1 c)
      (Cert.KernelIdeal.Hand.run_main (F := Ideal) m ρ fun d x => padded_lt (F := Ideal) (inRows (F := Ideal) _ _ (h d)) x),
    (θ_run Cert.ReferenceIdeal.defs _ _).mono
      (fun _ k => fun c => ⟨(k.1 c).1.trans (by
        rw [(ha c).1, (ha c).2]
        exact result_eq (F := Ideal) (inRows (F := Ideal) _ _ (h c)) _), (k.1 c).2⟩)
      (Cert.ReferenceIdeal.Hand.run_main (F := Ideal) m' ρ')⟩

theorem bitexact : Cert.bitexact_Kernel_Reference := fun m ρ m' ρ' h ha =>
  ⟨fun c => Cert.KernelIdeal.Hand.Gm (F := Bits) m c,
    (θ_run Cert.KernelIdeal.defs _ _).mono (fun _ k => fun c => k.1 c)
      (Cert.KernelIdeal.Hand.run_main (F := Bits) m ρ fun d x => padded_lt (F := Bits) (inRows (F := Bits) _ _ (h d)) x),
    (θ_run Cert.ReferenceIdeal.defs _ _).mono
      (fun _ k => fun c => ⟨(k.1 c).1.trans (by
        rw [(ha c).1, (ha c).2]
        exact result_eq (F := Bits) (inRows (F := Bits) _ _ (h c)) _), (k.1 c).2⟩)
      (Cert.ReferenceIdeal.Hand.run_main (F := Bits) m' ρ')⟩

/-! ## The combine -/

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_reference2Ideal : Cert.quiescent_Reference2Ideal := fun m ρ _ =>
  (θ_run Cert.Reference2Ideal.defs _ _).mono (fun r k => ⟨fun c => (k c).2, sem_eq_zero_of_no_sems (by decide) r.2⟩)
    (Cert.Reference2Ideal.Value.run (F := Ideal) m ρ)

theorem algebraic2 : Cert.algebraic_Kernel2Ideal_Reference2Ideal := fun m ρ m' ρ' _ ha =>
  ⟨fun c => Combine.out (Combine.aX m c) (Combine.aG m c) (Combine.aN m c) (Combine.aY m c),
    (θ_run Cert.Kernel2Ideal.defs _ _).mono (fun _ k c => ⟨(k c).1.trans (Combine.final_eq m c), (k c).2⟩)
      (Cert.Kernel2Ideal.Value.run_blocks (F := Ideal) m ρ),
    (θ_run Cert.Reference2Ideal.defs _ _).mono
      (fun _ k c => ⟨(k c).1.trans (by
        rw [(ha c).1, (ha c).2.1, (ha c).2.2.1, (ha c).2.2.2]
        exact Combine.refOut_eq (Combine.aX m c) (Combine.aG m c) (Combine.aN m c) (Combine.aY m c)), (k c).2⟩)
      (Cert.Reference2Ideal.Value.run (F := Ideal) m' ρ')⟩

/-! ## The combine on the sample batch -/

theorem frame_kernel5 : Cert.quiescent_Kernel5 := fun m ρ _ => Cert.Kernel5.Gen.frame m ρ

theorem frame_kernel5Ideal : Cert.quiescent_Kernel5Ideal := fun m ρ _ => Cert.Kernel5Ideal.Gen.frame m ρ

theorem frame_reference5Ideal : Cert.quiescent_Reference5Ideal := fun m ρ _ =>
  (θ_run Cert.Reference5Ideal.defs _ _).mono (fun r k => ⟨fun c => (k c).2, sem_eq_zero_of_no_sems (by decide) r.2⟩)
    (Cert.Reference5Ideal.Value.run (F := Ideal) m ρ)

theorem algebraic5 : Cert.algebraic_Kernel5Ideal_Reference5Ideal := fun m ρ m' ρ' _ ha =>
  ⟨fun c => CombineSample.out (CombineSample.aX m c) (CombineSample.aG m c) (CombineSample.aN m c) (CombineSample.aY m c),
    (θ_run Cert.Kernel5Ideal.defs _ _).mono (fun _ k c => ⟨(k c).1.trans (CombineSample.final_eq m c), (k c).2⟩)
      (Cert.Kernel5Ideal.Value.run_blocks (F := Ideal) m ρ),
    (θ_run Cert.Reference5Ideal.defs _ _).mono
      (fun _ k c => ⟨(k c).1.trans (by
        rw [(ha c).1, (ha c).2.1, (ha c).2.2.1, (ha c).2.2.2]
        exact CombineSample.refOut_eq (CombineSample.aX m c) (CombineSample.aG m c) (CombineSample.aN m c) (CombineSample.aY m c)), (k c).2⟩)
      (Cert.Reference5Ideal.Value.run (F := Ideal) m' ρ')⟩

/-! ## The two programs of the experts' call have the same text -/

section Same

variable {F : FTy → Type} [FloatOps F]

theorem defs₀_same : @Cert.Kernel3.defs₀ F _ _ = @Cert.Kernel3Ideal.defs₀ F _ _ := by
  unfold Cert.Kernel3.defs₀ Cert.Kernel3Ideal.defs₀
  refine congrArg Defs.onTc ?_
  funext l x
  match l, x with
  | 0, (t, s) =>
    show Cert.Kernel3.cc0_experts _ _ _ _ _ _ _ _ _ _ _ _ _ _ _ _ _ _ _ _ _ = Cert.Kernel3Ideal.cc0_experts _ _ _ _ _ _ _ _ _ _ _ _ _ _ _ _ _ _ _ _ _
    rfl

theorem defs_same : @Cert.Kernel3.defs F _ _ = @Cert.Kernel3Ideal.defs F _ _ :=
  congrArg (Pipeline.defs (Cert.Kernel3Ideal.pcfgs (F := F))) defs₀_same

theorem main_same : @Cert.Kernel3.main F _ _ = @Cert.Kernel3Ideal.main F _ _ := rfl

end Same

/-! ## The experts -/

theorem frame_kernel3 : Cert.quiescent_Kernel3 := fun m ρ h => by
  rw [defs_same, main_same]
  exact (θ_run Cert.Kernel3Ideal.defs _ _).mono (fun _ k => ⟨fun c => (k.1 c).2, k.2⟩)
    (Cert.Kernel3Ideal.Hand.run_main (F := Bits) m ρ (Cert.Kernel3Ideal.Hand.ok_of m (Cert.Kernel3Ideal.Hand.placed_of (F := Bits) m 0 _ _ _ _ _ _ (h 0))))

theorem frame_kernel3Ideal : Cert.quiescent_Kernel3Ideal := fun m ρ h =>
  (θ_run Cert.Kernel3Ideal.defs _ _).mono (fun _ k => ⟨fun c => (k.1 c).2, k.2⟩)
    (Cert.Kernel3Ideal.Hand.run_main (F := Ideal) m ρ (Cert.Kernel3Ideal.Hand.ok_of m (Cert.Kernel3Ideal.Hand.placed_of (F := Ideal) m 0 _ _ _ _ _ _ (h 0))))

theorem frame_reference3Ideal : Cert.quiescent_Reference3Ideal := fun m ρ _ =>
  (θ_run Cert.Reference3Ideal.defs _ _).mono (fun r k => ⟨fun c => (k c).2, sem_eq_zero_of_no_sems (by decide) r.2⟩)
    (Cert.Reference3Ideal.Value.run (F := Ideal) m ρ)

/-- What the experts' tables and the reference's start indices agree on: every expert's number is in range. -/
theorem expert_lt {m} (h : Cert.Pre_Kernel3Ideal m) (c : Dev Cert.Kernel3Ideal.nD) (j : Fin 160) :
    (Experts.aBe m c (ix1 j)).toNat < 32 := by
  have e : Experts.aBe m c (ix1 j) = Cert.Kernel3Ideal.Hand.expert m j := congrFun (Cert.Kernel3Ideal.Hand.tbl_0 m c).symm _
  rw [e]
  exact (Cert.Kernel3Ideal.Hand.placed_of (F := Ideal) m 0 _ _ _ _ _ _ (h 0)).expert_lt j

theorem algebraic3 : Cert.algebraic_Kernel3Ideal_Reference3Ideal := fun m ρ m' ρ' h ha =>
  have hp := Cert.Kernel3Ideal.Hand.placed_of (F := Ideal) m 0 _ _ _ _ _ _ (h 0)
  have hO := Cert.Kernel3Ideal.Hand.ok_of m hp
  ⟨fun c => Experts.out (Experts.aBe m c) (Experts.aNv m c) (Experts.aX m c) (Experts.aWg m c) (Experts.aWl m c) (Experts.aB m c)
      (Experts.aWd m c) (Experts.aBd m c),
    (θ_run Cert.Kernel3Ideal.defs _ _).mono (fun _ k c => ⟨(k.1 c).1.trans (Experts.final_eq m hp hO c), (k.1 c).2⟩)
      (Cert.Kernel3Ideal.Hand.run_main (F := Ideal) m ρ hO),
    (θ_run Cert.Reference3Ideal.defs _ _).mono
      (fun _ k c => ⟨(k c).1.trans (by
        unfold Cert.Reference3Ideal.Value.res_main_v81
        rw [(ha c).1, (ha c).2.1, (ha c).2.2.1, (ha c).2.2.2.1, (ha c).2.2.2.2.1, (ha c).2.2.2.2.2.1, (ha c).2.2.2.2.2.2.1, (ha c).2.2.2.2.2.2.2]
        exact Experts.ref_eq (expert_lt h c) (Experts.aNv m c) (Experts.aX m c) (Experts.aWg m c) (Experts.aWl m c) (Experts.aB m c)
          (Experts.aWd m c) (Experts.aBd m c)), (k c).2⟩)
      (Cert.Reference3Ideal.Value.run (F := Ideal) m' ρ')⟩

/-! ## The attention -/

theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem frame_kernel4Ideal' : Cert.quiescent_Kernel4Ideal_pre_finite_qk := fun m ρ _ => Cert.Kernel4Ideal.Gen.frame m ρ

theorem frame_reference4Ideal : Cert.quiescent_Reference4Ideal := fun m ρ _ =>
  (θ_run Cert.Reference4Ideal.defs _ _).mono (fun r k => ⟨fun c => (k c).2, sem_eq_zero_of_no_sems (by decide) r.2⟩)
    (Cert.Reference4Ideal.Value.run (F := Ideal) m ρ)

theorem frame_reference4Ideal' : Cert.quiescent_Reference4Ideal_pre_finite_qk := fun m ρ _ =>
  (θ_run Cert.Reference4Ideal.defs _ _).mono (fun r k => ⟨fun c => (k c).2, sem_eq_zero_of_no_sems (by decide) r.2⟩)
    (Cert.Reference4Ideal.Value.run (F := Ideal) m ρ)

theorem algebraic4 : Cert.algebraic_Kernel4Ideal_Reference4Ideal_pre_finite_qk := fun m ρ m' ρ' h ha =>
  ⟨fun c => Attn.out (Attn.aQ m c) (Attn.aK m c) (Attn.aV m c),
    (θ_run Cert.Kernel4Ideal.defs _ _).mono
      (fun _ k c => ⟨(k c).1.trans (Attn.final_eq m c (Attn.real_qk _ _ _ (h c)).1 (Attn.real_qk _ _ _ (h c)).2), (k c).2⟩)
      (Cert.Kernel4Ideal.Value.run_blocks (F := Ideal) m ρ),
    (θ_run Cert.Reference4Ideal.defs _ _).mono
      (fun _ k c => ⟨(k c).1.trans (by
        rw [(ha c).1, (ha c).2.1, (ha c).2.2]
        exact Attn.ref_eq (Attn.aQ m c) (Attn.aK m c) (Attn.aV m c)), (k c).2⟩)
      (Cert.Reference4Ideal.Value.run (F := Ideal) m' ρ')⟩

/-! ## The projections -/

set_option maxHeartbeats 8000000 in
theorem frame_kernel6 : Cert.quiescent_Kernel6 := fun m ρ _ => by
  rw [Projections.defs_same, Projections.main_same]
  exact Cert.Kernel6Ideal.Hand.frame (F := Bits) m ρ

theorem frame_kernel6Ideal : Cert.quiescent_Kernel6Ideal := fun m ρ _ => Cert.Kernel6Ideal.Hand.frame (F := Ideal) m ρ

theorem frame_reference6Ideal : Cert.quiescent_Reference6Ideal := fun m ρ _ =>
  (θ_run Cert.Reference6Ideal.defs _ _).mono (fun r k => ⟨fun c => (k c).2.2.2.2, sem_eq_zero_of_no_sems (by decide) r.2⟩)
    (Cert.Reference6Ideal.Value.run (F := Ideal) m ρ)

open Projections in
theorem algebraic6 : Cert.algebraic_Kernel6Ideal_Reference6Ideal := fun m ρ m' ρ' _ ha =>
  ⟨fun c => outQ (aXa m c) (aXb m c) (aG m c) (aW m c), fun c => outK (aXa m c) (aXb m c) (aG m c) (aW m c),
    fun c => outV (aXa m c) (aXb m c) (aG m c) (aW m c), fun c => outR (aXa m c) (aXb m c) (aG m c) (aW m c),
    (θ_run Cert.Kernel6Ideal.defs _ _).mono (fun _ k c => ⟨(k.1 c).1, (k.1 c).2.1, (k.1 c).2.2.1, (k.1 c).2.2.2, k.2 c⟩)
      (θ_run_and (results m ρ) (Cert.Kernel6Ideal.Hand.unchanged (F := Ideal) m ρ)),
    (θ_run Cert.Reference6Ideal.defs _ _).mono
      (fun _ k c => ⟨(k c).1.trans (by rw [(ha c).1, (ha c).2.1, (ha c).2.2.1, (ha c).2.2.2.1]; exact ref_q (aXa m c) (aXb m c) (aG m c) (aW m c)),
        (k c).2.1.trans (by rw [(ha c).1, (ha c).2.1, (ha c).2.2.1, (ha c).2.2.2.1]; exact ref_k (aXa m c) (aXb m c) (aG m c) (aW m c)),
        (k c).2.2.1.trans (by rw [(ha c).1, (ha c).2.1, (ha c).2.2.1, (ha c).2.2.2.1]; exact ref_v (aXa m c) (aXb m c) (aG m c) (aW m c)),
        (k c).2.2.2.1.trans (by rw [(ha c).1, (ha c).2.1, (ha c).2.2.1, (ha c).2.2.2.1]; exact ref_r (aXa m c) (aXb m c) (aG m c) (aW m c)),
        (k c).2.2.2.2⟩)
      (Cert.Reference6Ideal.Value.run (F := Ideal) m' ρ')⟩

theorem claim : Cert.Claim :=
  ⟨Cert.Kernel.Gen.facts, Cert.KernelIdeal.Gen.facts, Cert.ReferenceIdeal.Gen.facts, refFacts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    preFacts, Cert.Pre_blocks_have_experts.Gen.facts, Cert.Pre_finite_qk.Gen.facts,
    frame_kernel, frame_kernelIdeal, frame_referenceIdeal, frame_reference, frame_kernel2, frame_kernel2Ideal, frame_reference2Ideal,
    frame_kernel3, frame_kernel3Ideal, frame_reference3Ideal, frame_kernel4, frame_kernel4Ideal, frame_kernel4Ideal', frame_reference4Ideal,
    frame_reference4Ideal', frame_kernel5, frame_kernel5Ideal, frame_reference5Ideal, frame_kernel6, frame_kernel6Ideal, frame_reference6Ideal,
    trivial, algebraic, bitexact, trivial, algebraic2, trivial, algebraic3, trivial, algebraic4, trivial, algebraic5, trivial, algebraic6⟩

end Cert.Proof

end
